-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2 = (fun _ => 1#1)

def Pre_Flat (m : (ℓ : Loc Cert.Flat.nD Cert.Flat.τ Cert.Flat.sig) → Buf (Elt Bits) ℓ) : Prop :=
  True

def Pre_FlatIdeal (m : (ℓ : Loc Cert.FlatIdeal.nD Cert.FlatIdeal.τ Cert.FlatIdeal.sig) → Buf (Elt Ideal) ℓ) : Prop :=
  True

def Pre_FlatRefIdeal (m : (ℓ : Loc Cert.FlatRefIdeal.nD Cert.FlatRefIdeal.τ Cert.FlatRefIdeal.sig) → Buf (Elt Ideal) ℓ) : Prop :=
  True

def Pre_Dim (m : (ℓ : Loc Cert.Dim.nD Cert.Dim.τ Cert.Dim.sig) → Buf (Elt Bits) ℓ) : Prop :=
  True

def Pre_DimIdeal (m : (ℓ : Loc Cert.DimIdeal.nD Cert.DimIdeal.τ Cert.DimIdeal.sig) → Buf (Elt Ideal) ℓ) : Prop :=
  True

def Pre_DimRefIdeal (m : (ℓ : Loc Cert.DimRefIdeal.nD Cert.DimRefIdeal.τ Cert.DimRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_FpsIdeal_finite_points [hPre_finite_points : Cert.Pre_finite_points.Facts] (m : (ℓ : Loc Cert.FpsIdeal.nD Cert.FpsIdeal.τ Cert.FpsIdeal.sig) → Buf (Elt Ideal) ℓ) : Prop :=
  ∀ c : Dev Cert.FpsIdeal.nD,
    (Cert.Pre_finite_points.fn (F := Ideal) (m ((c.tc : Thread Cert.FpsIdeal.nD Cert.FpsIdeal.τ).loc Cert.FpsIdeal.main_arg0))) = (fun _ => 1#1)

def Pre_FpsRefIdeal (m : (ℓ : Loc Cert.FpsRefIdeal.nD Cert.FpsRefIdeal.τ Cert.FpsRefIdeal.sig) → Buf (Elt Ideal) ℓ) : Prop :=
  True

def Pre_FpsRefIdeal_finite_points [hPre_finite_points : Cert.Pre_finite_points.Facts] (m : (ℓ : Loc Cert.FpsRefIdeal.nD Cert.FpsRefIdeal.τ Cert.FpsRefIdeal.sig) → Buf (Elt Ideal) ℓ) : Prop :=
  ∀ c : Dev Cert.FpsRefIdeal.nD,
    (Cert.Pre_finite_points.fn (F := Ideal) (m ((c.tc : Thread Cert.FpsRefIdeal.nD Cert.FpsRefIdeal.τ).loc Cert.FpsRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Flat [hFlat : Cert.Flat.Facts] : Prop :=
  ∀ (m : (ℓ : Loc Cert.Flat.nD Cert.Flat.τ Cert.Flat.sig) → Buf (Elt Bits) ℓ) (g : Dev Cert.Flat.nD → PrngReg), Pre_Flat m →
    θ_run (Cert.Flat.defs (F := Bits)) (onTc (τ := Cert.Flat.τ) (Cert.Flat.main (F := Bits))) ⟨m, fun _ => 0, g⟩ (fun r => (∀ c : Dev Cert.Flat.nD,
      r.2.mem ((c.tc : Thread Cert.Flat.nD Cert.Flat.τ).loc Cert.Flat.main_arg0) = m ((c.tc : Thread Cert.Flat.nD Cert.Flat.τ).loc Cert.Flat.main_arg0)
      ∧ r.2.mem ((c.tc : Thread Cert.Flat.nD Cert.Flat.τ).loc Cert.Flat.main_arg1) = m ((c.tc : Thread Cert.Flat.nD Cert.Flat.τ).loc Cert.Flat.main_arg1)
      ∧ r.2.mem ((c.tc : Thread Cert.Flat.nD Cert.Flat.τ).loc Cert.Flat.main_arg2) = m ((c.tc : Thread Cert.Flat.nD Cert.Flat.τ).loc Cert.Flat.main_arg2))
      ∧ r.2.sem = fun _ => 0)

def quiescent_FlatIdeal [hFlatIdeal : Cert.FlatIdeal.Facts] : Prop :=
  ∀ (m : (ℓ : Loc Cert.FlatIdeal.nD Cert.FlatIdeal.τ Cert.FlatIdeal.sig) → Buf (Elt Ideal) ℓ) (g : Dev Cert.FlatIdeal.nD → PrngReg), Pre_FlatIdeal m →
    θ_run (Cert.FlatIdeal.defs (F := Ideal)) (onTc (τ := Cert.FlatIdeal.τ) (Cert.FlatIdeal.main (F := Ideal))) ⟨m, fun _ => 0, g⟩ (fun r => (∀ c : Dev Cert.FlatIdeal.nD,
      r.2.mem ((c.tc : Thread Cert.FlatIdeal.nD Cert.FlatIdeal.τ).loc Cert.FlatIdeal.main_arg0) = m ((c.tc : Thread Cert.FlatIdeal.nD Cert.FlatIdeal.τ).loc Cert.FlatIdeal.main_arg0)
      ∧ r.2.mem ((c.tc : Thread Cert.FlatIdeal.nD Cert.FlatIdeal.τ).loc Cert.FlatIdeal.main_arg1) = m ((c.tc : Thread Cert.FlatIdeal.nD Cert.FlatIdeal.τ).loc Cert.FlatIdeal.main_arg1)
      ∧ r.2.mem ((c.tc : Thread Cert.FlatIdeal.nD Cert.FlatIdeal.τ).loc Cert.FlatIdeal.main_arg2) = m ((c.tc : Thread Cert.FlatIdeal.nD Cert.FlatIdeal.τ).loc Cert.FlatIdeal.main_arg2))
      ∧ r.2.sem = fun _ => 0)

def quiescent_FlatRefIdeal [hFlatRefIdeal : Cert.FlatRefIdeal.Facts] : Prop :=
  ∀ (m : (ℓ : Loc Cert.FlatRefIdeal.nD Cert.FlatRefIdeal.τ Cert.FlatRefIdeal.sig) → Buf (Elt Ideal) ℓ) (g : Dev Cert.FlatRefIdeal.nD → PrngReg), Pre_FlatRefIdeal m →
    θ_run (Cert.FlatRefIdeal.defs (F := Ideal)) (onTc (τ := Cert.FlatRefIdeal.τ) (Cert.FlatRefIdeal.main (F := Ideal))) ⟨m, fun _ => 0, g⟩ (fun r => (∀ c : Dev Cert.FlatRefIdeal.nD,
      r.2.mem ((c.tc : Thread Cert.FlatRefIdeal.nD Cert.FlatRefIdeal.τ).loc Cert.FlatRefIdeal.main_arg0) = m ((c.tc : Thread Cert.FlatRefIdeal.nD Cert.FlatRefIdeal.τ).loc Cert.FlatRefIdeal.main_arg0)
      ∧ r.2.mem ((c.tc : Thread Cert.FlatRefIdeal.nD Cert.FlatRefIdeal.τ).loc Cert.FlatRefIdeal.main_arg1) = m ((c.tc : Thread Cert.FlatRefIdeal.nD Cert.FlatRefIdeal.τ).loc Cert.FlatRefIdeal.main_arg1)
      ∧ r.2.mem ((c.tc : Thread Cert.FlatRefIdeal.nD Cert.FlatRefIdeal.τ).loc Cert.FlatRefIdeal.main_arg2) = m ((c.tc : Thread Cert.FlatRefIdeal.nD Cert.FlatRefIdeal.τ).loc Cert.FlatRefIdeal.main_arg2))
      ∧ r.2.sem = fun _ => 0)

def quiescent_Dim [hDim : Cert.Dim.Facts] : Prop :=
  ∀ (m : (ℓ : Loc Cert.Dim.nD Cert.Dim.τ Cert.Dim.sig) → Buf (Elt Bits) ℓ) (g : Dev Cert.Dim.nD → PrngReg), Pre_Dim m →
    θ_run (Cert.Dim.defs (F := Bits)) (onTc (τ := Cert.Dim.τ) (Cert.Dim.main (F := Bits))) ⟨m, fun _ => 0, g⟩ (fun r => (∀ c : Dev Cert.Dim.nD,
      r.2.mem ((c.tc : Thread Cert.Dim.nD Cert.Dim.τ).loc Cert.Dim.main_arg0) = m ((c.tc : Thread Cert.Dim.nD Cert.Dim.τ).loc Cert.Dim.main_arg0)
      ∧ r.2.mem ((c.tc : Thread Cert.Dim.nD Cert.Dim.τ).loc Cert.Dim.main_arg1) = m ((c.tc : Thread Cert.Dim.nD Cert.Dim.τ).loc Cert.Dim.main_arg1)
      ∧ r.2.mem ((c.tc : Thread Cert.Dim.nD Cert.Dim.τ).loc Cert.Dim.main_arg2) = m ((c.tc : Thread Cert.Dim.nD Cert.Dim.τ).loc Cert.Dim.main_arg2))
      ∧ r.2.sem = fun _ => 0)

def quiescent_DimIdeal [hDimIdeal : Cert.DimIdeal.Facts] : Prop :=
  ∀ (m : (ℓ : Loc Cert.DimIdeal.nD Cert.DimIdeal.τ Cert.DimIdeal.sig) → Buf (Elt Ideal) ℓ) (g : Dev Cert.DimIdeal.nD → PrngReg), Pre_DimIdeal m →
    θ_run (Cert.DimIdeal.defs (F := Ideal)) (onTc (τ := Cert.DimIdeal.τ) (Cert.DimIdeal.main (F := Ideal))) ⟨m, fun _ => 0, g⟩ (fun r => (∀ c : Dev Cert.DimIdeal.nD,
      r.2.mem ((c.tc : Thread Cert.DimIdeal.nD Cert.DimIdeal.τ).loc Cert.DimIdeal.main_arg0) = m ((c.tc : Thread Cert.DimIdeal.nD Cert.DimIdeal.τ).loc Cert.DimIdeal.main_arg0)
      ∧ r.2.mem ((c.tc : Thread Cert.DimIdeal.nD Cert.DimIdeal.τ).loc Cert.DimIdeal.main_arg1) = m ((c.tc : Thread Cert.DimIdeal.nD Cert.DimIdeal.τ).loc Cert.DimIdeal.main_arg1)
      ∧ r.2.mem ((c.tc : Thread Cert.DimIdeal.nD Cert.DimIdeal.τ).loc Cert.DimIdeal.main_arg2) = m ((c.tc : Thread Cert.DimIdeal.nD Cert.DimIdeal.τ).loc Cert.DimIdeal.main_arg2))
      ∧ r.2.sem = fun _ => 0)

def quiescent_DimRefIdeal [hDimRefIdeal : Cert.DimRefIdeal.Facts] : Prop :=
  ∀ (m : (ℓ : Loc Cert.DimRefIdeal.nD Cert.DimRefIdeal.τ Cert.DimRefIdeal.sig) → Buf (Elt Ideal) ℓ) (g : Dev Cert.DimRefIdeal.nD → PrngReg), Pre_DimRefIdeal m →
    θ_run (Cert.DimRefIdeal.defs (F := Ideal)) (onTc (τ := Cert.DimRefIdeal.τ) (Cert.DimRefIdeal.main (F := Ideal))) ⟨m, fun _ => 0, g⟩ (fun r => (∀ c : Dev Cert.DimRefIdeal.nD,
      r.2.mem ((c.tc : Thread Cert.DimRefIdeal.nD Cert.DimRefIdeal.τ).loc Cert.DimRefIdeal.main_arg0) = m ((c.tc : Thread Cert.DimRefIdeal.nD Cert.DimRefIdeal.τ).loc Cert.DimRefIdeal.main_arg0)
      ∧ r.2.mem ((c.tc : Thread Cert.DimRefIdeal.nD Cert.DimRefIdeal.τ).loc Cert.DimRefIdeal.main_arg1) = m ((c.tc : Thread Cert.DimRefIdeal.nD Cert.DimRefIdeal.τ).loc Cert.DimRefIdeal.main_arg1)
      ∧ r.2.mem ((c.tc : Thread Cert.DimRefIdeal.nD Cert.DimRefIdeal.τ).loc Cert.DimRefIdeal.main_arg2) = m ((c.tc : Thread Cert.DimRefIdeal.nD Cert.DimRefIdeal.τ).loc Cert.DimRefIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1))
      ∧ r.2.sem = fun _ => 0)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsIdeal_pre_finite_points [hFpsIdeal : Cert.FpsIdeal.Facts] [hPre_finite_points : Cert.Pre_finite_points.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal_finite_points m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsRefIdeal [hFpsRefIdeal : Cert.FpsRefIdeal.Facts] : Prop :=
  ∀ (m : (ℓ : Loc Cert.FpsRefIdeal.nD Cert.FpsRefIdeal.τ Cert.FpsRefIdeal.sig) → Buf (Elt Ideal) ℓ) (g : Dev Cert.FpsRefIdeal.nD → PrngReg), Pre_FpsRefIdeal m →
    θ_run (Cert.FpsRefIdeal.defs (F := Ideal)) (onTc (τ := Cert.FpsRefIdeal.τ) (Cert.FpsRefIdeal.main (F := Ideal))) ⟨m, fun _ => 0, g⟩ (fun r => (∀ c : Dev Cert.FpsRefIdeal.nD,
      r.2.mem ((c.tc : Thread Cert.FpsRefIdeal.nD Cert.FpsRefIdeal.τ).loc Cert.FpsRefIdeal.main_arg0) = m ((c.tc : Thread Cert.FpsRefIdeal.nD Cert.FpsRefIdeal.τ).loc Cert.FpsRefIdeal.main_arg0))
      ∧ r.2.sem = fun _ => 0)

def quiescent_FpsRefIdeal_pre_finite_points [hFpsRefIdeal : Cert.FpsRefIdeal.Facts] [hPre_finite_points : Cert.Pre_finite_points.Facts] : Prop :=
  ∀ (m : (ℓ : Loc Cert.FpsRefIdeal.nD Cert.FpsRefIdeal.τ Cert.FpsRefIdeal.sig) → Buf (Elt Ideal) ℓ) (g : Dev Cert.FpsRefIdeal.nD → PrngReg), Pre_FpsRefIdeal_finite_points m →
    θ_run (Cert.FpsRefIdeal.defs (F := Ideal)) (onTc (τ := Cert.FpsRefIdeal.τ) (Cert.FpsRefIdeal.main (F := Ideal))) ⟨m, fun _ => 0, g⟩ (fun r => (∀ c : Dev Cert.FpsRefIdeal.nD,
      r.2.mem ((c.tc : Thread Cert.FpsRefIdeal.nD Cert.FpsRefIdeal.τ).loc Cert.FpsRefIdeal.main_arg0) = m ((c.tc : Thread Cert.FpsRefIdeal.nD Cert.FpsRefIdeal.τ).loc Cert.FpsRefIdeal.main_arg0))
      ∧ r.2.sem = fun _ => 0)

def preserves_Kernel_KernelIdeal : Prop :=
  IdealRules.named_const.Statement Cert.KernelIdeal.κ "inv_k" .f32 0x3D2AAAAB#32 ((1 / 24 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def preserves_Flat_FlatIdeal : Prop :=
  True

def algebraic_FlatIdeal_FlatRefIdeal [hFlatIdeal : Cert.FlatIdeal.Facts] [hFlatRefIdeal : Cert.FlatRefIdeal.Facts] : Prop :=
  ∀ (m : (ℓ : Loc Cert.FlatIdeal.nD Cert.FlatIdeal.τ Cert.FlatIdeal.sig) → Buf (Elt Ideal) ℓ) (g : Dev Cert.FlatIdeal.nD → PrngReg)
    (m' : (ℓ : Loc Cert.FlatRefIdeal.nD Cert.FlatRefIdeal.τ Cert.FlatRefIdeal.sig) → Buf (Elt Ideal) ℓ) (g' : Dev Cert.FlatRefIdeal.nD → PrngReg), Pre_FlatIdeal m →
    (∀ c : Dev Cert.FlatIdeal.nD,
      m' ((c.tc : Thread Cert.FlatRefIdeal.nD Cert.FlatRefIdeal.τ).loc Cert.FlatRefIdeal.main_arg0) = m ((c.tc : Thread Cert.FlatIdeal.nD Cert.FlatIdeal.τ).loc Cert.FlatIdeal.main_arg0)
      ∧ m' ((c.tc : Thread Cert.FlatRefIdeal.nD Cert.FlatRefIdeal.τ).loc Cert.FlatRefIdeal.main_arg1) = m ((c.tc : Thread Cert.FlatIdeal.nD Cert.FlatIdeal.τ).loc Cert.FlatIdeal.main_arg1)
      ∧ m' ((c.tc : Thread Cert.FlatRefIdeal.nD Cert.FlatRefIdeal.τ).loc Cert.FlatRefIdeal.main_arg2) = m ((c.tc : Thread Cert.FlatIdeal.nD Cert.FlatIdeal.τ).loc Cert.FlatIdeal.main_arg2)) →
    ∃ (v0 : (c : Dev Cert.FlatIdeal.nD) → Buf (Elt Ideal) ((c.tc : Thread Cert.FlatIdeal.nD Cert.FlatIdeal.τ).loc Cert.FlatIdeal.main_v2)),
      θ_run (Cert.FlatIdeal.defs (F := Ideal)) (onTc (τ := Cert.FlatIdeal.τ) (Cert.FlatIdeal.main (F := Ideal))) ⟨m, fun _ => 0, g⟩ (fun r => ∀ c : Dev Cert.FlatIdeal.nD,
          r.2.mem ((c.tc : Thread Cert.FlatIdeal.nD Cert.FlatIdeal.τ).loc Cert.FlatIdeal.main_v2) = v0 c
          ∧ r.2.mem ((c.tc : Thread Cert.FlatIdeal.nD Cert.FlatIdeal.τ).loc Cert.FlatIdeal.main_arg0) = m ((c.tc : Thread Cert.FlatIdeal.nD Cert.FlatIdeal.τ).loc Cert.FlatIdeal.main_arg0)
          ∧ r.2.mem ((c.tc : Thread Cert.FlatIdeal.nD Cert.FlatIdeal.τ).loc Cert.FlatIdeal.main_arg1) = m ((c.tc : Thread Cert.FlatIdeal.nD Cert.FlatIdeal.τ).loc Cert.FlatIdeal.main_arg1)
          ∧ r.2.mem ((c.tc : Thread Cert.FlatIdeal.nD Cert.FlatIdeal.τ).loc Cert.FlatIdeal.main_arg2) = m ((c.tc : Thread Cert.FlatIdeal.nD Cert.FlatIdeal.τ).loc Cert.FlatIdeal.main_arg2))
      ∧ θ_run (Cert.FlatRefIdeal.defs (F := Ideal)) (onTc (τ := Cert.FlatRefIdeal.τ) (Cert.FlatRefIdeal.main (F := Ideal))) ⟨m', fun _ => 0, g'⟩ (fun r => ∀ c : Dev Cert.FlatRefIdeal.nD,
          r.2.mem ((c.tc : Thread Cert.FlatRefIdeal.nD Cert.FlatRefIdeal.τ).loc Cert.FlatRefIdeal.main_v5) = v0 c
          ∧ r.2.mem ((c.tc : Thread Cert.FlatRefIdeal.nD Cert.FlatRefIdeal.τ).loc Cert.FlatRefIdeal.main_arg0) = m' ((c.tc : Thread Cert.FlatRefIdeal.nD Cert.FlatRefIdeal.τ).loc Cert.FlatRefIdeal.main_arg0)
          ∧ r.2.mem ((c.tc : Thread Cert.FlatRefIdeal.nD Cert.FlatRefIdeal.τ).loc Cert.FlatRefIdeal.main_arg1) = m' ((c.tc : Thread Cert.FlatRefIdeal.nD Cert.FlatRefIdeal.τ).loc Cert.FlatRefIdeal.main_arg1)
          ∧ r.2.mem ((c.tc : Thread Cert.FlatRefIdeal.nD Cert.FlatRefIdeal.τ).loc Cert.FlatRefIdeal.main_arg2) = m' ((c.tc : Thread Cert.FlatRefIdeal.nD Cert.FlatRefIdeal.τ).loc Cert.FlatRefIdeal.main_arg2))

def preserves_Dim_DimIdeal : Prop :=
  True

def algebraic_DimIdeal_DimRefIdeal [hDimIdeal : Cert.DimIdeal.Facts] [hDimRefIdeal : Cert.DimRefIdeal.Facts] : Prop :=
  ∀ (m : (ℓ : Loc Cert.DimIdeal.nD Cert.DimIdeal.τ Cert.DimIdeal.sig) → Buf (Elt Ideal) ℓ) (g : Dev Cert.DimIdeal.nD → PrngReg)
    (m' : (ℓ : Loc Cert.DimRefIdeal.nD Cert.DimRefIdeal.τ Cert.DimRefIdeal.sig) → Buf (Elt Ideal) ℓ) (g' : Dev Cert.DimRefIdeal.nD → PrngReg), Pre_DimIdeal m →
    (∀ c : Dev Cert.DimIdeal.nD,
      m' ((c.tc : Thread Cert.DimRefIdeal.nD Cert.DimRefIdeal.τ).loc Cert.DimRefIdeal.main_arg0) = m ((c.tc : Thread Cert.DimIdeal.nD Cert.DimIdeal.τ).loc Cert.DimIdeal.main_arg0)
      ∧ m' ((c.tc : Thread Cert.DimRefIdeal.nD Cert.DimRefIdeal.τ).loc Cert.DimRefIdeal.main_arg1) = m ((c.tc : Thread Cert.DimIdeal.nD Cert.DimIdeal.τ).loc Cert.DimIdeal.main_arg1)
      ∧ m' ((c.tc : Thread Cert.DimRefIdeal.nD Cert.DimRefIdeal.τ).loc Cert.DimRefIdeal.main_arg2) = m ((c.tc : Thread Cert.DimIdeal.nD Cert.DimIdeal.τ).loc Cert.DimIdeal.main_arg2)) →
    ∃ (v0 : (c : Dev Cert.DimIdeal.nD) → Buf (Elt Ideal) ((c.tc : Thread Cert.DimIdeal.nD Cert.DimIdeal.τ).loc Cert.DimIdeal.main_v1)),
      θ_run (Cert.DimIdeal.defs (F := Ideal)) (onTc (τ := Cert.DimIdeal.τ) (Cert.DimIdeal.main (F := Ideal))) ⟨m, fun _ => 0, g⟩ (fun r => ∀ c : Dev Cert.DimIdeal.nD,
          r.2.mem ((c.tc : Thread Cert.DimIdeal.nD Cert.DimIdeal.τ).loc Cert.DimIdeal.main_v1) = v0 c
          ∧ r.2.mem ((c.tc : Thread Cert.DimIdeal.nD Cert.DimIdeal.τ).loc Cert.DimIdeal.main_arg0) = m ((c.tc : Thread Cert.DimIdeal.nD Cert.DimIdeal.τ).loc Cert.DimIdeal.main_arg0)
          ∧ r.2.mem ((c.tc : Thread Cert.DimIdeal.nD Cert.DimIdeal.τ).loc Cert.DimIdeal.main_arg1) = m ((c.tc : Thread Cert.DimIdeal.nD Cert.DimIdeal.τ).loc Cert.DimIdeal.main_arg1)
          ∧ r.2.mem ((c.tc : Thread Cert.DimIdeal.nD Cert.DimIdeal.τ).loc Cert.DimIdeal.main_arg2) = m ((c.tc : Thread Cert.DimIdeal.nD Cert.DimIdeal.τ).loc Cert.DimIdeal.main_arg2))
      ∧ θ_run (Cert.DimRefIdeal.defs (F := Ideal)) (onTc (τ := Cert.DimRefIdeal.τ) (Cert.DimRefIdeal.main (F := Ideal))) ⟨m', fun _ => 0, g'⟩ (fun r => ∀ c : Dev Cert.DimRefIdeal.nD,
          r.2.mem ((c.tc : Thread Cert.DimRefIdeal.nD Cert.DimRefIdeal.τ).loc Cert.DimRefIdeal.main_v4) = v0 c
          ∧ r.2.mem ((c.tc : Thread Cert.DimRefIdeal.nD Cert.DimRefIdeal.τ).loc Cert.DimRefIdeal.main_arg0) = m' ((c.tc : Thread Cert.DimRefIdeal.nD Cert.DimRefIdeal.τ).loc Cert.DimRefIdeal.main_arg0)
          ∧ r.2.mem ((c.tc : Thread Cert.DimRefIdeal.nD Cert.DimRefIdeal.τ).loc Cert.DimRefIdeal.main_arg1) = m' ((c.tc : Thread Cert.DimRefIdeal.nD Cert.DimRefIdeal.τ).loc Cert.DimRefIdeal.main_arg1)
          ∧ r.2.mem ((c.tc : Thread Cert.DimRefIdeal.nD Cert.DimRefIdeal.τ).loc Cert.DimRefIdeal.main_arg2) = m' ((c.tc : Thread Cert.DimRefIdeal.nD Cert.DimRefIdeal.τ).loc Cert.DimRefIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v2)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v2) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v187) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1))

def preserves_Fps_FpsIdeal : Prop :=
  True

def algebraic_FpsIdeal_FpsRefIdeal_pre_finite_points [hFpsIdeal : Cert.FpsIdeal.Facts] [hFpsRefIdeal : Cert.FpsRefIdeal.Facts] [hPre_finite_points : Cert.Pre_finite_points.Facts] : Prop :=
  ∀ (m : (ℓ : Loc Cert.FpsIdeal.nD Cert.FpsIdeal.τ Cert.FpsIdeal.sig) → Buf (Elt Ideal) ℓ) (g : Dev Cert.FpsIdeal.nD → PrngReg)
    (m' : (ℓ : Loc Cert.FpsRefIdeal.nD Cert.FpsRefIdeal.τ Cert.FpsRefIdeal.sig) → Buf (Elt Ideal) ℓ) (g' : Dev Cert.FpsRefIdeal.nD → PrngReg), Pre_FpsIdeal_finite_points m →
    (∀ c : Dev Cert.FpsIdeal.nD,
      m' ((c.tc : Thread Cert.FpsRefIdeal.nD Cert.FpsRefIdeal.τ).loc Cert.FpsRefIdeal.main_arg0) = m ((c.tc : Thread Cert.FpsIdeal.nD Cert.FpsIdeal.τ).loc Cert.FpsIdeal.main_arg0)) →
    ∃ (v0 : (c : Dev Cert.FpsIdeal.nD) → Buf (Elt Ideal) ((c.tc : Thread Cert.FpsIdeal.nD Cert.FpsIdeal.τ).loc Cert.FpsIdeal.main_v1_0)) (v1 : (c : Dev Cert.FpsIdeal.nD) → Buf (Elt Ideal) ((c.tc : Thread Cert.FpsIdeal.nD Cert.FpsIdeal.τ).loc Cert.FpsIdeal.main_v1_1)) (v2 : (c : Dev Cert.FpsIdeal.nD) → Buf (Elt Ideal) ((c.tc : Thread Cert.FpsIdeal.nD Cert.FpsIdeal.τ).loc Cert.FpsIdeal.main_v1_2)) (v3 : (c : Dev Cert.FpsIdeal.nD) → Buf (Elt Ideal) ((c.tc : Thread Cert.FpsIdeal.nD Cert.FpsIdeal.τ).loc Cert.FpsIdeal.main_v1_3)) (v4 : (c : Dev Cert.FpsIdeal.nD) → Buf (Elt Ideal) ((c.tc : Thread Cert.FpsIdeal.nD Cert.FpsIdeal.τ).loc Cert.FpsIdeal.main_v1_4)) (v5 : (c : Dev Cert.FpsIdeal.nD) → Buf (Elt Ideal) ((c.tc : Thread Cert.FpsIdeal.nD Cert.FpsIdeal.τ).loc Cert.FpsIdeal.main_v1_5)) (v6 : (c : Dev Cert.FpsIdeal.nD) → Buf (Elt Ideal) ((c.tc : Thread Cert.FpsIdeal.nD Cert.FpsIdeal.τ).loc Cert.FpsIdeal.main_v1_6)) (v7 : (c : Dev Cert.FpsIdeal.nD) → Buf (Elt Ideal) ((c.tc : Thread Cert.FpsIdeal.nD Cert.FpsIdeal.τ).loc Cert.FpsIdeal.main_v1_7)),
      θ_run (Cert.FpsIdeal.defs (F := Ideal)) (onTc (τ := Cert.FpsIdeal.τ) (Cert.FpsIdeal.main (F := Ideal))) ⟨m, fun _ => 0, g⟩ (fun r => ∀ c : Dev Cert.FpsIdeal.nD,
          r.2.mem ((c.tc : Thread Cert.FpsIdeal.nD Cert.FpsIdeal.τ).loc Cert.FpsIdeal.main_v1_0) = v0 c
          ∧ r.2.mem ((c.tc : Thread Cert.FpsIdeal.nD Cert.FpsIdeal.τ).loc Cert.FpsIdeal.main_v1_1) = v1 c
          ∧ r.2.mem ((c.tc : Thread Cert.FpsIdeal.nD Cert.FpsIdeal.τ).loc Cert.FpsIdeal.main_v1_2) = v2 c
          ∧ r.2.mem ((c.tc : Thread Cert.FpsIdeal.nD Cert.FpsIdeal.τ).loc Cert.FpsIdeal.main_v1_3) = v3 c
          ∧ r.2.mem ((c.tc : Thread Cert.FpsIdeal.nD Cert.FpsIdeal.τ).loc Cert.FpsIdeal.main_v1_4) = v4 c
          ∧ r.2.mem ((c.tc : Thread Cert.FpsIdeal.nD Cert.FpsIdeal.τ).loc Cert.FpsIdeal.main_v1_5) = v5 c
          ∧ r.2.mem ((c.tc : Thread Cert.FpsIdeal.nD Cert.FpsIdeal.τ).loc Cert.FpsIdeal.main_v1_6) = v6 c
          ∧ r.2.mem ((c.tc : Thread Cert.FpsIdeal.nD Cert.FpsIdeal.τ).loc Cert.FpsIdeal.main_v1_7) = v7 c
          ∧ r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ θ_run (Cert.FpsRefIdeal.defs (F := Ideal)) (onTc (τ := Cert.FpsRefIdeal.τ) (Cert.FpsRefIdeal.main (F := Ideal))) ⟨m', fun _ => 0, g'⟩ (fun r => ∀ c : Dev Cert.FpsRefIdeal.nD,
          r.2.mem ((c.tc : Thread Cert.FpsRefIdeal.nD Cert.FpsRefIdeal.τ).loc Cert.FpsRefIdeal.main_v22) = v0 c
          ∧ r.2.mem ((c.tc : Thread Cert.FpsRefIdeal.nD Cert.FpsRefIdeal.τ).loc Cert.FpsRefIdeal.main_v25) = v1 c
          ∧ r.2.mem ((c.tc : Thread Cert.FpsRefIdeal.nD Cert.FpsRefIdeal.τ).loc Cert.FpsRefIdeal.main_v28) = v2 c
          ∧ r.2.mem ((c.tc : Thread Cert.FpsRefIdeal.nD Cert.FpsRefIdeal.τ).loc Cert.FpsRefIdeal.main_v29) = v3 c
          ∧ r.2.mem ((c.tc : Thread Cert.FpsRefIdeal.nD Cert.FpsRefIdeal.τ).loc Cert.FpsRefIdeal.main_v52) = v4 c
          ∧ r.2.mem ((c.tc : Thread Cert.FpsRefIdeal.nD Cert.FpsRefIdeal.τ).loc Cert.FpsRefIdeal.main_v55) = v5 c
          ∧ r.2.mem ((c.tc : Thread Cert.FpsRefIdeal.nD Cert.FpsRefIdeal.τ).loc Cert.FpsRefIdeal.main_v58) = v6 c
          ∧ r.2.mem ((c.tc : Thread Cert.FpsRefIdeal.nD Cert.FpsRefIdeal.τ).loc Cert.FpsRefIdeal.main_v59) = v7 c
          ∧ r.2.mem ((c.tc : Thread Cert.FpsRefIdeal.nD Cert.FpsRefIdeal.τ).loc Cert.FpsRefIdeal.main_arg0) = m' ((c.tc : Thread Cert.FpsRefIdeal.nD Cert.FpsRefIdeal.τ).loc Cert.FpsRefIdeal.main_arg0))

def Claim : Prop :=
  ∃ (hKernel : Cert.Kernel.Facts) (hKernelIdeal : Cert.KernelIdeal.Facts) (hReferenceIdeal : Cert.ReferenceIdeal.Facts) (hFlat : Cert.Flat.Facts) (hFlatIdeal : Cert.FlatIdeal.Facts) (hFlatRefIdeal : Cert.FlatRefIdeal.Facts) (hDim : Cert.Dim.Facts) (hDimIdeal : Cert.DimIdeal.Facts) (hDimRefIdeal : Cert.DimRefIdeal.Facts) (hSample : Cert.Sample.Facts) (hSampleIdeal : Cert.SampleIdeal.Facts) (hSampleRefIdeal : Cert.SampleRefIdeal.Facts) (hFps : Cert.Fps.Facts) (hFpsIdeal : Cert.FpsIdeal.Facts) (hFpsRefIdeal : Cert.FpsRefIdeal.Facts) (hPre_tame : Cert.Pre_tame.Facts) (hPre_finite_points : Cert.Pre_finite_points.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Flat (hFlat := hFlat)
    ∧ quiescent_FlatIdeal (hFlatIdeal := hFlatIdeal)
    ∧ quiescent_FlatRefIdeal (hFlatRefIdeal := hFlatRefIdeal)
    ∧ quiescent_Dim (hDim := hDim)
    ∧ quiescent_DimIdeal (hDimIdeal := hDimIdeal)
    ∧ quiescent_DimRefIdeal (hDimRefIdeal := hDimRefIdeal)
    ∧ quiescent_Sample (hSample := hSample)
    ∧ quiescent_SampleIdeal (hSampleIdeal := hSampleIdeal)
    ∧ quiescent_SampleRefIdeal (hSampleRefIdeal := hSampleRefIdeal)
    ∧ quiescent_Fps (hFps := hFps)
    ∧ quiescent_FpsIdeal (hFpsIdeal := hFpsIdeal)
    ∧ quiescent_FpsIdeal_pre_finite_points (hFpsIdeal := hFpsIdeal) (hPre_finite_points := hPre_finite_points)
    ∧ quiescent_FpsRefIdeal (hFpsRefIdeal := hFpsRefIdeal)
    ∧ quiescent_FpsRefIdeal_pre_finite_points (hFpsRefIdeal := hFpsRefIdeal) (hPre_finite_points := hPre_finite_points)
    ∧ preserves_Kernel_KernelIdeal
    ∧ algebraic_KernelIdeal_ReferenceIdeal_pre_tame (hKernelIdeal := hKernelIdeal) (hReferenceIdeal := hReferenceIdeal) (hPre_tame := hPre_tame)
    ∧ preserves_Flat_FlatIdeal
    ∧ algebraic_FlatIdeal_FlatRefIdeal (hFlatIdeal := hFlatIdeal) (hFlatRefIdeal := hFlatRefIdeal)
    ∧ preserves_Dim_DimIdeal
    ∧ algebraic_DimIdeal_DimRefIdeal (hDimIdeal := hDimIdeal) (hDimRefIdeal := hDimRefIdeal)
    ∧ preserves_Sample_SampleIdeal
    ∧ algebraic_SampleIdeal_SampleRefIdeal (hSampleIdeal := hSampleIdeal) (hSampleRefIdeal := hSampleRefIdeal)
    ∧ preserves_Fps_FpsIdeal
    ∧ algebraic_FpsIdeal_FpsRefIdeal_pre_finite_points (hFpsIdeal := hFpsIdeal) (hFpsRefIdeal := hFpsRefIdeal) (hPre_finite_points := hPre_finite_points)
-- ==== Pre_finite_points.lean ====
abbrev S32x512x2 : Shape := ⟨3, ![32, 512, 2]⟩
abbrev S_ : Shape := ⟨0, ![]⟩

class Facts : Prop where
  bcast_S_S32x512x2 : S_.BroadcastsInDim S32x512x2 (![] : Fin 0 → Fin S32x512x2.rank)

variable [Facts]

def fn {F : FTy → Type} [FloatOps F] (main_arg0 : FVec F S32x512x2 .f32) : IVec S32x512x2 1 :=
  let main_v0 : FVec F S32x512x2 .f32 := Host.absf main_arg0
  let main_cst : FVec F S_ .f32 := constant S_ .f32 0x7F800000#32
  let main_v1 : FVec F S32x512x2 .f32 := broadcastInDim S32x512x2 ![] bcast_S_S32x512x2 main_cst
  let main_v2 : IVec S32x512x2 1 := cmpf .olt main_v0 main_v1
  main_v2
-- ==== Pre_tame.lean ====
abbrev S32x512x1024 : Shape := ⟨3, ![32, 512, 1024]⟩
abbrev S32x512x2 : Shape := ⟨3, ![32, 512, 2]⟩
abbrev S128x32 : Shape := ⟨2, ![128, 32]⟩
abbrev S24x32x128 : Shape := ⟨3, ![24, 32, 128]⟩
abbrev S32x32 : Shape := ⟨2, ![32, 32]⟩
abbrev S24x32x32 : Shape := ⟨3, ![24, 32, 32]⟩
abbrev S1026x1026 : Shape := ⟨2, ![1026, 1026]⟩
abbrev S1026 : Shape := ⟨1, ![1026]⟩
abbrev S1024x2052 : Shape := ⟨2, ![1024, 2052]⟩
abbrev S1024 : Shape := ⟨1, ![1024]⟩
abbrev S32x128 : Shape := ⟨2, ![32, 128]⟩
abbrev S32x128x1 : Shape := ⟨3, ![32, 128, 1]⟩
abbrev S_ : Shape := ⟨0, ![]⟩
abbrev S32x128x2 : Shape := ⟨3, ![32, 128, 2]⟩
abbrev S32x32x1 : Shape := ⟨3, ![32, 32, 1]⟩
abbrev S32x32x2 : Shape := ⟨3, ![32, 32, 2]⟩

class Facts : Prop where
  transposes_S128x32_S32x128_1_0 : S128x32.Transposes [1, 0] S32x128
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  transposes_S32x32_S32x32_1_0 : S32x32.Transposes [1, 0] S32x32
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  bcast_S_S32x512x1024 : S_.BroadcastsInDim S32x512x1024 (![] : Fin 0 → Fin S32x512x1024.rank)
  bcast_S_S32x512x2 : S_.BroadcastsInDim S32x512x2 (![] : Fin 0 → Fin S32x512x2.rank)
  bcast_S_S1026x1026 : S_.BroadcastsInDim S1026x1026 (![] : Fin 0 → Fin S1026x1026.rank)
  bcast_S_S1026 : S_.BroadcastsInDim S1026 (![] : Fin 0 → Fin S1026.rank)
  bcast_S_S1024x2052 : S_.BroadcastsInDim S1024x2052 (![] : Fin 0 → Fin S1024x2052.rank)
  bcast_S_S1024 : S_.BroadcastsInDim S1024 (![] : Fin 0 → Fin S1024.rank)
  bcast_S_S24x32x128 : S_.BroadcastsInDim S24x32x128 (![] : Fin 0 → Fin S24x32x128.rank)
  bcast_S_S24x32x32 : S_.BroadcastsInDim S24x32x32 (![] : Fin 0 → Fin S24x32x32.rank)
  bcast_S_S32x128 : S_.BroadcastsInDim S32x128 (![] : Fin 0 → Fin S32x128.rank)
  slices_S32x128x2_S32x128x1_0_0_0 : S32x128x2.Slices ![0, 0, 0] S32x128x1
  shapeCasts_S32x128x1_S32x128 : S32x128x1.ShapeCasts S32x128
  slices_S32x128x2_S32x128x1_0_0_1 : S32x128x2.Slices ![0, 0, 1] S32x128x1
  bcast_S_S32x32 : S_.BroadcastsInDim S32x32 (![] : Fin 0 → Fin S32x32.rank)
  slices_S32x32x2_S32x32x1_0_0_0 : S32x32x2.Slices ![0, 0, 0] S32x32x1
  shapeCasts_S32x32x1_S32x32 : S32x32x1.ShapeCasts S32x32
  slices_S32x32x2_S32x32x1_0_0_1 : S32x32x2.Slices ![0, 0, 1] S32x32x1
  gather_S32x512x2_S32x128x1_S32x128x2_2_1_0_0_1_2_112_wf : GatherDims.WF S32x512x2 S32x128x1 S32x128x2 [2] [1] [0] [1] [0] 2 ![1, 1, 2]
  gather_S32x128x2_S32x32x1_S32x32x2_2_1_0_0_1_2_112_wf : GatherDims.WF S32x128x2 S32x32x1 S32x32x2 [2] [1] [0] [1] [0] 2 ![1, 1, 2]

variable [Facts]

def gather_S32x512x2_S32x128x1_S32x128x2_2_1_0_0_1_2_112 : GatherDims S32x512x2 S32x128x1 S32x128x2 where
  offsetDims := [2]
  collapsedSliceDims := [1]
  operandBatchingDims := [0]
  startIndicesBatchingDims := [0]
  startIndexMap := [1]
  indexVectorDim := 2
  sliceSizes := ![1, 1, 2]
  wf := gather_S32x512x2_S32x128x1_S32x128x2_2_1_0_0_1_2_112_wf
def gather_S32x128x2_S32x32x1_S32x32x2_2_1_0_0_1_2_112 : GatherDims S32x128x2 S32x32x1 S32x32x2 where
  offsetDims := [2]
  collapsedSliceDims := [1]
  operandBatchingDims := [0]
  startIndicesBatchingDims := [0]
  startIndexMap := [1]
  indexVectorDim := 2
  sliceSizes := ![1, 1, 2]
  wf := gather_S32x128x2_S32x32x1_S32x32x2_2_1_0_0_1_2_112_wf
def fn_take_along_axis {F : FTy → Type} [FloatOps F] (arg0 : FVec F S32x512x2 .f32) (arg1 : IVec S32x128x1 32) : FVec F S32x128x2 .f32 :=
  let c : IVec S_ 32 := constantI S_ 32 0#32
  let v0 : IVec S32x128x1 32 := broadcastInDim S32x128x1 ![] bcast_S_S32x128x1 c
  let v1 : IVec S32x128x1 1 := cmpi .slt arg1 v0
  let c_0 : IVec S_ 32 := constantI S_ 32 512#32
  let v2 : IVec S32x128x1 32 := broadcastInDim S32x128x1 ![] bcast_S_S32x128x1 c_0
  let v3 : IVec S32x128x1 32 := addi arg1 v2
  let v4 : IVec S32x128x1 32 := select v1 v3 arg1
  let v5 : FVec F S32x128x2 .f32 := (fun x i => Host.gather gather_S32x512x2_S32x128x1_S32x128x2_2_1_0_0_1_2_112 x i) arg0 v4
  v5

def fn_take_along_axis_0 {F : FTy → Type} [FloatOps F] (arg0 : FVec F S32x128x2 .f32) (arg1 : IVec S32x32x1 32) : FVec F S32x32x2 .f32 :=
  let c : IVec S_ 32 := constantI S_ 32 0#32
  let v0 : IVec S32x32x1 32 := broadcastInDim S32x32x1 ![] bcast_S_S32x32x1 c
  let v1 : IVec S32x32x1 1 := cmpi .slt arg1 v0
  let c_0 : IVec S_ 32 := constantI S_ 32 128#32
  let v2 : IVec S32x32x1 32 := broadcastInDim S32x32x1 ![] bcast_S_S32x32x1 c_0
  let v3 : IVec S32x32x1 32 := addi arg1 v2
  let v4 : IVec S32x32x1 32 := select v1 v3 arg1
  let v5 : FVec F S32x32x2 .f32 := (fun x i => Host.gather gather_S32x128x2_S32x32x1_S32x32x2_2_1_0_0_1_2_112 x i) arg0 v4
  v5

def fn_part4 {F : FTy → Type} [FloatOps F] (main_arg4 : FVec F S128x32 .f32) (main_arg6 : IVec S32x32 32) (main_arg7 : FVec F S32x32 .f32) (main_arg8 : FVec F S32x32 .f32) (main_v2 : FVec F S32x128x2 .f32) (main_v5 : FVec F S32x32x2 .f32) (main_v8 : IVec S32x512x1024 1) (main_v11 : IVec S32x512x2 1) (main_v18 : IVec S1026x1026 1) (main_v25 : IVec S1026 1) (main_v32 : IVec S1024x2052 1) (main_v55 : IVec S1024 1) (main_v60 : IVec S24x32x128 1) (main_v65 : IVec S24x32x32 1) (main_v71 : IVec S32x128 1) (main_v75 : IVec S32x128 1) : IVec S32x512x1024 1 × IVec S32x512x2 1 × IVec S1026x1026 1 × IVec S1026 1 × IVec S1024x2052 1 × IVec S1024 1 × IVec S24x32x128 1 × IVec S24x32x32 1 × IVec S32x128 1 × IVec S32x32 1 :=
  let main_v76 : IVec S32x128 1 := andi main_v71 main_v75
  let main_v77 : FVec F S32x128 .f32 := (transpose S32x128 [1, 0] · transposes_S128x32_S32x128_1_0) main_arg4
  let main_v78 : FVec F S32x128x1 .f32 := (extractStridedSlice S32x128x1 ![0, 0, 1] · slices_S32x128x2_S32x128x1_0_0_1) main_v2
  let main_v79 : FVec F S32x128 .f32 := shapeCast S32x128 main_v78 shapeCasts_S32x128x1_S32x128
  let main_v80 : IVec S32x128 1 := cmpf .oeq main_v77 main_v79
  let main_v81 : IVec S32x128 1 := andi main_v76 main_v80
  let main_v82 : IVec S32x32 32 := (transpose S32x32 [1, 0] · transposes_S32x32_S32x32_1_0) main_arg6
  let main_c_18 : IVec S_ 32 := constantI S_ 32 0#32
  let main_v83 : IVec S32x32 32 := broadcastInDim S32x32 ![] bcast_S_S32x32 main_c_18
  let main_v84 : IVec S32x32 1 := cmpi .sge main_v82 main_v83
  let main_c_19 : IVec S_ 32 := constantI S_ 32 128#32
  let main_v85 : IVec S32x32 32 := broadcastInDim S32x32 ![] bcast_S_S32x32 main_c_19
  let main_v86 : IVec S32x32 1 := cmpi .slt main_v82 main_v85
  let main_v87 : IVec S32x32 1 := andi main_v84 main_v86
  let main_v88 : FVec F S32x32 .f32 := (transpose S32x32 [1, 0] · transposes_S32x32_S32x32_1_0) main_arg7
  let main_v89 : FVec F S32x32x1 .f32 := (extractStridedSlice S32x32x1 ![0, 0, 0] · slices_S32x32x2_S32x32x1_0_0_0) main_v5
  let main_v90 : FVec F S32x32 .f32 := shapeCast S32x32 main_v89 shapeCasts_S32x32x1_S32x32
  let main_v91 : IVec S32x32 1 := cmpf .oeq main_v88 main_v90
  let main_v92 : IVec S32x32 1 := andi main_v87 main_v91
  let main_v93 : FVec F S32x32 .f32 := (transpose S32x32 [1, 0] · transposes_S32x32_S32x32_1_0) main_arg8
  let main_v94 : FVec F S32x32x1 .f32 := (extractStridedSlice S32x32x1 ![0, 0, 1] · slices_S32x32x2_S32x32x1_0_0_1) main_v5
  let main_v95 : FVec F S32x32 .f32 := shapeCast S32x32 main_v94 shapeCasts_S32x32x1_S32x32
  let main_v96 : IVec S32x32 1 := cmpf .oeq main_v93 main_v95
  let main_v97 : IVec S32x32 1 := andi main_v92 main_v96
  (main_v8, main_v11, main_v18, main_v25, main_v32, main_v55, main_v60, main_v65, main_v81, main_v97)

def fn_part3 {F : FTy → Type} [FloatOps F] (main_arg2 : IVec S128x32 32) (main_arg3 : FVec F S128x32 .f32) (main_arg4 : FVec F S128x32 .f32) (main_arg5 : IVec S24x32x128 32) (main_arg6 : IVec S32x32 32) (main_arg7 : FVec F S32x32 .f32) (main_arg8 : FVec F S32x32 .f32) (main_arg9 : IVec S24x32x32 32) (main_v2 : FVec F S32x128x2 .f32) (main_v5 : FVec F S32x32x2 .f32) (main_v8 : IVec S32x512x1024 1) (main_v11 : IVec S32x512x2 1) (main_v18 : IVec S1026x1026 1) (main_v25 : IVec S1026 1) (main_v32 : IVec S1024x2052 1) (main_v55 : IVec S1024 1) (main_v56 : IVec S24x32x128 32) : IVec S32x512x1024 1 × IVec S32x512x2 1 × IVec S1026x1026 1 × IVec S1026 1 × IVec S1024x2052 1 × IVec S1024 1 × IVec S24x32x128 1 × IVec S24x32x32 1 × IVec S32x128 1 × IVec S32x32 1 :=
  let main_v57 : IVec S24x32x128 1 := cmpi .sge main_arg5 main_v56
  let main_c_13 : IVec S_ 32 := constantI S_ 32 512#32
  let main_v58 : IVec S24x32x128 32 := broadcastInDim S24x32x128 ![] bcast_S_S24x32x128 main_c_13
  let main_v59 : IVec S24x32x128 1 := cmpi .slt main_arg5 main_v58
  let main_v60 : IVec S24x32x128 1 := andi main_v57 main_v59
  let main_c_14 : IVec S_ 32 := constantI S_ 32 0#32
  let main_v61 : IVec S24x32x32 32 := broadcastInDim S24x32x32 ![] bcast_S_S24x32x32 main_c_14
  let main_v62 : IVec S24x32x32 1 := cmpi .sge main_arg9 main_v61
  let main_c_15 : IVec S_ 32 := constantI S_ 32 128#32
  let main_v63 : IVec S24x32x32 32 := broadcastInDim S24x32x32 ![] bcast_S_S24x32x32 main_c_15
  let main_v64 : IVec S24x32x32 1 := cmpi .slt main_arg9 main_v63
  let main_v65 : IVec S24x32x32 1 := andi main_v62 main_v64
  let main_v66 : IVec S32x128 32 := (transpose S32x128 [1, 0] · transposes_S128x32_S32x128_1_0) main_arg2
  let main_c_16 : IVec S_ 32 := constantI S_ 32 0#32
  let main_v67 : IVec S32x128 32 := broadcastInDim S32x128 ![] bcast_S_S32x128 main_c_16
  let main_v68 : IVec S32x128 1 := cmpi .sge main_v66 main_v67
  let main_c_17 : IVec S_ 32 := constantI S_ 32 512#32
  let main_v69 : IVec S32x128 32 := broadcastInDim S32x128 ![] bcast_S_S32x128 main_c_17
  let main_v70 : IVec S32x128 1 := cmpi .slt main_v66 main_v69
  let main_v71 : IVec S32x128 1 := andi main_v68 main_v70
  let main_v72 : FVec F S32x128 .f32 := (transpose S32x128 [1, 0] · transposes_S128x32_S32x128_1_0) main_arg3
  let main_v73 : FVec F S32x128x1 .f32 := (extractStridedSlice S32x128x1 ![0, 0, 0] · slices_S32x128x2_S32x128x1_0_0_0) main_v2
  let main_v74 : FVec F S32x128 .f32 := shapeCast S32x128 main_v73 shapeCasts_S32x128x1_S32x128
  let main_v75 : IVec S32x128 1 := cmpf .oeq main_v72 main_v74
  fn_part4 (F := F) main_arg4 main_arg6 main_arg7 main_arg8 main_v2 main_v5 main_v8 main_v11 main_v18 main_v25 main_v32 main_v55 main_v60 main_v65 main_v71 main_v75

def fn_part2 {F : FTy → Type} [FloatOps F] (main_arg2 : IVec S128x32 32) (main_arg3 : FVec F S128x32 .f32) (main_arg4 : FVec F S128x32 .f32) (main_arg5 : IVec S24x32x128 32) (main_arg6 : IVec S32x32 32) (main_arg7 : FVec F S32x32 .f32) (main_arg8 : FVec F S32x32 .f32) (main_arg9 : IVec S24x32x32 32) (main_arg15 : FVec F S1024 .f32) (main_arg19 : FVec F S1024 .f32) (main_arg20 : FVec F S1024 .f32) (main_arg21 : FVec F S1024 .f32) (main_v2 : FVec F S32x128x2 .f32) (main_v5 : FVec F S32x32x2 .f32) (main_v8 : IVec S32x512x1024 1) (main_v11 : IVec S32x512x2 1) (main_v18 : IVec S1026x1026 1) (main_v25 : IVec S1026 1) (main_v32 : IVec S1024x2052 1) (main_v35 : IVec S1024 1) (main_v36 : FVec F S1024 .f32) (main_v37 : FVec F S1024 .f32) : IVec S32x512x1024 1 × IVec S32x512x2 1 × IVec S1026x1026 1 × IVec S1026 1 × IVec S1024x2052 1 × IVec S1024 1 × IVec S24x32x128 1 × IVec S24x32x32 1 × IVec S32x128 1 × IVec S32x32 1 :=
  let main_v38 : IVec S1024 1 := cmpf .olt main_v36 main_v37
  let main_v39 : FVec F S1024 .f32 := Host.absf main_arg15
  let main_cst_9 : FVec F S_ .f32 := constant S_ .f32 0x7F800000#32
  let main_v40 : FVec F S1024 .f32 := broadcastInDim S1024 ![] bcast_S_S1024 main_cst_9
  let main_v41 : IVec S1024 1 := cmpf .olt main_v39 main_v40
  let main_v42 : FVec F S1024 .f32 := Host.absf main_arg19
  let main_cst_10 : FVec F S_ .f32 := constant S_ .f32 0x7F800000#32
  let main_v43 : FVec F S1024 .f32 := broadcastInDim S1024 ![] bcast_S_S1024 main_cst_10
  let main_v44 : IVec S1024 1 := cmpf .olt main_v42 main_v43
  let main_v45 : FVec F S1024 .f32 := Host.absf main_arg20
  let main_cst_11 : FVec F S_ .f32 := constant S_ .f32 0x7F800000#32
  let main_v46 : FVec F S1024 .f32 := broadcastInDim S1024 ![] bcast_S_S1024 main_cst_11
  let main_v47 : IVec S1024 1 := cmpf .olt main_v45 main_v46
  let main_v48 : FVec F S1024 .f32 := Host.absf main_arg21
  let main_cst_12 : FVec F S_ .f32 := constant S_ .f32 0x7F800000#32
  let main_v49 : FVec F S1024 .f32 := broadcastInDim S1024 ![] bcast_S_S1024 main_cst_12
  let main_v50 : IVec S1024 1 := cmpf .olt main_v48 main_v49
  let main_v51 : IVec S1024 1 := andi main_v35 main_v38
  let main_v52 : IVec S1024 1 := andi main_v51 main_v41
  let main_v53 : IVec S1024 1 := andi main_v52 main_v44
  let main_v54 : IVec S1024 1 := andi main_v53 main_v47
  let main_v55 : IVec S1024 1 := andi main_v54 main_v50
  let main_c : IVec S_ 32 := constantI S_ 32 0#32
  let main_v56 : IVec S24x32x128 32 := broadcastInDim S24x32x128 ![] bcast_S_S24x32x128 main_c
  fn_part3 (F := F) main_arg2 main_arg3 main_arg4 main_arg5 main_arg6 main_arg7 main_arg8 main_arg9 main_v2 main_v5 main_v8 main_v11 main_v18 main_v25 main_v32 main_v55 main_v56

def fn_part1 {F : FTy → Type} [FloatOps F] (main_arg2 : IVec S128x32 32) (main_arg3 : FVec F S128x32 .f32) (main_arg4 : FVec F S128x32 .f32) (main_arg5 : IVec S24x32x128 32) (main_arg6 : IVec S32x32 32) (main_arg7 : FVec F S32x32 .f32) (main_arg8 : FVec F S32x32 .f32) (main_arg9 : IVec S24x32x32 32) (main_arg12 : FVec F S1024x2052 .f32) (main_arg13 : FVec F S1024 .f32) (main_arg14 : FVec F S1024 .f32) (main_arg15 : FVec F S1024 .f32) (main_arg17 : FVec F S1026 .f32) (main_arg18 : FVec F S1024x2052 .f32) (main_arg19 : FVec F S1024 .f32) (main_arg20 : FVec F S1024 .f32) (main_arg21 : FVec F S1024 .f32) (main_v2 : FVec F S32x128x2 .f32) (main_v5 : FVec F S32x32x2 .f32) (main_v8 : IVec S32x512x1024 1) (main_v11 : IVec S32x512x2 1) (main_v18 : IVec S1026x1026 1) (main_v19 : FVec F S1026 .f32) : IVec S32x512x1024 1 × IVec S32x512x2 1 × IVec S1026x1026 1 × IVec S1026 1 × IVec S1024x2052 1 × IVec S1024 1 × IVec S24x32x128 1 × IVec S24x32x32 1 × IVec S32x128 1 × IVec S32x32 1 :=
  let main_cst_3 : FVec F S_ .f32 := constant S_ .f32 0x7F800000#32
  let main_v20 : FVec F S1026 .f32 := broadcastInDim S1026 ![] bcast_S_S1026 main_cst_3
  let main_v21 : IVec S1026 1 := cmpf .olt main_v19 main_v20
  let main_v22 : FVec F S1026 .f32 := Host.absf main_arg17
  let main_cst_4 : FVec F S_ .f32 := constant S_ .f32 0x7F800000#32
  let main_v23 : FVec F S1026 .f32 := broadcastInDim S1026 ![] bcast_S_S1026 main_cst_4
  let main_v24 : IVec S1026 1 := cmpf .olt main_v22 main_v23
  let main_v25 : IVec S1026 1 := andi main_v21 main_v24
  let main_v26 : FVec F S1024x2052 .f32 := Host.absf main_arg12
  let main_cst_5 : FVec F S_ .f32 := constant S_ .f32 0x7F800000#32
  let main_v27 : FVec F S1024x2052 .f32 := broadcastInDim S1024x2052 ![] bcast_S_S1024x2052 main_cst_5
  let main_v28 : IVec S1024x2052 1 := cmpf .olt main_v26 main_v27
  let main_v29 : FVec F S1024x2052 .f32 := Host.absf main_arg18
  let main_cst_6 : FVec F S_ .f32 := constant S_ .f32 0x7F800000#32
  let main_v30 : FVec F S1024x2052 .f32 := broadcastInDim S1024x2052 ![] bcast_S_S1024x2052 main_cst_6
  let main_v31 : IVec S1024x2052 1 := cmpf .olt main_v29 main_v30
  let main_v32 : IVec S1024x2052 1 := andi main_v28 main_v31
  let main_v33 : FVec F S1024 .f32 := Host.absf main_arg13
  let main_cst_7 : FVec F S_ .f32 := constant S_ .f32 0x7F800000#32
  let main_v34 : FVec F S1024 .f32 := broadcastInDim S1024 ![] bcast_S_S1024 main_cst_7
  let main_v35 : IVec S1024 1 := cmpf .olt main_v33 main_v34
  let main_v36 : FVec F S1024 .f32 := Host.absf main_arg14
  let main_cst_8 : FVec F S_ .f32 := constant S_ .f32 0x7F800000#32
  let main_v37 : FVec F S1024 .f32 := broadcastInDim S1024 ![] bcast_S_S1024 main_cst_8
  fn_part2 (F := F) main_arg2 main_arg3 main_arg4 main_arg5 main_arg6 main_arg7 main_arg8 main_arg9 main_arg15 main_arg19 main_arg20 main_arg21 main_v2 main_v5 main_v8 main_v11 main_v18 main_v25 main_v32 main_v35 main_v36 main_v37

def fn {F : FTy → Type} [FloatOps F] (main_arg0 : FVec F S32x512x1024 .f32) (main_arg1 : FVec F S32x512x2 .f32) (main_arg2 : IVec S128x32 32) (main_arg3 : FVec F S128x32 .f32) (main_arg4 : FVec F S128x32 .f32) (main_arg5 : IVec S24x32x128 32) (main_arg6 : IVec S32x32 32) (main_arg7 : FVec F S32x32 .f32) (main_arg8 : FVec F S32x32 .f32) (main_arg9 : IVec S24x32x32 32) (main_arg10 : FVec F S1026x1026 .f32) (main_arg11 : FVec F S1026 .f32) (main_arg12 : FVec F S1024x2052 .f32) (main_arg13 : FVec F S1024 .f32) (main_arg14 : FVec F S1024 .f32) (main_arg15 : FVec F S1024 .f32) (main_arg16 : FVec F S1026x1026 .f32) (main_arg17 : FVec F S1026 .f32) (main_arg18 : FVec F S1024x2052 .f32) (main_arg19 : FVec F S1024 .f32) (main_arg20 : FVec F S1024 .f32) (main_arg21 : FVec F S1024 .f32) : IVec S32x512x1024 1 × IVec S32x512x2 1 × IVec S1026x1026 1 × IVec S1026 1 × IVec S1024x2052 1 × IVec S1024 1 × IVec S24x32x128 1 × IVec S24x32x32 1 × IVec S32x128 1 × IVec S32x32 1 :=
  let main_v0 : IVec S32x128 32 := (transpose S32x128 [1, 0] · transposes_S128x32_S32x128_1_0) main_arg2
  let main_v1 : IVec S32x128x1 32 := broadcastInDim S32x128x1 ![0, 1] bcast_S32x128_S32x128x1_0_1 main_v0
  let main_v2 : FVec F S32x128x2 .f32 := fn_take_along_axis (F := F) main_arg1 main_v1
  let main_v3 : IVec S32x32 32 := (transpose S32x32 [1, 0] · transposes_S32x32_S32x32_1_0) main_arg6
  let main_v4 : IVec S32x32x1 32 := broadcastInDim S32x32x1 ![0, 1] bcast_S32x32_S32x32x1_0_1 main_v3
  let main_v5 : FVec F S32x32x2 .f32 := fn_take_along_axis_0 (F := F) main_v2 main_v4
  let main_v6 : FVec F S32x512x1024 .f32 := Host.absf main_arg0
  let main_cst : FVec F S_ .f32 := constant S_ .f32 0x7F800000#32
  let main_v7 : FVec F S32x512x1024 .f32 := broadcastInDim S32x512x1024 ![] bcast_S_S32x512x1024 main_cst
  let main_v8 : IVec S32x512x1024 1 := cmpf .olt main_v6 main_v7
  let main_v9 : FVec F S32x512x2 .f32 := Host.absf main_arg1
  let main_cst_0 : FVec F S_ .f32 := constant S_ .f32 0x7F800000#32
  let main_v10 : FVec F S32x512x2 .f32 := broadcastInDim S32x512x2 ![] bcast_S_S32x512x2 main_cst_0
  let main_v11 : IVec S32x512x2 1 := cmpf .olt main_v9 main_v10
  let main_v12 : FVec F S1026x1026 .f32 := Host.absf main_arg10
  let main_cst_1 : FVec F S_ .f32 := constant S_ .f32 0x7F800000#32
  let main_v13 : FVec F S1026x1026 .f32 := broadcastInDim S1026x1026 ![] bcast_S_S1026x1026 main_cst_1
  let main_v14 : IVec S1026x1026 1 := cmpf .olt main_v12 main_v13
  let main_v15 : FVec F S1026x1026 .f32 := Host.absf main_arg16
  let main_cst_2 : FVec F S_ .f32 := constant S_ .f32 0x7F800000#32
  let main_v16 : FVec F S1026x1026 .f32 := broadcastInDim S1026x1026 ![] bcast_S_S1026x1026 main_cst_2
  let main_v17 : IVec S1026x1026 1 := cmpf .olt main_v15 main_v16
  let main_v18 : IVec S1026x1026 1 := andi main_v14 main_v17
  let main_v19 : FVec F S1026 .f32 := Host.absf main_arg11
  fn_part1 (F := F) main_arg2 main_arg3 main_arg4 main_arg5 main_arg6 main_arg7 main_arg8 main_arg9 main_arg12 main_arg13 main_arg14 main_arg15 main_arg17 main_arg18 main_arg19 main_arg20 main_arg21 main_v2 main_v5 main_v8 main_v11 main_v18 main_v19
-- ==== Kernel.lean ====
abbrev S32x512x1024 : Shape := ⟨3, ![32, 512, 1024]⟩
abbrev S32x512x2 : Shape := ⟨3, ![32, 512, 2]⟩
abbrev S128x32 : Shape := ⟨2, ![128, 32]⟩
abbrev S24x32x128 : Shape := ⟨3, ![24, 32, 128]⟩
abbrev S32x32 : Shape := ⟨2, ![32, 32]⟩
abbrev S24x32x32 : Shape := ⟨3, ![24, 32, 32]⟩
abbrev S1026x1026 : Shape := ⟨2, ![1026, 1026]⟩
abbrev S1026 : Shape := ⟨1, ![1026]⟩
abbrev S1024x2052 : Shape := ⟨2, ![1024, 2052]⟩
abbrev S1024 : Shape := ⟨1, ![1024]⟩
abbrev S1x1026 : Shape := ⟨2, ![1, 1026]⟩
abbrev S1x1024 : Shape := ⟨2, ![1, 1024]⟩
abbrev S1026x1024 : Shape := ⟨2, ![1026, 1024]⟩
abbrev S1024x1026 : Shape := ⟨2, ![1024, 1026]⟩
abbrev S32x2x512 : Shape := ⟨3, ![32, 2, 512]⟩
abbrev S32x128 : Shape := ⟨2, ![32, 128]⟩
abbrev S32x1x128 : Shape := ⟨3, ![32, 1, 128]⟩
abbrev S32x24x128 : Shape := ⟨3, ![32, 24, 128]⟩
abbrev S32x1x32 : Shape := ⟨3, ![32, 1, 32]⟩
abbrev S32x24x32 : Shape := ⟨3, ![32, 24, 32]⟩
abbrev S32x1x512 : Shape := ⟨3, ![32, 1, 512]⟩
abbrev S32x128x1024 : Shape := ⟨3, ![32, 128, 1024]⟩
abbrev S1x512x1024 : Shape := ⟨3, ![1, 512, 1024]⟩
abbrev S1x1x512 : Shape := ⟨3, ![1, 1, 512]⟩
abbrev S1x1x128 : Shape := ⟨3, ![1, 1, 128]⟩
abbrev S1x24x128 : Shape := ⟨3, ![1, 24, 128]⟩
abbrev S1x128x1024 : Shape := ⟨3, ![1, 128, 1024]⟩
abbrev S512x1024 : Shape := ⟨2, ![512, 1024]⟩
abbrev S512 : Shape := ⟨1, ![512]⟩
abbrev S1024x1024 : Shape := ⟨2, ![1024, 1024]⟩
abbrev S512x1 : Shape := ⟨2, ![512, 1]⟩
abbrev S128 : Shape := ⟨1, ![128]⟩
abbrev S128x512 : Shape := ⟨2, ![128, 512]⟩
abbrev S128x1 : Shape := ⟨2, ![128, 1]⟩
abbrev S128x1024 : Shape := ⟨2, ![128, 1024]⟩
abbrev S1x128 : Shape := ⟨2, ![1, 128]⟩
abbrev S32x32x1024 : Shape := ⟨3, ![32, 32, 1024]⟩
abbrev S1x1x32 : Shape := ⟨3, ![1, 1, 32]⟩
abbrev S1x24x32 : Shape := ⟨3, ![1, 24, 32]⟩
abbrev S1x32x1024 : Shape := ⟨3, ![1, 32, 1024]⟩
abbrev S32 : Shape := ⟨1, ![32]⟩
abbrev S32x1 : Shape := ⟨2, ![32, 1]⟩
abbrev S32x1024 : Shape := ⟨2, ![32, 1024]⟩
abbrev S1x32 : Shape := ⟨2, ![1, 32]⟩

abbrev nBuf : Space → Nat
  | .hbm => 57
  | .vmem => 54
  | .smem => 0
  | _ => 0

abbrev bufTy : (tb : Table) → Fin (tcTables nBuf tb) → BufTy
  | .hbm, ⟨0, _⟩ => ⟨S32x512x1024, .f32⟩
  | .hbm, ⟨1, _⟩ => ⟨S32x512x2, .f32⟩
  | .hbm, ⟨2, _⟩ => ⟨S128x32, .i32⟩
  | .hbm, ⟨3, _⟩ => ⟨S128x32, .f32⟩
  | .hbm, ⟨4, _⟩ => ⟨S128x32, .f32⟩
  | .hbm, ⟨5, _⟩ => ⟨S24x32x128, .i32⟩
  | .hbm, ⟨6, _⟩ => ⟨S32x32, .i32⟩
  | .hbm, ⟨7, _⟩ => ⟨S32x32, .f32⟩
  | .hbm, ⟨8, _⟩ => ⟨S32x32, .f32⟩
  | .hbm, ⟨9, _⟩ => ⟨S24x32x32, .i32⟩
  | .hbm, ⟨10, _⟩ => ⟨S1026x1026, .f32⟩
  | .hbm, ⟨11, _⟩ => ⟨S1026, .f32⟩
  | .hbm, ⟨12, _⟩ => ⟨S1024x2052, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1026x1026, .f32⟩
  | .hbm, ⟨17, _⟩ => ⟨S1026, .f32⟩
  | .hbm, ⟨18, _⟩ => ⟨S1024x2052, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1026, .f32⟩
  | .hbm, ⟨23, _⟩ => ⟨S1x1024, .f32⟩
  | .hbm, ⟨24, _⟩ => ⟨S1x1026, .f32⟩
  | .hbm, ⟨25, _⟩ => ⟨S1x1024, .f32⟩
  | .hbm, ⟨26, _⟩ => ⟨S1026x1024, .f32⟩
  | .hbm, ⟨27, _⟩ => ⟨S1x1024, .f32⟩
  | .hbm, ⟨28, _⟩ => ⟨S1026x1024, .f32⟩
  | .hbm, ⟨29, _⟩ => ⟨S1x1024, .f32⟩
  | .hbm, ⟨30, _⟩ => ⟨S1024x1026, .f32⟩
  | .hbm, ⟨31, _⟩ => ⟨S1026x1024, .f32⟩
  | .hbm, ⟨32, _⟩ => ⟨S1024x1026, .f32⟩
  | .hbm, ⟨33, _⟩ => ⟨S1026x1024, .f32⟩
  | .hbm, ⟨34, _⟩ => ⟨S32x2x512, .f32⟩
  | .hbm, ⟨35, _⟩ => ⟨S32x128, .i32⟩
  | .hbm, ⟨36, _⟩ => ⟨S32x1x128, .i32⟩
  | .hbm, ⟨37, _⟩ => ⟨S32x128, .f32⟩
  | .hbm, ⟨38, _⟩ => ⟨S32x1x128, .f32⟩
  | .hbm, ⟨39, _⟩ => ⟨S32x128, .f32⟩
  | .hbm, ⟨40, _⟩ => ⟨S32x1x128, .f32⟩
  | .hbm, ⟨41, _⟩ => ⟨S32x24x128, .i32⟩
  | .hbm, ⟨42, _⟩ => ⟨S32x32, .i32⟩
  | .hbm, ⟨43, _⟩ => ⟨S32x1x32, .i32⟩
  | .hbm, ⟨44, _⟩ => ⟨S32x32, .f32⟩
  | .hbm, ⟨45, _⟩ => ⟨S32x1x32, .f32⟩
  | .hbm, ⟨46, _⟩ => ⟨S32x32, .f32⟩
  | .hbm, ⟨47, _⟩ => ⟨S32x1x32, .f32⟩
  | .hbm, ⟨48, _⟩ => ⟨S32x24x32, .i32⟩
  | .hbm, ⟨49, _⟩ => ⟨S32x1x512, .f32⟩
  | .hbm, ⟨50, _⟩ => ⟨S32x1x512, .f32⟩
  | .hbm, ⟨51, _⟩ => ⟨S1x1024, .f32⟩
  | .hbm, ⟨52, _⟩ => ⟨S1x1024, .f32⟩
  | .hbm, ⟨53, _⟩ => ⟨S32x128x1024, .f32⟩
  | .hbm, ⟨54, _⟩ => ⟨S1x1024, .f32⟩
  | .hbm, ⟨55, _⟩ => ⟨S1x1024, .f32⟩
  | .hbm, ⟨56, _⟩ => ⟨S32x32x1024, .f32⟩
  | .local _ .vmem, ⟨0, _⟩ => ⟨S1026x1026, .f32⟩
  | .local _ .vmem, ⟨1, _⟩ => ⟨S1024x2052, .f32⟩
  | .local _ .vmem, ⟨2, _⟩ => ⟨S1x1026, .f32⟩
  | .local _ .vmem, ⟨3, _⟩ => ⟨S1x1024, .f32⟩
  | .local _ .vmem, ⟨4, _⟩ => ⟨S1026x1026, .f32⟩
  | .local _ .vmem, ⟨5, _⟩ => ⟨S1024x2052, .f32⟩
  | .local _ .vmem, ⟨6, _⟩ => ⟨S1x1026, .f32⟩
  | .local _ .vmem, ⟨7, _⟩ => ⟨S1x1024, .f32⟩
  | .local _ .vmem, ⟨8, _⟩ => ⟨S1026x1024, .f32⟩
  | .local _ .vmem, ⟨9, _⟩ => ⟨S1x1024, .f32⟩
  | .local _ .vmem, ⟨10, _⟩ => ⟨S1026x1024, .f32⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x128, .i32⟩
  | .local _ .vmem, ⟨19, _⟩ => ⟨S1x1x128, .i32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x24x128, .i32⟩
  | .local _ .vmem, ⟨25, _⟩ => ⟨S1x24x128, .i32⟩
  | .local _ .vmem, ⟨26, _⟩ => ⟨S1026x1024, .f32⟩
  | .local _ .vmem, ⟨27, _⟩ => ⟨S1026x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x128x1024, .f32⟩
  | .local _ .vmem, ⟨32, _⟩ => ⟨S1x128x1024, .f32⟩
  | .local _ .vmem, ⟨33, _⟩ => ⟨S1x128x1024, .f32⟩
  | .local _ .vmem, ⟨34, _⟩ => ⟨S1x128x1024, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S1x1x128, .f32⟩
  | .local _ .vmem, ⟨39, _⟩ => ⟨S1x1x32, .i32⟩
  | .local _ .vmem, ⟨40, _⟩ => ⟨S1x1x32, .i32⟩
  | .local _ .vmem, ⟨41, _⟩ => ⟨S1x1x32, .f32⟩
  | .local _ .vmem, ⟨42, _⟩ => ⟨S1x1x32, .f32⟩
  | .local _ .vmem, ⟨43, _⟩ => ⟨S1x1x32, .f32⟩
  | .local _ .vmem, ⟨44, _⟩ => ⟨S1x1x32, .f32⟩
  | .local _ .vmem, ⟨45, _⟩ => ⟨S1x24x32, .i32⟩
  | .local _ .vmem, ⟨46, _⟩ => ⟨S1x24x32, .i32⟩
  | .local _ .vmem, ⟨47, _⟩ => ⟨S1026x1024, .f32⟩
  | .local _ .vmem, ⟨48, _⟩ => ⟨S1026x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x32x1024, .f32⟩
  | .local _ .vmem, ⟨53, _⟩ => ⟨S1x32x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4_0 : Ref sig .tc := ⟨.hbm, 26, rfl⟩
abbrev main_v4_1 : Ref sig .tc := ⟨.hbm, 27, rfl⟩
abbrev main_v4_2 : Ref sig .tc := ⟨.hbm, 28, rfl⟩
abbrev main_v4_3 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg8_0 : Ref sig .tc := ⟨.vmem, 48, rfl⟩
abbrev cc2_stg9_0 : Ref sig .tc := ⟨.vmem, 49, rfl⟩
abbrev cc2_stg10_0 : Ref sig .tc := ⟨.vmem, 50, rfl⟩
abbrev cc2_stg11_0 : Ref sig .tc := ⟨.vmem, 51, rfl⟩
abbrev cc2_stg12_0 : Ref sig .tc := ⟨.vmem, 52, rfl⟩
abbrev cc2_stg12_1 : Ref sig .tc := ⟨.vmem, 53, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem8_0 : DmaSem sig := 48
abbrev cc2_sem9_0 : DmaSem sig := 49
abbrev cc2_sem10_0 : DmaSem sig := 50
abbrev cc2_sem11_0 : DmaSem sig := 51
abbrev cc2_sem12_0 : DmaSem sig := 52
abbrev cc2_sem12_1 : DmaSem sig := 53

abbrev nD : Nat := 1
abbrev τ : Topo := Topo.v7x

variable {F : FTy → Type} [FloatOps F]

abbrev grid0 : Pipeline.Grid := .none

abbrev stage0_0 : Fin 1 → Memref sig .tc .vmem S1026x1026 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2052 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1026 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1026x1026 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2052 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1026 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1026x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1026x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![32], ![false]⟩

@[reducible] def k1_t1_loop : Scf.Loop 32 :=
  let c0_i32 : BitVec 32 := 0#32
  let c24_i32 : BitVec 32 := 24#32
  let v64 : BitVec 32 := Scalar.addi c0_i32 c24_i32
  let c1_i32 : BitVec 32 := 1#32
  ⟨c0_i32, v64, c1_i32⟩
def k1_off1 (k1_t1 : Fin k1_t1_loop.trips) : Fin 3 → Nat :=
  let c0_42 : Index := 0#32
  let c0_i32 : BitVec 32 := 0#32
  let c1_i32 : BitVec 32 := 1#32
  let arg14 : BitVec 32 := Scf.iv c0_i32 c1_i32 k1_t1
  let v71 : Index := Scalar.indexCast arg14
  let c0_43 : Index := 0#32
  ![0, v71.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x24x128 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1026x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1026x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x128x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![32], ![false]⟩

@[reducible] def k2_t1_loop : Scf.Loop 32 :=
  let c0_i32 : BitVec 32 := 0#32
  let c24_i32 : BitVec 32 := 24#32
  let v64 : BitVec 32 := Scalar.addi c0_i32 c24_i32
  let c1_i32 : BitVec 32 := 1#32
  ⟨c0_i32, v64, c1_i32⟩
def k2_off1 (k2_t1 : Fin k2_t1_loop.trips) : Fin 3 → Nat :=
  let c0_42 : Index := 0#32
  let c0_i32 : BitVec 32 := 0#32
  let c1_i32 : BitVec 32 := 1#32
  let arg14 : BitVec 32 := Scf.iv c0_i32 c1_i32 k2_t1
  let v71 : Index := Scalar.indexCast arg14
  let c0_43 : Index := 0#32
  ![0, v71.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x32 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x24x32 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1026x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1026x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1x32x1024 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== KernelIdeal.lean ====
variable {F : FTy → Type} [FloatOps F] [Named F]
def κ : String → Option EReal := fun
  | "inv_k" => some ((1 / 24 : ℝ) : EReal)
  | _ => none
-- ==== ReferenceIdeal.lean ====
abbrev S32x512x1024 : Shape := ⟨3, ![32, 512, 1024]⟩
abbrev S32x512x2 : Shape := ⟨3, ![32, 512, 2]⟩
abbrev S128x32 : Shape := ⟨2, ![128, 32]⟩
abbrev S24x32x128 : Shape := ⟨3, ![24, 32, 128]⟩
abbrev S32x32 : Shape := ⟨2, ![32, 32]⟩
abbrev S24x32x32 : Shape := ⟨3, ![24, 32, 32]⟩
abbrev S1026x1026 : Shape := ⟨2, ![1026, 1026]⟩
abbrev S1026 : Shape := ⟨1, ![1026]⟩
abbrev S1024x2052 : Shape := ⟨2, ![1024, 2052]⟩
abbrev S1024 : Shape := ⟨1, ![1024]⟩
abbrev S32x128 : Shape := ⟨2, ![32, 128]⟩
abbrev S32x128x1 : Shape := ⟨3, ![32, 128, 1]⟩
abbrev S_ : Shape := ⟨0, ![]⟩
abbrev S32x128x2 : Shape := ⟨3, ![32, 128, 2]⟩
abbrev S32x128x1024 : Shape := ⟨3, ![32, 128, 1024]⟩
abbrev S32x128x24 : Shape := ⟨3, ![32, 128, 24]⟩
abbrev S32x3072 : Shape := ⟨2, ![32, 3072]⟩
abbrev S32x3072x1 : Shape := ⟨3, ![32, 3072, 1]⟩
abbrev S32x3072x2 : Shape := ⟨3, ![32, 3072, 2]⟩
abbrev S32x128x24x2 : Shape := ⟨4, ![32, 128, 24, 2]⟩
abbrev S32x3072x1024 : Shape := ⟨3, ![32, 3072, 1024]⟩
abbrev S32x128x24x1024 : Shape := ⟨4, ![32, 128, 24, 1024]⟩
abbrev S32x128x24x1026 : Shape := ⟨4, ![32, 128, 24, 1026]⟩
abbrev S32x128x1026 : Shape := ⟨3, ![32, 128, 1026]⟩
abbrev S32x128x1x1026 : Shape := ⟨4, ![32, 128, 1, 1026]⟩
abbrev S1x1x1x1026 : Shape := ⟨4, ![1, 1, 1, 1026]⟩
abbrev S32x128x24x2052 : Shape := ⟨4, ![32, 128, 24, 2052]⟩
abbrev S2052x1024 : Shape := ⟨2, ![2052, 1024]⟩
abbrev S1x1x1x1024 : Shape := ⟨4, ![1, 1, 1, 1024]⟩
abbrev S32x128x24x1 : Shape := ⟨4, ![32, 128, 24, 1]⟩
abbrev S32x32x1 : Shape := ⟨3, ![32, 32, 1]⟩
abbrev S32x32x2 : Shape := ⟨3, ![32, 32, 2]⟩
abbrev S32x32x1024 : Shape := ⟨3, ![32, 32, 1024]⟩
abbrev S32x32x24 : Shape := ⟨3, ![32, 32, 24]⟩
abbrev S32x768 : Shape := ⟨2, ![32, 768]⟩
abbrev S32x768x1 : Shape := ⟨3, ![32, 768, 1]⟩
abbrev S32x768x2 : Shape := ⟨3, ![32, 768, 2]⟩
abbrev S32x32x24x2 : Shape := ⟨4, ![32, 32, 24, 2]⟩
abbrev S32x768x1024 : Shape := ⟨3, ![32, 768, 1024]⟩
abbrev S32x32x24x1024 : Shape := ⟨4, ![32, 32, 24, 1024]⟩
abbrev S32x32x24x1026 : Shape := ⟨4, ![32, 32, 24, 1026]⟩
abbrev S32x32x1026 : Shape := ⟨3, ![32, 32, 1026]⟩
abbrev S32x32x1x1026 : Shape := ⟨4, ![32, 32, 1, 1026]⟩
abbrev S32x32x24x2052 : Shape := ⟨4, ![32, 32, 24, 2052]⟩
abbrev S32x32x24x1 : Shape := ⟨4, ![32, 32, 24, 1]⟩

abbrev nBuf : Space → Nat
  | .hbm => 214
  | .vmem => 0
  | .smem => 0
  | _ => 0

abbrev hbmTy0_0 (i : Nat) : BufTy := match i % 128 with
  | 0 => ⟨S32x512x1024, .f32⟩
  | 1 => ⟨S32x512x2, .f32⟩
  | 2 => ⟨S128x32, .i32⟩
  | 3 => ⟨S128x32, .f32⟩
  | 4 => ⟨S128x32, .f32⟩
  | 5 => ⟨S24x32x128, .i32⟩
  | 6 => ⟨S32x32, .i32⟩
  | 7 => ⟨S32x32, .f32⟩
  | 8 => ⟨S32x32, .f32⟩
  | 9 => ⟨S24x32x32, .i32⟩
  | 10 => ⟨S1026x1026, .f32⟩
  | 11 => ⟨S1026, .f32⟩
  | 12 => ⟨S1024x2052, .f32⟩
  | 13 => ⟨S1024, .f32⟩
  | 14 => ⟨S1024, .f32⟩
  | 15 => ⟨S1024, .f32⟩
  | 16 => ⟨S1026x1026, .f32⟩
  | 17 => ⟨S1026, .f32⟩
  | 18 => ⟨S1024x2052, .f32⟩
  | 19 => ⟨S1024, .f32⟩
  | 20 => ⟨S1024, .f32⟩
  | 21 => ⟨S1024, .f32⟩
  | 22 => ⟨S32x128, .i32⟩
  | 23 => ⟨S32x128x1, .i32⟩
  | 24 => ⟨S_, .i32⟩
  | 25 => ⟨S32x128x1, .i32⟩
  | 26 => ⟨S32x128x1, .i1⟩
  | 27 => ⟨S_, .i32⟩
  | 28 => ⟨S32x128x1, .i32⟩
  | 29 => ⟨S32x128x1, .i32⟩
  | 30 => ⟨S32x128x1, .i32⟩
  | 31 => ⟨S32x128x2, .f32⟩
  | 32 => ⟨S32x128x1, .i32⟩
  | 33 => ⟨S_, .i32⟩
  | 34 => ⟨S32x128x1, .i32⟩
  | 35 => ⟨S32x128x1, .i1⟩
  | 36 => ⟨S_, .i32⟩
  | 37 => ⟨S32x128x1, .i32⟩
  | 38 => ⟨S32x128x1, .i32⟩
  | 39 => ⟨S32x128x1, .i32⟩
  | 40 => ⟨S32x128x1024, .f32⟩
  | 41 => ⟨S32x128x24, .i32⟩
  | 42 => ⟨S32x3072, .i32⟩
  | 43 => ⟨S32x3072x1, .i32⟩
  | 44 => ⟨S_, .i32⟩
  | 45 => ⟨S32x3072x1, .i32⟩
  | 46 => ⟨S32x3072x1, .i1⟩
  | 47 => ⟨S_, .i32⟩
  | 48 => ⟨S32x3072x1, .i32⟩
  | 49 => ⟨S32x3072x1, .i32⟩
  | 50 => ⟨S32x3072x1, .i32⟩
  | 51 => ⟨S32x3072x2, .f32⟩
  | 52 => ⟨S32x128x24x2, .f32⟩
  | 53 => ⟨S32x3072, .i32⟩
  | 54 => ⟨S32x3072x1, .i32⟩
  | 55 => ⟨S_, .i32⟩
  | 56 => ⟨S32x3072x1, .i32⟩
  | 57 => ⟨S32x3072x1, .i1⟩
  | 58 => ⟨S_, .i32⟩
  | 59 => ⟨S32x3072x1, .i32⟩
  | 60 => ⟨S32x3072x1, .i32⟩
  | 61 => ⟨S32x3072x1, .i32⟩
  | 62 => ⟨S32x3072x1024, .f32⟩
  | 63 => ⟨S32x128x24x1024, .f32⟩
  | 64 => ⟨S32x128x24x1026, .f32⟩
  | 65 => ⟨S32x128x1026, .f32⟩
  | 66 => ⟨S32x128x1x1026, .f32⟩
  | 67 => ⟨S32x128x24x1026, .f32⟩
  | 68 => ⟨S32x128x24x1026, .f32⟩
  | 69 => ⟨S1026x1026, .f32⟩
  | 70 => ⟨S32x128x24x1026, .f32⟩
  | 71 => ⟨S1x1x1x1026, .f32⟩
  | 72 => ⟨S32x128x24x1026, .f32⟩
  | 73 => ⟨S32x128x24x1026, .f32⟩
  | 74 => ⟨S32x128x24x1026, .f32⟩
  | 75 => ⟨S32x128x24x2052, .f32⟩
  | 76 => ⟨S2052x1024, .f32⟩
  | 77 => ⟨S32x128x24x1024, .f32⟩
  | 78 => ⟨S1x1x1x1024, .f32⟩
  | 79 => ⟨S32x128x24x1024, .f32⟩
  | 80 => ⟨S32x128x24x1024, .f32⟩
  | 81 => ⟨S_, .f32⟩
  | 82 => ⟨S32x128x24x1024, .f32⟩
  | 83 => ⟨S32x128x24x1024, .f32⟩
  | 84 => ⟨S_, .f32⟩
  | 85 => ⟨S32x128x24, .f32⟩
  | 86 => ⟨S32x128x24x1, .f32⟩
  | 87 => ⟨S_, .f32⟩
  | 88 => ⟨S32x128x24x1, .f32⟩
  | 89 => ⟨S32x128x24x1, .f32⟩
  | 90 => ⟨S32x128x24x1024, .f32⟩
  | 91 => ⟨S32x128x24x1024, .f32⟩
  | 92 => ⟨S32x128x24x1024, .f32⟩
  | 93 => ⟨S_, .f32⟩
  | 94 => ⟨S32x128x24, .f32⟩
  | 95 => ⟨S32x128x24x1, .f32⟩
  | 96 => ⟨S_, .f32⟩
  | 97 => ⟨S32x128x24x1, .f32⟩
  | 98 => ⟨S32x128x24x1, .f32⟩
  | 99 => ⟨S32x128x24x1024, .f32⟩
  | 100 => ⟨S32x128x24x1024, .f32⟩
  | 101 => ⟨S_, .f32⟩
  | 102 => ⟨S32x128x24x1, .f32⟩
  | 103 => ⟨S32x128x24x1, .f32⟩
  | 104 => ⟨S32x128x24x1, .f32⟩
  | 105 => ⟨S32x128x24x1024, .f32⟩
  | 106 => ⟨S32x128x24x1024, .f32⟩
  | 107 => ⟨S1x1x1x1024, .f32⟩
  | 108 => ⟨S32x128x24x1024, .f32⟩
  | 109 => ⟨S32x128x24x1024, .f32⟩
  | 110 => ⟨S1x1x1x1024, .f32⟩
  | 111 => ⟨S32x128x24x1024, .f32⟩
  | 112 => ⟨S32x128x24x1024, .f32⟩
  | 113 => ⟨S_, .f32⟩
  | 114 => ⟨S32x128x1024, .f32⟩
  | 115 => ⟨S_, .f32⟩
  | 116 => ⟨S32x128x1024, .f32⟩
  | 117 => ⟨S32x128x1024, .f32⟩
  | 118 => ⟨S32x32, .i32⟩
  | 119 => ⟨S32x32x1, .i32⟩
  | 120 => ⟨S_, .i32⟩
  | 121 => ⟨S32x32x1, .i32⟩
  | 122 => ⟨S32x32x1, .i1⟩
  | 123 => ⟨S_, .i32⟩
  | 124 => ⟨S32x32x1, .i32⟩
  | 125 => ⟨S32x32x1, .i32⟩
  | 126 => ⟨S32x32x1, .i32⟩
  | 127 => ⟨S32x32x2, .f32⟩
  | _ => ⟨S32x512x1024, .f32⟩

abbrev hbmTy0_1 (i : Nat) : BufTy := match i % 128 with
  | 0 => ⟨S32x32x1, .i32⟩
  | 1 => ⟨S_, .i32⟩
  | 2 => ⟨S32x32x1, .i32⟩
  | 3 => ⟨S32x32x1, .i1⟩
  | 4 => ⟨S_, .i32⟩
  | 5 => ⟨S32x32x1, .i32⟩
  | 6 => ⟨S32x32x1, .i32⟩
  | 7 => ⟨S32x32x1, .i32⟩
  | 8 => ⟨S32x32x1024, .f32⟩
  | 9 => ⟨S32x32x24, .i32⟩
  | 10 => ⟨S32x768, .i32⟩
  | 11 => ⟨S32x768x1, .i32⟩
  | 12 => ⟨S_, .i32⟩
  | 13 => ⟨S32x768x1, .i32⟩
  | 14 => ⟨S32x768x1, .i1⟩
  | 15 => ⟨S_, .i32⟩
  | 16 => ⟨S32x768x1, .i32⟩
  | 17 => ⟨S32x768x1, .i32⟩
  | 18 => ⟨S32x768x1, .i32⟩
  | 19 => ⟨S32x768x2, .f32⟩
  | 20 => ⟨S32x32x24x2, .f32⟩
  | 21 => ⟨S32x768, .i32⟩
  | 22 => ⟨S32x768x1, .i32⟩
  | 23 => ⟨S_, .i32⟩
  | 24 => ⟨S32x768x1, .i32⟩
  | 25 => ⟨S32x768x1, .i1⟩
  | 26 => ⟨S_, .i32⟩
  | 27 => ⟨S32x768x1, .i32⟩
  | 28 => ⟨S32x768x1, .i32⟩
  | 29 => ⟨S32x768x1, .i32⟩
  | 30 => ⟨S32x768x1024, .f32⟩
  | 31 => ⟨S32x32x24x1024, .f32⟩
  | 32 => ⟨S32x32x24x1026, .f32⟩
  | 33 => ⟨S32x32x1026, .f32⟩
  | 34 => ⟨S32x32x1x1026, .f32⟩
  | 35 => ⟨S32x32x24x1026, .f32⟩
  | 36 => ⟨S32x32x24x1026, .f32⟩
  | 37 => ⟨S1026x1026, .f32⟩
  | 38 => ⟨S32x32x24x1026, .f32⟩
  | 39 => ⟨S1x1x1x1026, .f32⟩
  | 40 => ⟨S32x32x24x1026, .f32⟩
  | 41 => ⟨S32x32x24x1026, .f32⟩
  | 42 => ⟨S32x32x24x1026, .f32⟩
  | 43 => ⟨S32x32x24x2052, .f32⟩
  | 44 => ⟨S2052x1024, .f32⟩
  | 45 => ⟨S32x32x24x1024, .f32⟩
  | 46 => ⟨S1x1x1x1024, .f32⟩
  | 47 => ⟨S32x32x24x1024, .f32⟩
  | 48 => ⟨S32x32x24x1024, .f32⟩
  | 49 => ⟨S_, .f32⟩
  | 50 => ⟨S32x32x24x1024, .f32⟩
  | 51 => ⟨S32x32x24x1024, .f32⟩
  | 52 => ⟨S_, .f32⟩
  | 53 => ⟨S32x32x24, .f32⟩
  | 54 => ⟨S32x32x24x1, .f32⟩
  | 55 => ⟨S_, .f32⟩
  | 56 => ⟨S32x32x24x1, .f32⟩
  | 57 => ⟨S32x32x24x1, .f32⟩
  | 58 => ⟨S32x32x24x1024, .f32⟩
  | 59 => ⟨S32x32x24x1024, .f32⟩
  | 60 => ⟨S32x32x24x1024, .f32⟩
  | 61 => ⟨S_, .f32⟩
  | 62 => ⟨S32x32x24, .f32⟩
  | 63 => ⟨S32x32x24x1, .f32⟩
  | 64 => ⟨S_, .f32⟩
  | 65 => ⟨S32x32x24x1, .f32⟩
  | 66 => ⟨S32x32x24x1, .f32⟩
  | 67 => ⟨S32x32x24x1024, .f32⟩
  | 68 => ⟨S32x32x24x1024, .f32⟩
  | 69 => ⟨S_, .f32⟩
  | 70 => ⟨S32x32x24x1, .f32⟩
  | 71 => ⟨S32x32x24x1, .f32⟩
  | 72 => ⟨S32x32x24x1, .f32⟩
  | 73 => ⟨S32x32x24x1024, .f32⟩
  | 74 => ⟨S32x32x24x1024, .f32⟩
  | 75 => ⟨S1x1x1x1024, .f32⟩
  | 76 => ⟨S32x32x24x1024, .f32⟩
  | 77 => ⟨S32x32x24x1024, .f32⟩
  | 78 => ⟨S1x1x1x1024, .f32⟩
  | 79 => ⟨S32x32x24x1024, .f32⟩
  | 80 => ⟨S32x32x24x1024, .f32⟩
  | 81 => ⟨S_, .f32⟩
  | 82 => ⟨S32x32x1024, .f32⟩
  | 83 => ⟨S_, .f32⟩
  | 84 => ⟨S32x32x1024, .f32⟩
  | 85 => ⟨S32x32x1024, .f32⟩
  | _ => ⟨S32x512x1024, .f32⟩

abbrev hbmTy (i : Nat) : BufTy := match i / 128 with
  | 0 => hbmTy0_0 i
  | 1 => hbmTy0_1 i
  | _ => ⟨S32x512x1024, .f32⟩

abbrev bufTy : (tb : Table) → Fin (tcTables nBuf tb) → BufTy
  | .hbm, ⟨i, _⟩ => hbmTy i
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v2 : Ref sig .tc := ⟨.hbm, 31, rfl⟩
abbrev main_v3 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_call4_cst : Ref sig .tc := ⟨.hbm, 81, rfl⟩
abbrev main_call4_v0 : Ref sig .tc := ⟨.hbm, 82, rfl⟩
abbrev main_v31 : Ref sig .tc := ⟨.hbm, 83, rfl⟩
abbrev main_cst : Ref sig .tc := ⟨.hbm, 84, rfl⟩
abbrev main_v32 : Ref sig .tc := ⟨.hbm, 85, rfl⟩
abbrev main_v33 : Ref sig .tc := ⟨.hbm, 86, rfl⟩
abbrev main_cst_0 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_1 : Ref sig .tc := ⟨.hbm, 93, rfl⟩
abbrev main_v39 : Ref sig .tc := ⟨.hbm, 94, rfl⟩
abbrev main_v40 : Ref sig .tc := ⟨.hbm, 95, rfl⟩
abbrev main_cst_2 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_cst_3 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_4 : Ref sig .tc := ⟨.hbm, 113, rfl⟩
abbrev main_v56 : Ref sig .tc := ⟨.hbm, 114, rfl⟩
abbrev main_cst_5 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_call5_c : Ref sig .tc := ⟨.hbm, 120, rfl⟩
abbrev main_call5_v0 : Ref sig .tc := ⟨.hbm, 121, rfl⟩
abbrev main_call5_v1 : Ref sig .tc := ⟨.hbm, 122, rfl⟩
abbrev main_call5_c_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v61 : Ref sig .tc := ⟨.hbm, 127, rfl⟩
abbrev main_v62 : Ref sig .tc := ⟨.hbm, 128, rfl⟩
abbrev main_call6_c : Ref sig .tc := ⟨.hbm, 129, rfl⟩
abbrev main_call6_v0 : Ref sig .tc := ⟨.hbm, 130, rfl⟩
abbrev main_call6_v1 : Ref sig .tc := ⟨.hbm, 131, rfl⟩
abbrev main_call6_c_0 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_call7_c : Ref sig .tc := ⟨.hbm, 140, rfl⟩
abbrev main_call7_v0 : Ref sig .tc := ⟨.hbm, 141, rfl⟩
abbrev main_call7_v1 : Ref sig .tc := ⟨.hbm, 142, rfl⟩
abbrev main_call7_c_0 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_call8_c : Ref sig .tc := ⟨.hbm, 151, rfl⟩
abbrev main_call8_v0 : Ref sig .tc := ⟨.hbm, 152, rfl⟩
abbrev main_call8_v1 : Ref sig .tc := ⟨.hbm, 153, rfl⟩
abbrev main_call8_c_0 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_call9_cst : Ref sig .tc := ⟨.hbm, 177, rfl⟩
abbrev main_call9_v0 : Ref sig .tc := ⟨.hbm, 178, rfl⟩
abbrev main_v90 : Ref sig .tc := ⟨.hbm, 179, rfl⟩
abbrev main_cst_6 : Ref sig .tc := ⟨.hbm, 180, rfl⟩
abbrev main_v91 : Ref sig .tc := ⟨.hbm, 181, rfl⟩
abbrev main_v92 : Ref sig .tc := ⟨.hbm, 182, rfl⟩
abbrev main_cst_7 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_cst_8 : Ref sig .tc := ⟨.hbm, 189, rfl⟩
abbrev main_v98 : Ref sig .tc := ⟨.hbm, 190, rfl⟩
abbrev main_v99 : Ref sig .tc := ⟨.hbm, 191, rfl⟩
abbrev main_cst_9 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_10 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_cst_11 : Ref sig .tc := ⟨.hbm, 209, rfl⟩
abbrev main_v115 : Ref sig .tc := ⟨.hbm, 210, rfl⟩
abbrev main_cst_12 : Ref sig .tc := ⟨.hbm, 211, rfl⟩
abbrev main_v116 : Ref sig .tc := ⟨.hbm, 212, rfl⟩
abbrev main_v117 : Ref sig .tc := ⟨.hbm, 213, rfl⟩

abbrev nD : Nat := 1
abbrev τ : Topo := Topo.v7x

variable {F : FTy → Type} [FloatOps F]
-- ==== Flat.lean ====
abbrev S32x32x1024 : Shape := ⟨3, ![32, 32, 1024]⟩
abbrev S1024x32768 : Shape := ⟨2, ![1024, 32768]⟩
abbrev S1024 : Shape := ⟨1, ![1024]⟩
abbrev S32x32768 : Shape := ⟨2, ![32, 32768]⟩
abbrev S1x1024 : Shape := ⟨2, ![1, 1024]⟩
abbrev S32x1024 : Shape := ⟨2, ![32, 1024]⟩
abbrev S32x2048 : Shape := ⟨2, ![32, 2048]⟩
abbrev S1024x2048 : Shape := ⟨2, ![1024, 2048]⟩

abbrev nBuf : Space → Nat
  | .hbm => 6
  | .vmem => 6
  | .smem => 0
  | _ => 0

abbrev bufTy : (tb : Table) → Fin (tcTables nBuf tb) → BufTy
  | .hbm, ⟨0, _⟩ => ⟨S32x32x1024, .f32⟩
  | .hbm, ⟨1, _⟩ => ⟨S1024x32768, .f32⟩
  | .hbm, ⟨2, _⟩ => ⟨S1024, .f32⟩
  | .hbm, ⟨3, _⟩ => ⟨S32x32768, .f32⟩
  | .hbm, ⟨4, _⟩ => ⟨S1x1024, .f32⟩
  | .hbm, ⟨5, _⟩ => ⟨S32x1024, .f32⟩
  | .local _ .vmem, ⟨0, _⟩ => ⟨S32x2048, .f32⟩
  | .local _ .vmem, ⟨1, _⟩ => ⟨S32x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S32x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FlatRefIdeal.lean ====
abbrev S32x32x1024 : Shape := ⟨3, ![32, 32, 1024]⟩
abbrev S1024x32768 : Shape := ⟨2, ![1024, 32768]⟩
abbrev S1024 : Shape := ⟨1, ![1024]⟩
abbrev S32x32768 : Shape := ⟨2, ![32, 32768]⟩
abbrev S32768x1024 : Shape := ⟨2, ![32768, 1024]⟩
abbrev S32x1024 : Shape := ⟨2, ![32, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1024x32768, .f32⟩
  | .hbm, ⟨2, _⟩ => ⟨S1024, .f32⟩
  | .hbm, ⟨3, _⟩ => ⟨S32x32768, .f32⟩
  | .hbm, ⟨4, _⟩ => ⟨S32768x1024, .f32⟩
  | .hbm, ⟨5, _⟩ => ⟨S32x1024, .f32⟩
  | .hbm, ⟨6, _⟩ => ⟨S1x1024, .f32⟩
  | .hbm, ⟨7, _⟩ => ⟨S32x1024, .f32⟩
  | .hbm, ⟨8, _⟩ => ⟨S32x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dim.lean ====
abbrev S32x1024 : Shape := ⟨2, ![32, 1024]⟩
abbrev S4096x1024 : Shape := ⟨2, ![4096, 1024]⟩
abbrev S4096 : Shape := ⟨1, ![4096]⟩
abbrev S1x4096 : Shape := ⟨2, ![1, 4096]⟩
abbrev S32x4096 : Shape := ⟨2, ![32, 4096]⟩

abbrev nBuf : Space → Nat
  | .hbm => 5
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S32x4096, .f32⟩
  | .local _ .vmem, ⟨0, _⟩ => ⟨S32x1024, .f32⟩
  | .local _ .vmem, ⟨1, _⟩ => ⟨S4096x1024, .f32⟩
  | .local _ .vmem, ⟨2, _⟩ => ⟨S1x4096, .f32⟩
  | .local _ .vmem, ⟨3, _⟩ => ⟨S32x4096, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DimRefIdeal.lean ====
abbrev S32x1024 : Shape := ⟨2, ![32, 1024]⟩
abbrev S4096x1024 : Shape := ⟨2, ![4096, 1024]⟩
abbrev S4096 : Shape := ⟨1, ![4096]⟩
abbrev S1024x4096 : Shape := ⟨2, ![1024, 4096]⟩
abbrev S32x4096 : Shape := ⟨2, ![32, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S32x4096, .f32⟩
  | .hbm, ⟨5, _⟩ => ⟨S1x4096, .f32⟩
  | .hbm, ⟨6, _⟩ => ⟨S32x4096, .f32⟩
  | .hbm, ⟨7, _⟩ => ⟨S32x4096, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Sample.lean ====
abbrev S4x24x24x1024 : Shape := ⟨4, ![4, 24, 24, 1024]⟩
abbrev S32x512x2 : Shape := ⟨3, ![32, 512, 2]⟩
abbrev S32x2x512 : Shape := ⟨3, ![32, 2, 512]⟩
abbrev S4x576x1024 : Shape := ⟨3, ![4, 576, 1024]⟩
abbrev S32x512x1024 : Shape := ⟨3, ![32, 512, 1024]⟩
abbrev S1x576x1024 : Shape := ⟨3, ![1, 576, 1024]⟩
abbrev S1x2x512 : Shape := ⟨3, ![1, 2, 512]⟩
abbrev S1x512x1024 : Shape := ⟨3, ![1, 512, 1024]⟩
abbrev S576x1024 : Shape := ⟨2, ![576, 1024]⟩
abbrev S1x1x512 : Shape := ⟨3, ![1, 1, 512]⟩
abbrev S512 : Shape := ⟨1, ![512]⟩
abbrev S512x576 : Shape := ⟨2, ![512, 576]⟩
abbrev S512x1 : Shape := ⟨2, ![512, 1]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x24x24x1024, .f32⟩
  | .hbm, ⟨1, _⟩ => ⟨S32x512x2, .f32⟩
  | .hbm, ⟨2, _⟩ => ⟨S32x2x512, .f32⟩
  | .hbm, ⟨3, _⟩ => ⟨S4x576x1024, .f32⟩
  | .hbm, ⟨4, _⟩ => ⟨S32x512x1024, .f32⟩
  | .local _ .vmem, ⟨0, _⟩ => ⟨S1x576x1024, .f32⟩
  | .local _ .vmem, ⟨1, _⟩ => ⟨S1x576x1024, .f32⟩
  | .local _ .vmem, ⟨2, _⟩ => ⟨S1x2x512, .f32⟩
  | .local _ .vmem, ⟨3, _⟩ => ⟨S1x2x512, .f32⟩
  | .local _ .vmem, ⟨4, _⟩ => ⟨S1x512x1024, .f32⟩
  | .local _ .vmem, ⟨5, _⟩ => ⟨S1x512x1024, .f32⟩
  | _, _ => ⟨S4x24x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SampleRefIdeal.lean ====
abbrev S4x24x24x1024 : Shape := ⟨4, ![4, 24, 24, 1024]⟩
abbrev S32x512x2 : Shape := ⟨3, ![32, 512, 2]⟩
abbrev S4x8x512x2 : Shape := ⟨4, ![4, 8, 512, 2]⟩
abbrev S4x1024x24x24 : Shape := ⟨4, ![4, 1024, 24, 24]⟩
abbrev S_ : Shape := ⟨0, ![]⟩
abbrev S4x8x512x1 : Shape := ⟨4, ![4, 8, 512, 1]⟩
abbrev S4x8x512 : Shape := ⟨3, ![4, 8, 512]⟩
abbrev S4x8x1024x512 : Shape := ⟨4, ![4, 8, 1024, 512]⟩
abbrev S4x8x1x512 : Shape := ⟨4, ![4, 8, 1, 512]⟩
abbrev S4x8x512x1024 : Shape := ⟨4, ![4, 8, 512, 1024]⟩
abbrev S32x512x1024 : Shape := ⟨3, ![32, 512, 1024]⟩

abbrev nBuf : Space → Nat
  | .hbm => 290
  | .vmem => 0
  | .smem => 0
  | _ => 0

abbrev hbmTy0_0 (i : Nat) : BufTy := match i % 128 with
  | 0 => ⟨S4x24x24x1024, .f32⟩
  | 1 => ⟨S32x512x2, .f32⟩
  | 2 => ⟨S4x8x512x2, .f32⟩
  | 3 => ⟨S4x1024x24x24, .f32⟩
  | 4 => ⟨S4x8x512x2, .f32⟩
  | 5 => ⟨S_, .f32⟩
  | 6 => ⟨S4x8x512x2, .f32⟩
  | 7 => ⟨S4x8x512x2, .f32⟩
  | 8 => ⟨S_, .f32⟩
  | 9 => ⟨S4x8x512x2, .f32⟩
  | 10 => ⟨S4x8x512x2, .f32⟩
  | 11 => ⟨S4x8x512x1, .f32⟩
  | 12 => ⟨S4x8x512, .f32⟩
  | 13 => ⟨S_, .f32⟩
  | 14 => ⟨S4x8x512, .f32⟩
  | 15 => ⟨S4x8x512, .f32⟩
  | 16 => ⟨S_, .f32⟩
  | 17 => ⟨S4x8x512, .f32⟩
  | 18 => ⟨S4x8x512, .f32⟩
  | 19 => ⟨S_, .f32⟩
  | 20 => ⟨S4x8x512, .f32⟩
  | 21 => ⟨S4x8x512, .f32⟩
  | 22 => ⟨S4x8x512x1, .f32⟩
  | 23 => ⟨S4x8x512, .f32⟩
  | 24 => ⟨S_, .f32⟩
  | 25 => ⟨S4x8x512, .f32⟩
  | 26 => ⟨S4x8x512, .f32⟩
  | 27 => ⟨S_, .f32⟩
  | 28 => ⟨S4x8x512, .f32⟩
  | 29 => ⟨S4x8x512, .f32⟩
  | 30 => ⟨S_, .f32⟩
  | 31 => ⟨S4x8x512, .f32⟩
  | 32 => ⟨S4x8x512, .f32⟩
  | 33 => ⟨S4x8x512, .f32⟩
  | 34 => ⟨S4x8x512, .f32⟩
  | 35 => ⟨S_, .f32⟩
  | 36 => ⟨S4x8x512, .f32⟩
  | 37 => ⟨S4x8x512, .f32⟩
  | 38 => ⟨S_, .f32⟩
  | 39 => ⟨S4x8x512, .f32⟩
  | 40 => ⟨S4x8x512, .f32⟩
  | 41 => ⟨S4x8x512, .f32⟩
  | 42 => ⟨S_, .f32⟩
  | 43 => ⟨S4x8x512, .f32⟩
  | 44 => ⟨S4x8x512, .f32⟩
  | 45 => ⟨S4x8x512, .f32⟩
  | 46 => ⟨S_, .f32⟩
  | 47 => ⟨S4x8x512, .f32⟩
  | 48 => ⟨S4x8x512, .f32⟩
  | 49 => ⟨S_, .i32⟩
  | 50 => ⟨S_, .i32⟩
  | 51 => ⟨S_, .f32⟩
  | 52 => ⟨S4x8x512, .f32⟩
  | 53 => ⟨S4x8x512, .f32⟩
  | 54 => ⟨S_, .f32⟩
  | 55 => ⟨S4x8x512, .f32⟩
  | 56 => ⟨S4x8x512, .f32⟩
  | 57 => ⟨S4x8x512, .i32⟩
  | 58 => ⟨S_, .i32⟩
  | 59 => ⟨S_, .i32⟩
  | 60 => ⟨S_, .f32⟩
  | 61 => ⟨S4x8x512, .f32⟩
  | 62 => ⟨S4x8x512, .f32⟩
  | 63 => ⟨S_, .f32⟩
  | 64 => ⟨S4x8x512, .f32⟩
  | 65 => ⟨S4x8x512, .f32⟩
  | 66 => ⟨S4x8x512, .i32⟩
  | 67 => ⟨S_, .f32⟩
  | 68 => ⟨S4x8x512, .f32⟩
  | 69 => ⟨S4x8x512, .i1⟩
  | 70 => ⟨S_, .f32⟩
  | 71 => ⟨S4x8x512, .f32⟩
  | 72 => ⟨S4x8x512, .i1⟩
  | 73 => ⟨S4x8x512, .i1⟩
  | 74 => ⟨S_, .f32⟩
  | 75 => ⟨S4x8x512, .f32⟩
  | 76 => ⟨S4x8x512, .i1⟩
  | 77 => ⟨S4x8x512, .i1⟩
  | 78 => ⟨S_, .f32⟩
  | 79 => ⟨S4x8x512, .f32⟩
  | 80 => ⟨S4x8x512, .i1⟩
  | 81 => ⟨S4x8x512, .i1⟩
  | 82 => ⟨S4x8x512, .f32⟩
  | 83 => ⟨S_, .i32⟩
  | 84 => ⟨S4x8x512, .i32⟩
  | 85 => ⟨S4x8x512, .i1⟩
  | 86 => ⟨S_, .i32⟩
  | 87 => ⟨S4x8x512, .i32⟩
  | 88 => ⟨S4x8x512, .i32⟩
  | 89 => ⟨S4x8x512, .i32⟩
  | 90 => ⟨S_, .i32⟩
  | 91 => ⟨S4x8x512, .i32⟩
  | 92 => ⟨S4x8x512, .i1⟩
  | 93 => ⟨S_, .i32⟩
  | 94 => ⟨S4x8x512, .i32⟩
  | 95 => ⟨S4x8x512, .i32⟩
  | 96 => ⟨S4x8x512, .i32⟩
  | 97 => ⟨S4x8x512x1, .i32⟩
  | 98 => ⟨S4x8x512x1, .i32⟩
  | 99 => ⟨S4x8x512x2, .i32⟩
  | 100 => ⟨S4x8x1024x512, .f32⟩
  | 101 => ⟨S4x8x1x512, .f32⟩
  | 102 => ⟨S4x8x1024x512, .f32⟩
  | 103 => ⟨S4x8x1024x512, .f32⟩
  | 104 => ⟨S4x8x512, .f32⟩
  | 105 => ⟨S4x8x1x512, .f32⟩
  | 106 => ⟨S4x8x1024x512, .f32⟩
  | 107 => ⟨S4x8x1024x512, .f32⟩
  | 108 => ⟨S_, .i32⟩
  | 109 => ⟨S_, .i32⟩
  | 110 => ⟨S_, .f32⟩
  | 111 => ⟨S4x8x512, .f32⟩
  | 112 => ⟨S4x8x512, .f32⟩
  | 113 => ⟨S_, .f32⟩
  | 114 => ⟨S4x8x512, .f32⟩
  | 115 => ⟨S4x8x512, .f32⟩
  | 116 => ⟨S4x8x512, .i32⟩
  | 117 => ⟨S_, .i32⟩
  | 118 => ⟨S_, .i32⟩
  | 119 => ⟨S_, .f32⟩
  | 120 => ⟨S4x8x512, .f32⟩
  | 121 => ⟨S4x8x512, .f32⟩
  | 122 => ⟨S_, .f32⟩
  | 123 => ⟨S4x8x512, .f32⟩
  | 124 => ⟨S4x8x512, .f32⟩
  | 125 => ⟨S4x8x512, .i32⟩
  | 126 => ⟨S_, .f32⟩
  | 127 => ⟨S4x8x512, .f32⟩
  | _ => ⟨S4x24x24x1024, .f32⟩

abbrev hbmTy0_1 (i : Nat) : BufTy := match i % 128 with
  | 0 => ⟨S4x8x512, .i1⟩
  | 1 => ⟨S_, .f32⟩
  | 2 => ⟨S4x8x512, .f32⟩
  | 3 => ⟨S4x8x512, .i1⟩
  | 4 => ⟨S4x8x512, .i1⟩
  | 5 => ⟨S_, .f32⟩
  | 6 => ⟨S4x8x512, .f32⟩
  | 7 => ⟨S4x8x512, .i1⟩
  | 8 => ⟨S4x8x512, .i1⟩
  | 9 => ⟨S_, .f32⟩
  | 10 => ⟨S4x8x512, .f32⟩
  | 11 => ⟨S4x8x512, .i1⟩
  | 12 => ⟨S4x8x512, .i1⟩
  | 13 => ⟨S4x8x512, .f32⟩
  | 14 => ⟨S_, .i32⟩
  | 15 => ⟨S4x8x512, .i32⟩
  | 16 => ⟨S4x8x512, .i1⟩
  | 17 => ⟨S_, .i32⟩
  | 18 => ⟨S4x8x512, .i32⟩
  | 19 => ⟨S4x8x512, .i32⟩
  | 20 => ⟨S4x8x512, .i32⟩
  | 21 => ⟨S_, .i32⟩
  | 22 => ⟨S4x8x512, .i32⟩
  | 23 => ⟨S4x8x512, .i1⟩
  | 24 => ⟨S_, .i32⟩
  | 25 => ⟨S4x8x512, .i32⟩
  | 26 => ⟨S4x8x512, .i32⟩
  | 27 => ⟨S4x8x512, .i32⟩
  | 28 => ⟨S4x8x512x1, .i32⟩
  | 29 => ⟨S4x8x512x1, .i32⟩
  | 30 => ⟨S4x8x512x2, .i32⟩
  | 31 => ⟨S4x8x1024x512, .f32⟩
  | 32 => ⟨S4x8x1x512, .f32⟩
  | 33 => ⟨S4x8x1024x512, .f32⟩
  | 34 => ⟨S4x8x1024x512, .f32⟩
  | 35 => ⟨S4x8x512, .f32⟩
  | 36 => ⟨S4x8x1x512, .f32⟩
  | 37 => ⟨S4x8x1024x512, .f32⟩
  | 38 => ⟨S4x8x1024x512, .f32⟩
  | 39 => ⟨S4x8x1024x512, .f32⟩
  | 40 => ⟨S_, .i32⟩
  | 41 => ⟨S_, .i32⟩
  | 42 => ⟨S_, .f32⟩
  | 43 => ⟨S4x8x512, .f32⟩
  | 44 => ⟨S4x8x512, .f32⟩
  | 45 => ⟨S_, .f32⟩
  | 46 => ⟨S4x8x512, .f32⟩
  | 47 => ⟨S4x8x512, .f32⟩
  | 48 => ⟨S4x8x512, .i32⟩
  | 49 => ⟨S_, .i32⟩
  | 50 => ⟨S_, .i32⟩
  | 51 => ⟨S_, .f32⟩
  | 52 => ⟨S4x8x512, .f32⟩
  | 53 => ⟨S4x8x512, .f32⟩
  | 54 => ⟨S_, .f32⟩
  | 55 => ⟨S4x8x512, .f32⟩
  | 56 => ⟨S4x8x512, .f32⟩
  | 57 => ⟨S4x8x512, .i32⟩
  | 58 => ⟨S_, .f32⟩
  | 59 => ⟨S4x8x512, .f32⟩
  | 60 => ⟨S4x8x512, .i1⟩
  | 61 => ⟨S_, .f32⟩
  | 62 => ⟨S4x8x512, .f32⟩
  | 63 => ⟨S4x8x512, .i1⟩
  | 64 => ⟨S4x8x512, .i1⟩
  | 65 => ⟨S_, .f32⟩
  | 66 => ⟨S4x8x512, .f32⟩
  | 67 => ⟨S4x8x512, .i1⟩
  | 68 => ⟨S4x8x512, .i1⟩
  | 69 => ⟨S_, .f32⟩
  | 70 => ⟨S4x8x512, .f32⟩
  | 71 => ⟨S4x8x512, .i1⟩
  | 72 => ⟨S4x8x512, .i1⟩
  | 73 => ⟨S4x8x512, .f32⟩
  | 74 => ⟨S_, .i32⟩
  | 75 => ⟨S4x8x512, .i32⟩
  | 76 => ⟨S4x8x512, .i1⟩
  | 77 => ⟨S_, .i32⟩
  | 78 => ⟨S4x8x512, .i32⟩
  | 79 => ⟨S4x8x512, .i32⟩
  | 80 => ⟨S4x8x512, .i32⟩
  | 81 => ⟨S_, .i32⟩
  | 82 => ⟨S4x8x512, .i32⟩
  | 83 => ⟨S4x8x512, .i1⟩
  | 84 => ⟨S_, .i32⟩
  | 85 => ⟨S4x8x512, .i32⟩
  | 86 => ⟨S4x8x512, .i32⟩
  | 87 => ⟨S4x8x512, .i32⟩
  | 88 => ⟨S4x8x512x1, .i32⟩
  | 89 => ⟨S4x8x512x1, .i32⟩
  | 90 => ⟨S4x8x512x2, .i32⟩
  | 91 => ⟨S4x8x1024x512, .f32⟩
  | 92 => ⟨S4x8x1x512, .f32⟩
  | 93 => ⟨S4x8x1024x512, .f32⟩
  | 94 => ⟨S4x8x1024x512, .f32⟩
  | 95 => ⟨S4x8x512, .f32⟩
  | 96 => ⟨S4x8x1x512, .f32⟩
  | 97 => ⟨S4x8x1024x512, .f32⟩
  | 98 => ⟨S4x8x1024x512, .f32⟩
  | 99 => ⟨S4x8x1024x512, .f32⟩
  | 100 => ⟨S_, .i32⟩
  | 101 => ⟨S_, .i32⟩
  | 102 => ⟨S_, .f32⟩
  | 103 => ⟨S4x8x512, .f32⟩
  | 104 => ⟨S4x8x512, .f32⟩
  | 105 => ⟨S_, .f32⟩
  | 106 => ⟨S4x8x512, .f32⟩
  | 107 => ⟨S4x8x512, .f32⟩
  | 108 => ⟨S4x8x512, .i32⟩
  | 109 => ⟨S_, .i32⟩
  | 110 => ⟨S_, .i32⟩
  | 111 => ⟨S_, .f32⟩
  | 112 => ⟨S4x8x512, .f32⟩
  | 113 => ⟨S4x8x512, .f32⟩
  | 114 => ⟨S_, .f32⟩
  | 115 => ⟨S4x8x512, .f32⟩
  | 116 => ⟨S4x8x512, .f32⟩
  | 117 => ⟨S4x8x512, .i32⟩
  | 118 => ⟨S_, .f32⟩
  | 119 => ⟨S4x8x512, .f32⟩
  | 120 => ⟨S4x8x512, .i1⟩
  | 121 => ⟨S_, .f32⟩
  | 122 => ⟨S4x8x512, .f32⟩
  | 123 => ⟨S4x8x512, .i1⟩
  | 124 => ⟨S4x8x512, .i1⟩
  | 125 => ⟨S_, .f32⟩
  | 126 => ⟨S4x8x512, .f32⟩
  | 127 => ⟨S4x8x512, .i1⟩
  | _ => ⟨S4x24x24x1024, .f32⟩

abbrev hbmTy0_2 (i : Nat) : BufTy := match i % 128 with
  | 0 => ⟨S4x8x512, .i1⟩
  | 1 => ⟨S_, .f32⟩
  | 2 => ⟨S4x8x512, .f32⟩
  | 3 => ⟨S4x8x512, .i1⟩
  | 4 => ⟨S4x8x512, .i1⟩
  | 5 => ⟨S4x8x512, .f32⟩
  | 6 => ⟨S_, .i32⟩
  | 7 => ⟨S4x8x512, .i32⟩
  | 8 => ⟨S4x8x512, .i1⟩
  | 9 => ⟨S_, .i32⟩
  | 10 => ⟨S4x8x512, .i32⟩
  | 11 => ⟨S4x8x512, .i32⟩
  | 12 => ⟨S4x8x512, .i32⟩
  | 13 => ⟨S_, .i32⟩
  | 14 => ⟨S4x8x512, .i32⟩
  | 15 => ⟨S4x8x512, .i1⟩
  | 16 => ⟨S_, .i32⟩
  | 17 => ⟨S4x8x512, .i32⟩
  | 18 => ⟨S4x8x512, .i32⟩
  | 19 => ⟨S4x8x512, .i32⟩
  | 20 => ⟨S4x8x512x1, .i32⟩
  | 21 => ⟨S4x8x512x1, .i32⟩
  | 22 => ⟨S4x8x512x2, .i32⟩
  | 23 => ⟨S4x8x1024x512, .f32⟩
  | 24 => ⟨S4x8x1x512, .f32⟩
  | 25 => ⟨S4x8x1024x512, .f32⟩
  | 26 => ⟨S4x8x1024x512, .f32⟩
  | 27 => ⟨S4x8x512, .f32⟩
  | 28 => ⟨S4x8x1x512, .f32⟩
  | 29 => ⟨S4x8x1024x512, .f32⟩
  | 30 => ⟨S4x8x1024x512, .f32⟩
  | 31 => ⟨S4x8x1024x512, .f32⟩
  | 32 => ⟨S4x8x512x1024, .f32⟩
  | 33 => ⟨S32x512x1024, .f32⟩
  | _ => ⟨S4x24x24x1024, .f32⟩

abbrev hbmTy (i : Nat) : BufTy := match i / 128 with
  | 0 => hbmTy0_0 i
  | 1 => hbmTy0_1 i
  | 2 => hbmTy0_2 i
  | _ => ⟨S4x24x24x1024, .f32⟩

abbrev bufTy : (tb : Table) → Fin (tcTables nBuf tb) → BufTy
  | .hbm, ⟨i, _⟩ => hbmTy i
  | _, _ => ⟨S4x24x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_9 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_c_11 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v35 : Ref sig .tc := ⟨.hbm, 56, rfl⟩
abbrev main_v36 : Ref sig .tc := ⟨.hbm, 57, rfl⟩
abbrev main_c_12 : Ref sig .tc := ⟨.hbm, 58, rfl⟩
abbrev main_c_13 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v37 : Ref sig .tc := ⟨.hbm, 65, rfl⟩
abbrev main_v38 : Ref sig .tc := ⟨.hbm, 66, rfl⟩
abbrev main_cst_14 : Ref sig .tc := ⟨.hbm, 67, rfl⟩
abbrev main_v39 : Ref sig .tc := ⟨.hbm, 68, rfl⟩
abbrev main_v40 : Ref sig .tc := ⟨.hbm, 69, rfl⟩
abbrev main_cst_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_16 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_17 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_18 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_20 : Ref sig .tc := ⟨.hbm, 90, rfl⟩
abbrev main_v56 : Ref sig .tc := ⟨.hbm, 91, rfl⟩
abbrev main_v57 : Ref sig .tc := ⟨.hbm, 92, rfl⟩
abbrev main_c_21 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_22 : Ref sig .tc := ⟨.hbm, 108, rfl⟩
abbrev main_c_23 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v72 : Ref sig .tc := ⟨.hbm, 115, rfl⟩
abbrev main_v73 : Ref sig .tc := ⟨.hbm, 116, rfl⟩
abbrev main_c_24 : Ref sig .tc := ⟨.hbm, 117, rfl⟩
abbrev main_c_25 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v74 : Ref sig .tc := ⟨.hbm, 124, rfl⟩
abbrev main_v75 : Ref sig .tc := ⟨.hbm, 125, rfl⟩
abbrev main_cst_26 : Ref sig .tc := ⟨.hbm, 126, rfl⟩
abbrev main_v76 : Ref sig .tc := ⟨.hbm, 127, rfl⟩
abbrev main_v77 : Ref sig .tc := ⟨.hbm, 128, rfl⟩
abbrev main_cst_27 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_28 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_29 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_30 : Ref sig .tc := ⟨.hbm, 142, rfl⟩
abbrev main_v88 : Ref sig .tc := ⟨.hbm, 143, rfl⟩
abbrev main_v89 : Ref sig .tc := ⟨.hbm, 144, rfl⟩
abbrev main_c_31 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_32 : Ref sig .tc := ⟨.hbm, 149, rfl⟩
abbrev main_v93 : Ref sig .tc := ⟨.hbm, 150, rfl⟩
abbrev main_v94 : Ref sig .tc := ⟨.hbm, 151, rfl⟩
abbrev main_c_33 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_c_34 : Ref sig .tc := ⟨.hbm, 168, rfl⟩
abbrev main_c_35 : Ref sig .tc := ⟨.hbm, 169, rfl⟩
abbrev main_call4_v0 : Ref sig .tc := ⟨.hbm, 170, rfl⟩
abbrev main_call4_v1 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_v110 : Ref sig .tc := ⟨.hbm, 175, rfl⟩
abbrev main_v111 : Ref sig .tc := ⟨.hbm, 176, rfl⟩
abbrev main_c_36 : Ref sig .tc := ⟨.hbm, 177, rfl⟩
abbrev main_c_37 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v112 : Ref sig .tc := ⟨.hbm, 184, rfl⟩
abbrev main_v113 : Ref sig .tc := ⟨.hbm, 185, rfl⟩
abbrev main_cst_38 : Ref sig .tc := ⟨.hbm, 186, rfl⟩
abbrev main_v114 : Ref sig .tc := ⟨.hbm, 187, rfl⟩
abbrev main_v115 : Ref sig .tc := ⟨.hbm, 188, rfl⟩
abbrev main_cst_39 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_cst_40 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_cst_41 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_c_42 : Ref sig .tc := ⟨.hbm, 202, rfl⟩
abbrev main_v126 : Ref sig .tc := ⟨.hbm, 203, rfl⟩
abbrev main_v127 : Ref sig .tc := ⟨.hbm, 204, rfl⟩
abbrev main_c_43 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_c_44 : Ref sig .tc := ⟨.hbm, 209, rfl⟩
abbrev main_v131 : Ref sig .tc := ⟨.hbm, 210, rfl⟩
abbrev main_v132 : Ref sig .tc := ⟨.hbm, 211, rfl⟩
abbrev main_c_45 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_c_46 : Ref sig .tc := ⟨.hbm, 228, rfl⟩
abbrev main_c_47 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v148 : Ref sig .tc := ⟨.hbm, 235, rfl⟩
abbrev main_v149 : Ref sig .tc := ⟨.hbm, 236, rfl⟩
abbrev main_c_48 : Ref sig .tc := ⟨.hbm, 237, rfl⟩
abbrev main_c_49 : Ref sig .tc := ⟨.hbm, 238, rfl⟩
abbrev main_call7_v0 : Ref sig .tc := ⟨.hbm, 239, rfl⟩
abbrev main_call7_v1 : Ref sig .tc := ⟨.hbm, 240, rfl⟩
abbrev main_call7_v2 : Ref sig .tc := ⟨.hbm, 241, rfl⟩
abbrev main_call7_v3 : Ref sig .tc := ⟨.hbm, 242, rfl⟩
abbrev main_call7_v4 : Ref sig .tc := ⟨.hbm, 243, rfl⟩
abbrev main_v150 : Ref sig .tc := ⟨.hbm, 244, rfl⟩
abbrev main_v151 : Ref sig .tc := ⟨.hbm, 245, rfl⟩
abbrev main_cst_50 : Ref sig .tc := ⟨.hbm, 246, rfl⟩
abbrev main_v152 : Ref sig .tc := ⟨.hbm, 247, rfl⟩
abbrev main_v153 : Ref sig .tc := ⟨.hbm, 248, rfl⟩
abbrev main_cst_51 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_cst_52 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_cst_53 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_c_54 : Ref sig .tc := ⟨.hbm, 262, rfl⟩
abbrev main_v164 : Ref sig .tc := ⟨.hbm, 263, rfl⟩
abbrev main_v165 : Ref sig .tc := ⟨.hbm, 264, rfl⟩
abbrev main_c_55 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_c_56 : Ref sig .tc := ⟨.hbm, 269, rfl⟩
abbrev main_v169 : Ref sig .tc := ⟨.hbm, 270, rfl⟩
abbrev main_v170 : Ref sig .tc := ⟨.hbm, 271, rfl⟩
abbrev main_c_57 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩

abbrev nD : Nat := 1
abbrev τ : Topo := Topo.v7x

variable {F : FTy → Type} [FloatOps F]
-- ==== Fps.lean ====
abbrev S32x512x2 : Shape := ⟨3, ![32, 512, 2]⟩
abbrev S32x2x512 : Shape := ⟨3, ![32, 2, 512]⟩
abbrev S128x32 : Shape := ⟨2, ![128, 32]⟩
abbrev S24x32x128 : Shape := ⟨3, ![24, 32, 128]⟩
abbrev S32x32 : Shape := ⟨2, ![32, 32]⟩
abbrev S24x32x32 : Shape := ⟨3, ![24, 32, 32]⟩
abbrev S32x1x512 : Shape := ⟨3, ![32, 1, 512]⟩
abbrev S32x512 : Shape := ⟨2, ![32, 512]⟩
abbrev S32 : Shape := ⟨1, ![32]⟩
abbrev S1x32 : Shape := ⟨2, ![1, 32]⟩
abbrev S32x1 : Shape := ⟨2, ![32, 1]⟩
abbrev S32x128 : Shape := ⟨2, ![32, 128]⟩
abbrev S32x128x1 : Shape := ⟨3, ![32, 128, 1]⟩
abbrev S32x128x512 : Shape := ⟨3, ![32, 128, 512]⟩
abbrev S1x32x128 : Shape := ⟨3, ![1, 32, 128]⟩
abbrev S32x32x1 : Shape := ⟨3, ![32, 32, 1]⟩
abbrev S32x1x128 : Shape := ⟨3, ![32, 1, 128]⟩
abbrev S32x32x128 : Shape := ⟨3, ![32, 32, 128]⟩
abbrev S1x32x32 : Shape := ⟨3, ![1, 32, 32]⟩

abbrev nBuf : Space → Nat
  | .hbm => 10
  | .vmem => 9
  | .smem => 0
  | _ => 0

abbrev bufTy : (tb : Table) → Fin (tcTables nBuf tb) → BufTy
  | .hbm, ⟨0, _⟩ => ⟨S32x512x2, .f32⟩
  | .hbm, ⟨1, _⟩ => ⟨S32x2x512, .f32⟩
  | .hbm, ⟨2, _⟩ => ⟨S128x32, .i32⟩
  | .hbm, ⟨3, _⟩ => ⟨S128x32, .f32⟩
  | .hbm, ⟨4, _⟩ => ⟨S128x32, .f32⟩
  | .hbm, ⟨5, _⟩ => ⟨S24x32x128, .i32⟩
  | .hbm, ⟨6, _⟩ => ⟨S32x32, .i32⟩
  | .hbm, ⟨7, _⟩ => ⟨S32x32, .f32⟩
  | .hbm, ⟨8, _⟩ => ⟨S32x32, .f32⟩
  | .hbm, ⟨9, _⟩ => ⟨S24x32x32, .i32⟩
  | .local _ .vmem, ⟨0, _⟩ => ⟨S32x2x512, .f32⟩
  | .local _ .vmem, ⟨1, _⟩ => ⟨S128x32, .i32⟩
  | .local _ .vmem, ⟨2, _⟩ => ⟨S128x32, .f32⟩
  | .local _ .vmem, ⟨3, _⟩ => ⟨S128x32, .f32⟩
  | .local _ .vmem, ⟨4, _⟩ => ⟨S24x32x128, .i32⟩
  | .local _ .vmem, ⟨5, _⟩ => ⟨S32x32, .i32⟩
  | .local _ .vmem, ⟨6, _⟩ => ⟨S32x32, .f32⟩
  | .local _ .vmem, ⟨7, _⟩ => ⟨S32x32, .f32⟩
  | .local _ .vmem, ⟨8, _⟩ => ⟨S24x32x32, .i32⟩
  | _, _ => ⟨S32x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev main_v1_7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_4 : BitVec 32 := 0#32
  let c128_i32 : BitVec 32 := 128#32
  let v7 : BitVec 32 := Scalar.addi c0_i32_4 c128_i32
  let c1_i32 : BitVec 32 := 1#32
  ⟨c0_i32_4, v7, c1_i32⟩
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let v99 : Index := Scalar.indexCast arg9
  let c0_28 : Index := 0#32
  ![v99.toNat, 0]
@[reducible] def k0_t2_loop : Scf.Loop 32 :=
  let c0_i32_11 : BitVec 32 := 0#32
  let c24_i32 : BitVec 32 := 24#32
  let v49 : BitVec 32 := Scalar.addi c0_i32_11 c24_i32
  let c1_i32_12 : BitVec 32 := 1#32
  ⟨c0_i32_11, v49, c1_i32_12⟩
def k0_off2 (k0_t2 : Fin k0_t2_loop.trips) : Fin 3 → Nat :=
  let c0_i32_11 : BitVec 32 := 0#32
  let c1_i32_12 : BitVec 32 := 1#32
  let arg9 : BitVec 32 := Scf.iv c0_i32_11 c1_i32_12 k0_t2
  let v106 : Index := Scalar.indexCast arg9
  let c0_30 : Index := 0#32
  let c0_31 : Index := 0#32
  ![v106.toNat, 0, 0]
@[reducible] def k0_t3_loop : Scf.Loop 32 :=
  let c0_i32_16 : BitVec 32 := 0#32
  let c32_i32 : BitVec 32 := 32#32
  let v54 : BitVec 32 := Scalar.addi c0_i32_16 c32_i32
  let c1_i32_17 : BitVec 32 := 1#32
  ⟨c0_i32_16, v54, c1_i32_17⟩
def k0_off3 (k0_t3 : Fin k0_t3_loop.trips) : Fin 2 → Nat :=
  let c0_i32_16 : BitVec 32 := 0#32
  let c1_i32_17 : BitVec 32 := 1#32
  let arg9 : BitVec 32 := Scf.iv c0_i32_16 c1_i32_17 k0_t3
  let v99 : Index := Scalar.indexCast arg9
  let c0_28 : Index := 0#32
  ![v99.toNat, 0]
@[reducible] def k0_t4_loop : Scf.Loop 32 :=
  let c0_i32_24 : BitVec 32 := 0#32
  let c24_i32_25 : BitVec 32 := 24#32
  let v96 : BitVec 32 := Scalar.addi c0_i32_24 c24_i32_25
  let c1_i32_26 : BitVec 32 := 1#32
  ⟨c0_i32_24, v96, c1_i32_26⟩
def k0_off4 (k0_t4 : Fin k0_t4_loop.trips) : Fin 3 → Nat :=
  let c0_i32_24 : BitVec 32 := 0#32
  let c1_i32_26 : BitVec 32 := 1#32
  let arg9 : BitVec 32 := Scf.iv c0_i32_24 c1_i32_26 k0_t4
  let v106 : Index := Scalar.indexCast arg9
  let c0_31 : Index := 0#32
  let c0_32 : Index := 0#32
  ![v106.toNat, 0, 0]
abbrev stage0_0 : Fin 1 → Memref sig .tc .vmem S32x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x32x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x32x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== FpsRefIdeal.lean ====
abbrev S32x512x2 : Shape := ⟨3, ![32, 512, 2]⟩
abbrev S_ : Shape := ⟨0, ![]⟩
abbrev S32x512 : Shape := ⟨2, ![32, 512]⟩
abbrev S32 : Shape := ⟨1, ![32]⟩
abbrev S128x32 : Shape := ⟨2, ![128, 32]⟩
abbrev S32x1x1 : Shape := ⟨3, ![32, 1, 1]⟩
abbrev S32x1x2 : Shape := ⟨3, ![32, 1, 2]⟩
abbrev S32x1 : Shape := ⟨2, ![32, 1]⟩
abbrev S1x32 : Shape := ⟨2, ![1, 32]⟩
abbrev S32x128 : Shape := ⟨2, ![32, 128]⟩
abbrev S32x128x1 : Shape := ⟨3, ![32, 128, 1]⟩
abbrev S32x128x2 : Shape := ⟨3, ![32, 128, 2]⟩
abbrev S32x2x512 : Shape := ⟨3, ![32, 2, 512]⟩
abbrev S32x128x512 : Shape := ⟨3, ![32, 128, 512]⟩
abbrev S32x1x512 : Shape := ⟨3, ![32, 1, 512]⟩
abbrev S32x128x24 : Shape := ⟨3, ![32, 128, 24]⟩
abbrev S24x32x128 : Shape := ⟨3, ![24, 32, 128]⟩
abbrev S32x32 : Shape := ⟨2, ![32, 32]⟩
abbrev S32x32x1 : Shape := ⟨3, ![32, 32, 1]⟩
abbrev S32x32x2 : Shape := ⟨3, ![32, 32, 2]⟩
abbrev S32x2x128 : Shape := ⟨3, ![32, 2, 128]⟩
abbrev S32x32x128 : Shape := ⟨3, ![32, 32, 128]⟩
abbrev S32x1x128 : Shape := ⟨3, ![32, 1, 128]⟩
abbrev S32x32x24 : Shape := ⟨3, ![32, 32, 24]⟩
abbrev S24x32x32 : Shape := ⟨3, ![24, 32, 32]⟩

abbrev nBuf : Space → Nat
  | .hbm => 151
  | .vmem => 0
  | .smem => 0
  | _ => 0

abbrev hbmTy0_0 (i : Nat) : BufTy := match i % 128 with
  | 0 => ⟨S32x512x2, .f32⟩
  | 1 => ⟨S_, .f32⟩
  | 2 => ⟨S32x512, .f32⟩
  | 3 => ⟨S_, .i32⟩
  | 4 => ⟨S32, .i32⟩
  | 5 => ⟨S_, .i32⟩
  | 6 => ⟨S128x32, .i32⟩
  | 7 => ⟨S_, .i32⟩
  | 8 => ⟨S32x512x2, .f32⟩
  | 9 => ⟨S_, .i32⟩
  | 10 => ⟨S32x512, .f32⟩
  | 11 => ⟨S32, .i32⟩
  | 12 => ⟨S128x32, .i32⟩
  | 13 => ⟨S_, .i32⟩
  | 14 => ⟨S_, .i1⟩
  | 15 => ⟨S32x1x1, .i32⟩
  | 16 => ⟨S_, .i32⟩
  | 17 => ⟨S32x1x1, .i32⟩
  | 18 => ⟨S32x1x1, .i1⟩
  | 19 => ⟨S_, .i32⟩
  | 20 => ⟨S32x1x1, .i32⟩
  | 21 => ⟨S32x1x1, .i32⟩
  | 22 => ⟨S32x1x1, .i32⟩
  | 23 => ⟨S32x1x2, .f32⟩
  | 24 => ⟨S32x512x2, .f32⟩
  | 25 => ⟨S32x512x2, .f32⟩
  | 26 => ⟨S32x512x2, .f32⟩
  | 27 => ⟨S_, .f32⟩
  | 28 => ⟨S32x512, .f32⟩
  | 29 => ⟨S32x512, .f32⟩
  | 30 => ⟨S32x1, .f32⟩
  | 31 => ⟨S32x1, .i32⟩
  | 32 => ⟨S32, .i32⟩
  | 33 => ⟨S1x32, .i32⟩
  | 34 => ⟨S_, .i32⟩
  | 35 => ⟨S128x32, .i32⟩
  | 36 => ⟨S_, .i32⟩
  | 37 => ⟨S_, .i32⟩
  | 38 => ⟨S32x128, .i32⟩
  | 39 => ⟨S32x128x1, .i32⟩
  | 40 => ⟨S_, .i32⟩
  | 41 => ⟨S32x128x1, .i32⟩
  | 42 => ⟨S32x128x1, .i1⟩
  | 43 => ⟨S_, .i32⟩
  | 44 => ⟨S32x128x1, .i32⟩
  | 45 => ⟨S32x128x1, .i32⟩
  | 46 => ⟨S32x128x1, .i32⟩
  | 47 => ⟨S32x128x2, .f32⟩
  | 48 => ⟨S32x2x512, .f32⟩
  | 49 => ⟨S32x128x512, .f32⟩
  | 50 => ⟨S_, .f32⟩
  | 51 => ⟨S32x128x512, .f32⟩
  | 52 => ⟨S32x128x512, .f32⟩
  | 53 => ⟨S32x128x2, .f32⟩
  | 54 => ⟨S_, .f32⟩
  | 55 => ⟨S32x128, .f32⟩
  | 56 => ⟨S32x128x1, .f32⟩
  | 57 => ⟨S32x128x512, .f32⟩
  | 58 => ⟨S32x128x512, .f32⟩
  | 59 => ⟨S32x512x2, .f32⟩
  | 60 => ⟨S_, .f32⟩
  | 61 => ⟨S32x512, .f32⟩
  | 62 => ⟨S32x1x512, .f32⟩
  | 63 => ⟨S32x128x512, .f32⟩
  | 64 => ⟨S32x128x512, .f32⟩
  | 65 => ⟨S32x128x512, .f32⟩
  | 66 => ⟨S32x128x24, .f32⟩
  | 67 => ⟨S32x128x24, .i32⟩
  | 68 => ⟨S128x32, .i32⟩
  | 69 => ⟨S32x128x1, .f32⟩
  | 70 => ⟨S32x128, .f32⟩
  | 71 => ⟨S128x32, .f32⟩
  | 72 => ⟨S32x128x1, .f32⟩
  | 73 => ⟨S32x128, .f32⟩
  | 74 => ⟨S128x32, .f32⟩
  | 75 => ⟨S24x32x128, .i32⟩
  | 76 => ⟨S_, .f32⟩
  | 77 => ⟨S32x128, .f32⟩
  | 78 => ⟨S_, .i32⟩
  | 79 => ⟨S32, .i32⟩
  | 80 => ⟨S_, .i32⟩
  | 81 => ⟨S32x32, .i32⟩
  | 82 => ⟨S_, .i32⟩
  | 83 => ⟨S32x128x2, .f32⟩
  | 84 => ⟨S_, .i32⟩
  | 85 => ⟨S32x128, .f32⟩
  | 86 => ⟨S32, .i32⟩
  | 87 => ⟨S32x32, .i32⟩
  | 88 => ⟨S_, .i32⟩
  | 89 => ⟨S_, .i1⟩
  | 90 => ⟨S32x1x1, .i32⟩
  | 91 => ⟨S_, .i32⟩
  | 92 => ⟨S32x1x1, .i32⟩
  | 93 => ⟨S32x1x1, .i1⟩
  | 94 => ⟨S_, .i32⟩
  | 95 => ⟨S32x1x1, .i32⟩
  | 96 => ⟨S32x1x1, .i32⟩
  | 97 => ⟨S32x1x1, .i32⟩
  | 98 => ⟨S32x1x2, .f32⟩
  | 99 => ⟨S32x128x2, .f32⟩
  | 100 => ⟨S32x128x2, .f32⟩
  | 101 => ⟨S32x128x2, .f32⟩
  | 102 => ⟨S_, .f32⟩
  | 103 => ⟨S32x128, .f32⟩
  | 104 => ⟨S32x128, .f32⟩
  | 105 => ⟨S32x1, .f32⟩
  | 106 => ⟨S32x1, .i32⟩
  | 107 => ⟨S32, .i32⟩
  | 108 => ⟨S1x32, .i32⟩
  | 109 => ⟨S_, .i32⟩
  | 110 => ⟨S32x32, .i32⟩
  | 111 => ⟨S_, .i32⟩
  | 112 => ⟨S_, .i32⟩
  | 113 => ⟨S32x32, .i32⟩
  | 114 => ⟨S32x32x1, .i32⟩
  | 115 => ⟨S_, .i32⟩
  | 116 => ⟨S32x32x1, .i32⟩
  | 117 => ⟨S32x32x1, .i1⟩
  | 118 => ⟨S_, .i32⟩
  | 119 => ⟨S32x32x1, .i32⟩
  | 120 => ⟨S32x32x1, .i32⟩
  | 121 => ⟨S32x32x1, .i32⟩
  | 122 => ⟨S32x32x2, .f32⟩
  | 123 => ⟨S32x2x128, .f32⟩
  | 124 => ⟨S32x32x128, .f32⟩
  | 125 => ⟨S_, .f32⟩
  | 126 => ⟨S32x32x128, .f32⟩
  | 127 => ⟨S32x32x128, .f32⟩
  | _ => ⟨S32x512x2, .f32⟩

abbrev hbmTy0_1 (i : Nat) : BufTy := match i % 128 with
  | 0 => ⟨S32x32x2, .f32⟩
  | 1 => ⟨S_, .f32⟩
  | 2 => ⟨S32x32, .f32⟩
  | 3 => ⟨S32x32x1, .f32⟩
  | 4 => ⟨S32x32x128, .f32⟩
  | 5 => ⟨S32x32x128, .f32⟩
  | 6 => ⟨S32x128x2, .f32⟩
  | 7 => ⟨S_, .f32⟩
  | 8 => ⟨S32x128, .f32⟩
  | 9 => ⟨S32x1x128, .f32⟩
  | 10 => ⟨S32x32x128, .f32⟩
  | 11 => ⟨S32x32x128, .f32⟩
  | 12 => ⟨S32x32x128, .f32⟩
  | 13 => ⟨S32x32x24, .f32⟩
  | 14 => ⟨S32x32x24, .i32⟩
  | 15 => ⟨S32x32, .i32⟩
  | 16 => ⟨S32x32x1, .f32⟩
  | 17 => ⟨S32x32, .f32⟩
  | 18 => ⟨S32x32, .f32⟩
  | 19 => ⟨S32x32x1, .f32⟩
  | 20 => ⟨S32x32, .f32⟩
  | 21 => ⟨S32x32, .f32⟩
  | 22 => ⟨S24x32x32, .i32⟩
  | _ => ⟨S32x512x2, .f32⟩

abbrev hbmTy (i : Nat) : BufTy := match i / 128 with
  | 0 => hbmTy0_0 i
  | 1 => hbmTy0_1 i
  | _ => ⟨S32x512x2, .f32⟩

abbrev bufTy : (tb : Table) → Fin (tcTables nBuf tb) → BufTy
  | .hbm, ⟨i, _⟩ => hbmTy i
  | _, _ => ⟨S32x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_18 : Ref sig .tc := ⟨.hbm, 13, rfl⟩
abbrev main_while0c_v60 : Ref sig .tc := ⟨.hbm, 14, rfl⟩
abbrev main_while0b_v60 : Ref sig .tc := ⟨.hbm, 15, rfl⟩
abbrev main_while0b_call0_c : Ref sig .tc := ⟨.hbm, 16, rfl⟩
abbrev main_while0b_call0_v0 : Ref sig .tc := ⟨.hbm, 17, rfl⟩
abbrev main_while0b_call0_v1 : Ref sig .tc := ⟨.hbm, 18, rfl⟩
abbrev main_while0b_call0_c_0 : Ref sig .tc := ⟨.hbm, 19, rfl⟩
abbrev main_while0b_call0_v2 : Ref sig .tc := ⟨.hbm, 20, rfl⟩
abbrev main_while0b_call0_v3 : Ref sig .tc := ⟨.hbm, 21, rfl⟩
abbrev main_while0b_call0_v4 : Ref sig .tc := ⟨.hbm, 22, rfl⟩
abbrev main_while0b_v61 : Ref sig .tc := ⟨.hbm, 23, rfl⟩
abbrev main_while0b_v62 : Ref sig .tc := ⟨.hbm, 24, rfl⟩
abbrev main_while0b_v63 : Ref sig .tc := ⟨.hbm, 25, rfl⟩
abbrev main_while0b_v64 : Ref sig .tc := ⟨.hbm, 26, rfl⟩
abbrev main_while0b_cst_18 : Ref sig .tc := ⟨.hbm, 27, rfl⟩
abbrev main_while0b_v65 : Ref sig .tc := ⟨.hbm, 28, rfl⟩
abbrev main_while0b_v66 : Ref sig .tc := ⟨.hbm, 29, rfl⟩
abbrev main_while0b_values_19 : Ref sig .tc := ⟨.hbm, 30, rfl⟩
abbrev main_while0b_indices_20 : Ref sig .tc := ⟨.hbm, 31, rfl⟩
abbrev main_while0b_v67 : Ref sig .tc := ⟨.hbm, 32, rfl⟩
abbrev main_while0b_call1_v0 : Ref sig .tc := ⟨.hbm, 33, rfl⟩
abbrev main_while0b_call1_c : Ref sig .tc := ⟨.hbm, 34, rfl⟩
abbrev main_while0b_v68 : Ref sig .tc := ⟨.hbm, 35, rfl⟩
abbrev main_while0b_c_21 : Ref sig .tc := ⟨.hbm, 36, rfl⟩
abbrev main_while0b_v69 : Ref sig .tc := ⟨.hbm, 37, rfl⟩
abbrev main_v4 : Ref sig .tc := ⟨.hbm, 38, rfl⟩
abbrev main_v5 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst_2 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_3 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_4 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_values : Ref sig .tc := ⟨.hbm, 66, rfl⟩
abbrev main_indices : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_c_6 : Ref sig .tc := ⟨.hbm, 78, rfl⟩
abbrev main_v31 : Ref sig .tc := ⟨.hbm, 79, rfl⟩
abbrev main_c_7 : Ref sig .tc := ⟨.hbm, 80, rfl⟩
abbrev main_v32 : Ref sig .tc := ⟨.hbm, 81, rfl⟩
abbrev main_c_8 : Ref sig .tc := ⟨.hbm, 82, rfl⟩
abbrev main_v33_0 : Ref sig .tc := ⟨.hbm, 83, rfl⟩
abbrev main_v33_1 : Ref sig .tc := ⟨.hbm, 84, rfl⟩
abbrev main_v33_2 : Ref sig .tc := ⟨.hbm, 85, rfl⟩
abbrev main_v33_3 : Ref sig .tc := ⟨.hbm, 86, rfl⟩
abbrev main_v33_4 : Ref sig .tc := ⟨.hbm, 87, rfl⟩
abbrev main_while1c_c_18 : Ref sig .tc := ⟨.hbm, 88, rfl⟩
abbrev main_while1c_v60 : Ref sig .tc := ⟨.hbm, 89, rfl⟩
abbrev main_while1b_v60 : Ref sig .tc := ⟨.hbm, 90, rfl⟩
abbrev main_while1b_call3_c : Ref sig .tc := ⟨.hbm, 91, rfl⟩
abbrev main_while1b_call3_v0 : Ref sig .tc := ⟨.hbm, 92, rfl⟩
abbrev main_while1b_call3_v1 : Ref sig .tc := ⟨.hbm, 93, rfl⟩
abbrev main_while1b_call3_c_0 : Ref sig .tc := ⟨.hbm, 94, rfl⟩
abbrev main_while1b_call3_v2 : Ref sig .tc := ⟨.hbm, 95, rfl⟩
abbrev main_while1b_call3_v3 : Ref sig .tc := ⟨.hbm, 96, rfl⟩
abbrev main_while1b_call3_v4 : Ref sig .tc := ⟨.hbm, 97, rfl⟩
abbrev main_while1b_v61 : Ref sig .tc := ⟨.hbm, 98, rfl⟩
abbrev main_while1b_v62 : Ref sig .tc := ⟨.hbm, 99, rfl⟩
abbrev main_while1b_v63 : Ref sig .tc := ⟨.hbm, 100, rfl⟩
abbrev main_while1b_v64 : Ref sig .tc := ⟨.hbm, 101, rfl⟩
abbrev main_while1b_cst_18 : Ref sig .tc := ⟨.hbm, 102, rfl⟩
abbrev main_while1b_v65 : Ref sig .tc := ⟨.hbm, 103, rfl⟩
abbrev main_while1b_v66 : Ref sig .tc := ⟨.hbm, 104, rfl⟩
abbrev main_while1b_values_19 : Ref sig .tc := ⟨.hbm, 105, rfl⟩
abbrev main_while1b_indices_20 : Ref sig .tc := ⟨.hbm, 106, rfl⟩
abbrev main_while1b_v67 : Ref sig .tc := ⟨.hbm, 107, rfl⟩
abbrev main_while1b_call4_v0 : Ref sig .tc := ⟨.hbm, 108, rfl⟩
abbrev main_while1b_call4_c : Ref sig .tc := ⟨.hbm, 109, rfl⟩
abbrev main_while1b_v68 : Ref sig .tc := ⟨.hbm, 110, rfl⟩
abbrev main_while1b_c_21 : Ref sig .tc := ⟨.hbm, 111, rfl⟩
abbrev main_while1b_v69 : Ref sig .tc := ⟨.hbm, 112, rfl⟩
abbrev main_v34 : Ref sig .tc := ⟨.hbm, 113, rfl⟩
abbrev main_v35 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_cst_9 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_cst_10 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_cst_11 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_values_12 : Ref sig .tc := ⟨.hbm, 141, rfl⟩
abbrev main_indices_13 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 32#32, 1#32⟩
-- ==== Proof.Run.lean ====
/-
  The kernel's run: on every device it ends with the result at what the last call leaves, and the arguments as launched.
-/
module

public import proofs.«01_k».proof.Proof.Gen.KernelIdeal.Frame

@[expose] public section
set_option maxRecDepth 16384
noncomputable section
namespace Cert.KernelIdeal.Val
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
/-- Every weakly fair execution terminates with the result array at the fold's last contents and every argument as
    launched. -/
theorem run : θ_run defs (onTc (τ := τ) (main (F := F))) ⟨m, fun _ => 0, ρ⟩ (fun r => ∀ c : Dev nD,
      r.2.mem ((c.tc : Thread nD τ).loc main_v31) = W6 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v31 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c)⟩)

end Cert.KernelIdeal.Val
-- ==== Proof.Real.lean ====
/-
  The arithmetic of one stage of the encoder, away from both programs: what a neighbour's activation, its layer
  normalisation and the mean over the neighbours are, as functions of extended reals; that the kernel's
  re-associated form of the two linear layers agrees with the plain one on real inputs; and that every value of a
  stage is real again.
-/
module

public import Idealize.ShloMosaic.Lib.Pointwise

@[expose] public section
set_option maxRecDepth 16384

noncomputable section
open Idealize.ShloMosaic

namespace Cert.Math

/-! ## Real values -/

/-- The value is a real number, not an infinity. -/
def IsR (x : EReal) : Prop := ∃ r : ℝ, x = (r : EReal)

theorem isR_coe (r : ℝ) : IsR (r : EReal) := ⟨r, rfl⟩
theorem isR_zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases max_choice x y with h | h <;> rw [h] <;> assumption
theorem isR_sum {ι : Type*} (s : Finset ι) {f : ι → EReal} (h : ∀ i, IsR (f i)) : IsR (∑ i ∈ s, f i) := by
  classical
  induction s using Finset.induction_on with
  | empty => simpa using isR_zero
  | insert a s ha ih => rw [Finset.sum_insert ha]; exact (h a).add ih

/-- A finite sum of reals, taken among the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greater of two reals, taken among the extended reals. -/
theorem coe_max (a b : ℝ) : max (a : EReal) (b : EReal) = ((max a b : ℝ) : EReal) :=
  (EReal.coe_strictMono.monotone.map_max).symm

/-- A value whose absolute value is below the greatest one is real. -/
theorem isR_of_bounds {x : EReal} (hb : x ≠ ⊥) (ht : x ≠ ⊤) : IsR x :=
  ⟨x.toReal, (EReal.coe_toReal ht hb).symm⟩

/-! ## The two linear layers -/

/-- An anchor's features followed by its two coordinates. -/
def anc {α : Type} (g : Fin 1024 → α) (v : Fin 2 → α) (d : Fin 1026) : α :=
  if h : d.val < 1024 then g ⟨d.val, h⟩ else v ⟨d.val - 1024, by omega⟩

theorem anc_lo {α : Type} (g : Fin 1024 → α) (v : Fin 2 → α) (d : Fin 1024) : anc g v ⟨d.val, by omega⟩ = g d :=
  dif_pos d.isLt
theorem anc_hi {α : Type} (g : Fin 1024 → α) (v : Fin 2 → α) (d : Fin 2) : anc g v ⟨1024 + d.val, by omega⟩ = v d := by
  unfold anc
  rw [dif_neg (by simp)]
  congr 1; ext; simp

/-- A sum over the features followed by the coordinates, piece by piece. -/
theorem sum_1026 {M : Type*} [AddCommMonoid M] (f : Fin 1026 → M) :
    ∑ d, f d = ∑ d : Fin 1024, f ⟨d.val, by omega⟩ + ∑ d : Fin 2, f ⟨1024 + d.val, by omega⟩ :=
  Fin.sum_univ_add (a := 1024) (b := 2) f

/-- Over the reals: the plain two layers — the difference to the anchor through the first weights, then that and the
    anchor through the second — are the products taken once per point and once per anchor. -/
theorem lin_real (f g : Fin 1024 → ℝ) (u v : Fin 2 → ℝ) (dw : Fin 1026 → Fin 1026 → ℝ) (db : Fin 1026 → ℝ)
    (a1 a2 : Fin 1026 → ℝ) (ab : ℝ) :
    ∑ e, (∑ d : Fin 1024, (f d - g d) * dw e ⟨d.val, by omega⟩ + ∑ d : Fin 2, (u d - v d) * dw e ⟨1024 + d.val, by omega⟩
        + db e) * a1 e + ∑ d, anc g v d * a2 d + ab
      = (∑ d : Fin 1024, f d * (∑ e, dw e ⟨d.val, by omega⟩ * a1 e) + u 0 * (∑ e, dw e ⟨1024, by omega⟩ * a1 e)
          + u 1 * (∑ e, dw e ⟨1025, by omega⟩ * a1 e))
        + ((∑ d : Fin 1024, g d * a2 ⟨d.val, by omega⟩ + v 0 * a2 ⟨1024, by omega⟩ + v 1 * a2 ⟨1025, by omega⟩
          - (∑ d : Fin 1024, g d * (∑ e, dw e ⟨d.val, by omega⟩ * a1 e) + v 0 * (∑ e, dw e ⟨1024, by omega⟩ * a1 e)
            + v 1 * (∑ e, dw e ⟨1025, by omega⟩ * a1 e)))
          + (∑ e, db e * a1 e + ab)) := by
  have hswap : ∀ h : Fin 1024 → ℝ, ∑ e, (∑ d : Fin 1024, h d * dw e ⟨d.val, by omega⟩) * a1 e
      = ∑ d : Fin 1024, h d * (∑ e, dw e ⟨d.val, by omega⟩ * a1 e) := by
    intro h
    simp only [Finset.sum_mul, Finset.mul_sum]
    rw [Finset.sum_comm]
    exact Finset.sum_congr rfl fun d _ => Finset.sum_congr rfl fun e _ => by ring
  have hs : ∑ d, anc g v d * a2 d = ∑ d : Fin 1024, g d * a2 ⟨d.val, by omega⟩ + v 0 * a2 ⟨1024, by omega⟩
      + v 1 * a2 ⟨1025, by omega⟩ := by
    rw [sum_1026, Fin.sum_univ_two]
    simp only [anc_lo, anc_hi]
    simp [add_assoc]
  have hu : ∀ e, ∑ d : Fin 2, (u d - v d) * dw e ⟨1024 + d.val, by omega⟩
      = (u 0 - v 0) * dw e ⟨1024, by omega⟩ + (u 1 - v 1) * dw e ⟨1025, by omega⟩ := by
    intro e; rw [Fin.sum_univ_two]; rfl
  rw [hs]
  simp only [hu, add_mul, Finset.sum_add_distrib]
  rw [hswap (fun d => f d - g d)]
  have e0 : ∑ e, (u 0 - v 0) * dw e ⟨1024, by omega⟩ * a1 e = (u 0 - v 0) * ∑ e, dw e ⟨1024, by omega⟩ * a1 e := by
    rw [Finset.mul_sum]; exact Finset.sum_congr rfl fun e _ => by ring
  have e1 : ∑ e, (u 1 - v 1) * dw e ⟨1025, by omega⟩ * a1 e = (u 1 - v 1) * ∑ e, dw e ⟨1025, by omega⟩ * a1 e := by
    rw [Finset.mul_sum]; exact Finset.sum_congr rfl fun e _ => by ring
  rw [e0, e1]
  have hd : ∑ d : Fin 1024, (f d - g d) * (∑ e, dw e ⟨d.val, by omega⟩ * a1 e)
      = ∑ d : Fin 1024, f d * (∑ e, dw e ⟨d.val, by omega⟩ * a1 e)
        - ∑ d : Fin 1024, g d * (∑ e, dw e ⟨d.val, by omega⟩ * a1 e) := by
    rw [← Finset.sum_sub_distrib]; exact Finset.sum_congr rfl fun d _ => by ring
  rw [hd]
  ring

/-- A neighbour's activation, plainly: the difference to the anchor through the first layer, that and the anchor
    through the second, and the positive part. -/
def hR (f g : Fin 1024 → EReal) (u v : Fin 2 → EReal) (dw : Fin 1026 → Fin 1026 → EReal) (db : Fin 1026 → EReal)
    (aw : Fin 1024 → Fin 2052 → EReal) (ab : Fin 1024 → EReal) (q : Fin 1024) : EReal :=
  max (∑ e : Fin 1026, (∑ d : Fin 1024, (f d - g d) * dw e ⟨d.val, by omega⟩
        + ∑ d : Fin 2, (u d - v d) * dw e ⟨1024 + d.val, by omega⟩ + db e) * aw q ⟨e.val, by omega⟩
      + ∑ d : Fin 1026, anc g v d * aw q ⟨1026 + d.val, by omega⟩ + ab q) 0

/-- The product of the two layers' weights. -/
def mall (dw : Fin 1026 → Fin 1026 → EReal) (aw : Fin 1024 → Fin 2052 → EReal) (d : Fin 1026) (q : Fin 1024) : EReal :=
  ∑ e : Fin 1026, dw e d * aw q ⟨e.val, by omega⟩
/-- The first layer's bias through the second layer, and the second layer's bias. -/
def cvec (db : Fin 1026 → EReal) (aw : Fin 1024 → Fin 2052 → EReal) (ab : Fin 1024 → EReal) (q : Fin 1024) : EReal :=
  ∑ e : Fin 1026, db e * aw q ⟨e.val, by omega⟩ + ab q
/-- A point's features and coordinates through `1026` weights per channel. -/
def proj (M : Fin 1026 → Fin 1024 → EReal) (f : Fin 1024 → EReal) (u0 u1 : EReal) (q : Fin 1024) : EReal :=
  ∑ d : Fin 1024, f d * M ⟨d.val, by omega⟩ q + u0 * M ⟨1024, by omega⟩ q + u1 * M ⟨1025, by omega⟩ q

/-- A neighbour's activation as the kernel takes it: the neighbour's product, less the anchor's, plus the anchor
    through the second half of the second layer. -/
def hK (M A : Fin 1026 → Fin 1024 → EReal) (cc : Fin 1024 → EReal) (f g : Fin 1024 → EReal) (u v : Fin 2 → EReal)
    (q : Fin 1024) : EReal :=
  max (proj M f (u 0) (u 1) q + ((proj A g (v 0) (v 1) q - proj M g (v 0) (v 1) q) + cc q)) 0

/-- On real inputs the two forms of the activation agree. -/
theorem hK_eq_hR {f g : Fin 1024 → EReal} {u v : Fin 2 → EReal} {dw : Fin 1026 → Fin 1026 → EReal} {db : Fin 1026 → EReal}
    {aw : Fin 1024 → Fin 2052 → EReal} {ab : Fin 1024 → EReal} (hf : ∀ i, IsR (f i)) (hg : ∀ i, IsR (g i)) (hu : ∀ i, IsR (u i))
    (hv : ∀ i, IsR (v i)) (hdw : ∀ i j, IsR (dw i j)) (hdb : ∀ i, IsR (db i)) (haw : ∀ i j, IsR (aw i j)) (hab : ∀ i, IsR (ab i))
    (q : Fin 1024) :
    hK (mall dw aw) (fun d q => aw q ⟨1026 + d.val, by omega⟩) (cvec db aw ab) f g u v q = hR f g u v dw db aw ab q := by
  choose f' hf using hf; choose g' hg using hg; choose u' hu using hu; choose v' hv using hv
  choose dw' hdw using hdw; choose db' hdb using hdb; choose aw' haw using haw; choose ab' hab using hab
  obtain rfl : f = fun i => (f' i : EReal) := funext hf
  obtain rfl : g = fun i => (g' i : EReal) := funext hg
  obtain rfl : u = fun i => (u' i : EReal) := funext hu
  obtain rfl : v = fun i => (v' i : EReal) := funext hv
  obtain rfl : dw = fun i j => (dw' i j : EReal) := funext fun i => funext fun j => hdw i j
  obtain rfl : db = fun i => (db' i : EReal) := funext hdb
  obtain rfl : aw = fun i j => (aw' i j : EReal) := funext fun i => funext fun j => haw i j
  obtain rfl : ab = fun i => (ab' i : EReal) := funext hab
  have hanc : ∀ d, anc (fun i => (g' i : EReal)) (fun i => (v' i : EReal)) d = ((anc g' v' d : ℝ) : EReal) := by
    intro d; unfold anc; split <;> rfl
  unfold hK hR proj mall cvec
  simp only [hanc, ← EReal.coe_mul, ← EReal.coe_sub, ← EReal.coe_add, coe_sum]
  congr 2
  exact (lin_real f' g' u' v' dw' db' (fun e => aw' q ⟨e.val, by omega⟩) (fun e => aw' q ⟨1026 + e.val, by omega⟩) (ab' q)).symm

/-- A neighbour's activation is real on real inputs. -/
theorem isR_hR {f g : Fin 1024 → EReal} {u v : Fin 2 → EReal} {dw : Fin 1026 → Fin 1026 → EReal} {db : Fin 1026 → EReal}
    {aw : Fin 1024 → Fin 2052 → EReal} {ab : Fin 1024 → EReal} (hf : ∀ i, IsR (f i)) (hg : ∀ i, IsR (g i)) (hu : ∀ i, IsR (u i))
    (hv : ∀ i, IsR (v i)) (hdw : ∀ i j, IsR (dw i j)) (hdb : ∀ i, IsR (db i)) (haw : ∀ i j, IsR (aw i j)) (hab : ∀ i, IsR (ab i))
    (q : Fin 1024) : IsR (hR f g u v dw db aw ab q) := by
  have hanc : ∀ d, IsR (anc g v d) := by intro d; unfold anc; split; exacts [hg _, hv _]
  refine IsR.max (((isR_sum _ fun e => IsR.mul ?_ (haw _ _)).add (isR_sum _ fun d => (hanc d).mul (haw _ _))).add (hab q)) isR_zero
  exact ((isR_sum _ fun d => ((hf d).sub (hg d)).mul (hdw _ _)).add (isR_sum _ fun d => ((hu d).sub (hv d)).mul (hdw _ _))).add (hdb e)

/-! ## The normalisation and the mean over the neighbours -/

/-- The word of 1024.0, at the reals. -/
theorem w1024 : Ideal.ofBits FTy.f32 0x44800000#32 = ((1024 : ℝ) : EReal) := by
  simp [Ideal.ofBits, Ideal.ieee]
  rw [← EReal.coe_mul]
  norm_num
/-- The word of 24.0, at the reals. -/
theorem w24 : Ideal.ofBits FTy.f32 0x41C00000#32 = ((24 : ℝ) : EReal) := by
  simp [Ideal.ofBits, Ideal.ieee]
  rw [← EReal.coe_mul]
  norm_num
/-- The small constant under the root is a positive real. -/
theorem weps : ∃ e : ℝ, 0 < e ∧ Ideal.ofBits FTy.f32 0x3727C5AC#32 = (e : EReal) := by
  refine ⟨10995116 * 2 ^ (-40 : ℤ), by positivity, ?_⟩
  simp [Ideal.ofBits, Ideal.ieee]

/-- The mean of the 1024 channels. -/
def mu (h : Fin 1024 → EReal) : EReal := Ideal.div (∑ x, h x) (Ideal.ofBits FTy.f32 0x44800000#32)
/-- The layer normalisation of the 1024 channels before its scale and offset. -/
def ln (h : Fin 1024 → EReal) (q : Fin 1024) : EReal :=
  Ideal.div (h q - mu h) (Ideal.sqrt (Ideal.div (∑ x, (h x - mu h) * (h x - mu h)) (Ideal.ofBits FTy.f32 0x44800000#32)
    + Ideal.ofBits FTy.f32 0x3727C5AC#32))

theorem isR_ln {h : Fin 1024 → EReal} (hh : ∀ i, IsR (h i)) (q : Fin 1024) : IsR (ln h q) := by
  obtain ⟨e, he, hw⟩ := weps
  have hmu : IsR (mu h) := by
    unfold mu; rw [w1024, Ideal.div_coe (by norm_num)]; exact (isR_sum _ hh).mul (isR_coe _)
  obtain ⟨m, hm⟩ := hmu
  choose h' hh using hh
  obtain rfl : h = fun i => (h' i : EReal) := funext hh
  unfold ln
  rw [hm, hw, w1024, Ideal.div_coe (by norm_num : (1024 : ℝ) ≠ 0)]
  simp only [← EReal.coe_sub, ← EReal.coe_mul, coe_sum, ← EReal.coe_add]
  have hpos : 0 < (∑ i, (h' i - m) * (h' i - m)) * (1 / 1024) + e := by
    have : 0 ≤ ∑ i, (h' i - m) * (h' i - m) := Finset.sum_nonneg fun i _ => mul_self_nonneg _
    positivity
  rw [Ideal.sqrt_coe, if_neg (not_lt.mpr hpos.le), Ideal.div_coe (Real.sqrt_pos.mpr hpos).ne']
  exact (isR_coe _).mul (isR_coe _)

/-- The mean over the 24 neighbours of the normalised, scaled and offset activations. -/
def agg (H : Fin 24 → Fin 1024 → EReal) (ga be : Fin 1024 → EReal) (q : Fin 1024) : EReal :=
  Ideal.div (∑ j, (ln (H j) q * ga q + be q)) (Ideal.ofBits FTy.f32 0x41C00000#32)

theorem isR_agg {H : Fin 24 → Fin 1024 → EReal} {ga be : Fin 1024 → EReal} (hH : ∀ j i, IsR (H j i)) (hga : ∀ i, IsR (ga i))
    (hbe : ∀ i, IsR (be i)) (q : Fin 1024) : IsR (agg H ga be q) := by
  unfold agg
  rw [w24, Ideal.div_coe (by norm_num)]
  exact (isR_sum _ fun j => ((isR_ln (hH j) q).mul (hga q)).add (hbe q)).mul (isR_coe _)

/-- The accumulation trip by trip is the sum over the trips. -/
theorem acc_eq_sum {a : ℕ → EReal} {x : ℕ → EReal} (h0 : a 0 = 0) (hs : ∀ k < 24, a (k + 1) = a k + x k) :
    a 24 = ∑ j : Fin 24, x j.val := by
  have : ∀ n ≤ 24, a n = ∑ k ∈ Finset.range n, x k := by
    intro n
    induction n with
    | zero => intro _; simpa using h0
    | succ n ih => intro hn; rw [hs n (by omega), ih (by omega), Finset.sum_range_succ]
  rw [this 24 le_rfl, Finset.sum_range]

/-! ## A one-hot row picks one entry -/

/-- The signed reading of the widened comparison of a lane number with a word. -/
def hot (x : ℕ) (w : BitVec 32) : EReal :=
  FloatOps.sitofp (F := Ideal) FTy.f32 (BitVec.setWidth 32 (IntOp.cmpi CmpIPredicate.eq (BitVec.ofNat 32 x) w))

theorem hot_eq (x : ℕ) (w : BitVec 32) : hot x w = if BitVec.ofNat 32 x = w then 1 else 0 := by
  unfold hot
  show (((BitVec.setWidth 32 (IntOp.cmpi CmpIPredicate.eq (BitVec.ofNat 32 x) w)).toInt : ℝ) : EReal) = _
  by_cases h : BitVec.ofNat 32 x = w
  · subst h; simp [IntOp.cmpi, Int.bmod]
  · simp [IntOp.cmpi, beq_false_of_ne h, h, Int.bmod]

/-- A sum against a one-hot row is the picked entry. -/
theorem sum_hot {n : ℕ} (hn : n < 2 ^ 31) (w : BitVec 32) (hw : w.toNat < n) (f : Fin n → EReal) :
    ∑ x : Fin n, hot x.val w * f x = f ⟨w.toNat, hw⟩ := by
  rw [Finset.sum_eq_single ⟨w.toNat, hw⟩]
  · rw [hot_eq, if_pos (by simp), one_mul]
  · intro x _ hx
    rw [hot_eq, if_neg, zero_mul]
    intro h
    apply hx
    apply Fin.ext
    have := congrArg BitVec.toNat h
    rw [BitVec.toNat_ofNat] at this
    rw [Nat.mod_eq_of_lt (by have := x.isLt; omega)] at this
    exact this
  · intro h; exact absurd (Finset.mem_univ _) h

end Cert.Math
-- ==== Proof.Stage.lean ====
/-
  One stage of the encoder as a plain function of its features, points, sampled indices and weights, and the two stages
  one after the other.
-/
module

public import proofs.«01_k».proof.Proof.Real

@[expose] public section
set_option maxRecDepth 16384

noncomputable section
open Idealize.ShloMosaic

namespace Cert.Math

/-- The entry of `n` an index word names (any entry, for a word out of range). -/
def pick (n : ℕ) [NeZero n] (w : BitVec 32) : Fin n := Fin.ofNat n w.toNat

theorem pick_eq {n : ℕ} [NeZero n] {w : BitVec 32} (h : w.toNat < n) : pick n w = ⟨w.toNat, h⟩ := by
  apply Fin.ext; simp [pick, Nat.mod_eq_of_lt h]

/-- A stage's weights. -/
structure Wts where
  dw : Fin 1026 → Fin 1026 → EReal
  db : Fin 1026 → EReal
  aw : Fin 1024 → Fin 2052 → EReal
  ab : Fin 1024 → EReal
  ga : Fin 1024 → EReal
  be : Fin 1024 → EReal

/-- All the weights are real. -/
structure Wts.IsReal (w : Wts) : Prop where
  dw : ∀ i j, IsR (w.dw i j)
  db : ∀ i, IsR (w.db i)
  aw : ∀ i j, IsR (w.aw i j)
  ab : ∀ i, IsR (w.ab i)
  ga : ∀ i, IsR (w.ga i)
  be : ∀ i, IsR (w.be i)

/-- A stage's output for one anchor: its neighbours' activations, normalised and averaged. -/
def stage {N : ℕ} (w : Wts) (F : Fin N → Fin 1024 → EReal) (P : Fin N → Fin 2 → EReal) (a : Fin N) (nb : Fin 24 → Fin N)
    (q : Fin 1024) : EReal :=
  agg (fun j => hR (F (nb j)) (F a) (P (nb j)) (P a) w.dw w.db w.aw w.ab) w.ga w.be q

/-- A stage on real inputs gives reals. -/
theorem isR_stage {N : ℕ} {w : Wts} (hw : w.IsReal) {F : Fin N → Fin 1024 → EReal} {P : Fin N → Fin 2 → EReal}
    (hF : ∀ i j, IsR (F i j)) (hP : ∀ i j, IsR (P i j)) (a : Fin N) (nb : Fin 24 → Fin N) (q : Fin 1024) :
    IsR (stage w F P a nb q) :=
  isR_agg (fun j i => isR_hR (hF _) (hF _) (hP _) (hP _) hw.dw hw.db hw.aw hw.ab i) hw.ga hw.be q

/-- The sum of the normalised activations in the kernel's form, times the named 1/24, is the stage. -/
theorem stage_of_hK {N : ℕ} {w : Wts} (hw : w.IsReal) {F : Fin N → Fin 1024 → EReal} {P : Fin N → Fin 2 → EReal}
    (hF : ∀ i j, IsR (F i j)) (hP : ∀ i j, IsR (P i j)) (a : Fin N) (nb : Fin 24 → Fin N) (q : Fin 1024) :
    (∑ j : Fin 24, (ln (hK (mall w.dw w.aw) (fun d q => w.aw q ⟨1026 + d.val, by omega⟩) (cvec w.db w.aw w.ab)
        (F (nb j)) (F a) (P (nb j)) (P a)) q * w.ga q + w.be q)) * ((1 / 24 : ℝ) : EReal)
      = stage w F P a nb q := by
  unfold stage agg
  rw [w24, Ideal.div_coe (by norm_num)]
  congr 1
  refine Finset.sum_congr rfl fun j _ => ?_
  rw [show hK (mall w.dw w.aw) (fun d q => w.aw q ⟨1026 + d.val, by omega⟩) (cvec w.db w.aw w.ab)
        (F (nb j)) (F a) (P (nb j)) (P a) = hR (F (nb j)) (F a) (P (nb j)) (P a) w.dw w.db w.aw w.ab from
    funext fun q => hK_eq_hR (hF _) (hF _) (hP _) (hP _) hw.dw hw.db hw.aw hw.ab q]

/-- The first stage: 128 anchors of 512 points. -/
def fea0 (w : Wts) (F : Fin 32 → Fin 512 → Fin 1024 → EReal) (P : Fin 32 → Fin 512 → Fin 2 → EReal)
    (a : Fin 128 → Fin 32 → BitVec 32) (nb : Fin 24 → Fin 32 → Fin 128 → BitVec 32) (b : Fin 32) (r : Fin 128) (q : Fin 1024) : EReal :=
  stage w (F b) (P b) (pick 512 (a r b)) (fun j => pick 512 (nb j b r)) q
/-- The first stage's anchors' points. -/
def pts1 (P : Fin 32 → Fin 512 → Fin 2 → EReal) (a : Fin 128 → Fin 32 → BitVec 32) (b : Fin 32) (r : Fin 128) (d : Fin 2) : EReal :=
  P b (pick 512 (a r b)) d
/-- The second stage: 32 anchors of the 128. -/
def fea1 (w : Wts) (F : Fin 32 → Fin 128 → Fin 1024 → EReal) (P : Fin 32 → Fin 128 → Fin 2 → EReal)
    (a : Fin 32 → Fin 32 → BitVec 32) (nb : Fin 24 → Fin 32 → Fin 32 → BitVec 32) (b : Fin 32) (r : Fin 32) (q : Fin 1024) : EReal :=
  stage w (F b) (P b) (pick 128 (a r b)) (fun j => pick 128 (nb j b r)) q

end Cert.Math
-- ==== Proof.Prep.lean ====
/-
  The first call's outputs: each stage's product of weights and constant vector.
-/
module

public import proofs.«01_k».proof.Proof.Gen.KernelIdeal.Frame
public import proofs.«01_k».proof.Proof.Stage
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.Math
variable (V : (c : Dev nD) → (b : Ref sig .tc) → Buf (Elt Ideal) ((c : Thread nD τ).loc b))

/-- The one grid point's index maps. -/
theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] :=
  (by decide +kernel : ∀ t : Fin grid0.N, _)

/-- Each input block is its whole array. -/
theorem blk0_0 (c : Dev nD) (t : Fin cfg0.N) (y) : iblk0 V c 0 t y = V c main_arg10 y := by
  blk_ext [iblk0, idx0 t]
theorem blk0_1 (c : Dev nD) (t : Fin cfg0.N) (y) : iblk0 V c 1 t y = V c main_arg12 y := by
  blk_ext [iblk0, idx0 t]
theorem blk0_2 (c : Dev nD) (t : Fin cfg0.N) (y) : iblk0 V c 2 t y = V c main_v0 y := by
  blk_ext [iblk0, idx0 t]
theorem blk0_3 (c : Dev nD) (t : Fin cfg0.N) (y) : iblk0 V c 3 t y = V c main_v1 y := by
  blk_ext [iblk0, idx0 t]
theorem blk0_4 (c : Dev nD) (t : Fin cfg0.N) (y) : iblk0 V c 4 t y = V c main_arg16 y := by
  blk_ext [iblk0, idx0 t]
theorem blk0_5 (c : Dev nD) (t : Fin cfg0.N) (y) : iblk0 V c 5 t y = V c main_arg18 y := by
  blk_ext [iblk0, idx0 t]
theorem blk0_6 (c : Dev nD) (t : Fin cfg0.N) (y) : iblk0 V c 6 t y = V c main_v2 y := by
  blk_ext [iblk0, idx0 t]
theorem blk0_7 (c : Dev nD) (t : Fin cfg0.N) (y) : iblk0 V c 7 t y = V c main_v3 y := by
  blk_ext [iblk0, idx0 t]

/-- The product of the first stage's weights. -/
theorem prep8 (c : Dev nD) : (dat0 V c).arrAt 8 cfg0.N
    = (fun y => mall (fun e d => V c main_arg10 (ix2 e d)) (fun q e => V c main_arg12 (ix2 q e)) (y 0) (y 1)
      : (⟨S1026x1024, .f32⟩ : BufTy).Contents (Elt Ideal)) := by
  refine (dat0 V c).arrAt_eq_of_covers 8 _ (by decide +kernel) fun t _ y => ?_
  blk_simp
  rw [after0_8]
  frame_out
  pointwise [k0_pay1]
  unfold mall
  refine Finset.sum_congr (M := EReal) (ι := Fin 1026) rfl fun e _ => ?_
  rw [blk0_0, blk0_1]
  refine congrArg₂ (· * ·) ?_ ?_ <;> blk_ext [idx0 t]

/-- The first stage's constant vector. -/
theorem prep9 (c : Dev nD) : (dat0 V c).arrAt 9 cfg0.N
    = (fun y => cvec (fun e => V c main_v0 (ix2 0 e)) (fun q e => V c main_arg12 (ix2 q e)) (fun q => V c main_v1 (ix2 0 q)) (y 1)
      : (⟨S1x1024, .f32⟩ : BufTy).Contents (Elt Ideal)) := by
  refine (dat0 V c).arrAt_eq_of_covers 9 _ (by decide +kernel) fun t _ y => ?_
  blk_simp
  rw [after0_9]
  frame_out
  pointwise [k0_pay2]
  unfold cvec
  refine congrArg₂ (· + ·) (Finset.sum_congr rfl fun e _ => ?_) ?_
  · rw [blk0_1, blk0_2]
    refine congrArg₂ (· * ·) ?_ ?_ <;> blk_ext [idx0 t]
  · rw [blk0_3]
    blk_ext [idx0 t]

/-- The product of the second stage's weights. -/
theorem prep10 (c : Dev nD) : (dat0 V c).arrAt 10 cfg0.N
    = (fun y => mall (fun e d => V c main_arg16 (ix2 e d)) (fun q e => V c main_arg18 (ix2 q e)) (y 0) (y 1)
      : (⟨S1026x1024, .f32⟩ : BufTy).Contents (Elt Ideal)) := by
  refine (dat0 V c).arrAt_eq_of_covers 10 _ (by decide +kernel) fun t _ y => ?_
  blk_simp
  rw [after0_10]
  frame_out
  pointwise [k0_pay3]
  unfold mall
  refine Finset.sum_congr (M := EReal) (ι := Fin 1026) rfl fun e _ => ?_
  rw [blk0_4, blk0_5]
  refine congrArg₂ (· * ·) ?_ ?_ <;> blk_ext [idx0 t]

/-- The second stage's constant vector. -/
theorem prep11 (c : Dev nD) : (dat0 V c).arrAt 11 cfg0.N
    = (fun y => cvec (fun e => V c main_v2 (ix2 0 e)) (fun q e => V c main_arg18 (ix2 q e)) (fun q => V c main_v3 (ix2 0 q)) (y 1)
      : (⟨S1x1024, .f32⟩ : BufTy).Contents (Elt Ideal)) := by
  refine (dat0 V c).arrAt_eq_of_covers 11 _ (by decide +kernel) fun t _ y => ?_
  blk_simp
  rw [after0_11]
  frame_out
  pointwise [k0_pay4]
  unfold cvec
  refine congrArg₂ (· + ·) (Finset.sum_congr rfl fun e _ => ?_) ?_
  · rw [blk0_5, blk0_6]
    refine congrArg₂ (· * ·) ?_ ?_ <;> blk_ext [idx0 t]
  · rw [blk0_7]
    blk_ext [idx0 t]

end Cert.KernelIdeal.Val
-- ==== Proof.HostOps.lean ====
/-
  What the host operations between the calls leave, entry by entry, over any contents they start from.
-/
module

public import proofs.«01_k».proof.Proof.Gen.KernelIdeal.Frame
public import Idealize.ShloMosaic.Lib.Pointwise
public import Idealize.ShloMosaic.Lib.Claim

@[expose] public section
set_option maxRecDepth 16384
noncomputable section
open Idealize.ShloMosaic Idealize.ShloMosaic.TcCoe Idealize.SL.Sem
namespace Cert.KernelIdeal.Val
open Cert.KernelIdeal Cert.KernelIdeal.Gen
variable (X : Valuation τ sig (Elt Ideal))

theorem host0_v0 (e : Fin 1026) : StableHlo.after hostOps0 X (Proc.devRef .tc main_v0) (ix2 0 e) = X (Proc.devRef .tc main_arg11) (ix1 e) := by
  entry_read
  pointwise
theorem host0_v1 (e : Fin 1024) : StableHlo.after hostOps0 X (Proc.devRef .tc main_v1) (ix2 0 e) = X (Proc.devRef .tc main_arg13) (ix1 e) := by
  entry_read
  pointwise
theorem host0_v2 (e : Fin 1026) : StableHlo.after hostOps0 X (Proc.devRef .tc main_v2) (ix2 0 e) = X (Proc.devRef .tc main_arg17) (ix1 e) := by
  entry_read
  pointwise
theorem host0_v3 (e : Fin 1024) : StableHlo.after hostOps0 X (Proc.devRef .tc main_v3) (ix2 0 e) = X (Proc.devRef .tc main_arg19) (ix1 e) := by
  entry_read
  pointwise
theorem host1_v6 (d : Fin 1026) (q : Fin 1024) : StableHlo.after hostOps1 X (Proc.devRef .tc main_v6) (ix2 d q) = X (Proc.devRef .tc main_arg12) (ix2 q ⟨1026 + d.val, by omega⟩) := by
  entry_read
  pointwise
theorem host1_v8 (d : Fin 1026) (q : Fin 1024) : StableHlo.after hostOps1 X (Proc.devRef .tc main_v8) (ix2 d q) = X (Proc.devRef .tc main_arg18) (ix2 q ⟨1026 + d.val, by omega⟩) := by
  entry_read
  pointwise
theorem host1_v24 (b : Fin 32) (n : Fin 512) : StableHlo.after hostOps1 X (Proc.devRef .tc main_v24) (ix3 b 0 n) = X (Proc.devRef .tc main_arg1) (ix3 b n 0) := by
  entry_read
  pointwise
theorem host1_v25 (b : Fin 32) (n : Fin 512) : StableHlo.after hostOps1 X (Proc.devRef .tc main_v25) (ix3 b 0 n) = X (Proc.devRef .tc main_arg1) (ix3 b n 1) := by
  entry_read
  pointwise
theorem host1_v11 (b : Fin 32) (r : Fin 128) : StableHlo.after hostOps1 X (Proc.devRef .tc main_v11) (ix3 b 0 r) = X (Proc.devRef .tc main_arg2) (ix2 r b) := by
  entry_read
  pointwise
theorem host1_v13 (b : Fin 32) (r : Fin 128) : StableHlo.after hostOps1 X (Proc.devRef .tc main_v13) (ix3 b 0 r) = X (Proc.devRef .tc main_arg3) (ix2 r b) := by
  entry_read
  pointwise
theorem host1_v15 (b : Fin 32) (r : Fin 128) : StableHlo.after hostOps1 X (Proc.devRef .tc main_v15) (ix3 b 0 r) = X (Proc.devRef .tc main_arg4) (ix2 r b) := by
  entry_read
  pointwise
theorem host1_v18 (b : Fin 32) (r : Fin 32) : StableHlo.after hostOps1 X (Proc.devRef .tc main_v18) (ix3 b 0 r) = X (Proc.devRef .tc main_arg6) (ix2 r b) := by
  entry_read
  pointwise
theorem host1_v20 (b : Fin 32) (r : Fin 32) : StableHlo.after hostOps1 X (Proc.devRef .tc main_v20) (ix3 b 0 r) = X (Proc.devRef .tc main_arg7) (ix2 r b) := by
  entry_read
  pointwise
theorem host1_v22 (b : Fin 32) (r : Fin 32) : StableHlo.after hostOps1 X (Proc.devRef .tc main_v22) (ix3 b 0 r) = X (Proc.devRef .tc main_arg8) (ix2 r b) := by
  entry_read
  pointwise
theorem host1_v16 (b : Fin 32) (k : Fin 24) (r : Fin 128) : StableHlo.after hostOps1 X (Proc.devRef .tc main_v16) (ix3 b k r) = X (Proc.devRef .tc main_arg5) (ix3 k b r) := by
  entry_read
  pointwise
theorem host1_v23 (b : Fin 32) (k : Fin 24) (r : Fin 32) : StableHlo.after hostOps1 X (Proc.devRef .tc main_v23) (ix3 b k r) = X (Proc.devRef .tc main_arg9) (ix3 k b r) := by
  entry_read
  pointwise
theorem host1_v26 (q : Fin 1024) : StableHlo.after hostOps1 X (Proc.devRef .tc main_v26) (ix2 0 q) = X (Proc.devRef .tc main_arg14) (ix1 q) := by
  entry_read
  pointwise
theorem host1_v27 (q : Fin 1024) : StableHlo.after hostOps1 X (Proc.devRef .tc main_v27) (ix2 0 q) = X (Proc.devRef .tc main_arg15) (ix1 q) := by
  entry_read
  pointwise
theorem host2_v29 (q : Fin 1024) : StableHlo.after hostOps2 X (Proc.devRef .tc main_v29) (ix2 0 q) = X (Proc.devRef .tc main_arg20) (ix1 q) := by
  entry_read
  pointwise
theorem host2_v30 (q : Fin 1024) : StableHlo.after hostOps2 X (Proc.devRef .tc main_v30) (ix2 0 q) = X (Proc.devRef .tc main_arg21) (ix1 q) := by
  entry_read
  pointwise

end Cert.KernelIdeal.Val
-- ==== Proof.StageA.lean ====
/-
  The first stage's kernel: what one grid point leaves at a row and a channel, as the mean of the normalised
  activations of `Real.lean`.
-/
module

public import proofs.«01_k».proof.Proof.Gen.KernelIdeal.Frame
public import proofs.«01_k».proof.Proof.Real
public import Idealize.ShloMosaic.Lib.Pointwise
public import Idealize.ShloMosaic.Lib.Pipeline.ValueKit

@[expose] public section
set_option maxRecDepth 16384

noncomputable section
open Idealize.ShloMosaic Idealize.ShloMosaic.TcCoe Idealize.SL.Sem
open Idealize.ShloMosaic.Pipeline (Dat)

namespace Cert.KernelIdeal.ValA
open Cert.KernelIdeal Cert.KernelIdeal.Gen Cert.Math

/-- The one-hot comparison of the vector code is `hot`. -/
theorem hot_def (x : ℕ) (w : BitVec 32) :
    FloatOps.sitofp (F := Ideal) FTy.f32 (BitVec.setWidth 32 (IntOp.cmpi CmpIPredicate.eq (BitVec.ofNat 32 x) w)) = hot x w := rfl

/-- The named reciprocal is 1/24. -/
theorem inv_k : Named.named (F := Ideal) κ "inv_k" (φ := FTy.f32) 0x3D2AAAAB#32 = ((1 / 24 : ℝ) : EReal) := rfl

/-- The points' products, at a point and a channel. -/
theorem pay3 (v0 v2 v4) (x7 : Vec Ideal S1026x1024 .f32) (r : Fin 512) (q : Fin 1024) :
    k1_pay3 (F := Ideal) v0 v2 v4
        (View.ld x7 (Rect.unit ![0, 0] ![1024, 1024] inb_S1026x1024_S1024x1024_0_0))
        (View.ld x7 (Rect.unit ![1024, 0] ![1, 1024] inb_S1026x1024_S1x1024_1024_0))
        (View.ld x7 (Rect.unit ![1025, 0] ![1, 1024] inb_S1026x1024_S1x1024_1025_0)) (ix2 r q)
      = proj (fun d q => x7 (ix2 d q)) (fun d => v0 (ix3 0 r d)) (v2 (ix3 0 0 r)) (v4 (ix3 0 0 r)) q := by
  pointwise [k1_pay3, k1_pay2]
  rfl

theorem pay5 (v0 v23) (r : Fin 128) (q : Fin 1024) (hf : (v23 (ix3 0 0 r) : BitVec 32).toNat < 512) :
    k1_pay5 (F := Ideal) v0 v23 (ix2 r q) = v0 (ix3 0 ⟨_, hf⟩ q) := by
  pointwise [k1_pay5, k1_pay4, k1_pay2]
  simp only [hot_def]
  rw [sum_hot (by norm_num) _ hf (fun x => v0 (ix3 0 x q))]

theorem pay6 (v0 v2 v4 v6 v10 v17 v23) (r : Fin 128) (q : Fin 1024) (hf : (v23 (ix3 0 0 r) : BitVec 32).toNat < 512) :
    k1_pay6 (F := Ideal) v0 v2 v4 v6 v10 v17 v23 (ix2 r q) = k1_pay3 v0 v2 v4 v6 v10 v17 (ix2 ⟨_, hf⟩ q) := by
  pointwise [k1_pay6, k1_pay4]
  simp only [hot_def]
  rw [sum_hot (by norm_num) _ hf (fun x => k1_pay3 v0 v2 v4 v6 v10 v17 (ix2 x q))]

theorem pay9 (v22 v31 v32 v34 v35) (x8 : Vec Ideal S1026x1024 .f32) (v55 v59 v61 acc row) (r : Fin 128) (q : Fin 1024)
    (hi : (row (ix3 0 0 r) : BitVec 32).toNat < 512) :
    k1_pay9 (F := Ideal) v22 (iota Kind.tc S128x512 32 [1] iota_S128x512_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 acc row (ix2 r q)
     = acc (ix2 r q) + (ln (fun q => max (v22 (ix2 ⟨_, hi⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) := by
  pointwise [k1_pay9]
  simp only [hot_def]
  simp only [fun q => sum_hot (by norm_num) _ hi (fun x => v22 (ix2 x q))]
  rw [add_assoc]
  rfl

variable {F : FTy → Type} [FloatOps F] [Named F]

/-- Row `k` of the neighbours' index block. -/
def rowOf (x6 : Vec F S1x24x128 .i32) (k : Fin k1_t1_loop.trips) : Vec F S1x1x128 .i32 :=
  fun y => x6 (ix3 0 ⟨k.val, Nat.lt_of_lt_of_le k.isLt k1_t1_abs.2.1⟩ (y 2))

/-- One trip of the neighbours' loop. -/
theorem trip (c : Dev nD) (bd) (i : grid1.Coords) (a1) (h1) (a2) (h2) (a3) (h3) (a4) (h4) (a5) (h5) (a6) (h6)
    (a7 : Memref sig .tc .vmem S1x24x128 .i32) (h7 : a7.IsWhole) (a8) (h8) (a9) (h9) (a10) (h10) (a11) (h11) (a12) (h12) (a13) (h13)
    (v22 v25 v31 v32 v34 v35 v37 v41 v48 v55 v59 v61) (x6) (k : Fin k1_t1_loop.trips) (acc) :
    tripR_k1_t1 (F := F) Variants.none c bd i a1 h1 a2 h2 a3 h3 a4 h4 a5 h5 a6 h6 a7 h7 a8 h8 a9 h9 a10 h10 a11 h11 a12 h12 a13 h13
      v22 v25 v31 v32 v34 v35 v37 v41 v48 v55 v59 v61 (h7.unread x6) k acc
      = k1_pay9 v22 v25 v31 v32 v34 v35 v37 v41 v48 v55 v59 v61 acc (rowOf x6 k) := by
  unfold tripR_k1_t1 trip_k1_t1
  dsimp only
  congr 1
  rw [View.readAt_eq_ld, h7.read_unread]
  funext y
  unfold rowOf
  refine View.ld_unit_apply_of _ _ _ _ _ _ fun a => ?_
  have e0 : k1_off1 k 0 = 0 := congrFun (k1_off1_eq k) 0
  have e1 : k1_off1 k 1 = k.val := congrFun (k1_off1_eq k) 1
  have e2 : k1_off1 k 2 = 0 := congrFun (k1_off1_eq k) 2
  have y0 : (y 0 : Nat) < 1 := (y 0).isLt
  have y1 : (y 1 : Nat) < 1 := (y 1).isLt
  match a with
  | ⟨0, _⟩ => show 0 = k1_off1 k 0 + (y 0 : Nat); omega
  | ⟨1, _⟩ => show k.val = k1_off1 k 1 + (y 1 : Nat); omega
  | ⟨2, _⟩ => show (y 2 : Nat) = k1_off1 k 2 + (y 2 : Nat); omega

theorem trips_eq : k1_t1_loop.trips = 24 := by decide +kernel

/-- The neighbours' loop, at a row and a channel: the sum over the neighbours. -/
theorem loop (c : Dev nD) (bd) (i : grid1.Coords) (a1) (h1) (a2) (h2) (a3) (h3) (a4) (h4) (a5) (h5) (a6) (h6)
    (a7 : Memref sig .tc .vmem S1x24x128 .i32) (h7 : a7.IsWhole) (a8) (h8) (a9) (h9) (a10) (h10) (a11) (h11) (a12) (h12) (a13) (h13)
    (v22 v31 v32 v34 v35) (x8 : Vec Ideal S1026x1024 .f32) (v55 v59 v61) (x6 : Vec Ideal S1x24x128 .i32) (r : Fin 128) (q : Fin 1024)
    (hi : ∀ j : Fin 24, (x6 (ix3 0 j r) : BitVec 32).toNat < 512) :
    st_k1_t1 (F := Ideal) Variants.none c bd i a1 h1 a2 h2 a3 h3 a4 h4 a5 h5 a6 h6 a7 h7 a8 h8 a9 h9 a10 h10 a11 h11 a12 h12 a13 h13
      v22 (iota Kind.tc S128x512 32 [1] iota_S128x512_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k1_pay8 24 (ix2 r q)
     = ∑ j : Fin 24, (ln (fun q => max (v22 (ix2 ⟨_, hi j⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) := by
  have hx : ∀ j : Fin 24, (if h : j.val < 24 then (ln (fun q => max (v22 (ix2 ⟨_, hi ⟨j.val, h⟩⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) else 0) = _ := fun j => dif_pos j.isLt
  rw [← Finset.sum_congr rfl fun j _ => hx j]
  refine acc_eq_sum (a := fun n => st_k1_t1 (F := Ideal) Variants.none c bd i a1 h1 a2 h2 a3 h3 a4 h4 a5 h5 a6 h6 a7 h7 a8 h8 a9 h9 a10 h10 a11 h11 a12 h12 a13 h13
      v22 (iota Kind.tc S128x512 32 [1] iota_S128x512_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k1_pay8 n (ix2 r q))
    (x := fun n => if h : n < 24 then (ln (fun q => max (v22 (ix2 ⟨_, hi ⟨n, h⟩⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) else 0) ?_ ?_
  · dsimp only
    rw [st_k1_t1_zero]
    pointwise [k1_pay8]
  · intro k hk
    dsimp only
    rw [dif_pos hk]
    have hk' : k < k1_t1_loop.trips := trips_eq.symm ▸ hk
    have hs := st_k1_t1_succ (F := Ideal) Variants.none c bd i a1 h1 a2 h2 a3 h3 a4 h4 a5 h5 a6 h6 a7 h7 a8 h8 a9 h9 a10 h10 a11 h11 a12 h12 a13 h13
      v22 (iota Kind.tc S128x512 32 [1] iota_S128x512_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k1_pay8 ⟨k, hk'⟩
    dsimp only at hs
    rw [hs, trip]
    exact pay9 v22 v31 v32 v34 v35 x8 v55 v59 v61 _ (rowOf x6 ⟨k, hk'⟩) r q (hi ⟨k, hk⟩)

/-- What the body leaves at a row and a channel, from its input blocks: where the blocks' index words name points and
    the anchor coordinates are those of the sampled points, the mean over the neighbours of the normalised activations. -/
theorem out_eq (c : Dev nD) (i : grid1.Coords) (a1) (ha1) (a2) (ha2) (a3) (ha3) (a4) (ha4) (a5) (ha5) (a6) (ha6) (a7) (ha7) (a8) (ha8) (a9) (ha9)
    (a10) (ha10) (a11) (ha11) (a12) (ha12) (a13) (ha13)
    (x0 : Vec Ideal S1x512x1024 .f32) (x1 x2 : Vec Ideal S1x1x512 .f32) (x3 : Vec Ideal S1x1x128 .i32) (x4 x5 : Vec Ideal S1x1x128 .f32)
    (x6 : Vec Ideal S1x24x128 .i32) (x7 x8 : Vec Ideal S1026x1024 .f32) (x9 x10 x11 : Vec Ideal S1x1024 .f32)
    (r : Fin 128) (q : Fin 1024) (pts : Fin 512 → Fin 2 → EReal)
    (h1 : ∀ i, x1 (ix3 0 0 i) = pts i 0) (h2 : ∀ i, x2 (ix3 0 0 i) = pts i 1)
    (hf : (x3 (ix3 0 0 r) : BitVec 32).toNat < 512) (hi : ∀ j : Fin 24, (x6 (ix3 0 j r) : BitVec 32).toNat < 512)
    (h4 : x4 (ix3 0 0 r) = pts ⟨_, hf⟩ 0) (h5 : x5 (ix3 0 0 r) = pts ⟨_, hf⟩ 1) :
    out1_A_12 c i a1 ha1 a2 ha2 a3 ha3 a4 ha4 a5 ha5 a6 ha6 a7 ha7 a8 ha8 a9 ha9 a10 ha10 a11 ha11 a12 ha12 a13 ha13
        x0 x1 x2 x3 x4 x5 x6 x7 x8 x9 x10 x11 (ix3 0 r q)
      = (∑ j : Fin 24, (ln (hK (fun d q => x7 (ix2 d q)) (fun d q => x8 (ix2 d q)) (fun q => x9 (ix2 0 q))
            (fun d => x0 (ix3 0 ⟨_, hi j⟩ d)) (fun d => x0 (ix3 0 ⟨_, hf⟩ d)) (pts ⟨_, hi j⟩) (pts ⟨_, hf⟩)) q
              * x10 (ix2 0 q) + x11 (ix2 0 q))) * ((1 / 24 : ℝ) : EReal) := by
  frame_out
  pointwise [k1_pay1, k1_pay10]
  rw [inv_k]
  congr 1
  rw [show Scf.trips (0#32) (Scalar.addi 0#32 24#32) 1#32 = 24 from trips_eq]
  rw [loop (hi := hi)]
  refine Finset.sum_congr rfl fun j _ => ?_
  congr 2
  refine congrArg (fun h => ln h q) (funext fun q => ?_)
  rw [pay3, pay6 (hf := hf), pay3]
  simp only [pay5 (hf := hf)]
  pointwise [k1_pay7]
  rw [h1, h2, h1, h2, h4, h5]
  rfl

end Cert.KernelIdeal.ValA
-- ==== Proof.ArrA.lean ====
/-
  The first stage's output array: over the contents its call finds, the stage's features.
-/
module

public import proofs.«01_k».proof.Proof.StageA
public import proofs.«01_k».proof.Proof.Stage
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.ValA
open Cert.KernelIdeal Cert.KernelIdeal.Gen Cert.Math
variable (V : (c : Dev nD) → (b : Ref sig .tc) → Buf (Elt Ideal) ((c : Thread nD τ).loc b))

/-- The windows' index maps: a batch per grid point, and the weights whole. -/
theorem idx : ∀ t : Fin cfg1.N, win1_0.index t = ![t.val, 0, 0] ∧ win1_1.index t = ![t.val, 0, 0] ∧ win1_2.index t = ![t.val, 0, 0] ∧ win1_3.index t = ![t.val, 0, 0]
    ∧ win1_4.index t = ![t.val, 0, 0] ∧ win1_5.index t = ![t.val, 0, 0] ∧ win1_6.index t = ![t.val, 0, 0] ∧ win1_7.index t = ![0, 0]
    ∧ win1_8.index t = ![0, 0] ∧ win1_9.index t = ![0, 0] ∧ win1_10.index t = ![0, 0] ∧ win1_11.index t = ![0, 0] ∧ win1_12.index t = ![t.val, 0, 0] :=
  (by decide +kernel : ∀ t : Fin grid1.N, _)

/-- A grid point's batch. -/
abbrev bat (t : Fin cfg1.N) : Fin 32 := ⟨t.val, t.isLt⟩

/-- Each input block is a batch of its array. -/
theorem blk0 (c : Dev nD) (t : Fin cfg1.N) (n d) : iblk1 V c 0 t (ix3 0 n d) = V c main_arg0 (ix3 (bat t) n d) := by
  blk_ext [iblk1, idx t]
theorem blk1 (c : Dev nD) (t : Fin cfg1.N) (n) : iblk1 V c 1 t (ix3 0 0 n) = V c main_v24 (ix3 (bat t) 0 n) := by
  blk_ext [iblk1, idx t]
theorem blk2 (c : Dev nD) (t : Fin cfg1.N) (n) : iblk1 V c 2 t (ix3 0 0 n) = V c main_v25 (ix3 (bat t) 0 n) := by
  blk_ext [iblk1, idx t]
theorem blk3 (c : Dev nD) (t : Fin cfg1.N) (n) : iblk1 V c 3 t (ix3 0 0 n) = V c main_v11 (ix3 (bat t) 0 n) := by
  blk_ext [iblk1, idx t]
theorem blk4 (c : Dev nD) (t : Fin cfg1.N) (n) : iblk1 V c 4 t (ix3 0 0 n) = V c main_v13 (ix3 (bat t) 0 n) := by
  blk_ext [iblk1, idx t]
theorem blk5 (c : Dev nD) (t : Fin cfg1.N) (n) : iblk1 V c 5 t (ix3 0 0 n) = V c main_v15 (ix3 (bat t) 0 n) := by
  blk_ext [iblk1, idx t]
theorem blk6 (c : Dev nD) (t : Fin cfg1.N) (n d) : iblk1 V c 6 t (ix3 0 n d) = V c main_v16 (ix3 (bat t) n d) := by
  blk_ext [iblk1, idx t]
theorem blk7 (c : Dev nD) (t : Fin cfg1.N) (n d) : iblk1 V c 7 t (ix2 n d) = V c main_v4_0 (ix2 n d) := by
  blk_ext [iblk1, idx t]
theorem blk8 (c : Dev nD) (t : Fin cfg1.N) (n d) : iblk1 V c 8 t (ix2 n d) = V c main_v6 (ix2 n d) := by
  blk_ext [iblk1, idx t]
theorem blk9 (c : Dev nD) (t : Fin cfg1.N) (d) : iblk1 V c 9 t (ix2 0 d) = V c main_v4_1 (ix2 0 d) := by
  blk_ext [iblk1, idx t]
theorem blk10 (c : Dev nD) (t : Fin cfg1.N) (d) : iblk1 V c 10 t (ix2 0 d) = V c main_v26 (ix2 0 d) := by
  blk_ext [iblk1, idx t]
theorem blk11 (c : Dev nD) (t : Fin cfg1.N) (d) : iblk1 V c 11 t (ix2 0 d) = V c main_v27 (ix2 0 d) := by
  blk_ext [iblk1, idx t]

/-- What the stage's call finds in its arrays: real features and points, index words in range, each anchor's own
    coordinates, and the weights combined. -/
structure Finds (c : Dev nD) (w : Wts) (F : Fin 32 → Fin 512 → Fin 1024 → EReal) (P : Fin 32 → Fin 512 → Fin 2 → EReal)
    (a : Fin 128 → Fin 32 → BitVec 32) (nb : Fin 24 → Fin 32 → Fin 128 → BitVec 32) : Prop where
  wreal : w.IsReal
  freal : ∀ b n d, IsR (F b n d)
  preal : ∀ b n d, IsR (P b n d)
  ha : ∀ r b, (a r b).toNat < 512
  hnb : ∀ j b r, (nb j b r).toNat < 512
  h0 : ∀ b n d, V c main_arg0 (ix3 b n d) = F b n d
  h1 : ∀ b n, V c main_v24 (ix3 b 0 n) = P b n 0
  h2 : ∀ b n, V c main_v25 (ix3 b 0 n) = P b n 1
  h3 : ∀ b r, V c main_v11 (ix3 b 0 r) = a r b
  h4 : ∀ b r, V c main_v13 (ix3 b 0 r) = P b (pick 512 (a r b)) 0
  h5 : ∀ b r, V c main_v15 (ix3 b 0 r) = P b (pick 512 (a r b)) 1
  h6 : ∀ b j r, V c main_v16 (ix3 b j r) = nb j b r
  h7 : ∀ d q, V c main_v4_0 (ix2 d q) = mall w.dw w.aw d q
  h8 : ∀ (d : Fin 1026) (q : Fin 1024), V c main_v6 (ix2 d q) = w.aw q ⟨1026 + d.val, by omega⟩
  h9 : ∀ q, V c main_v4_1 (ix2 0 q) = cvec w.db w.aw w.ab q
  h10 : ∀ q, V c main_v26 (ix2 0 q) = w.ga q
  h11 : ∀ q, V c main_v27 (ix2 0 q) = w.be q

/-- The body's output over abstract blocks that read as the stage's inputs. -/
theorem out_stage (c : Dev nD) (i : grid1.Coords) (a1) (ha1) (a2) (ha2) (a3) (ha3) (a4) (ha4) (a5) (ha5) (a6) (ha6) (a7) (ha7) (a8) (ha8) (a9) (ha9)
    (a10) (ha10) (a11) (ha11) (a12) (ha12) (a13) (ha13)
    (x0 : Vec Ideal S1x512x1024 .f32) (x1 x2 : Vec Ideal S1x1x512 .f32) (x3 : Vec Ideal S1x1x128 .i32) (x4 x5 : Vec Ideal S1x1x128 .f32)
    (x6 : Vec Ideal S1x24x128 .i32) (x7 x8 : Vec Ideal S1026x1024 .f32) (x9 x10 x11 : Vec Ideal S1x1024 .f32)
    {w : Wts} (hw : w.IsReal) {F : Fin 512 → Fin 1024 → EReal} {P : Fin 512 → Fin 2 → EReal} {a : Fin 128 → BitVec 32}
    {nb : Fin 24 → Fin 128 → BitVec 32} (hF : ∀ n d, IsR (F n d)) (hP : ∀ n d, IsR (P n d)) (ha : ∀ r, (a r).toNat < 512) (hnb : ∀ j r, (nb j r).toNat < 512)
    (h0 : ∀ n d, x0 (ix3 0 n d) = F n d) (h1 : ∀ n, x1 (ix3 0 0 n) = P n 0) (h2 : ∀ n, x2 (ix3 0 0 n) = P n 1)
    (h3 : ∀ r, x3 (ix3 0 0 r) = a r) (h4 : ∀ r, x4 (ix3 0 0 r) = P (pick 512 (a r)) 0) (h5 : ∀ r, x5 (ix3 0 0 r) = P (pick 512 (a r)) 1)
    (h6 : ∀ j r, x6 (ix3 0 j r) = nb j r) (h7 : ∀ d q, x7 (ix2 d q) = mall w.dw w.aw d q)
    (h8 : ∀ (d : Fin 1026) (q : Fin 1024), x8 (ix2 d q) = w.aw q ⟨1026 + d.val, by omega⟩)
    (h9 : ∀ q, x9 (ix2 0 q) = cvec w.db w.aw w.ab q) (h10 : ∀ q, x10 (ix2 0 q) = w.ga q) (h11 : ∀ q, x11 (ix2 0 q) = w.be q)
    (r : Fin 128) (q : Fin 1024) :
    out1_A_12 c i a1 ha1 a2 ha2 a3 ha3 a4 ha4 a5 ha5 a6 ha6 a7 ha7 a8 ha8 a9 ha9 a10 ha10 a11 ha11 a12 ha12 a13 ha13
        x0 x1 x2 x3 x4 x5 x6 x7 x8 x9 x10 x11 (ix3 0 r q)
      = stage w F P (pick 512 (a r)) (fun j => pick 512 (nb j r)) q := by
  have hf : (x3 (ix3 0 0 r) : BitVec 32).toNat < 512 := by rw [h3]; exact ha r
  have hi : ∀ j : Fin 24, (x6 (ix3 0 j r) : BitVec 32).toNat < 512 := by intro j; rw [h6]; exact hnb j r
  have ef : (⟨_, hf⟩ : Fin 512) = pick 512 (a r) := by rw [pick_eq (ha r)]; exact Fin.ext (congrArg BitVec.toNat (h3 r))
  have ei : ∀ j, (⟨_, hi j⟩ : Fin 512) = pick 512 (nb j r) := by
    intro j; rw [pick_eq (hnb j r)]; exact Fin.ext (congrArg BitVec.toNat (h6 j r))
  rw [out_eq c i a1 ha1 a2 ha2 a3 ha3 a4 ha4 a5 ha5 a6 ha6 a7 ha7 a8 ha8 a9 ha9 a10 ha10 a11 ha11 a12 ha12 a13 ha13
    x0 x1 x2 x3 x4 x5 x6 x7 x8 x9 x10 x11 r q P h1 h2 hf hi (by rw [h4, ef]) (by rw [h5, ef])]
  rw [← stage_of_hK hw hF hP]
  simp only [ef, ei, h0, h7, h8, h9, h10, h11]

variable {V}

/-- The call's output array. -/
theorem arr {c : Dev nD} {w F P a nb} (h : Finds V c w F P a nb) : (dat1 V c).arrAt 12 cfg1.N
    = (fun y => fea0 w F P a nb (y 0) (y 1) (y 2) : (⟨S32x128x1024, .f32⟩ : BufTy).Contents (Elt Ideal)) := by
  refine (dat1 V c).arrAt_eq_of_covers 12 _ (by decide +kernel) fun t _ y => ?_
  blk_simp
  rw [after1_12]
  unfold outsAt1
  have hy : y = (ix3 0 (y 1) (y 2) : S1x128x1024.Idx) := by
    blk_ext
  have e0 : ((win1_12.blk t).view.emb y) 0 = bat t := by refine Fin.ext ?_; blk_simp [idx t]; try omega
  have e1 : ((win1_12.blk t).view.emb y) 1 = y 1 := by refine Fin.ext ?_; blk_simp [idx t]; try omega
  have e2 : ((win1_12.blk t).view.emb y) 2 = y 2 := by refine Fin.ext ?_; blk_simp [idx t]; try omega
  have key := out_stage c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) h.wreal (h.freal (bat t)) (h.preal (bat t))
    (fun r => h.ha r (bat t)) (fun j r => h.hnb j (bat t) r)
    (fun n d => (blk0 V c t n d).trans (h.h0 _ n d)) (fun n => (blk1 V c t n).trans (h.h1 _ n)) (fun n => (blk2 V c t n).trans (h.h2 _ n))
    (fun r => (blk3 V c t r).trans (h.h3 _ r)) (fun r => (blk4 V c t r).trans (h.h4 _ r)) (fun r => (blk5 V c t r).trans (h.h5 _ r))
    (fun j r => (blk6 V c t j r).trans (h.h6 _ j r)) (fun d q => (blk7 V c t d q).trans (h.h7 d q)) (fun d q => (blk8 V c t d q).trans (h.h8 d q))
    (fun q => (blk9 V c t q).trans (h.h9 q)) (fun q => (blk10 V c t q).trans (h.h10 q)) (fun q => (blk11 V c t q).trans (h.h11 q))
    (y 1) (y 2)
  rw [e0, e1, e2, hy]
  exact key

end Cert.KernelIdeal.ValA
-- ==== Proof.StageB.lean ====
/-
  The second stage's kernel: what one grid point leaves at a row and a channel, as the mean of the normalised
  activations of `Real.lean`.
-/
module

public import proofs.«01_k».proof.Proof.Gen.KernelIdeal.Frame
public import proofs.«01_k».proof.Proof.Real
public import Idealize.ShloMosaic.Lib.Pointwise
public import Idealize.ShloMosaic.Lib.Pipeline.ValueKit

@[expose] public section
set_option maxRecDepth 16384

noncomputable section
open Idealize.ShloMosaic Idealize.ShloMosaic.TcCoe Idealize.SL.Sem
open Idealize.ShloMosaic.Pipeline (Dat)

namespace Cert.KernelIdeal.ValB
open Cert.KernelIdeal Cert.KernelIdeal.Gen Cert.Math

/-- The one-hot comparison of the vector code is `hot`. -/
theorem hot_def (x : ℕ) (w : BitVec 32) :
    FloatOps.sitofp (F := Ideal) FTy.f32 (BitVec.setWidth 32 (IntOp.cmpi CmpIPredicate.eq (BitVec.ofNat 32 x) w)) = hot x w := rfl

/-- The named reciprocal is 1/24. -/
theorem inv_k : Named.named (F := Ideal) κ "inv_k" (φ := FTy.f32) 0x3D2AAAAB#32 = ((1 / 24 : ℝ) : EReal) := rfl

/-- The points' products, at a point and a channel. -/
theorem pay3 (v0 v2 v4) (x7 : Vec Ideal S1026x1024 .f32) (r : Fin 128) (q : Fin 1024) :
    k2_pay3 (F := Ideal) v0 v2 v4
        (View.ld x7 (Rect.unit ![0, 0] ![1024, 1024] inb_S1026x1024_S1024x1024_0_0))
        (View.ld x7 (Rect.unit ![1024, 0] ![1, 1024] inb_S1026x1024_S1x1024_1024_0))
        (View.ld x7 (Rect.unit ![1025, 0] ![1, 1024] inb_S1026x1024_S1x1024_1025_0)) (ix2 r q)
      = proj (fun d q => x7 (ix2 d q)) (fun d => v0 (ix3 0 r d)) (v2 (ix3 0 0 r)) (v4 (ix3 0 0 r)) q := by
  pointwise [k2_pay3, k2_pay2]
  rfl

theorem pay5 (v0 v23) (r : Fin 32) (q : Fin 1024) (hf : (v23 (ix3 0 0 r) : BitVec 32).toNat < 128) :
    k2_pay5 (F := Ideal) v0 v23 (ix2 r q) = v0 (ix3 0 ⟨_, hf⟩ q) := by
  pointwise [k2_pay5, k2_pay4, k2_pay2]
  simp only [hot_def]
  rw [sum_hot (by norm_num) _ hf (fun x => v0 (ix3 0 x q))]

theorem pay6 (v0 v2 v4 v6 v10 v17 v23) (r : Fin 32) (q : Fin 1024) (hf : (v23 (ix3 0 0 r) : BitVec 32).toNat < 128) :
    k2_pay6 (F := Ideal) v0 v2 v4 v6 v10 v17 v23 (ix2 r q) = k2_pay3 v0 v2 v4 v6 v10 v17 (ix2 ⟨_, hf⟩ q) := by
  pointwise [k2_pay6, k2_pay4]
  simp only [hot_def]
  rw [sum_hot (by norm_num) _ hf (fun x => k2_pay3 v0 v2 v4 v6 v10 v17 (ix2 x q))]

theorem pay9 (v22 v31 v32 v34 v35) (x8 : Vec Ideal S1026x1024 .f32) (v55 v59 v61 acc row) (r : Fin 32) (q : Fin 1024)
    (hi : (row (ix3 0 0 r) : BitVec 32).toNat < 128) :
    k2_pay9 (F := Ideal) v22 (iota Kind.tc S32x128 32 [1] iota_S32x128_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 acc row (ix2 r q)
     = acc (ix2 r q) + (ln (fun q => max (v22 (ix2 ⟨_, hi⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) := by
  pointwise [k2_pay9]
  simp only [hot_def]
  simp only [fun q => sum_hot (by norm_num) _ hi (fun x => v22 (ix2 x q))]
  rw [add_assoc]
  rfl

variable {F : FTy → Type} [FloatOps F] [Named F]

/-- Row `k` of the neighbours' index block. -/
def rowOf (x6 : Vec F S1x24x32 .i32) (k : Fin k2_t1_loop.trips) : Vec F S1x1x32 .i32 :=
  fun y => x6 (ix3 0 ⟨k.val, Nat.lt_of_lt_of_le k.isLt k2_t1_abs.2.1⟩ (y 2))

/-- One trip of the neighbours' loop. -/
theorem trip (c : Dev nD) (bd) (i : grid2.Coords) (a1) (h1) (a2) (h2) (a3) (h3) (a4) (h4) (a5) (h5) (a6) (h6)
    (a7 : Memref sig .tc .vmem S1x24x32 .i32) (h7 : a7.IsWhole) (a8) (h8) (a9) (h9) (a10) (h10) (a11) (h11) (a12) (h12) (a13) (h13)
    (v22 v25 v31 v32 v34 v35 v37 v41 v48 v55 v59 v61) (x6) (k : Fin k2_t1_loop.trips) (acc) :
    tripR_k2_t1 (F := F) Variants.none c bd i a1 h1 a2 h2 a3 h3 a4 h4 a5 h5 a6 h6 a7 h7 a8 h8 a9 h9 a10 h10 a11 h11 a12 h12 a13 h13
      v22 v25 v31 v32 v34 v35 v37 v41 v48 v55 v59 v61 (h7.unread x6) k acc
      = k2_pay9 v22 v25 v31 v32 v34 v35 v37 v41 v48 v55 v59 v61 acc (rowOf x6 k) := by
  unfold tripR_k2_t1 trip_k2_t1
  dsimp only
  congr 1
  rw [View.readAt_eq_ld, h7.read_unread]
  funext y
  unfold rowOf
  refine View.ld_unit_apply_of _ _ _ _ _ _ fun a => ?_
  have e0 : k2_off1 k 0 = 0 := congrFun (k2_off1_eq k) 0
  have e1 : k2_off1 k 1 = k.val := congrFun (k2_off1_eq k) 1
  have e2 : k2_off1 k 2 = 0 := congrFun (k2_off1_eq k) 2
  have y0 : (y 0 : Nat) < 1 := (y 0).isLt
  have y1 : (y 1 : Nat) < 1 := (y 1).isLt
  match a with
  | ⟨0, _⟩ => show 0 = k2_off1 k 0 + (y 0 : Nat); omega
  | ⟨1, _⟩ => show k.val = k2_off1 k 1 + (y 1 : Nat); omega
  | ⟨2, _⟩ => show (y 2 : Nat) = k2_off1 k 2 + (y 2 : Nat); omega

theorem trips_eq : k2_t1_loop.trips = 24 := by decide +kernel

/-- The neighbours' loop, at a row and a channel: the sum over the neighbours. -/
theorem loop (c : Dev nD) (bd) (i : grid2.Coords) (a1) (h1) (a2) (h2) (a3) (h3) (a4) (h4) (a5) (h5) (a6) (h6)
    (a7 : Memref sig .tc .vmem S1x24x32 .i32) (h7 : a7.IsWhole) (a8) (h8) (a9) (h9) (a10) (h10) (a11) (h11) (a12) (h12) (a13) (h13)
    (v22 v31 v32 v34 v35) (x8 : Vec Ideal S1026x1024 .f32) (v55 v59 v61) (x6 : Vec Ideal S1x24x32 .i32) (r : Fin 32) (q : Fin 1024)
    (hi : ∀ j : Fin 24, (x6 (ix3 0 j r) : BitVec 32).toNat < 128) :
    st_k2_t1 (F := Ideal) Variants.none c bd i a1 h1 a2 h2 a3 h3 a4 h4 a5 h5 a6 h6 a7 h7 a8 h8 a9 h9 a10 h10 a11 h11 a12 h12 a13 h13
      v22 (iota Kind.tc S32x128 32 [1] iota_S32x128_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k2_pay8 24 (ix2 r q)
     = ∑ j : Fin 24, (ln (fun q => max (v22 (ix2 ⟨_, hi j⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) := by
  have hx : ∀ j : Fin 24, (if h : j.val < 24 then (ln (fun q => max (v22 (ix2 ⟨_, hi ⟨j.val, h⟩⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) else 0) = _ := fun j => dif_pos j.isLt
  rw [← Finset.sum_congr rfl fun j _ => hx j]
  refine acc_eq_sum (a := fun n => st_k2_t1 (F := Ideal) Variants.none c bd i a1 h1 a2 h2 a3 h3 a4 h4 a5 h5 a6 h6 a7 h7 a8 h8 a9 h9 a10 h10 a11 h11 a12 h12 a13 h13
      v22 (iota Kind.tc S32x128 32 [1] iota_S32x128_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k2_pay8 n (ix2 r q))
    (x := fun n => if h : n < 24 then (ln (fun q => max (v22 (ix2 ⟨_, hi ⟨n, h⟩⟩ q) +
         ((proj (fun d q => x8 (ix2 d q)) (fun d => v31 (ix2 r d)) (v34 (ix1 r)) (v35 (ix3 0 0 r)) q - v32 (ix2 r q))
           + v55 (ix2 0 q))) 0) q * v59 (ix2 0 q) + v61 (ix2 0 q)) else 0) ?_ ?_
  · dsimp only
    rw [st_k2_t1_zero]
    pointwise [k2_pay8]
  · intro k hk
    dsimp only
    rw [dif_pos hk]
    have hk' : k < k2_t1_loop.trips := trips_eq.symm ▸ hk
    have hs := st_k2_t1_succ (F := Ideal) Variants.none c bd i a1 h1 a2 h2 a3 h3 a4 h4 a5 h5 a6 h6 a7 h7 a8 h8 a9 h9 a10 h10 a11 h11 a12 h12 a13 h13
      v22 (iota Kind.tc S32x128 32 [1] iota_S32x128_d1_w32) v31 v32 v34 v35
      (View.ld x8 (Rect.unit ![0, 0] ![1024, 1024] inb_S1026x1024_S1024x1024_0_0))
      (View.ld x8 (Rect.unit ![1024, 0] ![1, 1024] inb_S1026x1024_S1x1024_1024_0))
      (View.ld x8 (Rect.unit ![1025, 0] ![1, 1024] inb_S1026x1024_S1x1024_1025_0)) v55 v59 v61 (h7.unread x6) k2_pay8 ⟨k, hk'⟩
    dsimp only at hs
    rw [hs, trip]
    exact pay9 v22 v31 v32 v34 v35 x8 v55 v59 v61 _ (rowOf x6 ⟨k, hk'⟩) r q (hi ⟨k, hk⟩)

/-- What the body leaves at a row and a channel, from its input blocks: where the blocks' index words name points and
    the anchor coordinates are those of the sampled points, the mean over the neighbours of the normalised activations. -/
theorem out_eq (c : Dev nD) (i : grid2.Coords) (a1) (ha1) (a2) (ha2) (a3) (ha3) (a4) (ha4) (a5) (ha5) (a6) (ha6) (a7) (ha7) (a8) (ha8) (a9) (ha9)
    (a10) (ha10) (a11) (ha11) (a12) (ha12) (a13) (ha13)
    (x0 : Vec Ideal S1x128x1024 .f32) (x1 x2 : Vec Ideal S1x1x128 .f32) (x3 : Vec Ideal S1x1x32 .i32) (x4 x5 : Vec Ideal S1x1x32 .f32)
    (x6 : Vec Ideal S1x24x32 .i32) (x7 x8 : Vec Ideal S1026x1024 .f32) (x9 x10 x11 : Vec Ideal S1x1024 .f32)
    (r : Fin 32) (q : Fin 1024) (pts : Fin 128 → Fin 2 → EReal)
    (h1 : ∀ i, x1 (ix3 0 0 i) = pts i 0) (h2 : ∀ i, x2 (ix3 0 0 i) = pts i 1)
    (hf : (x3 (ix3 0 0 r) : BitVec 32).toNat < 128) (hi : ∀ j : Fin 24, (x6 (ix3 0 j r) : BitVec 32).toNat < 128)
    (h4 : x4 (ix3 0 0 r) = pts ⟨_, hf⟩ 0) (h5 : x5 (ix3 0 0 r) = pts ⟨_, hf⟩ 1) :
    out2_A_12 c i a1 ha1 a2 ha2 a3 ha3 a4 ha4 a5 ha5 a6 ha6 a7 ha7 a8 ha8 a9 ha9 a10 ha10 a11 ha11 a12 ha12 a13 ha13
        x0 x1 x2 x3 x4 x5 x6 x7 x8 x9 x10 x11 (ix3 0 r q)
      = (∑ j : Fin 24, (ln (hK (fun d q => x7 (ix2 d q)) (fun d q => x8 (ix2 d q)) (fun q => x9 (ix2 0 q))
            (fun d => x0 (ix3 0 ⟨_, hi j⟩ d)) (fun d => x0 (ix3 0 ⟨_, hf⟩ d)) (pts ⟨_, hi j⟩) (pts ⟨_, hf⟩)) q
              * x10 (ix2 0 q) + x11 (ix2 0 q))) * ((1 / 24 : ℝ) : EReal) := by
  frame_out
  pointwise [k2_pay1, k2_pay10]
  rw [inv_k]
  congr 1
  rw [show Scf.trips (0#32) (Scalar.addi 0#32 24#32) 1#32 = 24 from trips_eq]
  rw [loop (hi := hi)]
  refine Finset.sum_congr rfl fun j _ => ?_
  congr 2
  refine congrArg (fun h => ln h q) (funext fun q => ?_)
  rw [pay3, pay6 (hf := hf), pay3]
  simp only [pay5 (hf := hf)]
  pointwise [k2_pay7]
  rw [h1, h2, h1, h2, h4, h5]
  rfl

end Cert.KernelIdeal.ValB
-- ==== Proof.ArrB.lean ====
/-
  The second stage's output array: over the contents its call finds, the stage's features.
-/
module

public import proofs.«01_k».proof.Proof.StageB
public import proofs.«01_k».proof.Proof.Stage
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.ValB
open Cert.KernelIdeal Cert.KernelIdeal.Gen Cert.Math
variable (V : (c : Dev nD) → (b : Ref sig .tc) → Buf (Elt Ideal) ((c : Thread nD τ).loc b))

/-- The windows' index maps: a batch per grid point, and the weights whole. -/
theorem idx : ∀ t : Fin cfg2.N, win2_0.index t = ![t.val, 0, 0] ∧ win2_1.index t = ![t.val, 0, 0] ∧ win2_2.index t = ![t.val, 0, 0] ∧ win2_3.index t = ![t.val, 0, 0]
    ∧ win2_4.index t = ![t.val, 0, 0] ∧ win2_5.index t = ![t.val, 0, 0] ∧ win2_6.index t = ![t.val, 0, 0] ∧ win2_7.index t = ![0, 0]
    ∧ win2_8.index t = ![0, 0] ∧ win2_9.index t = ![0, 0] ∧ win2_10.index t = ![0, 0] ∧ win2_11.index t = ![0, 0] ∧ win2_12.index t = ![t.val, 0, 0] :=
  (by decide +kernel : ∀ t : Fin grid2.N, _)

/-- A grid point's batch. -/
abbrev bat (t : Fin cfg2.N) : Fin 32 := ⟨t.val, t.isLt⟩

/-- Each input block is a batch of its array. -/
theorem blk0 (c : Dev nD) (t : Fin cfg2.N) (n d) : iblk2 V c 0 t (ix3 0 n d) = V c main_v28 (ix3 (bat t) n d) := by
  blk_ext [iblk2, idx t]
theorem blk1 (c : Dev nD) (t : Fin cfg2.N) (n) : iblk2 V c 1 t (ix3 0 0 n) = V c main_v13 (ix3 (bat t) 0 n) := by
  blk_ext [iblk2, idx t]
theorem blk2 (c : Dev nD) (t : Fin cfg2.N) (n) : iblk2 V c 2 t (ix3 0 0 n) = V c main_v15 (ix3 (bat t) 0 n) := by
  blk_ext [iblk2, idx t]
theorem blk3 (c : Dev nD) (t : Fin cfg2.N) (n) : iblk2 V c 3 t (ix3 0 0 n) = V c main_v18 (ix3 (bat t) 0 n) := by
  blk_ext [iblk2, idx t]
theorem blk4 (c : Dev nD) (t : Fin cfg2.N) (n) : iblk2 V c 4 t (ix3 0 0 n) = V c main_v20 (ix3 (bat t) 0 n) := by
  blk_ext [iblk2, idx t]
theorem blk5 (c : Dev nD) (t : Fin cfg2.N) (n) : iblk2 V c 5 t (ix3 0 0 n) = V c main_v22 (ix3 (bat t) 0 n) := by
  blk_ext [iblk2, idx t]
theorem blk6 (c : Dev nD) (t : Fin cfg2.N) (n d) : iblk2 V c 6 t (ix3 0 n d) = V c main_v23 (ix3 (bat t) n d) := by
  blk_ext [iblk2, idx t]
theorem blk7 (c : Dev nD) (t : Fin cfg2.N) (n d) : iblk2 V c 7 t (ix2 n d) = V c main_v4_2 (ix2 n d) := by
  blk_ext [iblk2, idx t]
theorem blk8 (c : Dev nD) (t : Fin cfg2.N) (n d) : iblk2 V c 8 t (ix2 n d) = V c main_v8 (ix2 n d) := by
  blk_ext [iblk2, idx t]
theorem blk9 (c : Dev nD) (t : Fin cfg2.N) (d) : iblk2 V c 9 t (ix2 0 d) = V c main_v4_3 (ix2 0 d) := by
  blk_ext [iblk2, idx t]
theorem blk10 (c : Dev nD) (t : Fin cfg2.N) (d) : iblk2 V c 10 t (ix2 0 d) = V c main_v29 (ix2 0 d) := by
  blk_ext [iblk2, idx t]
theorem blk11 (c : Dev nD) (t : Fin cfg2.N) (d) : iblk2 V c 11 t (ix2 0 d) = V c main_v30 (ix2 0 d) := by
  blk_ext [iblk2, idx t]

/-- What the stage's call finds in its arrays: real features and points, index words in range, each anchor's own
    coordinates, and the weights combined. -/
structure Finds (c : Dev nD) (w : Wts) (F : Fin 32 → Fin 128 → Fin 1024 → EReal) (P : Fin 32 → Fin 128 → Fin 2 → EReal)
    (a : Fin 32 → Fin 32 → BitVec 32) (nb : Fin 24 → Fin 32 → Fin 32 → BitVec 32) : Prop where
  wreal : w.IsReal
  freal : ∀ b n d, IsR (F b n d)
  preal : ∀ b n d, IsR (P b n d)
  ha : ∀ r b, (a r b).toNat < 128
  hnb : ∀ j b r, (nb j b r).toNat < 128
  h0 : ∀ b n d, V c main_v28 (ix3 b n d) = F b n d
  h1 : ∀ b n, V c main_v13 (ix3 b 0 n) = P b n 0
  h2 : ∀ b n, V c main_v15 (ix3 b 0 n) = P b n 1
  h3 : ∀ b r, V c main_v18 (ix3 b 0 r) = a r b
  h4 : ∀ b r, V c main_v20 (ix3 b 0 r) = P b (pick 128 (a r b)) 0
  h5 : ∀ b r, V c main_v22 (ix3 b 0 r) = P b (pick 128 (a r b)) 1
  h6 : ∀ b j r, V c main_v23 (ix3 b j r) = nb j b r
  h7 : ∀ d q, V c main_v4_2 (ix2 d q) = mall w.dw w.aw d q
  h8 : ∀ (d : Fin 1026) (q : Fin 1024), V c main_v8 (ix2 d q) = w.aw q ⟨1026 + d.val, by omega⟩
  h9 : ∀ q, V c main_v4_3 (ix2 0 q) = cvec w.db w.aw w.ab q
  h10 : ∀ q, V c main_v29 (ix2 0 q) = w.ga q
  h11 : ∀ q, V c main_v30 (ix2 0 q) = w.be q

/-- The body's output over abstract blocks that read as the stage's inputs. -/
theorem out_stage (c : Dev nD) (i : grid2.Coords) (a1) (ha1) (a2) (ha2) (a3) (ha3) (a4) (ha4) (a5) (ha5) (a6) (ha6) (a7) (ha7) (a8) (ha8) (a9) (ha9)
    (a10) (ha10) (a11) (ha11) (a12) (ha12) (a13) (ha13)
    (x0 : Vec Ideal S1x128x1024 .f32) (x1 x2 : Vec Ideal S1x1x128 .f32) (x3 : Vec Ideal S1x1x32 .i32) (x4 x5 : Vec Ideal S1x1x32 .f32)
    (x6 : Vec Ideal S1x24x32 .i32) (x7 x8 : Vec Ideal S1026x1024 .f32) (x9 x10 x11 : Vec Ideal S1x1024 .f32)
    {w : Wts} (hw : w.IsReal) {F : Fin 128 → Fin 1024 → EReal} {P : Fin 128 → Fin 2 → EReal} {a : Fin 32 → BitVec 32}
    {nb : Fin 24 → Fin 32 → BitVec 32} (hF : ∀ n d, IsR (F n d)) (hP : ∀ n d, IsR (P n d)) (ha : ∀ r, (a r).toNat < 128) (hnb : ∀ j r, (nb j r).toNat < 128)
    (h0 : ∀ n d, x0 (ix3 0 n d) = F n d) (h1 : ∀ n, x1 (ix3 0 0 n) = P n 0) (h2 : ∀ n, x2 (ix3 0 0 n) = P n 1)
    (h3 : ∀ r, x3 (ix3 0 0 r) = a r) (h4 : ∀ r, x4 (ix3 0 0 r) = P (pick 128 (a r)) 0) (h5 : ∀ r, x5 (ix3 0 0 r) = P (pick 128 (a r)) 1)
    (h6 : ∀ j r, x6 (ix3 0 j r) = nb j r) (h7 : ∀ d q, x7 (ix2 d q) = mall w.dw w.aw d q)
    (h8 : ∀ (d : Fin 1026) (q : Fin 1024), x8 (ix2 d q) = w.aw q ⟨1026 + d.val, by omega⟩)
    (h9 : ∀ q, x9 (ix2 0 q) = cvec w.db w.aw w.ab q) (h10 : ∀ q, x10 (ix2 0 q) = w.ga q) (h11 : ∀ q, x11 (ix2 0 q) = w.be q)
    (r : Fin 32) (q : Fin 1024) :
    out2_A_12 c i a1 ha1 a2 ha2 a3 ha3 a4 ha4 a5 ha5 a6 ha6 a7 ha7 a8 ha8 a9 ha9 a10 ha10 a11 ha11 a12 ha12 a13 ha13
        x0 x1 x2 x3 x4 x5 x6 x7 x8 x9 x10 x11 (ix3 0 r q)
      = stage w F P (pick 128 (a r)) (fun j => pick 128 (nb j r)) q := by
  have hf : (x3 (ix3 0 0 r) : BitVec 32).toNat < 128 := by rw [h3]; exact ha r
  have hi : ∀ j : Fin 24, (x6 (ix3 0 j r) : BitVec 32).toNat < 128 := by intro j; rw [h6]; exact hnb j r
  have ef : (⟨_, hf⟩ : Fin 128) = pick 128 (a r) := by rw [pick_eq (ha r)]; exact Fin.ext (congrArg BitVec.toNat (h3 r))
  have ei : ∀ j, (⟨_, hi j⟩ : Fin 128) = pick 128 (nb j r) := by
    intro j; rw [pick_eq (hnb j r)]; exact Fin.ext (congrArg BitVec.toNat (h6 j r))
  rw [out_eq c i a1 ha1 a2 ha2 a3 ha3 a4 ha4 a5 ha5 a6 ha6 a7 ha7 a8 ha8 a9 ha9 a10 ha10 a11 ha11 a12 ha12 a13 ha13
    x0 x1 x2 x3 x4 x5 x6 x7 x8 x9 x10 x11 r q P h1 h2 hf hi (by rw [h4, ef]) (by rw [h5, ef])]
  rw [← stage_of_hK hw hF hP]
  simp only [ef, ei, h0, h7, h8, h9, h10, h11]

variable {V}

/-- The call's output array. -/
theorem arr {c : Dev nD} {w F P a nb} (h : Finds V c w F P a nb) : (dat2 V c).arrAt 12 cfg2.N
    = (fun y => fea1 w F P a nb (y 0) (y 1) (y 2) : (⟨S32x32x1024, .f32⟩ : BufTy).Contents (Elt Ideal)) := by
  refine (dat2 V c).arrAt_eq_of_covers 12 _ (by decide +kernel) fun t _ y => ?_
  blk_simp
  rw [after2_12]
  unfold outsAt2
  have hy : y = (ix3 0 (y 1) (y 2) : S1x32x1024.Idx) := by
    blk_ext
  have e0 : ((win2_12.blk t).view.emb y) 0 = bat t := by refine Fin.ext ?_; blk_simp [idx t]; try omega
  have e1 : ((win2_12.blk t).view.emb y) 1 = y 1 := by refine Fin.ext ?_; blk_simp [idx t]; try omega
  have e2 : ((win2_12.blk t).view.emb y) 2 = y 2 := by refine Fin.ext ?_; blk_simp [idx t]; try omega
  have key := out_stage c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t)
    (iblk2 V c 0 t) (iblk2 V c 1 t) (iblk2 V c 2 t) (iblk2 V c 3 t) (iblk2 V c 4 t) (iblk2 V c 5 t) (iblk2 V c 6 t) (iblk2 V c 7 t)
    (iblk2 V c 8 t) (iblk2 V c 9 t) (iblk2 V c 10 t) (iblk2 V c 11 t) h.wreal (h.freal (bat t)) (h.preal (bat t))
    (fun r => h.ha r (bat t)) (fun j r => h.hnb j (bat t) r)
    (fun n d => (blk0 V c t n d).trans (h.h0 _ n d)) (fun n => (blk1 V c t n).trans (h.h1 _ n)) (fun n => (blk2 V c t n).trans (h.h2 _ n))
    (fun r => (blk3 V c t r).trans (h.h3 _ r)) (fun r => (blk4 V c t r).trans (h.h4 _ r)) (fun r => (blk5 V c t r).trans (h.h5 _ r))
    (fun j r => (blk6 V c t j r).trans (h.h6 _ j r)) (fun d q => (blk7 V c t d q).trans (h.h7 d q)) (fun d q => (blk8 V c t d q).trans (h.h8 d q))
    (fun q => (blk9 V c t q).trans (h.h9 q)) (fun q => (blk10 V c t q).trans (h.h10 q)) (fun q => (blk11 V c t q).trans (h.h11 q))
    (y 1) (y 2)
  rw [e0, e1, e2, hy]
  exact key

end Cert.KernelIdeal.ValB
-- ==== Proof.Values.lean ====
/-
  The kernel's result array: the second stage of the first stage's features, over the arguments.
-/
module

public import proofs.«01_k».proof.Proof.Prep
public import proofs.«01_k».proof.Proof.HostOps
public import proofs.«01_k».proof.Proof.ArrA
public import proofs.«01_k».proof.Proof.ArrB

@[expose] public section
set_option maxRecDepth 16384
noncomputable section
open Idealize.ShloMosaic Idealize.ShloMosaic.TcCoe Idealize.SL.Sem
open Idealize.ShloMosaic.Pipeline (Dat)
namespace Cert.KernelIdeal.Val
open Cert.KernelIdeal Cert.KernelIdeal.Gen Cert.Math
variable (m : (ℓ : Loc nD τ sig) → Buf (Elt Ideal) ℓ) (ρ : Dev nD → PrngReg) (c : Dev nD)

/-- The first stage's weights. -/
def wts0 : Wts where
  dw e d := m ((c : Thread nD τ).loc main_arg10) (ix2 e d)
  db e := m ((c : Thread nD τ).loc main_arg11) (ix1 e)
  aw q e := m ((c : Thread nD τ).loc main_arg12) (ix2 q e)
  ab q := m ((c : Thread nD τ).loc main_arg13) (ix1 q)
  ga q := m ((c : Thread nD τ).loc main_arg14) (ix1 q)
  be q := m ((c : Thread nD τ).loc main_arg15) (ix1 q)
/-- The second stage's weights. -/
def wts1 : Wts where
  dw e d := m ((c : Thread nD τ).loc main_arg16) (ix2 e d)
  db e := m ((c : Thread nD τ).loc main_arg17) (ix1 e)
  aw q e := m ((c : Thread nD τ).loc main_arg18) (ix2 q e)
  ab q := m ((c : Thread nD τ).loc main_arg19) (ix1 q)
  ga q := m ((c : Thread nD τ).loc main_arg20) (ix1 q)
  be q := m ((c : Thread nD τ).loc main_arg21) (ix1 q)
/-- The features, points and index words of the arguments. -/
def F0 (b : Fin 32) (n : Fin 512) (d : Fin 1024) : EReal := m ((c : Thread nD τ).loc main_arg0) (ix3 b n d)
def P0 (b : Fin 32) (n : Fin 512) (d : Fin 2) : EReal := m ((c : Thread nD τ).loc main_arg1) (ix3 b n d)
def a0 (r : Fin 128) (b : Fin 32) : BitVec 32 := m ((c : Thread nD τ).loc main_arg2) (ix2 r b)
def nb0 (k : Fin 24) (b : Fin 32) (r : Fin 128) : BitVec 32 := m ((c : Thread nD τ).loc main_arg5) (ix3 k b r)
def a1 (r : Fin 32) (b : Fin 32) : BitVec 32 := m ((c : Thread nD τ).loc main_arg6) (ix2 r b)
def nb1 (k : Fin 24) (b : Fin 32) (r : Fin 32) : BitVec 32 := m ((c : Thread nD τ).loc main_arg9) (ix3 k b r)
/-- The first stage's features and points, on which the second works. -/
def F1 : Fin 32 → Fin 128 → Fin 1024 → EReal := fea0 (wts0 m c) (F0 m c) (P0 m c) (a0 m c) (nb0 m c)
def P1 : Fin 32 → Fin 128 → Fin 2 → EReal := pts1 (P0 m c) (a0 m c)

/-- The arguments as the precondition has them: real, in range, and the sampled coordinates those of the indices. -/
structure Good : Prop where
  w0 : (wts0 m c).IsReal
  w1 : (wts1 m c).IsReal
  f : ∀ b n d, IsR (F0 m c b n d)
  p : ∀ b n d, IsR (P0 m c b n d)
  a0 : ∀ r b, (a0 m c r b).toNat < 512
  nb0 : ∀ k b r, (nb0 m c k b r).toNat < 512
  a1 : ∀ r b, (a1 m c r b).toNat < 128
  nb1 : ∀ k b r, (nb1 m c k b r).toNat < 128
  np0 : ∀ r b, m ((c : Thread nD τ).loc main_arg3) (ix2 r b) = P1 m c b r 0
  np1 : ∀ r b, m ((c : Thread nD τ).loc main_arg4) (ix2 r b) = P1 m c b r 1
  sp0 : ∀ r b, m ((c : Thread nD τ).loc main_arg7) (ix2 r b) = P1 m c b (pick 128 (Val.a1 m c r b)) 0
  sp1 : ∀ r b, m ((c : Thread nD τ).loc main_arg8) (ix2 r b) = P1 m c b (pick 128 (Val.a1 m c r b)) 1

/-- An argument's entry, at each boundary. -/
theorem at1 {a : Ref sig .tc} (h : a ∈ argRefs) (i) : W1 m ρ c (Proc.devRef .tc a) i = m ((c : Thread nD τ).loc a) i := congrFun (W1_args m ρ c a h) i
theorem at2 {a : Ref sig .tc} (h : a ∈ argRefs) (i) : W2 m ρ c (Proc.devRef .tc a) i = m ((c : Thread nD τ).loc a) i := congrFun (W2_args m ρ c a h) i
theorem at3 {a : Ref sig .tc} (h : a ∈ argRefs) (i) : W3 m ρ c (Proc.devRef .tc a) i = m ((c : Thread nD τ).loc a) i := congrFun (W3_args m ρ c a h) i
theorem at4 {a : Ref sig .tc} (h : a ∈ argRefs) (i) : W4 m ρ c (Proc.devRef .tc a) i = m ((c : Thread nD τ).loc a) i := congrFun (W4_args m ρ c a h) i

/-- The first call's outputs over the arguments. -/
theorem mall0 (d q) : W2 m ρ c (Proc.devRef .tc main_v4_0) (ix2 d q) = mall (wts0 m c).dw (wts0 m c).aw d q := by
  refine (congrFun (W2_arr m ρ c 8) (ix2 d q)).trans ((congrFun (prep8 (V1 m ρ) c) (ix2 d q)).trans ?_)
  show mall (fun e d => W1 m ρ c (Proc.devRef .tc main_arg10) (ix2 e d)) (fun q e => W1 m ρ c (Proc.devRef .tc main_arg12) (ix2 q e)) d q = _
  simp only [at1 m ρ c (a := main_arg10) (by decide), at1 m ρ c (a := main_arg12) (by decide)]
  rfl
theorem mall1 (d q) : W2 m ρ c (Proc.devRef .tc main_v4_2) (ix2 d q) = mall (wts1 m c).dw (wts1 m c).aw d q := by
  refine (congrFun (W2_arr m ρ c 10) (ix2 d q)).trans ((congrFun (prep10 (V1 m ρ) c) (ix2 d q)).trans ?_)
  show mall (fun e d => W1 m ρ c (Proc.devRef .tc main_arg16) (ix2 e d)) (fun q e => W1 m ρ c (Proc.devRef .tc main_arg18) (ix2 q e)) d q = _
  simp only [at1 m ρ c (a := main_arg16) (by decide), at1 m ρ c (a := main_arg18) (by decide)]
  rfl
theorem cvec0 (q) : W2 m ρ c (Proc.devRef .tc main_v4_1) (ix2 0 q) = cvec (wts0 m c).db (wts0 m c).aw (wts0 m c).ab q := by
  refine (congrFun (W2_arr m ρ c 9) (ix2 0 q)).trans ((congrFun (prep9 (V1 m ρ) c) (ix2 0 q)).trans ?_)
  show cvec (fun e => W1 m ρ c (Proc.devRef .tc main_v0) (ix2 0 e)) (fun q e => W1 m ρ c (Proc.devRef .tc main_arg12) (ix2 q e))
    (fun q => W1 m ρ c (Proc.devRef .tc main_v1) (ix2 0 q)) q = _
  have e0 : ∀ e, W1 m ρ c (Proc.devRef .tc main_v0) (ix2 0 e) = _ := fun e => host0_v0 (W0 m ρ c) e
  have e1 : ∀ e, W1 m ρ c (Proc.devRef .tc main_v1) (ix2 0 e) = _ := fun e => host0_v1 (W0 m ρ c) e
  simp only [at1 m ρ c (a := main_arg12) (by decide), e0, e1]
  rfl
theorem cvec1 (q) : W2 m ρ c (Proc.devRef .tc main_v4_3) (ix2 0 q) = cvec (wts1 m c).db (wts1 m c).aw (wts1 m c).ab q := by
  refine (congrFun (W2_arr m ρ c 11) (ix2 0 q)).trans ((congrFun (prep11 (V1 m ρ) c) (ix2 0 q)).trans ?_)
  show cvec (fun e => W1 m ρ c (Proc.devRef .tc main_v2) (ix2 0 e)) (fun q e => W1 m ρ c (Proc.devRef .tc main_arg18) (ix2 q e))
    (fun q => W1 m ρ c (Proc.devRef .tc main_v3) (ix2 0 q)) q = _
  have e0 : ∀ e, W1 m ρ c (Proc.devRef .tc main_v2) (ix2 0 e) = _ := fun e => host0_v2 (W0 m ρ c) e
  have e1 : ∀ e, W1 m ρ c (Proc.devRef .tc main_v3) (ix2 0 e) = _ := fun e => host0_v3 (W0 m ρ c) e
  simp only [at1 m ρ c (a := main_arg18) (by decide), e0, e1]
  rfl

variable {m c}

/-- What the first stage's call finds. -/
theorem findsA (h : Good m c) : ValA.Finds (V3 m ρ) c (wts0 m c) (F0 m c) (P0 m c) (a0 m c) (nb0 m c) where
  wreal := h.w0
  freal := h.f
  preal := h.p
  ha := h.a0
  hnb := h.nb0
  h0 b n d := at3 m ρ c (by decide) _
  h1 b n := (host1_v24 _ b n).trans (at2 m ρ c (by decide) _)
  h2 b n := (host1_v25 _ b n).trans (at2 m ρ c (by decide) _)
  h3 b r := (host1_v11 _ b r).trans (at2 m ρ c (by decide) _)
  h4 b r := (host1_v13 _ b r).trans ((at2 m ρ c (by decide) _).trans (h.np0 r b))
  h5 b r := (host1_v15 _ b r).trans ((at2 m ρ c (by decide) _).trans (h.np1 r b))
  h6 b j r := (host1_v16 _ b j r).trans (at2 m ρ c (by decide) _)
  h7 d q := (congrFun (W3_of m ρ c main_v4_0 (by decide)) _).trans (mall0 m ρ c d q)
  h8 d q := (host1_v6 _ d q).trans (at2 m ρ c (by decide) _)
  h9 q := (congrFun (W3_of m ρ c main_v4_1 (by decide)) _).trans (cvec0 m ρ c q)
  h10 q := (host1_v26 _ q).trans (at2 m ρ c (by decide) _)
  h11 q := (host1_v27 _ q).trans (at2 m ρ c (by decide) _)

/-- The first stage's features are real. -/
theorem f1_real (h : Good m c) (b n d) : IsR (F1 m c b n d) := isR_stage h.w0 (h.f b) (h.p b) _ _ d

/-- A buffer the second stage's host operations and the first stage's call leave alone. -/
theorem W5_W3 (r : Ref sig .tc) (h2 : r ∉ hostOps2_W) (h : ∀ w : Fin cfg1.W, Pipeline.arrRef spec1 w = r → (cfg1.win w).isOut = false) (i) :
    W5 m ρ c (Proc.devRef .tc r) i = W3 m ρ c (Proc.devRef .tc r) i :=
  congrFun ((W5_of m ρ c r h2).trans (W4_of m ρ c r h)) i

/-- What the second stage's call finds. -/
theorem findsB (h : Good m c) : ValB.Finds (V5 m ρ) c (wts1 m c) (F1 m c) (P1 m c) (a1 m c) (nb1 m c) where
  wreal := h.w1
  freal := f1_real h
  preal b n d := h.p b _ d
  ha := h.a1
  hnb := h.nb1
  h0 b n d := (congrFun (W5_of m ρ c main_v28 (by decide)) _).trans ((congrFun (W4_arr m ρ c 12) _).trans (congrFun (ValA.arr (findsA ρ h)) (ix3 b n d)))
  h1 b n := (W5_W3 ρ main_v13 (by decide) (by decide) _).trans ((host1_v13 _ b n).trans ((at2 m ρ c (by decide) _).trans (h.np0 n b)))
  h2 b n := (W5_W3 ρ main_v15 (by decide) (by decide) _).trans ((host1_v15 _ b n).trans ((at2 m ρ c (by decide) _).trans (h.np1 n b)))
  h3 b r := (W5_W3 ρ main_v18 (by decide) (by decide) _).trans ((host1_v18 _ b r).trans (at2 m ρ c (by decide) _))
  h4 b r := (W5_W3 ρ main_v20 (by decide) (by decide) _).trans ((host1_v20 _ b r).trans ((at2 m ρ c (by decide) _).trans (h.sp0 r b)))
  h5 b r := (W5_W3 ρ main_v22 (by decide) (by decide) _).trans ((host1_v22 _ b r).trans ((at2 m ρ c (by decide) _).trans (h.sp1 r b)))
  h6 b j r := (W5_W3 ρ main_v23 (by decide) (by decide) _).trans ((host1_v23 _ b j r).trans (at2 m ρ c (by decide) _))
  h7 d q := (W5_W3 ρ main_v4_2 (by decide) (by decide) _).trans ((congrFun (W3_of m ρ c main_v4_2 (by decide)) _).trans (mall1 m ρ c d q))
  h8 d q := (W5_W3 ρ main_v8 (by decide) (by decide) _).trans ((host1_v8 _ d q).trans (at2 m ρ c (by decide) _))
  h9 q := (W5_W3 ρ main_v4_3 (by decide) (by decide) _).trans ((congrFun (W3_of m ρ c main_v4_3 (by decide)) _).trans (cvec1 m ρ c q))
  h10 q := (host2_v29 _ q).trans (at4 m ρ c (by decide) _)
  h11 q := (host2_v30 _ q).trans (at4 m ρ c (by decide) _)

/-- The result array. -/
theorem result (h : Good m c) : W6 m ρ c (Proc.devRef .tc main_v31)
    = (fun y => fea1 (wts1 m c) (F1 m c) (P1 m c) (a1 m c) (nb1 m c) (y 0) (y 1) (y 2) : (⟨S32x32x1024, .f32⟩ : BufTy).Contents (Elt Ideal)) :=
  (W6_arr m ρ c 12).trans (ValB.arr (findsB ρ h))

end Cert.KernelIdeal.Val
-- ==== Proof.Gather.lean ====
/-
  A gather along the middle axis of a rank-3 array, one index per batch and row, read at an index: the whole trailing
  axis of the named entry.
-/
module

public import Idealize.ShloMosaic.Lib.Pointwise

@[expose] public section
set_option maxRecDepth 16384

noncomputable section
open Idealize.ShloMosaic

namespace Cert.Math

variable {α : Type}

/-- The dimension numbers of a gather of `[B, R]` entries of `[B, N, C]` along its middle axis. -/
abbrev midDims (B N R C : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- The gather at `(b, r, c)`: the entry the index word at `(b, r)` names, when the word is in range. -/
theorem gather_mid {B N R C : Nat} (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ 32) (b : Fin B) (r : Fin R) (c : Fin C)
    (w : BitVec 32) (hidx : idx (ix3 b r 0) = w) (hN : N < 2 ^ 31) (hw : w.toNat < N) :
    Host.gather (midDims B N R C wf) x idx (ix3 b r c) = x (ix3 b ⟨w.toNat, hw⟩ c) := by
  unfold Host.gather
  congr 1
  funext a
  refine Fin.ext ?_
  show (midDims B N R C wf).start (ix3 b r c) idx a + (midDims B N R C wf).batchCoord (ix3 b r c) a
      + (midDims B N R C wf).offCoord (ix3 b r c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N R C wf).startIndexMap from List.mem_singleton.mpr rfl)]
    have hsi : (midDims B N R C wf).siIdx (ix3 b r c) ⟨List.idxOf (1 : Fin 3) (midDims B N R C wf).startIndexMap,
        List.idxOf_lt_length_iff.2 (List.mem_singleton.mpr rfl)⟩ = ix3 b r 0 := by
      funext d; refine Fin.ext ?_
      match d with
      | ⟨0, _⟩ => rfl
      | ⟨1, _⟩ => rfl
      | ⟨2, _⟩ => rfl
    rw [hsi, hidx]
    show min w.toInt.toNat (N - 1) = w.toNat
    rw [BitVec.toInt_eq_toNat_of_lt (by omega)]
    omega
  · rw [GatherDims.batchCoord_eq_zero _ _ _ (fun h => by simp at h)]
    have h0 : (midDims B N R C wf).start (ix3 b r c) idx 2 = 0 := by
      unfold GatherDims.start
      rw [dif_neg (fun h => by simp at h)]
    rw [h0]
    unfold GatherDims.offCoord
    rw [dif_pos ((GatherDims.mem_sKept _ _).mpr ⟨fun h => by simp at h, fun h => by simp at h⟩)]
    simp only [Nat.zero_add]
    rfl

/-- An index word in range is not negative: the wrap of negative indices leaves it. -/
theorem wrap_word (w n : BitVec 32) (hw : w.toNat < 2 ^ 31) :
    Scalar.select (IntOp.cmpi CmpIPredicate.slt w 0#32) (w + n) w = w := by
  have : ¬ w.slt 0#32 := by
    rw [BitVec.slt_iff_toInt_lt, BitVec.toInt_eq_toNat_of_lt (by omega)]
    simp
  simp [IntOp.cmpi, this, Scalar.select]

end Cert.Math
-- ==== Proof.Ref.lean ====
/-
  The reference's result, entry by entry: the second stage of the first stage's features.
-/
module

public import proofs.«01_k».proof.Proof.Gen.ReferenceIdeal.Run
public import proofs.«01_k».proof.Proof.Gather
public import proofs.«01_k».proof.Proof.Stage
public import Idealize.ShloMosaic.Lib.Pointwise

@[expose] public section
set_option maxRecDepth 16384
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Value Cert.Math
variable (V0 : Valuation τ sig (Elt Ideal))

/-- The first stage's weights. -/
def wts0 : Wts where
  dw e d := V0 (Proc.devRef .tc main_arg10) (ix2 e d)
  db e := V0 (Proc.devRef .tc main_arg11) (ix1 e)
  aw q e := V0 (Proc.devRef .tc main_arg12) (ix2 q e)
  ab q := V0 (Proc.devRef .tc main_arg13) (ix1 q)
  ga q := V0 (Proc.devRef .tc main_arg14) (ix1 q)
  be q := V0 (Proc.devRef .tc main_arg15) (ix1 q)
/-- The second stage's weights. -/
def wts1 : Wts where
  dw e d := V0 (Proc.devRef .tc main_arg16) (ix2 e d)
  db e := V0 (Proc.devRef .tc main_arg17) (ix1 e)
  aw q e := V0 (Proc.devRef .tc main_arg18) (ix2 q e)
  ab q := V0 (Proc.devRef .tc main_arg19) (ix1 q)
  ga q := V0 (Proc.devRef .tc main_arg20) (ix1 q)
  be q := V0 (Proc.devRef .tc main_arg21) (ix1 q)
/-- The features, points and index words of the arguments. -/
def F0 (b : Fin 32) (n : Fin 512) (d : Fin 1024) : EReal := V0 (Proc.devRef .tc main_arg0) (ix3 b n d)
def P0 (b : Fin 32) (n : Fin 512) (d : Fin 2) : EReal := V0 (Proc.devRef .tc main_arg1) (ix3 b n d)
def a0 (r : Fin 128) (b : Fin 32) : BitVec 32 := V0 (Proc.devRef .tc main_arg2) (ix2 r b)
def nb0 (k : Fin 24) (b : Fin 32) (r : Fin 128) : BitVec 32 := V0 (Proc.devRef .tc main_arg5) (ix3 k b r)
def a1 (r : Fin 32) (b : Fin 32) : BitVec 32 := V0 (Proc.devRef .tc main_arg6) (ix2 r b)
def nb1 (k : Fin 24) (b : Fin 32) (r : Fin 32) : BitVec 32 := V0 (Proc.devRef .tc main_arg9) (ix3 k b r)

/-- The first stage's features and points, on which the second works. -/
def F1 : Fin 32 → Fin 128 → Fin 1024 → EReal := fea0 (wts0 V0) (F0 V0) (P0 V0) (a0 V0) (nb0 V0)
def P1 : Fin 32 → Fin 128 → Fin 2 → EReal := pts1 (P0 V0) (a0 V0)

/-- The reference's result as one term of its arguments. -/
def res : (Proc.devRef .tc main_v117 : DevRef τ sig).ty.Contents (Elt Ideal) :=
  Host.divf (Host.reduceAdd (addf (mulf (Host.divf (subf (res_main_v90 V0) (broadcastInDim S32x32x24x1024 ![0, 1, 2, 3] bcast_S32x32x24x1_S32x32x24x1024_0_1_2_3 (res_main_v94 V0))) (broadcastInDim S32x32x24x1024 ![0, 1, 2, 3] bcast_S32x32x24x1_S32x32x24x1024_0_1_2_3 (Host.sqrt (addf (Host.divf (broadcastInDim S32x32x24x1 ![0, 1, 2] bcast_S32x32x24_S32x32x24x1_0_1_2 (Host.reduceAdd (mulf (res_main_v96 V0) (res_main_v96 V0)) (constant S_ .f32 0x00000000#32) reducesTo_S32x32x24x1024_S32x32x24_d3 h_S_)) (broadcastInDim S32x32x24x1 ![] bcast_S_S32x32x24x1 (constant S_ .f32 0x44800000#32))) (broadcastInDim S32x32x24x1 ![] bcast_S_S32x32x24x1 (constant S_ .f32 0x3727C5AC#32)))))) (broadcastInDim S32x32x24x1024 ![0, 1, 2, 3] bcast_S1x1x1x1024_S32x32x24x1024_0_1_2_3 (broadcastInDim S1x1x1x1024 ![3] bcast_S1024_S1x1x1x1024_3 (V0 (Proc.devRef .tc main_arg20))))) (broadcastInDim S32x32x24x1024 ![0, 1, 2, 3] bcast_S1x1x1x1024_S32x32x24x1024_0_1_2_3 (broadcastInDim S1x1x1x1024 ![3] bcast_S1024_S1x1x1x1024_3 (V0 (Proc.devRef .tc main_arg21))))) (constant S_ .f32 0x00000000#32) reducesTo_S32x32x24x1024_S32x32x1024_d2 h_S_) (broadcastInDim S32x32x1024 ![] bcast_S_S32x32x1024 (constant S_ .f32 0x41C00000#32))

/-- Every index word is in range. -/
structure Ranged : Prop where
  a0 : ∀ r b, (a0 V0 r b).toNat < 512
  nb0 : ∀ k b r, (nb0 V0 k b r).toNat < 512
  a1 : ∀ r b, (a1 V0 r b).toNat < 128
  nb1 : ∀ k b r, (nb1 V0 k b r).toNat < 128

variable {V0} (h : Ranged V0)
include h

/-- The sampled points. -/
theorem v2_at (b : Fin 32) (r : Fin 128) (d : Fin 2) : res_main_v2 V0 (ix3 b r d) = pts1 (P0 V0) (a0 V0) b r d := by
  have hw := h.a0 r b
  unfold res_main_v2 pts1 P0
  rw [pick_eq hw]
  refine gather_mid gather_S32x512x2_S32x128x1_S32x128x2_2_1_0_0_1_2_112_wf _ _ b r d _ ?_ (by norm_num) hw
  pointwise [res_main_v1, res_main_v0]
  exact wrap_word _ _ (by have := h.a0 r b; unfold Val.a0 at this; omega)

/-- The anchors' features and points, first stage. -/
theorem v16_at (b : Fin 32) (r : Fin 128) (d : Fin 1026) :
    res_main_v16 V0 (ix4 b r 0 d) = anc (F0 V0 b (pick 512 (a0 V0 r b))) (P0 V0 b (pick 512 (a0 V0 r b))) d := by
  have hw := h.a0 r b
  pointwise [res_main_v16]
  unfold anc
  refine dite_congr rfl (fun hd => ?_) (fun hd => ?_)
  · unfold F0
    rw [pick_eq hw]
    refine gather_mid gather_S32x512x1024_S32x128x1_S32x128x1024_2_1_0_0_1_2_111024_wf _ _ b r _ _ ?_ (by norm_num) hw
    pointwise [res_main_v3, res_main_v0]
    exact wrap_word _ _ (by have := h.a0 r b; unfold Val.a0 at this; omega)
  · exact v2_at h b r _

/-- The neighbours' features, first stage. -/
theorem g11_at (b : Fin 32) (r : Fin 128) (k : Fin 24) (d : Fin 1024) (hk : r.val * 24 + k.val < 3072) :
    Host.gather gather_S32x512x1024_S32x3072x1_S32x3072x1024_2_1_0_0_1_2_111024 (V0 (Proc.devRef .tc main_arg0)) (select (cmpi .slt (res_main_v11 V0) (broadcastInDim S32x3072x1 ![] bcast_S_S32x3072x1 (constantI S_ 32 0#32))) (addi (res_main_v11 V0) (broadcastInDim S32x3072x1 ![] bcast_S_S32x3072x1 (constantI S_ 32 512#32))) (res_main_v11 V0)) (ix3 b ⟨r.val * 24 + k.val, hk⟩ d)
      = F0 V0 b (pick 512 (nb0 V0 k b r)) d := by
  have hw := h.nb0 k b r
  unfold F0
  rw [pick_eq hw]
  refine gather_mid gather_S32x512x1024_S32x3072x1_S32x3072x1024_2_1_0_0_1_2_111024_wf _ _ b _ _ _ ?_ (by norm_num) hw
  pointwise [res_main_v11, res_main_v5]
  exact wrap_word _ _ (by have := h.nb0 k b r; unfold Val.nb0 at this; omega)

/-- The neighbours' points, first stage. -/
theorem g7_at (b : Fin 32) (r : Fin 128) (k : Fin 24) (d : Fin 2) (hk : r.val * 24 + k.val < 3072) :
    Host.gather gather_S32x512x2_S32x3072x1_S32x3072x2_2_1_0_0_1_2_112 (V0 (Proc.devRef .tc main_arg1)) (select (cmpi .slt (res_main_v7 V0) (broadcastInDim S32x3072x1 ![] bcast_S_S32x3072x1 (constantI S_ 32 0#32))) (addi (res_main_v7 V0) (broadcastInDim S32x3072x1 ![] bcast_S_S32x3072x1 (constantI S_ 32 512#32))) (res_main_v7 V0)) (ix3 b ⟨r.val * 24 + k.val, hk⟩ d)
      = P0 V0 b (pick 512 (nb0 V0 k b r)) d := by
  have hw := h.nb0 k b r
  unfold P0
  rw [pick_eq hw]
  refine gather_mid gather_S32x512x2_S32x3072x1_S32x3072x2_2_1_0_0_1_2_112_wf _ _ b _ _ _ ?_ (by norm_num) hw
  pointwise [res_main_v7, res_main_v5]
  exact wrap_word _ _ (by have := h.nb0 k b r; unfold Val.nb0 at this; omega)

/-- The activations, first stage. -/
theorem v31_at (b : Fin 32) (r : Fin 128) (k : Fin 24) (q : Fin 1024) :
    res_main_v31 V0 (ix4 b r k q) = hR (F0 V0 b (pick 512 (nb0 V0 k b r))) (F0 V0 b (pick 512 (a0 V0 r b)))
      (P0 V0 b (pick 512 (nb0 V0 k b r))) (P0 V0 b (pick 512 (a0 V0 r b))) (wts0 V0).dw (wts0 V0).db (wts0 V0).aw (wts0 V0).ab q := by
  pointwise [res_main_v31]
  simp only [v16_at h, g11_at h, g7_at h, anc_lo, anc_hi]
  rfl

/-- The features after the first stage. -/
theorem v58_at (b : Fin 32) (r : Fin 128) (q : Fin 1024) :
    res_main_v58 V0 (ix3 b r q) = fea0 (wts0 V0) (F0 V0) (P0 V0) (a0 V0) (nb0 V0) b r q := by
  pointwise [res_main_v58, res_main_v37]
  have h35 : ∀ k : Fin 24, res_main_v35 V0 (ix4 b r k 0) = mu (fun q => res_main_v31 V0 (ix4 b r k q)) := by
    intro k; pointwise [res_main_v35]; rfl
  simp only [h35, v31_at h]
  rfl

/-- The anchors' features and points, second stage. -/
theorem v75_at (b : Fin 32) (r : Fin 32) (d : Fin 1026) :
    res_main_v75 V0 (ix4 b r 0 d) = anc (F1 V0 b (pick 128 (a1 V0 r b))) (P1 V0 b (pick 128 (a1 V0 r b))) d := by
  have hw := h.a1 r b
  pointwise [res_main_v75]
  unfold anc
  refine dite_congr rfl (fun hd => ?_) (fun hd => ?_)
  · unfold F1
    rw [pick_eq hw, ← v58_at h]
    refine gather_mid gather_S32x128x1024_S32x32x1_S32x32x1024_2_1_0_0_1_2_111024_wf _ _ b r _ _ ?_ (by norm_num) hw
    pointwise [res_main_v62, res_main_v59]
    exact wrap_word _ _ (by have := h.a1 r b; unfold Val.a1 at this; omega)
  · unfold P1
    rw [pick_eq hw, ← v2_at h]
    refine gather_mid gather_S32x128x2_S32x32x1_S32x32x2_2_1_0_0_1_2_112_wf _ _ b r _ _ ?_ (by norm_num) hw
    pointwise [res_main_v60, res_main_v59]
    exact wrap_word _ _ (by have := h.a1 r b; unfold Val.a1 at this; omega)

/-- The neighbours' features, second stage. -/
theorem g70_at (b : Fin 32) (r : Fin 32) (k : Fin 24) (d : Fin 1024) (hk : r.val * 24 + k.val < 768) :
    Host.gather gather_S32x128x1024_S32x768x1_S32x768x1024_2_1_0_0_1_2_111024 (res_main_v58 V0) (select (cmpi .slt (res_main_v70 V0) (broadcastInDim S32x768x1 ![] bcast_S_S32x768x1 (constantI S_ 32 0#32))) (addi (res_main_v70 V0) (broadcastInDim S32x768x1 ![] bcast_S_S32x768x1 (constantI S_ 32 128#32))) (res_main_v70 V0)) (ix3 b ⟨r.val * 24 + k.val, hk⟩ d)
      = F1 V0 b (pick 128 (nb1 V0 k b r)) d := by
  have hw := h.nb1 k b r
  unfold F1
  rw [pick_eq hw, ← v58_at h]
  refine gather_mid gather_S32x128x1024_S32x768x1_S32x768x1024_2_1_0_0_1_2_111024_wf _ _ b _ _ _ ?_ (by norm_num) hw
  pointwise [res_main_v70, res_main_v64]
  exact wrap_word _ _ (by have := h.nb1 k b r; unfold Val.nb1 at this; omega)

/-- The neighbours' points, second stage. -/
theorem g66_at (b : Fin 32) (r : Fin 32) (k : Fin 24) (d : Fin 2) (hk : r.val * 24 + k.val < 768) :
    Host.gather gather_S32x128x2_S32x768x1_S32x768x2_2_1_0_0_1_2_112 (res_main_v2 V0) (select (cmpi .slt (res_main_v66 V0) (broadcastInDim S32x768x1 ![] bcast_S_S32x768x1 (constantI S_ 32 0#32))) (addi (res_main_v66 V0) (broadcastInDim S32x768x1 ![] bcast_S_S32x768x1 (constantI S_ 32 128#32))) (res_main_v66 V0)) (ix3 b ⟨r.val * 24 + k.val, hk⟩ d)
      = P1 V0 b (pick 128 (nb1 V0 k b r)) d := by
  have hw := h.nb1 k b r
  unfold P1
  rw [pick_eq hw, ← v2_at h]
  refine gather_mid gather_S32x128x2_S32x768x1_S32x768x2_2_1_0_0_1_2_112_wf _ _ b _ _ _ ?_ (by norm_num) hw
  pointwise [res_main_v66, res_main_v64]
  exact wrap_word _ _ (by have := h.nb1 k b r; unfold Val.nb1 at this; omega)

/-- The activations, second stage. -/
theorem v90_at (b : Fin 32) (r : Fin 32) (k : Fin 24) (q : Fin 1024) :
    res_main_v90 V0 (ix4 b r k q) = hR (F1 V0 b (pick 128 (nb1 V0 k b r))) (F1 V0 b (pick 128 (a1 V0 r b)))
      (P1 V0 b (pick 128 (nb1 V0 k b r))) (P1 V0 b (pick 128 (a1 V0 r b))) (wts1 V0).dw (wts1 V0).db (wts1 V0).aw (wts1 V0).ab q := by
  pointwise [res_main_v90]
  simp only [v75_at h, g70_at h, g66_at h, anc_lo, anc_hi]
  rfl

/-- The result: the features after the second stage. -/
theorem v117_at (b : Fin 32) (r : Fin 32) (q : Fin 1024) :
    res V0 (ix3 b r q) = fea1 (wts1 V0) (F1 V0) (P1 V0) (a1 V0) (nb1 V0) b r q := by
  pointwise [res, res_main_v96]
  have h94 : ∀ k : Fin 24, res_main_v94 V0 (ix4 b r k 0) = mu (fun q => res_main_v90 V0 (ix4 b r k q)) := by
    intro k; pointwise [res_main_v94]; rfl
  simp only [h94, v90_at h]
  rfl

end Cert.ReferenceIdeal.Val
-- ==== Proof.Pre.lean ====
/-
  What the precondition says of the arguments, entry by entry: the float arguments are real, the index arguments
  are in range, and the sampled coordinates are the coordinates of the points the sampling indices name.
-/
module

public import proofs.«01_k».proof.Pre_tame
public import proofs.«01_k».proof.Proof.Stage
public import proofs.«01_k».proof.Proof.Gather

@[expose] public section
set_option maxRecDepth 16384
noncomputable section
namespace Cert.Pre_tame.Val
open Cert.Pre_tame Cert.Math Cert.Pre_tame.Facts
open Idealize.ShloMosaic Idealize.ShloMosaic.TcCoe Idealize.ShloMosaic.Tactic

/-- Two one-bit words meet in one exactly when both are one. -/
theorem and_one (a b : BitVec 1) : IntOp.andi a b = 1#1 ↔ a = 1#1 ∧ b = 1#1 := by
  revert a b; decide

/-- A truth value's word is one exactly when it is true. -/
theorem ofBool_one (p : Prop) [Decidable p] : BitVec.ofBool (decide p) = 1#1 ↔ p := by
  by_cases h : p <;> simp [h]

/-- An extended real whose magnitude is below the word of infinity is real. -/
theorem isR_of_lt {x : EReal} (h : BitVec.ofBool (decide (FloatOps.absf (F := Ideal) (φ := .f32) x < Ideal.ofBits FTy.f32 2139095040#32)) = 1#1) :
    IsR x := by
  rw [ofBool_one] at h
  have ht : Ideal.ofBits FTy.f32 2139095040#32 = ⊤ := by simp [Ideal.ofBits, Ideal.ieee]
  rw [ht] at h
  have ha : FloatOps.absf (F := Ideal) (φ := .f32) x = max x (-x) := rfl
  rw [ha, max_lt_iff] at h
  refine isR_of_bounds ?_ h.1.ne
  rintro rfl
  simp at h

/-- A word at least zero and below a small bound, read signed, is below the bound. -/
theorem lt_of_named {w n : BitVec 32} (hn : n.toNat < 2 ^ 31)
    (h : IntOp.andi (IntOp.cmpi CmpIPredicate.sge w 0#32) (IntOp.cmpi CmpIPredicate.slt w n) = 1#1) : w.toNat < n.toNat := by
  rw [and_one] at h
  obtain ⟨h1, h2⟩ := h
  have h3 : (0#32).sle w = true := by revert h1; unfold IntOp.cmpi; cases (0#32).sle w <;> simp
  have h4 : w.slt n = true := by revert h2; unfold IntOp.cmpi; cases w.slt n <;> simp
  rw [BitVec.sle_iff_toInt_le] at h3
  rw [BitVec.slt_iff_toInt_lt] at h4
  have hw := w.isLt
  have e1 := BitVec.toInt_eq_toNat_cond w
  have e2 := BitVec.toInt_eq_toNat_cond n
  simp only [BitVec.toInt_zero] at h3
  split at e1 <;> split at e2 <;> omega

variable [Facts]
variable {x0 : FVec Ideal S32x512x1024 .f32} {x1 : FVec Ideal S32x512x2 .f32} {x2 : IVec S128x32 32} {x3 : FVec Ideal S128x32 .f32} {x4 : FVec Ideal S128x32 .f32} {x5 : IVec S24x32x128 32} {x6 : IVec S32x32 32} {x7 : FVec Ideal S32x32 .f32} {x8 : FVec Ideal S32x32 .f32} {x9 : IVec S24x32x32 32} {x10 : FVec Ideal S1026x1026 .f32} {x11 : FVec Ideal S1026 .f32} {x12 : FVec Ideal S1024x2052 .f32} {x13 : FVec Ideal S1024 .f32} {x14 : FVec Ideal S1024 .f32} {x15 : FVec Ideal S1024 .f32} {x16 : FVec Ideal S1026x1026 .f32} {x17 : FVec Ideal S1026 .f32} {x18 : FVec Ideal S1024x2052 .f32} {x19 : FVec Ideal S1024 .f32} {x20 : FVec Ideal S1024 .f32} {x21 : FVec Ideal S1024 .f32}

/-- The features are real. -/
theorem fea (h : (fn (F := Ideal) x0 x1 x2 x3 x4 x5 x6 x7 x8 x9 x10 x11 x12 x13 x14 x15 x16 x17 x18 x19 x20 x21).1 = fun _ => 1#1) :
    ∀ i j k, IsR (x0 (ix3 i j k)) := by
  intro i j k
  have e := congrFun h (ix3 i j k)
  revert e
  pointwise [fn, fn_part1, fn_part2, fn_part3, fn_part4]
  intro e
  exact isR_of_lt e

/-- The points are real. -/
theorem pts (h : (fn (F := Ideal) x0 x1 x2 x3 x4 x5 x6 x7 x8 x9 x10 x11 x12 x13 x14 x15 x16 x17 x18 x19 x20 x21).2.1 = fun _ => 1#1) :
    ∀ i j k, IsR (x1 (ix3 i j k)) := by
  intro i j k
  have e := congrFun h (ix3 i j k)
  revert e
  pointwise [fn, fn_part1, fn_part2, fn_part3, fn_part4]
  intro e
  exact isR_of_lt e

/-- The difference weights are real. -/
theorem dw (h : (fn (F := Ideal) x0 x1 x2 x3 x4 x5 x6 x7 x8 x9 x10 x11 x12 x13 x14 x15 x16 x17 x18 x19 x20 x21).2.2.1 = fun _ => 1#1) :
    ∀ i j, IsR (x10 (ix2 i j)) ∧ IsR (x16 (ix2 i j)) := by
  intro i j
  have e := congrFun h (ix2 i j)
  revert e
  pointwise [fn, fn_part1, fn_part2, fn_part3, fn_part4]
  simp only [and_one]
  intro e
  exact ⟨isR_of_lt e.1, isR_of_lt e.2⟩

/-- The difference biases are real. -/
theorem db (h : (fn (F := Ideal) x0 x1 x2 x3 x4 x5 x6 x7 x8 x9 x10 x11 x12 x13 x14 x15 x16 x17 x18 x19 x20 x21).2.2.2.1 = fun _ => 1#1) :
    ∀ i, IsR (x11 (ix1 i)) ∧ IsR (x17 (ix1 i)) := by
  intro i
  have e := congrFun h (ix1 i)
  revert e
  pointwise [fn, fn_part1, fn_part2, fn_part3, fn_part4]
  simp only [and_one]
  intro e
  exact ⟨isR_of_lt e.1, isR_of_lt e.2⟩

/-- The aggregation weights are real. -/
theorem aw (h : (fn (F := Ideal) x0 x1 x2 x3 x4 x5 x6 x7 x8 x9 x10 x11 x12 x13 x14 x15 x16 x17 x18 x19 x20 x21).2.2.2.2.1 = fun _ => 1#1) :
    ∀ i j, IsR (x12 (ix2 i j)) ∧ IsR (x18 (ix2 i j)) := by
  intro i j
  have e := congrFun h (ix2 i j)
  revert e
  pointwise [fn, fn_part1, fn_part2, fn_part3, fn_part4]
  simp only [and_one]
  intro e
  exact ⟨isR_of_lt e.1, isR_of_lt e.2⟩

/-- The aggregation biases and the normalisation's scales and shifts are real. -/
theorem vecs (h : (fn (F := Ideal) x0 x1 x2 x3 x4 x5 x6 x7 x8 x9 x10 x11 x12 x13 x14 x15 x16 x17 x18 x19 x20 x21).2.2.2.2.2.1 = fun _ => 1#1) :
    ∀ i, IsR (x13 (ix1 i)) ∧ IsR (x14 (ix1 i)) ∧ IsR (x15 (ix1 i)) ∧ IsR (x19 (ix1 i)) ∧ IsR (x20 (ix1 i)) ∧ IsR (x21 (ix1 i)) := by
  intro i
  have e := congrFun h (ix1 i)
  revert e
  pointwise [fn, fn_part1, fn_part2, fn_part3, fn_part4]
  simp only [and_one]
  intro e
  obtain ⟨⟨⟨⟨⟨e1, e2⟩, e3⟩, e4⟩, e5⟩, e6⟩ := e
  exact ⟨isR_of_lt e1, isR_of_lt e2, isR_of_lt e3, isR_of_lt e4, isR_of_lt e5, isR_of_lt e6⟩

/-- The neighbour indices of the first stage are in range. -/
theorem nb0 (h : (fn (F := Ideal) x0 x1 x2 x3 x4 x5 x6 x7 x8 x9 x10 x11 x12 x13 x14 x15 x16 x17 x18 x19 x20 x21).2.2.2.2.2.2.1 = fun _ => 1#1) :
    ∀ k i j, (x5 (ix3 k i j)).toNat < 512 := by
  intro k i j
  have e := congrFun h (ix3 k i j)
  revert e
  pointwise [fn, fn_part1, fn_part2, fn_part3, fn_part4]
  exact fun e => lt_of_named (by decide) e

/-- The neighbour indices of the second stage are in range. -/
theorem nb1 (h : (fn (F := Ideal) x0 x1 x2 x3 x4 x5 x6 x7 x8 x9 x10 x11 x12 x13 x14 x15 x16 x17 x18 x19 x20 x21).2.2.2.2.2.2.2.1 = fun _ => 1#1) :
    ∀ k i j, (x9 (ix3 k i j)).toNat < 128 := by
  intro k i j
  have e := congrFun h (ix3 k i j)
  revert e
  pointwise [fn, fn_part1, fn_part2, fn_part3, fn_part4]
  exact fun e => lt_of_named (by decide) e

/-- The points at the first sampling indices, entry by entry. -/
theorem take0 (x : FVec Ideal S32x512x2 .f32) (v : IVec S32x128x1 32) (b : Fin 32) (r : Fin 128) (d : Fin 2) (w : BitVec 32)
    (hv : v (ix3 b r 0) = w) (hw : w.toNat < 512) : fn_take_along_axis (F := Ideal) x v (ix3 b r d) = x (ix3 b (pick 512 w) d) := by
  rw [pick_eq hw]
  unfold fn_take_along_axis
  refine gather_mid gather_S32x512x2_S32x128x1_S32x128x2_2_1_0_0_1_2_112_wf _ _ b r d _ ?_ (by norm_num) hw
  pointwise []
  rw [hv]
  exact wrap_word _ _ (by omega)

/-- The sampled points at the second sampling indices, entry by entry. -/
theorem take1 (x : FVec Ideal S32x128x2 .f32) (v : IVec S32x32x1 32) (b : Fin 32) (r : Fin 32) (d : Fin 2) (w : BitVec 32)
    (hv : v (ix3 b r 0) = w) (hw : w.toNat < 128) : fn_take_along_axis_0 (F := Ideal) x v (ix3 b r d) = x (ix3 b (pick 128 w) d) := by
  rw [pick_eq hw]
  unfold fn_take_along_axis_0
  refine gather_mid gather_S32x128x2_S32x32x1_S32x32x2_2_1_0_0_1_2_112_wf _ _ b r d _ ?_ (by norm_num) hw
  pointwise []
  rw [hv]
  exact wrap_word _ _ (by omega)

/-- The first sampling indices are in range, and the first sampled coordinates are the points' at them. -/
theorem fps0 (h : (fn (F := Ideal) x0 x1 x2 x3 x4 x5 x6 x7 x8 x9 x10 x11 x12 x13 x14 x15 x16 x17 x18 x19 x20 x21).2.2.2.2.2.2.2.2.1 = fun _ => 1#1) :
    ∀ b r, (x2 (ix2 r b)).toNat < 512 ∧ x3 (ix2 r b) = x1 (ix3 b (pick 512 (x2 (ix2 r b))) 0)
      ∧ x4 (ix2 r b) = x1 (ix3 b (pick 512 (x2 (ix2 r b))) 1) := by
  intro b r
  have e := congrFun h (ix2 b r)
  revert e
  pointwise [fn, fn_part1, fn_part2, fn_part3, fn_part4]
  simp only [and_one (IntOp.andi _ _) (BitVec.ofBool _), ofBool_one]
  rintro ⟨⟨e1, e2⟩, e3⟩
  have hw := lt_of_named (by decide) e1
  have hv : ∀ d, fn_take_along_axis (F := Ideal) x1 (broadcastInDim S32x128x1 ![0, 1] bcast_S32x128_S32x128x1_0_1 (transpose S32x128 [1, 0] x2 transposes_S128x32_S32x128_1_0)) (ix3 b r d) = x1 (ix3 b (pick 512 (x2 (ix2 r b))) d) :=
    fun d => take0 _ _ b r d _ (by pointwise []) hw
  exact ⟨hw, e2.trans (hv 0), e3.trans (hv 1)⟩

/-- The second sampling indices are in range, and the second sampled coordinates are the first ones' at them. -/
theorem fps1 (h : (fn (F := Ideal) x0 x1 x2 x3 x4 x5 x6 x7 x8 x9 x10 x11 x12 x13 x14 x15 x16 x17 x18 x19 x20 x21).2.2.2.2.2.2.2.2.2 = fun _ => 1#1) :
    (∀ b r, (x2 (ix2 r b)).toNat < 512) → ∀ b r, (x6 (ix2 r b)).toNat < 128
      ∧ x7 (ix2 r b) = x1 (ix3 b (pick 512 (x2 (ix2 (pick 128 (x6 (ix2 r b))) b))) 0)
      ∧ x8 (ix2 r b) = x1 (ix3 b (pick 512 (x2 (ix2 (pick 128 (x6 (ix2 r b))) b))) 1) := by
  intro h2 b r
  have e := congrFun h (ix2 b r)
  revert e
  pointwise [fn, fn_part1, fn_part2, fn_part3, fn_part4]
  simp only [and_one (IntOp.andi _ _) (BitVec.ofBool _), ofBool_one]
  rintro ⟨⟨e1, e2⟩, e3⟩
  have hw := lt_of_named (by decide) e1
  have hv : ∀ d, fn_take_along_axis_0 (F := Ideal) (fn_take_along_axis (F := Ideal) x1 (broadcastInDim S32x128x1 ![0, 1] bcast_S32x128_S32x128x1_0_1 (transpose S32x128 [1, 0] x2 transposes_S128x32_S32x128_1_0)))
      (broadcastInDim S32x32x1 ![0, 1] bcast_S32x32_S32x32x1_0_1 (transpose S32x32 [1, 0] x6 transposes_S32x32_S32x32_1_0)) (ix3 b r d)
        = x1 (ix3 b (pick 512 (x2 (ix2 (pick 128 (x6 (ix2 r b))) b))) d) :=
    fun d => (take1 _ _ b r d (x6 (ix2 r b)) (by pointwise []) hw).trans
      (take0 _ _ b _ d (x2 (ix2 (pick 128 (x6 (ix2 r b))) b)) (by pointwise []) (h2 _ _))
  exact ⟨hw, e2.trans (hv 0), e3.trans (hv 1)⟩

end Cert.Pre_tame.Val
-- ==== Proof.Claims.lean ====
/-
  The claims: the frames, the named reciprocal, and the equality of the results over the reals.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Run
public import proofs.«01_k».proof.Proof.Values
public import proofs.«01_k».proof.Proof.Ref
public import proofs.«01_k».proof.Proof.Pre

@[expose] public section
set_option maxRecDepth 16384
noncomputable section
namespace Cert.Pre_tame.Val

/-- The precondition's side conditions, proved. -/
instance facts : Cert.Pre_tame.Facts where
  transposes_S128x32_S32x128_1_0 := by decide
  bcast_S32x128_S32x128x1_0_1 := by decide
  bcast_S_S32x128x1 := by decide
  transposes_S32x32_S32x32_1_0 := by decide
  bcast_S32x32_S32x32x1_0_1 := by decide
  bcast_S_S32x32x1 := by decide
  bcast_S_S32x512x1024 := by decide
  bcast_S_S32x512x2 := by decide
  bcast_S_S1026x1026 := by decide
  bcast_S_S1026 := by decide
  bcast_S_S1024x2052 := by decide
  bcast_S_S1024 := by decide
  bcast_S_S24x32x128 := by decide
  bcast_S_S24x32x32 := by decide
  bcast_S_S32x128 := by decide
  slices_S32x128x2_S32x128x1_0_0_0 := by decide
  shapeCasts_S32x128x1_S32x128 := by decide
  slices_S32x128x2_S32x128x1_0_0_1 := by decide
  bcast_S_S32x32 := by decide
  slices_S32x32x2_S32x32x1_0_0_0 := by decide
  shapeCasts_S32x32x1_S32x32 := by decide
  slices_S32x32x2_S32x32x1_0_0_1 := by decide
  gather_S32x512x2_S32x128x1_S32x128x2_2_1_0_0_1_2_112_wf := by decide
  gather_S32x128x2_S32x32x1_S32x32x2_2_1_0_0_1_2_112_wf := by decide

end Cert.Pre_tame.Val

namespace Cert.Claims
open Idealize.ShloMosaic.StableHlo
open Idealize.ShloMosaic Idealize.ShloMosaic.TcCoe Idealize.ShloMosaic.Tactic Idealize.SL.Sem
open Cert.Math

/-- The kernel runs, leaves its arguments and ends quiescent. -/
theorem frame_p : Cert.quiescent_Kernel := fun m ρ _ => Cert.Kernel.Gen.frame m ρ

/-- The same of its idealization. -/
theorem frame_pi : Cert.quiescent_KernelIdeal := fun m ρ _ => Cert.KernelIdeal.Gen.frame m ρ

/-- The same under the precondition. -/
theorem frame_pi_pre : Cert.quiescent_KernelIdeal_pre_tame := fun m ρ _ => Cert.KernelIdeal.Gen.frame m ρ

/-- The reference runs, leaves its arguments and ends quiescent. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_tame := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's f32 constant is the rounding of the named reciprocal. -/
theorem preserves : Cert.preserves_Kernel_KernelIdeal :=
  IdealRules.named_const.statement Cert.KernelIdeal.κ "inv_k" .f32 0x3D2AAAAB#32 ((1 / 24 : ℝ) : EReal) rfl

section
open Cert.KernelIdeal

/-- Under the precondition the arguments are real, in range and consistent. -/
theorem good (m : (ℓ : Loc KernelIdeal.nD KernelIdeal.τ KernelIdeal.sig) → Buf (Elt Ideal) ℓ)
    (h : Cert.Pre_KernelIdeal_tame m) (c : Dev KernelIdeal.nD) : KernelIdeal.Val.Good m c := by
  obtain ⟨h1, h2, h3, h4, h5, h6, h7, h8, h9, h10⟩ := h c
  have v6 := Pre_tame.Val.vecs h6
  have v9 := Pre_tame.Val.fps0 h9
  have v10 := Pre_tame.Val.fps1 h10 (fun b r => (v9 b r).1)
  exact {
    w0 := ⟨fun i j => (Pre_tame.Val.dw h3 i j).1, fun i => (Pre_tame.Val.db h4 i).1, fun i j => (Pre_tame.Val.aw h5 i j).1,
      fun i => (v6 i).1, fun i => (v6 i).2.1, fun i => (v6 i).2.2.1⟩
    w1 := ⟨fun i j => (Pre_tame.Val.dw h3 i j).2, fun i => (Pre_tame.Val.db h4 i).2, fun i j => (Pre_tame.Val.aw h5 i j).2,
      fun i => (v6 i).2.2.2.1, fun i => (v6 i).2.2.2.2.1, fun i => (v6 i).2.2.2.2.2⟩
    f := fun b n d => Pre_tame.Val.fea h1 b n d
    p := fun b n d => Pre_tame.Val.pts h2 b n d
    a0 := fun r b => (v9 b r).1
    nb0 := fun k b r => Pre_tame.Val.nb0 h7 k b r
    a1 := fun r b => (v10 b r).1
    nb1 := fun k b r => Pre_tame.Val.nb1 h8 k b r
    np0 := fun r b => (v9 b r).2.1
    np1 := fun r b => (v9 b r).2.2
    sp0 := fun r b => (v10 b r).2.1
    sp1 := fun r b => (v10 b r).2.2 }
end

/-- The reference's result, on arguments agreeing with the kernel's, is the kernel's function of them. -/
theorem ref_eq (m : (ℓ : Loc KernelIdeal.nD KernelIdeal.τ KernelIdeal.sig) → Buf (Elt Ideal) ℓ) (c : Dev KernelIdeal.nD)
    (V0 : Valuation ReferenceIdeal.τ ReferenceIdeal.sig (Elt Ideal))
    (e0 : V0 (Proc.devRef .tc ReferenceIdeal.main_arg0) = m ((c.tc : Thread KernelIdeal.nD KernelIdeal.τ).loc KernelIdeal.main_arg0))
    (e1 : V0 (Proc.devRef .tc ReferenceIdeal.main_arg1) = m ((c.tc : Thread KernelIdeal.nD KernelIdeal.τ).loc KernelIdeal.main_arg1))
    (e2 : V0 (Proc.devRef .tc ReferenceIdeal.main_arg2) = m ((c.tc : Thread KernelIdeal.nD KernelIdeal.τ).loc KernelIdeal.main_arg2))
    (e5 : V0 (Proc.devRef .tc ReferenceIdeal.main_arg5) = m ((c.tc : Thread KernelIdeal.nD KernelIdeal.τ).loc KernelIdeal.main_arg5))
    (e6 : V0 (Proc.devRef .tc ReferenceIdeal.main_arg6) = m ((c.tc : Thread KernelIdeal.nD KernelIdeal.τ).loc KernelIdeal.main_arg6))
    (e9 : V0 (Proc.devRef .tc ReferenceIdeal.main_arg9) = m ((c.tc : Thread KernelIdeal.nD KernelIdeal.τ).loc KernelIdeal.main_arg9))
    (e10 : V0 (Proc.devRef .tc ReferenceIdeal.main_arg10) = m ((c.tc : Thread KernelIdeal.nD KernelIdeal.τ).loc KernelIdeal.main_arg10))
    (e11 : V0 (Proc.devRef .tc ReferenceIdeal.main_arg11) = m ((c.tc : Thread KernelIdeal.nD KernelIdeal.τ).loc KernelIdeal.main_arg11))
    (e12 : V0 (Proc.devRef .tc ReferenceIdeal.main_arg12) = m ((c.tc : Thread KernelIdeal.nD KernelIdeal.τ).loc KernelIdeal.main_arg12))
    (e13 : V0 (Proc.devRef .tc ReferenceIdeal.main_arg13) = m ((c.tc : Thread KernelIdeal.nD KernelIdeal.τ).loc KernelIdeal.main_arg13))
    (e14 : V0 (Proc.devRef .tc ReferenceIdeal.main_arg14) = m ((c.tc : Thread KernelIdeal.nD KernelIdeal.τ).loc KernelIdeal.main_arg14))
    (e15 : V0 (Proc.devRef .tc ReferenceIdeal.main_arg15) = m ((c.tc : Thread KernelIdeal.nD KernelIdeal.τ).loc KernelIdeal.main_arg15))
    (e16 : V0 (Proc.devRef .tc ReferenceIdeal.main_arg16) = m ((c.tc : Thread KernelIdeal.nD KernelIdeal.τ).loc KernelIdeal.main_arg16))
    (e17 : V0 (Proc.devRef .tc ReferenceIdeal.main_arg17) = m ((c.tc : Thread KernelIdeal.nD KernelIdeal.τ).loc KernelIdeal.main_arg17))
    (e18 : V0 (Proc.devRef .tc ReferenceIdeal.main_arg18) = m ((c.tc : Thread KernelIdeal.nD KernelIdeal.τ).loc KernelIdeal.main_arg18))
    (e19 : V0 (Proc.devRef .tc ReferenceIdeal.main_arg19) = m ((c.tc : Thread KernelIdeal.nD KernelIdeal.τ).loc KernelIdeal.main_arg19))
    (e20 : V0 (Proc.devRef .tc ReferenceIdeal.main_arg20) = m ((c.tc : Thread KernelIdeal.nD KernelIdeal.τ).loc KernelIdeal.main_arg20))
    (e21 : V0 (Proc.devRef .tc ReferenceIdeal.main_arg21) = m ((c.tc : Thread KernelIdeal.nD KernelIdeal.τ).loc KernelIdeal.main_arg21))
    (h : KernelIdeal.Val.Good m c) (b : Fin 32) (r : Fin 32) (q : Fin 1024) :
    ReferenceIdeal.Val.res V0 (ix3 b r q) = fea1 (KernelIdeal.Val.wts1 m c) (KernelIdeal.Val.F1 m c) (KernelIdeal.Val.P1 m c)
      (KernelIdeal.Val.a1 m c) (KernelIdeal.Val.nb1 m c) b r q := by
  have w0 : ReferenceIdeal.Val.wts0 V0 = KernelIdeal.Val.wts0 m c := by
    unfold ReferenceIdeal.Val.wts0 KernelIdeal.Val.wts0
    rw [e10, e11, e12, e13, e14, e15]
  have w1 : ReferenceIdeal.Val.wts1 V0 = KernelIdeal.Val.wts1 m c := by
    unfold ReferenceIdeal.Val.wts1 KernelIdeal.Val.wts1
    rw [e16, e17, e18, e19, e20, e21]
  have f : ReferenceIdeal.Val.F0 V0 = KernelIdeal.Val.F0 m c := by
    funext i j k; exact congrFun e0 (ix3 i j k)
  have p : ReferenceIdeal.Val.P0 V0 = KernelIdeal.Val.P0 m c := by
    funext i j k; exact congrFun e1 (ix3 i j k)
  have a0 : ReferenceIdeal.Val.a0 V0 = KernelIdeal.Val.a0 m c := by
    funext i j; exact congrFun e2 (ix2 i j)
  have nb0 : ReferenceIdeal.Val.nb0 V0 = KernelIdeal.Val.nb0 m c := by
    funext i j k; exact congrFun e5 (ix3 i j k)
  have a1 : ReferenceIdeal.Val.a1 V0 = KernelIdeal.Val.a1 m c := by
    funext i j; exact congrFun e6 (ix2 i j)
  have nb1 : ReferenceIdeal.Val.nb1 V0 = KernelIdeal.Val.nb1 m c := by
    funext i j k; exact congrFun e9 (ix3 i j k)
  have hr : ReferenceIdeal.Val.Ranged V0 := ⟨by rw [a0]; exact h.a0, by rw [nb0]; exact h.nb0, by rw [a1]; exact h.a1, by rw [nb1]; exact h.nb1⟩
  rw [ReferenceIdeal.Val.v117_at hr b r q]
  unfold ReferenceIdeal.Val.F1 ReferenceIdeal.Val.P1 KernelIdeal.Val.F1 KernelIdeal.Val.P1
  rw [w0, w1, f, p, a0, nb0, a1, nb1]

/-- The reference's run ends with its term of the arguments. -/
theorem ref_run (m : (ℓ : Loc ReferenceIdeal.nD ReferenceIdeal.τ ReferenceIdeal.sig) → Buf (Elt Ideal) ℓ) (ρ : Dev ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev ReferenceIdeal.nD,
        r.2.mem ((c.tc : Thread ReferenceIdeal.nD ReferenceIdeal.τ).loc ReferenceIdeal.main_v117) = ReferenceIdeal.Val.res (launchContents m c)
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8)
        ∧ r.2.mem ((c.tc : Thread ReferenceIdeal.nD ReferenceIdeal.τ).loc ReferenceIdeal.main_arg9) = m ((c.tc : Thread ReferenceIdeal.nD ReferenceIdeal.τ).loc ReferenceIdeal.main_arg9)
        ∧ r.2.mem ((c.tc : Thread ReferenceIdeal.nD ReferenceIdeal.τ).loc ReferenceIdeal.main_arg10) = m ((c.tc : Thread ReferenceIdeal.nD ReferenceIdeal.τ).loc ReferenceIdeal.main_arg10)
        ∧ r.2.mem ((c.tc : Thread ReferenceIdeal.nD ReferenceIdeal.τ).loc ReferenceIdeal.main_arg11) = m ((c.tc : Thread ReferenceIdeal.nD ReferenceIdeal.τ).loc ReferenceIdeal.main_arg11)
        ∧ r.2.mem ((c.tc : Thread ReferenceIdeal.nD ReferenceIdeal.τ).loc ReferenceIdeal.main_arg12) = m ((c.tc : Thread ReferenceIdeal.nD ReferenceIdeal.τ).loc ReferenceIdeal.main_arg12)
        ∧ r.2.mem ((c.tc : Thread ReferenceIdeal.nD ReferenceIdeal.τ).loc ReferenceIdeal.main_arg13) = m ((c.tc : Thread ReferenceIdeal.nD ReferenceIdeal.τ).loc ReferenceIdeal.main_arg13)
        ∧ r.2.mem ((c.tc : Thread ReferenceIdeal.nD ReferenceIdeal.τ).loc ReferenceIdeal.main_arg14) = m ((c.tc : Thread ReferenceIdeal.nD ReferenceIdeal.τ).loc ReferenceIdeal.main_arg14)
        ∧ r.2.mem ((c.tc : Thread ReferenceIdeal.nD ReferenceIdeal.τ).loc ReferenceIdeal.main_arg15) = m ((c.tc : Thread ReferenceIdeal.nD ReferenceIdeal.τ).loc ReferenceIdeal.main_arg15)
        ∧ r.2.mem ((c.tc : Thread ReferenceIdeal.nD ReferenceIdeal.τ).loc ReferenceIdeal.main_arg16) = m ((c.tc : Thread ReferenceIdeal.nD ReferenceIdeal.τ).loc ReferenceIdeal.main_arg16)
        ∧ r.2.mem ((c.tc : Thread ReferenceIdeal.nD ReferenceIdeal.τ).loc ReferenceIdeal.main_arg17) = m ((c.tc : Thread ReferenceIdeal.nD ReferenceIdeal.τ).loc ReferenceIdeal.main_arg17)
        ∧ r.2.mem ((c.tc : Thread ReferenceIdeal.nD ReferenceIdeal.τ).loc ReferenceIdeal.main_arg18) = m ((c.tc : Thread ReferenceIdeal.nD ReferenceIdeal.τ).loc ReferenceIdeal.main_arg18)
        ∧ r.2.mem ((c.tc : Thread ReferenceIdeal.nD ReferenceIdeal.τ).loc ReferenceIdeal.main_arg19) = m ((c.tc : Thread ReferenceIdeal.nD ReferenceIdeal.τ).loc ReferenceIdeal.main_arg19)
        ∧ r.2.mem ((c.tc : Thread ReferenceIdeal.nD ReferenceIdeal.τ).loc ReferenceIdeal.main_arg20) = m ((c.tc : Thread ReferenceIdeal.nD ReferenceIdeal.τ).loc ReferenceIdeal.main_arg20)
        ∧ r.2.mem ((c.tc : Thread ReferenceIdeal.nD ReferenceIdeal.τ).loc ReferenceIdeal.main_arg21) = m ((c.tc : Thread ReferenceIdeal.nD ReferenceIdeal.τ).loc ReferenceIdeal.main_arg21)) :=
  (θ_run Cert.ReferenceIdeal.defs _ _).mono (fun _ h c => ⟨(h c).1, (h c).2⟩)
    (Cert.ReferenceIdeal.Value.run (F := Ideal) m ρ)

/-- The function of the arguments both programs end with. -/
def val (m : (ℓ : Loc KernelIdeal.nD KernelIdeal.τ KernelIdeal.sig) → Buf (Elt Ideal) ℓ) (c : Dev KernelIdeal.nD) :
    (⟨KernelIdeal.S32x32x1024, .f32⟩ : BufTy).Contents (Elt Ideal) :=
  fun y => fea1 (KernelIdeal.Val.wts1 m c) (KernelIdeal.Val.F1 m c) (KernelIdeal.Val.P1 m c) (KernelIdeal.Val.a1 m c)
    (KernelIdeal.Val.nb1 m c) (y 0) (y 1) (y 2)

/-- The kernel's run ends with that function. -/
theorem ker_run (m : (ℓ : Loc KernelIdeal.nD KernelIdeal.τ KernelIdeal.sig) → Buf (Elt Ideal) ℓ) (ρ : Dev KernelIdeal.nD → PrngReg)
    (hpre : Cert.Pre_KernelIdeal_tame m) :
    θ_run (Cert.KernelIdeal.defs (F := Ideal)) (onTc (τ := Cert.KernelIdeal.τ) (Cert.KernelIdeal.main (F := Ideal))) ⟨m, fun _ => 0, ρ⟩
      (fun r => ∀ c : Dev KernelIdeal.nD, r.2.mem ((c : Thread KernelIdeal.nD KernelIdeal.τ).loc KernelIdeal.main_v31) = val m c
        ∧ r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)
        ∧ r.2.mem ((c : Thread KernelIdeal.nD KernelIdeal.τ).loc KernelIdeal.main_arg3) = m ((c : Thread KernelIdeal.nD KernelIdeal.τ).loc KernelIdeal.main_arg3)
        ∧ r.2.mem ((c : Thread KernelIdeal.nD KernelIdeal.τ).loc KernelIdeal.main_arg4) = m ((c : Thread KernelIdeal.nD KernelIdeal.τ).loc KernelIdeal.main_arg4)
        ∧ r.2.mem ((c : Thread KernelIdeal.nD KernelIdeal.τ).loc KernelIdeal.main_arg5) = m ((c : Thread KernelIdeal.nD KernelIdeal.τ).loc KernelIdeal.main_arg5)
        ∧ r.2.mem ((c : Thread KernelIdeal.nD KernelIdeal.τ).loc KernelIdeal.main_arg6) = m ((c : Thread KernelIdeal.nD KernelIdeal.τ).loc KernelIdeal.main_arg6)
        ∧ r.2.mem ((c : Thread KernelIdeal.nD KernelIdeal.τ).loc KernelIdeal.main_arg7) = m ((c : Thread KernelIdeal.nD KernelIdeal.τ).loc KernelIdeal.main_arg7)
        ∧ r.2.mem ((c : Thread KernelIdeal.nD KernelIdeal.τ).loc KernelIdeal.main_arg8) = m ((c : Thread KernelIdeal.nD KernelIdeal.τ).loc KernelIdeal.main_arg8)
        ∧ r.2.mem ((c : Thread KernelIdeal.nD KernelIdeal.τ).loc KernelIdeal.main_arg9) = m ((c : Thread KernelIdeal.nD KernelIdeal.τ).loc KernelIdeal.main_arg9)
        ∧ r.2.mem ((c : Thread KernelIdeal.nD KernelIdeal.τ).loc KernelIdeal.main_arg10) = m ((c : Thread KernelIdeal.nD KernelIdeal.τ).loc KernelIdeal.main_arg10)
        ∧ r.2.mem ((c : Thread KernelIdeal.nD KernelIdeal.τ).loc KernelIdeal.main_arg11) = m ((c : Thread KernelIdeal.nD KernelIdeal.τ).loc KernelIdeal.main_arg11)
        ∧ r.2.mem ((c : Thread KernelIdeal.nD KernelIdeal.τ).loc KernelIdeal.main_arg12) = m ((c : Thread KernelIdeal.nD KernelIdeal.τ).loc KernelIdeal.main_arg12)
        ∧ r.2.mem ((c : Thread KernelIdeal.nD KernelIdeal.τ).loc KernelIdeal.main_arg13) = m ((c : Thread KernelIdeal.nD KernelIdeal.τ).loc KernelIdeal.main_arg13)
        ∧ r.2.mem ((c : Thread KernelIdeal.nD KernelIdeal.τ).loc KernelIdeal.main_arg14) = m ((c : Thread KernelIdeal.nD KernelIdeal.τ).loc KernelIdeal.main_arg14)
        ∧ r.2.mem ((c : Thread KernelIdeal.nD KernelIdeal.τ).loc KernelIdeal.main_arg15) = m ((c : Thread KernelIdeal.nD KernelIdeal.τ).loc KernelIdeal.main_arg15)
        ∧ r.2.mem ((c : Thread KernelIdeal.nD KernelIdeal.τ).loc KernelIdeal.main_arg16) = m ((c : Thread KernelIdeal.nD KernelIdeal.τ).loc KernelIdeal.main_arg16)
        ∧ r.2.mem ((c : Thread KernelIdeal.nD KernelIdeal.τ).loc KernelIdeal.main_arg17) = m ((c : Thread KernelIdeal.nD KernelIdeal.τ).loc KernelIdeal.main_arg17)
        ∧ r.2.mem ((c : Thread KernelIdeal.nD KernelIdeal.τ).loc KernelIdeal.main_arg18) = m ((c : Thread KernelIdeal.nD KernelIdeal.τ).loc KernelIdeal.main_arg18)
        ∧ r.2.mem ((c : Thread KernelIdeal.nD KernelIdeal.τ).loc KernelIdeal.main_arg19) = m ((c : Thread KernelIdeal.nD KernelIdeal.τ).loc KernelIdeal.main_arg19)
        ∧ r.2.mem ((c : Thread KernelIdeal.nD KernelIdeal.τ).loc KernelIdeal.main_arg20) = m ((c : Thread KernelIdeal.nD KernelIdeal.τ).loc KernelIdeal.main_arg20)
        ∧ r.2.mem ((c : Thread KernelIdeal.nD KernelIdeal.τ).loc KernelIdeal.main_arg21) = m ((c : Thread KernelIdeal.nD KernelIdeal.τ).loc KernelIdeal.main_arg21)) :=
  (θ_run Cert.KernelIdeal.defs _ _).mono (fun _ h c => ⟨(h c).1.trans (KernelIdeal.Val.result ρ (good m hpre c)), (h c).2⟩)
    (KernelIdeal.Val.run (F := Ideal) m ρ)

/-- The reference's term, on arguments agreeing with the kernel's, is that function. -/
theorem res_val (m : (ℓ : Loc KernelIdeal.nD KernelIdeal.τ KernelIdeal.sig) → Buf (Elt Ideal) ℓ) (c : Dev KernelIdeal.nD)
    (V0 : Valuation ReferenceIdeal.τ ReferenceIdeal.sig (Elt Ideal))
    (h : ∀ b r q, ReferenceIdeal.Val.res V0 (ix3 b r q) = fea1 (KernelIdeal.Val.wts1 m c) (KernelIdeal.Val.F1 m c) (KernelIdeal.Val.P1 m c)
      (KernelIdeal.Val.a1 m c) (KernelIdeal.Val.nb1 m c) b r q) : ReferenceIdeal.Val.res V0 = val m c := by
  funext y
  refine Eq.trans (congrArg (ReferenceIdeal.Val.res V0) (?_ : y = ix3 (y 0) (y 1) (y 2))) (h (y 0) (y 1) (y 2))
  funext a; match a with | ⟨0, _⟩ => rfl | ⟨1, _⟩ => rfl | ⟨2, _⟩ => rfl

/-- Over the reals the kernel and the reference end with the same result. -/
theorem algebraic : Cert.algebraic_KernelIdeal_ReferenceIdeal_pre_tame := by
  intro m ρ m' ρ' hpre hagree
  refine ⟨val m, ker_run m ρ hpre, ?_⟩
  refine (θ_run Cert.ReferenceIdeal.defs _ _).mono (fun _ h c => ⟨(h c).1.trans ?_, (h c).2⟩) (ref_run m' ρ')
  obtain ⟨e0, e1, e2, e3, e4, e5, e6, e7, e8, e9, e10, e11, e12, e13, e14, e15, e16, e17, e18, e19, e20, e21⟩ := hagree c
  exact res_val m c _ (ref_eq m c (launchContents m' c) e0 e1 e2 e5 e6 e9 e10 e11 e12 e13 e14 e15 e16 e17 e18 e19 e20 e21 (good m hpre c))

end Cert.Claims
-- ==== Proof.FlatVal.lean ====
/-
  The projection of the flattened features: the call's accumulated output and the reference's term.
-/
module

public import proofs.«01_k».proof.Proof.Gen.FlatIdeal.Value
public import proofs.«01_k».proof.Proof.Gen.FlatRefIdeal.Run
public import proofs.«01_k».proof.Proof.Stage
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.FlatIdeal.Val
open Cert.FlatIdeal Cert.FlatIdeal.Gen
variable (m : (ℓ : Loc nD τ sig) → Buf (Elt Ideal) ℓ) (ρ : Dev nD → PrngReg)

/-- The projection of the rows `x` by the weights `w` and the bias `b`. -/
def proj (x : Fin 32 → Fin 32768 → EReal) (w : Fin 1024 → Fin 32768 → EReal) (b : Fin 1024 → EReal) (r : Fin 32) (o : Fin 1024) : EReal :=
  b o + ∑ k : Fin 32768, x r k * w o k

/-- The place of a chunk's column in its row. -/
def col (s : ℕ) (k : Fin 2048) : Fin 32768 := ⟨(s * 2048 + k.val) % 32768, Nat.mod_lt _ (by decide)⟩

/-- One chunk's part of the projection. -/
def part (x : Fin 32 → Fin 32768 → EReal) (w : Fin 1024 → Fin 32768 → EReal) (r : Fin 32) (o : Fin 1024) (s : ℕ) : EReal :=
  ∑ k : Fin 2048, x r (col s k) * w o (col s k)

/-- The sixteen chunks make the row. -/
theorem parts (x w) (r : Fin 32) (o : Fin 1024) : ∑ s ∈ Finset.range 16, part x w r o s = ∑ k : Fin 32768, x r k * w o k := by
  rw [← Fin.sum_univ_eq_sum_range (fun s => part x w r o s) 16]
  unfold part
  rw [← Fintype.sum_prod_type' (fun (s : Fin 16) (k : Fin 2048) => x r (col s.val k) * w o (col s.val k))]
  rw [← Equiv.sum_comp (finProdFinEquiv (m := 16) (n := 2048)) (fun k : Fin 32768 => x r k * w o k)]
  refine Finset.sum_congr rfl fun p _ => ?_
  have e : col p.1.val p.2 = (finProdFinEquiv (m := 16) (n := 2048) p : Fin 32768) := by
    refine Fin.ext ?_
    obtain ⟨s, k⟩ := p
    show (s.val * 2048 + k.val) % 32768 = k.val + 2048 * s.val
    omega
  rw [e]

/-- The rows the call finds: the features flattened. -/
abbrev X (c : Dev nD) (r : Fin 32) (k : Fin 32768) : EReal := V m c main_v0 (ix2 r k)
/-- The weights the call finds. -/
abbrev W (c : Dev nD) (o : Fin 1024) (k : Fin 32768) : EReal := m ((c : Thread nD τ).loc main_arg1) (ix2 o k)
/-- The bias the call is given. -/
abbrev B (c : Dev nD) (o : Fin 1024) : EReal := m ((c : Thread nD τ).loc main_arg2) (ix1 o)

/-- The projection of the launch arrays. -/
def val (c : Dev nD) : (⟨S32x1024, .f32⟩ : BufTy).Contents (Elt Ideal) :=
  fun y => proj (X m c) (W m c) (B m c) (y 0) (y 1)

/-- The windows' index maps. -/
theorem idx : ∀ t : Fin cfg0.N, win0_0.index t = ![0, t.val] ∧ win0_1.index t = ![0, t.val] ∧ win0_2.index t = ![0, 0] ∧ win0_3.index t = ![0, 0] :=
  (by decide +kernel : ∀ t : Fin grid0.N, _)

/-- A row block is a chunk of the rows. -/
theorem blk0 (c : Dev nD) (t : Fin cfg0.N) (r : Fin 32) (k : Fin 2048) : iblk m c 0 t (ix2 r k) = V m c main_v0 (ix2 r (col t.val k)) := by
  have := t.isLt
  have : t.val < 16 := lt_of_lt_of_eq t.isLt N_0
  blk_ext [iblk, idx t, col]
/-- A weight block is a chunk of the weights. -/
theorem blk1 (c : Dev nD) (t : Fin cfg0.N) (o : Fin 1024) (k : Fin 2048) : iblk m c 1 t (ix2 o k) = V m c main_arg1 (ix2 o (col t.val k)) := by
  have : t.val < 16 := lt_of_lt_of_eq t.isLt N_0
  blk_ext [iblk, idx t, col]
/-- The bias block is the bias's row. -/
theorem blk2 (c : Dev nD) (t : Fin cfg0.N) (y) : iblk m c 2 t y = V m c main_v1 y := by
  blk_ext [iblk, idx t]

/-- The bias's row, as the call finds it. -/
theorem bias (c : Dev nD) (o : Fin 1024) : V m c main_v1 (ix2 0 o) = B m c o := by
  entry_read
  pointwise

/-- What the first point leaves. -/
theorem outA (c : Dev nD) (i : grid0.Coords) (a1) (ha1) (a2) (ha2) (a3) (ha3) (a4) (ha4) (h0) (h1)
    (x0 : Vec Ideal S32x2048 .f32) (x1 : Vec Ideal S1024x2048 .f32) (x2 : Vec Ideal S1x1024 .f32) (r : Fin 32) (o : Fin 1024) :
    out0_A_3 c i a1 ha1 a2 ha2 a3 ha3 a4 ha4 h0 h1 x0 x1 x2 (ix2 r o) = x2 (ix2 0 o) + ∑ k : Fin 2048, x0 (ix2 r k) * x1 (ix2 o k) := by
  frame_out
  pointwise [k0_pay1, k0_pay2]

/-- What a later point leaves, over what the point before left. -/
theorem outB (c : Dev nD) (i : grid0.Coords) (a1) (ha1) (a2) (ha2) (a3) (ha3) (a4) (ha4) (h0) (h1)
    (x0 : Vec Ideal S32x2048 .f32) (x1 : Vec Ideal S1024x2048 .f32) (x2 : Vec Ideal S1x1024 .f32) (xo : Vec Ideal S32x1024 .f32) (r : Fin 32) (o : Fin 1024) :
    out0_B_3 c i a1 ha1 a2 ha2 a3 ha3 a4 ha4 h0 h1 x0 x1 x2 xo (ix2 r o) = xo (ix2 r o) + ∑ k : Fin 2048, x0 (ix2 r k) * x1 (ix2 o k) := by
  frame_out
  pointwise [k0_pay1, k0_pay3]

/-- A chunk's part, in the blocks' terms. -/
theorem chunk (c : Dev nD) (t : Fin cfg0.N) (r : Fin 32) (o : Fin 1024) :
    ∑ k : Fin 2048, (show FVec Ideal S32x2048 .f32 from iblk m c 0 t) (ix2 r k) * (show FVec Ideal S1024x2048 .f32 from iblk m c 1 t) (ix2 o k) = part (X m c) (W m c) r o t.val := by
  unfold part X W
  refine Finset.sum_congr (M := EReal) (ι := Fin 2048) rfl fun k _ => ?_
  refine congrArg₂ (· * ·) (blk0 m c t r k) ((blk1 m c t o k).trans ?_)
  rw [V_main_arg1]

/-- What the points up to `n` leave: the bias and their chunks' parts. -/
theorem outs (c : Dev nD) : ∀ (n : ℕ) (hn : n < cfg0.N) (r : Fin 32) (o : Fin 1024),
    outsAt0 m c n hn (ix2 r o) = B m c o + ∑ s ∈ Finset.range (n + 1), part (X m c) (W m c) r o s
  | 0, hn, r, o => by
    have h := outsAt0_A m c ⟨0, hn⟩ rfl (by show ¬ 1 ≤ 0; omega)
    refine (congrFun h (ix2 r o)).trans ?_
    rw [outA, blk2, bias, chunk m c ⟨0, hn⟩]
    simp
  | n + 1, hn, r, o => by
    have hN : n + 1 < 16 := lt_of_lt_of_eq hn N_0
    have h := outsAt0_B m c ⟨n + 1, hn⟩ (by show ¬ (n + 1) % 16 = 0; omega) (by show 1 ≤ n + 1; omega)
    refine (congrFun h (ix2 r o)).trans ?_
    rw [outB, chunk m c ⟨n + 1, hn⟩]
    rw [Finset.sum_range_succ, ← add_assoc]
    exact congrArg (· + part (X m c) (W m c) r o (n + 1)) (outs c n (Nat.lt_of_succ_lt hn) r o)

/-- What the last point leaves: the projection. -/
theorem outsLast (c : Dev nD) (t : Fin cfg0.N) (ht : t.val = 15) (r : Fin 32) (o : Fin 1024) :
    outsAt0 m c t.val t.isLt (ix2 r o) = proj (X m c) (W m c) (B m c) r o := by
  rw [outs m c t.val t.isLt r o, show t.val + 1 = 16 by omega, parts]
  rfl

/-- The call's output array is the projection. -/
theorem arr (c : Dev nD) : (dats m 0 c).arrAt 3 cfg0.N = val m c := by
  refine (dats m 0 c).arrAt_eq_of_covers 3 _ (by decide +kernel) fun t ht y => ?_
  have hl : t.val = 15 := (by decide +kernel : ∀ t : Fin grid0.N, win0_3.flush t = true → t.val = 15) t ht
  blk_simp
  rw [after0_3]
  have hy : y = (ix2 (y 0) (y 1) : S32x1024.Idx) := by blk_ext
  have e0 : ((win0_3.blk t).view.emb y) 0 = y 0 := by refine Fin.ext ?_; blk_simp [idx t]; try omega
  have e1 : ((win0_3.blk t).view.emb y) 1 = y 1 := by refine Fin.ext ?_; blk_simp [idx t]; try omega
  have key := outsLast m c t hl (y 0) (y 1)
  unfold val
  rw [e0, e1, hy]
  exact key

/-- The kernel's run ends with the projection, the arguments unchanged. -/
theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr m c), (h c).2⟩) (Value.run_blocks (F := Ideal) m ρ)

end Cert.FlatIdeal.Val

namespace Cert.FlatRefIdeal.Val
open Cert.FlatRefIdeal Cert.FlatRefIdeal.Gen

/-- The reference's term of its arguments. -/
def res (x : FVec Ideal S32x32x1024 .f32) (w : FVec Ideal S1024x32768 .f32)
    (b : FVec Ideal S1024 .f32) : FVec Ideal S32x1024 .f32 :=
  addf (Host.dotGeneral dot_S32x32768_S32768x1024_S32x1024_1_0_0_1_n_n none (shapeCast S32x32768 x shapeCasts_S32x32x1024_S32x32768)
      (transpose S32768x1024 [1, 0] w transposes_S1024x32768_S32768x1024_1_0))
    (broadcastInDim S32x1024 ![0, 1] bcast_S1x1024_S32x1024_0_1 (broadcastInDim S1x1024 ![1] bcast_S1024_S1x1024_1 b))

/-- The sum of a flattened row's terms, whatever the row is. -/
theorem res_gen (x : FVec Ideal S32x32768 .f32) (w : FVec Ideal S1024x32768 .f32)
    (b : FVec Ideal S1024 .f32) (r : Fin 32) (o : Fin 1024) :
    addf (Host.dotGeneral dot_S32x32768_S32768x1024_S32x1024_1_0_0_1_n_n none x
      (transpose S32768x1024 [1, 0] w transposes_S1024x32768_S32768x1024_1_0))
    (broadcastInDim S32x1024 ![0, 1] bcast_S1x1024_S32x1024_0_1 (broadcastInDim S1x1024 ![1] bcast_S1024_S1x1024_1 b)) (ix2 r o)
      = FlatIdeal.Val.proj (fun r k => x (ix2 r k)) (fun o k => w (ix2 o k)) (fun o => b (ix1 o)) r o := by
  unfold FlatIdeal.Val.proj
  pointwise
  exact add_comm (G := EReal) _ _

/-- The reference's term is the projection. -/
theorem res_eq (x w b) (y) : res x w b y
    = FlatIdeal.Val.proj (fun r k => shapeCast S32x32768 x shapeCasts_S32x32x1024_S32x32768 (ix2 r k)) (fun o k => w (ix2 o k)) (fun o => b (ix1 o)) (y 0) (y 1) := by
  have hy : y = (ix2 (y 0) (y 1) : S32x1024.Idx) := by
    funext a; match a with | ⟨0, _⟩ => rfl | ⟨1, _⟩ => rfl
  rw [hy]
  exact res_gen _ w b (y 0) (y 1)

end Cert.FlatRefIdeal.Val

namespace Cert.FlatIdeal.Val
open Cert.FlatIdeal Cert.FlatIdeal.Gen
variable (m : (ℓ : Loc nD τ sig) → Buf (Elt Ideal) ℓ)

/-- The rows the call finds are the features' row-major flattening. -/
theorem rows (c : Dev nD) : V m c main_v0 = shapeCast S32x32768 (m ((c : Thread nD τ).loc main_arg0)) shapeCasts_S32x32x1024_S32x32768 := by
  entry_read
  try rfl

end Cert.FlatIdeal.Val
-- ==== Proof.DimVal.lean ====
/-
  The last projection: the call's output array and the reference's term.
-/
module

public import proofs.«01_k».proof.Proof.Gen.DimIdeal.Value
public import proofs.«01_k».proof.Proof.Gen.DimRefIdeal.Run
public import proofs.«01_k».proof.Proof.Stage
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.DimIdeal.Val
open Cert.DimIdeal Cert.DimIdeal.Gen
variable (m : (ℓ : Loc nD τ sig) → Buf (Elt Ideal) ℓ) (ρ : Dev nD → PrngReg)

/-- The projection of the rows `x` by the weights `w` and the bias `b`. -/
def proj (x : Fin 32 → Fin 1024 → EReal) (w : Fin 4096 → Fin 1024 → EReal) (b : Fin 4096 → EReal) (r : Fin 32) (o : Fin 4096) : EReal :=
  b o + ∑ k : Fin 1024, x r k * w o k

/-- The projection of the launch arrays. -/
def val (c : Dev nD) : (⟨S32x4096, .f32⟩ : BufTy).Contents (Elt Ideal) :=
  fun y => proj (fun r k => m ((c : Thread nD τ).loc main_arg0) (ix2 r k)) (fun o k => m ((c : Thread nD τ).loc main_arg1) (ix2 o k))
    (fun o => m ((c : Thread nD τ).loc main_arg2) (ix1 o)) (y 0) (y 1)

/-- The one grid point's index maps. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- Each input block is its whole array. -/
theorem blk0 (c : Dev nD) (t : Fin cfg0.N) (y) : iblk m c 0 t y = V m c main_arg0 y := by
  blk_ext [iblk, idx t]
theorem blk1 (c : Dev nD) (t : Fin cfg0.N) (y) : iblk m c 1 t y = V m c main_arg1 y := by
  blk_ext [iblk, idx t]
theorem blk2 (c : Dev nD) (t : Fin cfg0.N) (y) : iblk m c 2 t y = V m c main_v0 y := by
  blk_ext [iblk, idx t]

/-- The bias's row, as the call finds it. -/
theorem bias (c : Dev nD) (o : Fin 4096) : V m c main_v0 (ix2 0 o) = m ((c : Thread nD τ).loc main_arg2) (ix1 o) := by
  entry_read
  pointwise

/-- The call's output array is the projection. -/
theorem arr (c : Dev nD) : (dats m 0 c).arrAt 3 cfg0.N = val m c := by
  refine (dats m 0 c).arrAt_eq_of_covers 3 _ (by decide +kernel) fun t _ y => ?_
  blk_simp
  rw [after0_3]
  frame_out
  pointwise [k0_pay1]
  unfold val proj
  refine congrArg₂ (· + ·) ?_ (Finset.sum_congr (M := EReal) (ι := Fin 1024) rfl fun e _ => ?_)
  · rw [blk2]
    refine Eq.trans ?_ (bias m c _)
    blk_ext [idx t]
  · rw [blk0, blk1, V_main_arg0, V_main_arg1]
    refine congrArg₂ (· * ·) ?_ ?_ <;> blk_ext [idx t]

/-- The kernel's run ends with the projection, the arguments unchanged. -/
theorem run : θ_run defs (onTc (τ := τ) (main (F := Ideal))) ⟨m, fun _ => 0, ρ⟩ fun r => ∀ c : Dev nD,
      r.2.mem ((c : Thread nD τ).loc main_v1) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr m c), (h c).2⟩) (Value.run_blocks (F := Ideal) m ρ)

end Cert.DimIdeal.Val

namespace Cert.DimRefIdeal.Val
open Cert.DimRefIdeal Cert.DimRefIdeal.Gen

/-- The reference's term of its arguments. -/
def res (x : FVec Ideal S32x1024 .f32) (w : FVec Ideal S4096x1024 .f32)
    (b : FVec Ideal S4096 .f32) : FVec Ideal S32x4096 .f32 :=
  addf (Host.dotGeneral dot_S32x1024_S1024x4096_S32x4096_1_0_0_1_n_n none x (transpose S1024x4096 [1, 0] w transposes_S4096x1024_S1024x4096_1_0))
    (broadcastInDim S32x4096 ![0, 1] bcast_S1x4096_S32x4096_0_1 (broadcastInDim S1x4096 ![1] bcast_S4096_S1x4096_1 b))

/-- The reference's term is the projection. -/
theorem res_eq (x w b) (y) : res x w b y
    = DimIdeal.Val.proj (fun r k => x (ix2 r k)) (fun o k => w (ix2 o k)) (fun o => b (ix1 o)) (y 0) (y 1) := by
  have hy : y = (ix2 (y 0) (y 1) : S32x4096.Idx) := by
    funext a; match a with | ⟨0, _⟩ => rfl | ⟨1, _⟩ => rfl
  rw [hy]
  generalize y 0 = r
  generalize y 1 = o
  unfold DimIdeal.Val.proj
  pointwise [res]
  exact add_comm (G := EReal) _ _

end Cert.DimRefIdeal.Val
-- ==== Proof.Claims2.lean ====
/-
  The claims about the two projections' calls.
-/
module

public import proofs.«01_k».proof.Defs
public import proofs.«01_k».proof.Proof.Gen.Flat.Frame
public import proofs.«01_k».proof.Proof.Gen.Dim.Frame
public import proofs.«01_k».proof.Proof.FlatVal
public import proofs.«01_k».proof.Proof.DimVal

@[expose] public section
set_option maxRecDepth 16384
noncomputable section

namespace Cert.Claims.Flat
open Idealize.ShloMosaic.StableHlo
open Idealize.ShloMosaic Idealize.ShloMosaic.TcCoe Idealize.ShloMosaic.Tactic Idealize.SL.Sem

/-- The call's program runs, leaves its arguments and ends quiescent. -/
theorem frame_p : Cert.quiescent_Flat := fun m ρ _ => Cert.Flat.Gen.frame m ρ

/-- The same of its idealization. -/
theorem frame_pi : Cert.quiescent_FlatIdeal := fun m ρ _ => Cert.FlatIdeal.Gen.frame m ρ

/-- The reference runs, leaves its arguments and ends quiescent. -/
theorem frame_ri : Cert.quiescent_FlatRefIdeal := fun m ρ _ =>
  (θ_run Cert.FlatRefIdeal.defs _ _).mono (fun r h => ⟨fun c => (h c).2,
      Idealize.ShloMosaic.sem_eq_zero_of_no_sems (by decide) r.2⟩)
    (Cert.FlatRefIdeal.Value.run (F := Ideal) m ρ)

/-- No operation is rewritten. -/
theorem preserves : Cert.preserves_Flat_FlatIdeal := trivial

/-- Over the reals the call and the reference end with the same result. -/
theorem algebraic : Cert.algebraic_FlatIdeal_FlatRefIdeal := by
  intro m ρ m' ρ' _ hagree
  refine ⟨FlatIdeal.Val.val m, FlatIdeal.Val.run m ρ, ?_⟩
  refine (θ_run Cert.FlatRefIdeal.defs _ _).mono (fun _ h c => ⟨(h c).1.trans ?_, (h c).2⟩) (FlatRefIdeal.Value.run (F := Ideal) m' ρ')
  obtain ⟨e0, e1, e2⟩ := hagree c
  rw [e0, e1, e2]
  exact funext fun y => (FlatRefIdeal.Val.res_eq _ _ _ y).trans (by
    unfold FlatIdeal.Val.val FlatIdeal.Val.X
    rw [FlatIdeal.Val.rows])

end Cert.Claims.Flat

namespace Cert.Claims.Dim
open Idealize.ShloMosaic.StableHlo
open Idealize.ShloMosaic Idealize.ShloMosaic.TcCoe Idealize.ShloMosaic.Tactic Idealize.SL.Sem

/-- The call's program runs, leaves its arguments and ends quiescent. -/
theorem frame_p : Cert.quiescent_Dim := fun m ρ _ => Cert.Dim.Gen.frame m ρ

/-- The same of its idealization. -/
theorem frame_pi : Cert.quiescent_DimIdeal := fun m ρ _ => Cert.DimIdeal.Gen.frame m ρ

/-- The reference runs, leaves its arguments and ends quiescent. -/
theorem frame_ri : Cert.quiescent_DimRefIdeal := fun m ρ _ =>
  (θ_run Cert.DimRefIdeal.defs _ _).mono (fun r h => ⟨fun c => (h c).2,
      Idealize.ShloMosaic.sem_eq_zero_of_no_sems (by decide) r.2⟩)
    (Cert.DimRefIdeal.Value.run (F := Ideal) m ρ)

/-- No operation is rewritten. -/
theorem preserves : Cert.preserves_Dim_DimIdeal := trivial

/-- Over the reals the call and the reference end with the same result. -/
theorem algebraic : Cert.algebraic_DimIdeal_DimRefIdeal := by
  intro m ρ m' ρ' _ hagree
  refine ⟨DimIdeal.Val.val m, DimIdeal.Val.run m ρ, ?_⟩
  refine (θ_run Cert.DimRefIdeal.defs _ _).mono (fun _ h c => ⟨(h c).1.trans ?_, (h c).2⟩) (DimRefIdeal.Value.run (F := Ideal) m' ρ')
  obtain ⟨e0, e1, e2⟩ := hagree c
  rw [e0, e1, e2]
  exact funext fun y => (DimRefIdeal.Val.res_eq _ _ _ y)

end Cert.Claims.Dim
-- ==== Proof.Bilinear.lean ====
/-
  Bilinear sampling of a 24 by 24 map with zeros outside: the four gathered taps, and the one-hot row of weights that
  sums to them.
-/
module

public import proofs.«01_k».proof.Proof.Real
public import proofs.«01_k».proof.Proof.Gather

@[expose] public section
set_option maxRecDepth 16384
noncomputable section
open Idealize.ShloMosaic

namespace Cert.Math

/-- A point's coordinate in pixels. -/
def co (p : EReal) : EReal :=
  (Ideal.ofBits FTy.f32 0x40000000#32 * p - 1 + 1) * Ideal.ofBits FTy.f32 0x3F000000#32 * Ideal.ofBits FTy.f32 0x41B80000#32
/-- The pixel below a coordinate. -/
def lo (x : EReal) : EReal := Ideal.liftRound Int.floor x
/-- The pixel above. -/
def hi (x : EReal) : EReal := lo x + 1
/-- The weight of the pixel above. -/
def fr (x : EReal) : EReal := x - lo x
/-- The weight of the pixel below. -/
def cf (x : EReal) : EReal := 1 - fr x
/-- The clamped index of a pixel, as a word. -/
def wd (i : EReal) : BitVec 32 :=
  Ideal.fptosi 32 (min (((23#32).toInt : ℝ) : EReal) (max (((0#32).toInt : ℝ) : EReal) i))
/-- Whether a pixel lies in the map, as a bit. -/
def ok (a b : EReal) : BitVec 1 :=
  IntOp.andi (IntOp.andi (IntOp.andi (BitVec.ofBool (decide (0 ≤ a))) (BitVec.ofBool (decide (a ≤ Ideal.ofBits FTy.f32 0x41B80000#32))))
    (BitVec.ofBool (decide (0 ≤ b)))) (BitVec.ofBool (decide (b ≤ Ideal.ofBits FTy.f32 0x41B80000#32)))
/-- Whether a pixel lies in the map, as zero or one. -/
def vl (a b : EReal) : EReal := if ok a b = 1#1 then 1 else 0

/-- The word of 23.0, at the reals. -/
theorem w23 : Ideal.ofBits FTy.f32 0x41B80000#32 = ((23 : ℝ) : EReal) := by
  simp [Ideal.ofBits, Ideal.ieee]
  rw [← EReal.coe_mul]
  norm_num

/-- Finite minima. -/
theorem coe_min (a b : ℝ) : min (a : EReal) (b : EReal) = ((min a b : ℝ) : EReal) :=
  (EReal.coe_strictMono.monotone.map_min).symm

/-- The clamped index is in range. -/
theorem wd_lt (i : EReal) : (wd i).toNat < 24 := by
  unfold wd
  have h23 : (23#32).toInt = 23 := by decide
  have h0 : (0#32).toInt = 0 := by decide
  rw [h23, h0]
  obtain ⟨r, hr, h1, h2⟩ : ∃ r : ℝ, min (((23 : ℤ) : ℝ) : EReal) (max (((0 : ℤ) : ℝ) : EReal) i) = (r : EReal) ∧ 0 ≤ r ∧ r ≤ 23 := by
    induction i using EReal.rec with
    | bot => exact ⟨0, by simp, by norm_num, by norm_num⟩
    | top => exact ⟨23, by simp, by norm_num, by norm_num⟩
    | coe x =>
      refine ⟨min 23 (max 0 x), ?_, ?_, ?_⟩
      · rw [coe_max, coe_min]; norm_num
      · exact le_min (by norm_num) (le_max_left _ _)
      · exact min_le_left _ _
  rw [hr]
  have hf0 : 0 ≤ ⌊r⌋ := Int.floor_nonneg.mpr h1
  have hf1 : ⌊r⌋ ≤ 23 := by
    have : (⌊r⌋ : ℝ) ≤ 23 := (Int.floor_le r).trans h2
    exact_mod_cast this
  have ht : Ideal.toIntClamped (-(2 ^ (32 - 1) : Nat)) ((2 ^ (32 - 1) : Nat) - 1) (r : EReal) = ⌊r⌋ := by
    show max _ (min _ (if 0 ≤ r then ⌊r⌋ else ⌈r⌉)) = _
    rw [if_pos h1]
    omega
  unfold Ideal.fptosi
  rw [ht]
  obtain ⟨n, hn⟩ := Int.eq_ofNat_of_zero_le hf0
  rw [hn] at hf1 ⊢
  rw [BitVec.ofInt_natCast, BitVec.toNat_ofNat]
  omega

/-- A pixel outside the map has weight zero; one inside has finite, bounded coordinates. -/
theorem vl_cases (a b : EReal) : vl a b = 0 ∨ (vl a b = 1 ∧ 0 ≤ a ∧ a ≤ ((23 : ℝ) : EReal) ∧ 0 ≤ b ∧ b ≤ ((23 : ℝ) : EReal)) := by
  unfold vl ok
  rw [w23]
  by_cases h1 : 0 ≤ a <;> by_cases h2 : a ≤ ((23 : ℝ) : EReal) <;> by_cases h3 : 0 ≤ b <;> by_cases h4 : b ≤ ((23 : ℝ) : EReal) <;>
    simp [h1, h2, h3, h4, IntOp.andi]

/-- A coordinate whose lower or upper pixel is in range is finite, so its weights are not negative. -/
theorem fr_nonneg {x a : EReal} (ha : a = lo x ∨ a = hi x) (h0 : 0 ≤ a) (h1 : a ≤ ((23 : ℝ) : EReal)) : 0 ≤ fr x ∧ 0 ≤ cf x := by
  induction x using EReal.rec with
  | bot =>
    exfalso
    have hb : lo ⊥ = ⊥ := rfl
    have : a = ⊥ := by rcases ha with h | h <;> rw [h] <;> simp [hi, hb]
    rw [this] at h0
    exact absurd h0 (by simp)
  | top =>
    exfalso
    have hb : lo ⊤ = ⊤ := rfl
    have hc : (⊤ : EReal) + 1 = ⊤ := by rw [← EReal.coe_one]; exact EReal.top_add_coe 1
    have : a = ⊤ := by rcases ha with h | h <;> rw [h] <;> simp [hi, hb, hc]
    rw [this] at h1
    exact absurd h1 (by simp)
  | coe r =>
    have hl : lo (r : EReal) = ((⌊r⌋ : ℝ) : EReal) := rfl
    have hf : fr (r : EReal) = ((r - ⌊r⌋ : ℝ) : EReal) := by unfold fr; rw [hl, ← EReal.coe_sub]
    have hc : cf (r : EReal) = ((1 - (r - ⌊r⌋) : ℝ) : EReal) := by
      unfold cf; rw [hf, ← EReal.coe_one, ← EReal.coe_sub]
    rw [hf, hc]
    have := Int.floor_le r
    have := Int.lt_floor_add_one r
    exact ⟨EReal.coe_nonneg.mpr (by linarith), EReal.coe_nonneg.mpr (by linarith)⟩

/-- A tap's weight, nothing outside the map, is not negative. -/
theorem tap_nonneg {x y a b u v : EReal} (ha : a = lo x ∨ a = hi x) (hb : b = lo y ∨ b = hi y)
    (hu : u = fr x ∨ u = cf x) (hv : v = fr y ∨ v = cf y) : 0 ≤ u * v * vl a b := by
  rcases vl_cases a b with h | ⟨h, h0, h1, h2, h3⟩
  · rw [h, mul_zero]
  · rw [h, mul_one]
    have hx := fr_nonneg ha h0 h1
    have hy := fr_nonneg hb h2 h3
    refine mul_nonneg ?_ ?_
    · rcases hu with h | h <;> rw [h]; exacts [hx.1, hx.2]
    · rcases hv with h | h <;> rw [h]; exacts [hy.1, hy.2]

/-- A pixel's position in the row-major map. -/
def at_ (a b : EReal) : Fin 576 := ⟨(wd b).toNat * 24 + (wd a).toNat, by have := wd_lt a; have := wd_lt b; omega⟩

/-- A tap's one-hot row. -/
def tap (s : ℕ) (a b w : EReal) : EReal :=
  Scalar.select (IntOp.cmpi CmpIPredicate.eq (BitVec.ofNat 32 s) (IntOp.addi (IntOp.muli (wd b) 24#32) (wd a))) w 0

theorem tap_eq (s : Fin 576) (a b w : EReal) : tap s.val a b w = if s = at_ a b then w else 0 := by
  have ha := wd_lt a
  have hb := wd_lt b
  have hs := s.isLt
  have hw : (IntOp.addi (IntOp.muli (wd b) 24#32) (wd a)) = BitVec.ofNat 32 (at_ a b).val := by
    apply BitVec.eq_of_toNat_eq
    show (wd b * 24#32 + wd a).toNat = _
    rw [BitVec.toNat_add, BitVec.toNat_mul, BitVec.toNat_ofNat, BitVec.toNat_ofNat]
    show _ = ((wd b).toNat * 24 + (wd a).toNat) % _
    omega
  unfold tap
  rw [hw]
  by_cases h : s = at_ a b
  · rw [if_pos h, h]
    simp [IntOp.cmpi, Scalar.select]
  · rw [if_neg h]
    have hne : BitVec.ofNat 32 s.val ≠ BitVec.ofNat 32 (at_ a b).val := by
      intro e
      apply h
      apply Fin.ext
      have := congrArg BitVec.toNat e
      rw [BitVec.toNat_ofNat, BitVec.toNat_ofNat] at this
      have := (at_ a b).isLt
      omega
    have hb : (BitVec.ofNat 32 s.val == BitVec.ofNat 32 (at_ a b).val) = false := by simpa using hne
    simp [IntOp.cmpi, Scalar.select, hb]

/-- A one-hot row of one weight, summed against values. -/
theorem sum_one {n : ℕ} (k : Fin n) (w : EReal) (f : Fin n → EReal) : ∑ s, (if s = k then w else 0) * f s = w * f k := by
  rw [Finset.sum_eq_single k]
  · rw [if_pos rfl]
  · intro s _ hs; rw [if_neg hs, zero_mul]
  · intro h; exact absurd (Finset.mem_univ _) h

/-- Four one-hot rows of weights that are not negative, added and summed against values. -/
theorem sum_four {n : ℕ} (k1 k2 k3 k4 : Fin n) {w1 w2 w3 w4 : EReal} (h1 : 0 ≤ w1) (h2 : 0 ≤ w2) (h3 : 0 ≤ w3) (h4 : 0 ≤ w4) (f : Fin n → EReal) :
    ∑ s, ((if s = k1 then w1 else 0) + (if s = k2 then w2 else 0) + (if s = k3 then w3 else 0) + (if s = k4 then w4 else 0)) * f s
      = w1 * f k1 + w2 * f k2 + w3 * f k3 + w4 * f k4 := by
  have nn : ∀ {w : EReal} (p : Prop) [Decidable p], 0 ≤ w → 0 ≤ (if p then w else 0) := fun p _ h => by
    by_cases hp : p
    · rw [if_pos hp]; exact h
    · rw [if_neg hp]
  have : ∀ s, ((if s = k1 then w1 else 0) + (if s = k2 then w2 else 0) + (if s = k3 then w3 else 0) + (if s = k4 then w4 else 0)) * f s
      = (if s = k1 then w1 else 0) * f s + (if s = k2 then w2 else 0) * f s + (if s = k3 then w3 else 0) * f s + (if s = k4 then w4 else 0) * f s := fun s => by
    rw [EReal.right_distrib_of_nonneg (add_nonneg (add_nonneg (nn _ h1) (nn _ h2)) (nn _ h3)) (nn _ h4),
      EReal.right_distrib_of_nonneg (add_nonneg (nn _ h1) (nn _ h2)) (nn _ h3), EReal.right_distrib_of_nonneg (nn _ h1) (nn _ h2)]
  rw [Finset.sum_congr rfl fun s _ => this s, Finset.sum_add_distrib, Finset.sum_add_distrib, Finset.sum_add_distrib,
    sum_one, sum_one, sum_one, sum_one]

/-- The value at a clamped pixel, zero outside the map. -/
def px (f : Fin 576 → EReal) (a b : EReal) : EReal := f (at_ a b) * vl a b

/-- Bilinear sampling of the map `f` at `(x, y)`. -/
def bil (f : Fin 576 → EReal) (x y : EReal) : EReal :=
  px f (lo x) (lo y) * (cf x * cf y) + px f (hi x) (lo y) * (fr x * cf y) + px f (lo x) (hi y) * (cf x * fr y) + px f (hi x) (hi y) * (fr x * fr y)

/-- The added one-hot rows of the four taps, summed against the map, are its bilinear sample. -/
theorem bil_sum (f : Fin 576 → EReal) (x y : EReal) :
    ∑ s : Fin 576, (tap s.val (lo x) (lo y) (cf x * cf y * vl (lo x) (lo y)) + tap s.val (hi x) (lo y) (fr x * cf y * vl (hi x) (lo y))
      + tap s.val (lo x) (hi y) (cf x * fr y * vl (lo x) (hi y)) + tap s.val (hi x) (hi y) (fr x * fr y * vl (hi x) (hi y))) * f s
      = bil f x y := by
  simp only [tap_eq]
  rw [sum_four]
  · unfold bil px
    simp only [mul_comm, mul_left_comm]
  · exact tap_nonneg (.inl rfl) (.inl rfl) (.inr rfl) (.inr rfl)
  · exact tap_nonneg (.inr rfl) (.inl rfl) (.inl rfl) (.inr rfl)
  · exact tap_nonneg (.inl rfl) (.inr rfl) (.inr rfl) (.inl rfl)
  · exact tap_nonneg (.inr rfl) (.inr rfl) (.inl rfl) (.inl rfl)

variable {α : Type}

/-- The dimension numbers of a gather of the pixels of channel-first maps, one pair of indices per batch, row and point. -/
abbrev pixDims (wf : GatherDims.WF ⟨4, ![4, 1024, 24, 24]⟩ ⟨4, ![4, 8, 512, 2]⟩ ⟨4, ![4, 8, 1024, 512]⟩ [2] [2, 3] [0] [2, 3] [0] 3 ![1, 1024, 1, 1]) :
    GatherDims ⟨4, ![4, 1024, 24, 24]⟩ ⟨4, ![4, 8, 512, 2]⟩ ⟨4, ![4, 8, 1024, 512]⟩ where
  offsetDims := [2]
  collapsedSliceDims := [2, 3]
  operandBatchingDims := [0]
  startIndicesBatchingDims := [0]
  startIndexMap := [2, 3]
  indexVectorDim := 3
  sliceSizes := ![1, 1024, 1, 1]
  wf := wf

/-- That gather at a point: the pixel its two index words name, when they are in range. -/
theorem gather_pix (wf) (x : (⟨4, ![4, 1024, 24, 24]⟩ : Shape).Idx → α) (idx : IVec ⟨4, ![4, 8, 512, 2]⟩ 32) (i : Fin 4) (r : Fin 8) (q : Fin 1024)
    (p : Fin 512) (u v : BitVec 32) (h0 : idx (ix4 i r p 0) = u) (h1 : idx (ix4 i r p 1) = v) (hu : u.toNat < 24) (hv : v.toNat < 24) :
    Host.gather (pixDims wf) x idx (ix4 i r q p) = x (ix4 i q ⟨u.toNat, hu⟩ ⟨v.toNat, hv⟩) := by
  unfold Host.gather
  congr 1
  funext a
  refine Fin.ext ?_
  show (pixDims wf).start (ix4 i r q p) idx a + (pixDims wf).batchCoord (ix4 i r q p) a + (pixDims wf).offCoord (ix4 i r q p) a = _
  have hst : ∀ (a : Fin 4) (ha : a ∈ (pixDims wf).startIndexMap) (k : Fin 2) (hk : List.idxOf a (pixDims wf).startIndexMap = k.val) (w : BitVec 32)
      (hw : idx (ix4 i r p k) = w) (hlt : w.toNat < 24) (hsz : (⟨4, ![4, 1024, 24, 24]⟩ : Shape).size a - (pixDims wf).sliceSizes a = 23),
      (pixDims wf).start (ix4 i r q p) idx a = w.toNat := by
    intro a ha k hk w hw hlt hsz
    unfold GatherDims.start
    rw [dif_pos ha]
    have hsi : (pixDims wf).siIdx (ix4 i r q p) ⟨List.idxOf a (pixDims wf).startIndexMap, List.idxOf_lt_length_iff.2 ha⟩ = ix4 i r p k := by
      funext d; refine Fin.ext ?_
      match d with
      | ⟨0, _⟩ => rfl
      | ⟨1, _⟩ => rfl
      | ⟨2, _⟩ => rfl
      | ⟨3, _⟩ => exact hk
    rw [hsi, hw, BitVec.toInt_eq_toNat_of_lt (by omega), hsz]
    omega
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    have h0 : (pixDims wf).start (ix4 i r q p) idx 1 = 0 := by
      unfold GatherDims.start
      rw [dif_neg (fun h => by simp at h)]
    rw [h0]
    unfold GatherDims.offCoord
    rw [dif_pos ((GatherDims.mem_sKept _ _).mpr ⟨fun h => by simp at h, fun h => by simp at h⟩)]
    simp only [Nat.zero_add]
    rfl
  · rw [GatherDims.batchCoord_eq_zero _ _ _ (fun h => by simp at h),
      GatherDims.offCoord_eq_zero _ _ _ (fun h => ((GatherDims.mem_sKept _ _).mp h).1 (by simp)),
      hst 2 (by simp) 0 rfl u h0 hu rfl]
    rfl
  · rw [GatherDims.batchCoord_eq_zero _ _ _ (fun h => by simp at h),
      GatherDims.offCoord_eq_zero _ _ _ (fun h => ((GatherDims.mem_sKept _ _).mp h).1 (by simp)),
      hst 3 (by simp) 1 rfl v h1 hv rfl]
    rfl

end Cert.Math
-- ==== Proof.SampleVal.lean ====
/-
  The bilinear sampling: the call's output array.
-/
module

public import proofs.«01_k».proof.Proof.Gen.SampleIdeal.Value
public import proofs.«01_k».proof.Proof.Bilinear
public import Idealize.ShloMosaic.Lib.Pointwise
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.SampleIdeal.Val
open Cert.SampleIdeal Cert.SampleIdeal.Gen Cert.Math
variable (m : (ℓ : Loc nD τ sig) → Buf (Elt Ideal) ℓ) (ρ : Dev nD → PrngReg)

/-- The image a region belongs to. -/
def img (b : Fin 32) : Fin 4 := ⟨b.val / 8, by omega⟩

/-- The map of an image's channel, row-major. -/
def mp (F : FVec Ideal S4x24x24x1024 .f32) (i : Fin 4) (q : Fin 1024) (s : Fin 576) : EReal :=
  F (ix4 i ⟨s.val / 24, by omega⟩ ⟨s.val % 24, by omega⟩ q)

/-- The sampled features. -/
def smp (F : FVec Ideal S4x24x24x1024 .f32) (P : FVec Ideal S32x512x2 .f32) (b : Fin 32) (p : Fin 512) (q : Fin 1024) : EReal :=
  bil (mp F (img b) q) (co (P (ix3 b p 1))) (co (P (ix3 b p 0)))

/-- The sampled features of the launch arrays. -/
def val (c : Dev nD) : (⟨S32x512x1024, .f32⟩ : BufTy).Contents (Elt Ideal) :=
  fun y => smp (m ((c : Thread nD τ).loc main_arg0)) (m ((c : Thread nD τ).loc main_arg1)) (y 0) (y 1) (y 2)

/-- The windows' index maps. -/
theorem idx : ∀ t : Fin cfg0.N, win0_0.index t = ![t.val / 8, 0, 0] ∧ win0_1.index t = ![t.val, 0, 0] ∧ win0_2.index t = ![t.val, 0, 0] :=
  (by decide +kernel : ∀ t : Fin grid0.N, _)

/-- A grid point's region. -/
def reg (t : Fin cfg0.N) : Fin 32 := ⟨t.val, lt_of_lt_of_eq t.isLt N_0⟩

/-- A map block is its image's map. -/
theorem blk0 (c : Dev nD) (t : Fin cfg0.N) (s : Fin 576) (q : Fin 1024) :
    iblk m c 0 t (ix3 0 s q) = V m c main_v1 (ix3 (img (reg t)) s q) := by
  have : t.val < 32 := lt_of_lt_of_eq t.isLt N_0
  blk_ext [iblk, idx t, img, reg]
/-- A point block is its region's points. -/
theorem blk1 (c : Dev nD) (t : Fin cfg0.N) (d : Fin 2) (p : Fin 512) :
    iblk m c 1 t (ix3 0 d p) = V m c main_v0 (ix3 (reg t) d p) := by
  have : t.val < 32 := lt_of_lt_of_eq t.isLt N_0
  blk_ext [iblk, idx t, reg]

/-- The maps, as the call finds them. -/
theorem maps (c : Dev nD) (i : Fin 4) (s : Fin 576) (q : Fin 1024) :
    V m c main_v1 (ix3 i s q) = mp (m ((c : Thread nD τ).loc main_arg0)) i q s := by
  have e : V m c main_v1 = shapeCast S4x576x1024 (m ((c : Thread nD τ).loc main_arg0)) shapeCasts_S4x24x24x1024_S4x576x1024 := by
    entry_read
    try rfl
  rw [e]
  refine shapeCast_apply _ _ _ _ ?_
  refine (Shape.rowMajor_val_four (d := ![4, 24, 24, 1024]) _).trans (Eq.trans ?_ (Shape.rowMajor_val_three (d := ![4, 576, 1024]) _).symm)
  show ((i.val * 24 + s.val / 24) * 24 + s.val % 24) * 1024 + q.val = (i.val * 576 + s.val) * 1024 + q.val
  omega

/-- The points, as the call finds them. -/
theorem pts (c : Dev nD) (b : Fin 32) (d : Fin 2) (p : Fin 512) :
    V m c main_v0 (ix3 b d p) = m ((c : Thread nD τ).loc main_arg1) (ix3 b p d) := by
  entry_read
  pointwise

/-- The coordinates, their pixels and their weights. -/
theorem p3 (v : Vec Ideal S1x1x512 .f32) (p : Fin 512) : k0_pay3 v (ix1 p) = co (v (ix3 0 0 p)) := by
  pointwise [k0_pay3]
  rfl
theorem p4 (v : Vec Ideal S1x1x512 .f32) (p : Fin 512) : k0_pay4 v (ix1 p) = co (v (ix3 0 0 p)) := by
  pointwise [k0_pay4]
  rfl
theorem p5 (v : Vec Ideal S1x1x512 .f32) (p : Fin 512) : k0_pay5 v (ix1 p) = lo (co (v (ix3 0 0 p))) := by
  pointwise [k0_pay5]
  rw [p3]
  rfl
theorem p6 (v : Vec Ideal S1x1x512 .f32) (p : Fin 512) : k0_pay6 v (ix1 p) = lo (co (v (ix3 0 0 p))) := by
  pointwise [k0_pay6]
  rw [p4]
  rfl
theorem p7 (v : Vec Ideal S1x1x512 .f32) (p : Fin 512) : k0_pay7 v (ix1 p) = hi (co (v (ix3 0 0 p))) := by
  pointwise [k0_pay7]
  rw [p5]
  rfl
theorem p8 (v : Vec Ideal S1x1x512 .f32) (p : Fin 512) : k0_pay8 v (ix1 p) = hi (co (v (ix3 0 0 p))) := by
  pointwise [k0_pay8]
  rw [p6]
  rfl
theorem p9 (v : Vec Ideal S1x1x512 .f32) (p : Fin 512) : k0_pay9 v (ix1 p) = fr (co (v (ix3 0 0 p))) := by
  pointwise [k0_pay9]
  rw [p3, p5]
  rfl
theorem p10 (v : Vec Ideal S1x1x512 .f32) (p : Fin 512) : k0_pay10 v (ix1 p) = cf (co (v (ix3 0 0 p))) := by
  pointwise [k0_pay10]
  rw [p9]
  rfl
theorem p11 (v : Vec Ideal S1x1x512 .f32) (p : Fin 512) : k0_pay11 v (ix1 p) = fr (co (v (ix3 0 0 p))) := by
  pointwise [k0_pay11]
  rw [p4, p6]
  rfl

/-- The bit of a pixel inside the map, widened and converted. -/
theorem bit_val (b : BitVec 1) : FloatOps.sitofp (F := Ideal) FTy.f32 (BitVec.setWidth 32 b) = (if b = 1#1 then 1 else 0 : EReal) := by
  have h : b = 0#1 ∨ b = 1#1 := by
    revert b; decide
  rcases h with rfl | rfl
  · show ((((0#32).toInt : ℝ)) : EReal) = _
    simp
  · show ((((1#32).toInt : ℝ)) : EReal) = _
    have : (1#32).toInt = 1 := by decide
    simp [this]

theorem t16 (a b c d : FVec Ideal S512 .f32) (p : Fin 512) (s : Fin 576) :
    k0_pay16 (F := Ideal) a b c d (FloatOps.ofBits FTy.f32 1065353216#32) (ix2 p s)
      = tap s.val (a (ix1 p)) (b (ix1 p)) (c (ix1 p) * (1 - d (ix1 p)) * vl (a (ix1 p)) (b (ix1 p))) := by
  pointwise [k0_pay16, k0_pay12]
  rw [bit_val]
  rfl
theorem t17 (a b : FVec Ideal S512 .f32) (w : FVec Ideal S512 .f32) (r : FVec Ideal S512x576 .f32) (p : Fin 512) (s : Fin 576) :
    k0_pay17 (F := Ideal) b a (iota .tc S512x576 32 [1] iota_S512x576_d1_w32) w r (FloatOps.ofBits FTy.f32 0#32) (ix2 p s)
      = r (ix2 p s) + tap s.val (a (ix1 p)) (b (ix1 p)) (w (ix1 p) * vl (a (ix1 p)) (b (ix1 p))) := by
  pointwise [k0_pay17]
  rw [bit_val]
  rfl
theorem t19 (a b : FVec Ideal S512 .f32) (w : FVec Ideal S512 .f32) (r : FVec Ideal S512x576 .f32) (p : Fin 512) (s : Fin 576) :
    k0_pay19 (F := Ideal) a b (iota .tc S512x576 32 [1] iota_S512x576_d1_w32) w r (k0_pay18 a b) (ix2 p s)
      = r (ix2 p s) + tap s.val (a (ix1 p)) (b (ix1 p)) (w (ix1 p) * vl (a (ix1 p)) (b (ix1 p))) := by
  pointwise [k0_pay19, k0_pay18]
  rw [bit_val]
  rfl
theorem t1 (f : FVec Ideal S576x1024 .f32) (a b w : FVec Ideal S512 .f32) (r : FVec Ideal S512x576 .f32) (p : Fin 512) (q : Fin 1024) :
    k0_pay1 (F := Ideal) f a b (iota .tc S512x576 32 [1] iota_S512x576_d1_w32) w r (k0_pay20 a b) 23#32 (k0_pay21 (F := Ideal)) (ix3 0 p q)
      = ∑ s : Fin 576, (r (ix2 p s) + tap s.val (a (ix1 p)) (b (ix1 p)) (w (ix1 p) * vl (a (ix1 p)) (b (ix1 p)))) * f (ix2 s q) := by
  pointwise [k0_pay1, k0_pay20, k0_pay21]
  simp only [bit_val]
  rfl

/-- The rows of the points' block, loaded. -/
theorem ld1 (x : Vec Ideal S1x2x512 .f32) (p : Fin 512) : (View.ld x r0_1 : Vec Ideal S1x1x512 .f32) (ix3 0 0 p) = x (ix3 0 0 p) := by
  pointwise
theorem ld2 (x : Vec Ideal S1x2x512 .f32) (p : Fin 512) : (View.ld x r0_2 : Vec Ideal S1x1x512 .f32) (ix3 0 0 p) = x (ix3 0 1 p) := by
  pointwise

/-- The body's result at an index. -/
theorem body (x0 : Vec Ideal S1x576x1024 .f32) (x1 : Vec Ideal S1x2x512 .f32) (p : Fin 512) (q : Fin 1024) :
    k0_pay1 (k0_pay2 x0) (k0_pay24 x0 x1) (k0_pay25 x0 x1) (k0_pay29 x0 x1) (k0_pay15 (k0_pay26 x0 x1) (k0_pay28 x0 x1))
      (k0_pay19 (k0_pay22 x0 x1) (k0_pay25 x0 x1) (k0_pay29 x0 x1) (k0_pay14 (k0_pay27 x0 x1) (k0_pay28 x0 x1))
        (k0_pay17 (k0_pay23 x0 x1) (k0_pay24 x0 x1) (k0_pay29 x0 x1)
          (k0_pay13 (k0_pay26 x0 x1) (k0_pay28 x0 x1) (FloatOps.ofBits FTy.f32 1065353216#32))
          (k0_pay16 (k0_pay22 x0 x1) (k0_pay23 x0 x1) (k0_pay27 x0 x1) (k0_pay28 x0 x1) (FloatOps.ofBits FTy.f32 1065353216#32))
          (FloatOps.ofBits FTy.f32 0#32))
        (k0_pay18 (k0_pay22 x0 x1) (k0_pay25 x0 x1)))
      (k0_pay20 (k0_pay24 x0 x1) (k0_pay25 x0 x1)) (23#32) k0_pay21 (ix3 0 p q)
      = bil (fun s => x0 (ix3 0 s q)) (co (x1 (ix3 0 1 p))) (co (x1 (ix3 0 0 p))) := by
  unfold k0_pay29
  rw [t1, ← bil_sum]
  refine Finset.sum_congr rfl fun s _ => ?_
  rw [t19, t17, t16]
  unfold k0_pay28 k0_pay27 k0_pay26 k0_pay25 k0_pay24 k0_pay23 k0_pay22
  pointwise [k0_pay2, k0_pay13, k0_pay14, k0_pay15, k0_pay12]
  rw [p5, p6, p7, p8, p9, p10, p11, ld1, ld2]
  rfl

/-- The call's output array is the sampled features. -/
theorem arr (c : Dev nD) : (dats m 0 c).arrAt 2 cfg0.N = val m c := by
  refine (dats m 0 c).arrAt_eq_of_covers 2 _ (by decide +kernel) fun t _ y => ?_
  blk_simp
  rw [after0_2]
  frame_out
  have hy : y = (ix3 0 (y 1) (y 2) : S1x512x1024.Idx) := by
    funext a; match a with | ⟨0, _⟩ => exact Subsingleton.elim (α := Fin 1) _ _ | ⟨1, _⟩ => rfl | ⟨2, _⟩ => rfl
  refine (congrArg _ hy).trans ?_
  refine (body (iblk m c 0 t) (iblk m c 1 t) (y 1) (y 2)).trans ?_
  have he : (((View.whole main_v2).slice (win0_2.rect t)).emb y) = (ix3 (reg t) (y 1) (y 2) : S32x512x1024.Idx) := by
    have : t.val < 32 := lt_of_lt_of_eq t.isLt N_0
    blk_ext [idx t, reg]
  rw [he]
  show _ = bil (mp _ (img (reg t)) (y 2)) _ _
  refine congr (congr (congrArg bil ?_) ?_) ?_
  · funext s
    exact (blk0 m c t s (y 2)).trans (maps m c _ s (y 2))
  · exact congrArg co ((blk1 m c t 1 (y 1)).trans (pts m c _ 1 (y 1)))
  · exact congrArg co ((blk1 m c t 0 (y 1)).trans (pts m c _ 0 (y 1)))

/-- The kernel's run ends with the sampled features, the arguments unchanged. -/
theorem run : θ_run defs (onTc (τ := τ) (main (F := Ideal))) ⟨m, fun _ => 0, ρ⟩ fun r => ∀ c : Dev nD,
      r.2.mem ((c : Thread nD τ).loc main_v2) = val m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks (F := Ideal) m ρ)

end Cert.SampleIdeal.Val
-- ==== Proof.SampleRef.lean ====
/-
  The bilinear sampling's reference: its term at an index.
-/
module

public import proofs.«01_k».proof.Proof.Gen.SampleRefIdeal.Run
public import proofs.«01_k».proof.Proof.SampleVal

@[expose] public section
set_option maxRecDepth 16384
noncomputable section
open Idealize.ShloMosaic Idealize.ShloMosaic.TcCoe Idealize.SL.Sem
namespace Cert.SampleRefIdeal.Val
open Cert.SampleRefIdeal Cert.SampleRefIdeal.Gen Cert.Math
open Cert.SampleIdeal.Val (smp mp img)

/-- A word or a number at every point. -/
def allF (w : BitVec 32) : FVec Ideal S4x8x512 .f32 := broadcastInDim S4x8x512 ![] bcast_S_S4x8x512 (constant S_ .f32 w)
def allW (w : BitVec 32) : IVec S4x8x512 32 := broadcastInDim S4x8x512 ![] bcast_S_S4x8x512 (constantI S_ 32 w)
def allC (w : BitVec 32) : FVec Ideal S4x8x512 .f32 := broadcastInDim S4x8x512 ![] bcast_S_S4x8x512 (sitofp .f32 (constantI S_ 32 w))

/-- The points, last coordinate first, moved to the range of the map. -/
def gT (P : FVec Ideal S32x512x2 .f32) : FVec Ideal S4x8x512x2 .f32 :=
  subf (mulf (broadcastInDim S4x8x512x2 ![] bcast_S_S4x8x512x2 (constant S_ .f32 0x40000000#32)) (Host.reverse [3] (shapeCast S4x8x512x2 P shapeCasts_S32x512x2_S4x8x512x2)))
    (broadcastInDim S4x8x512x2 ![] bcast_S_S4x8x512x2 (constant S_ .f32 0x3F800000#32))
/-- The coordinates in pixels. -/
def xT (P : FVec Ideal S32x512x2 .f32) : FVec Ideal S4x8x512 .f32 :=
  mulf (mulf (addf (shapeCast S4x8x512 (extractStridedSlice S4x8x512x1 ![0, 0, 0, 0] (gT P) slices_S4x8x512x2_S4x8x512x1_0_0_0_0) shapeCasts_S4x8x512x1_S4x8x512) (allF 0x3F800000#32)) (allF 0x3F000000#32)) (allF 0x41B80000#32)
def yT (P : FVec Ideal S32x512x2 .f32) : FVec Ideal S4x8x512 .f32 :=
  mulf (mulf (addf (shapeCast S4x8x512 (extractStridedSlice S4x8x512x1 ![0, 0, 0, 1] (gT P) slices_S4x8x512x2_S4x8x512x1_0_0_0_1) shapeCasts_S4x8x512x1_S4x8x512) (allF 0x3F800000#32)) (allF 0x3F000000#32)) (allF 0x41B80000#32)
/-- Pixels and weights of coordinates. -/
def loT (x : FVec Ideal S4x8x512 .f32) : FVec Ideal S4x8x512 .f32 := Host.floor x
def hiT (x : FVec Ideal S4x8x512 .f32) : FVec Ideal S4x8x512 .f32 := addf (loT x) (allF 0x3F800000#32)
def frT (x : FVec Ideal S4x8x512 .f32) : FVec Ideal S4x8x512 .f32 := subf x (loT x)
def cfT (x : FVec Ideal S4x8x512 .f32) : FVec Ideal S4x8x512 .f32 := subf (allF 0x3F800000#32) (frT x)
/-- Clamped index words, and their negatives wrapped. -/
def wdT (x : FVec Ideal S4x8x512 .f32) : IVec S4x8x512 32 := fptosi 32 (minimumf (allC 23#32) (maximumf (allC 0#32) x))
def wrT (w : IVec S4x8x512 32) : IVec S4x8x512x1 32 :=
  broadcastInDim S4x8x512x1 ![0, 1, 2] bcast_S4x8x512_S4x8x512x1_0_1_2 (select (cmpi .slt w (allW 0#32)) (addi w (allW 24#32)) w)
/-- One value a point, for every channel. -/
def bcT (x : FVec Ideal S4x8x512 .f32) : FVec Ideal S4x8x1024x512 .f32 :=
  broadcastInDim S4x8x1024x512 ![0, 1, 2, 3] bcast_S4x8x1x512_S4x8x1024x512_0_1_2_3 (broadcastInDim S4x8x1x512 ![0, 1, 3] bcast_S4x8x512_S4x8x1x512_0_1_3 x)
/-- Whether a pixel lies in the map. -/
def vlT (a b : FVec Ideal S4x8x512 .f32) : FVec Ideal S4x8x512 .f32 :=
  uitofp .f32 (andi (andi (andi (cmpf .oge a (allF 0x00000000#32)) (cmpf .ole a (allF 0x41B80000#32))) (cmpf .oge b (allF 0x00000000#32))) (cmpf .ole b (allF 0x41B80000#32)))
/-- The index words of a pixel. -/
def ixT (a b : FVec Ideal S4x8x512 .f32) : IVec S4x8x512x2 32 :=
  concatenate S4x8x512x2 3 [⟨S4x8x512x1, wrT (wdT b)⟩, ⟨S4x8x512x1, wrT (wdT a)⟩] concatenates_S4x8x512x1_S4x8x512x1_S4x8x512x2_d3
/-- One tap. -/
def tapT (F : FVec Ideal S4x24x24x1024 .f32) (a b u v : FVec Ideal S4x8x512 .f32) : FVec Ideal S4x8x1024x512 .f32 :=
  mulf (mulf (Host.gather gather_S4x1024x24x24_S4x8x512x2_S4x8x1024x512_2_23_0_0_23_3_1102411
      (transpose S4x1024x24x24 [0, 3, 1, 2] F transposes_S4x24x24x1024_S4x1024x24x24_0_3_1_2) (ixT a b)) (bcT (vlT a b))) (bcT (mulf u v))
/-- The four taps added. -/
def sumT (F : FVec Ideal S4x24x24x1024 .f32) (x y : FVec Ideal S4x8x512 .f32) : FVec Ideal S4x8x1024x512 .f32 :=
  addf (addf (addf (tapT F (loT x) (loT y) (cfT x) (cfT y)) (tapT F (hiT x) (loT y) (frT x) (cfT y))) (tapT F (loT x) (hiT y) (cfT x) (frT y)))
    (tapT F (hiT x) (hiT y) (frT x) (frT y))
/-- The reference's term of its arguments. -/
def res (F : FVec Ideal S4x24x24x1024 .f32) (P : FVec Ideal S32x512x2 .f32) : FVec Ideal S32x512x1024 .f32 :=
  shapeCast S32x512x1024 (transpose S4x8x512x1024 [0, 1, 3, 2] (sumT F (xT P) (yT P)) transposes_S4x8x1024x512_S4x8x512x1024_0_1_3_2) shapeCasts_S4x8x512x1024_S32x512x1024

/-- The region of an image and a place in it. -/
def rg (i : Fin 4) (r : Fin 8) : Fin 32 := ⟨i.val * 8 + r.val, by omega⟩

theorem pt (P : FVec Ideal S32x512x2 .f32) (i : Fin 4) (r : Fin 8) (p : Fin 512) (d : Fin 2) :
    shapeCast S4x8x512x2 P shapeCasts_S32x512x2_S4x8x512x2 (ix4 i r p d) = P (ix3 (rg i r) p d) := by
  refine shapeCast_apply _ _ _ _ ?_
  refine (Shape.rowMajor_val_three (d := ![32, 512, 2]) _).trans (Eq.trans ?_ (Shape.rowMajor_val_four (d := ![4, 8, 512, 2]) _).symm)
  rfl

theorem rv (x : FVec Ideal S4x8x512x2 .f32) (i : Fin 4) (r : Fin 8) (p : Fin 512) (d : Fin 2) :
    Host.reverse [3] x (ix4 i r p d) = x (ix4 i r p d.rev) := by
  unfold Host.reverse
  refine congrArg x (funext fun a => ?_)
  match a with
  | ⟨0, _⟩ => rfl
  | ⟨1, _⟩ => rfl
  | ⟨2, _⟩ => rfl
  | ⟨3, _⟩ => rfl

theorem gT_eq (P : FVec Ideal S32x512x2 .f32) (i : Fin 4) (r : Fin 8) (p : Fin 512) (d : Fin 2) :
    gT P (ix4 i r p d) = Ideal.ofBits FTy.f32 0x40000000#32 * P (ix3 (rg i r) p d.rev) - 1 := by
  have h := (rv (shapeCast S4x8x512x2 P shapeCasts_S32x512x2_S4x8x512x2) i r p d).trans (pt P i r p d.rev)
  unfold gT
  generalize Host.reverse [3] (shapeCast S4x8x512x2 P shapeCasts_S32x512x2_S4x8x512x2) = X at h ⊢
  pointwise
  rw [h]

theorem xT_eq (P : FVec Ideal S32x512x2 .f32) (i : Fin 4) (r : Fin 8) (p : Fin 512) : xT P (ix3 i r p) = co (P (ix3 (rg i r) p 1)) := by
  pointwise [xT, allF]
  rw [gT_eq]
  rfl
theorem yT_eq (P : FVec Ideal S32x512x2 .f32) (i : Fin 4) (r : Fin 8) (p : Fin 512) : yT P (ix3 i r p) = co (P (ix3 (rg i r) p 0)) := by
  pointwise [yT, allF]
  rw [gT_eq]
  rfl

/-- The bit of a pixel inside the map, converted. -/
theorem bit_val (b : BitVec 1) : FloatOps.uitofp (F := Ideal) FTy.f32 b = (if b = 1#1 then 1 else 0 : EReal) := by
  have h : b = 0#1 ∨ b = 1#1 := by
    revert b; decide
  rcases h with rfl | rfl
  · show ((((0#1).toNat : ℝ)) : EReal) = _
    simp
  · show ((((1#1).toNat : ℝ)) : EReal) = _
    simp

section
variable (a b u v x : FVec Ideal S4x8x512 .f32) (i : Fin 4) (r : Fin 8) (p : Fin 512) (q : Fin 1024)

theorem vlT_eq : vlT a b (ix3 i r p) = vl (a (ix3 i r p)) (b (ix3 i r p)) := by
  pointwise [vlT, allF]
  rw [bit_val]
  rfl
theorem wrT_eq : wrT (wdT a) (ix4 i r p 0) = wd (a (ix3 i r p)) := by
  pointwise [wrT, wdT, allW, allC]
  refine wrap_word (wd (a (ix3 i r p))) _ ?_
  have := wd_lt (a (ix3 i r p))
  omega
theorem ix0 : ixT a b (ix4 i r p 0) = wd (b (ix3 i r p)) := by
  refine Eq.trans ?_ (wrT_eq b i r p)
  pointwise [ixT]
theorem ix1' : ixT a b (ix4 i r p 1) = wd (a (ix3 i r p)) := by
  refine Eq.trans ?_ (wrT_eq a i r p)
  pointwise [ixT]
theorem loT_eq : loT x (ix3 i r p) = lo (x (ix3 i r p)) := by
  pointwise [loT]
  rfl
theorem hiT_eq : hiT x (ix3 i r p) = hi (x (ix3 i r p)) := by
  pointwise [hiT, loT, allF]
  rfl
theorem frT_eq : frT x (ix3 i r p) = fr (x (ix3 i r p)) := by
  pointwise [frT, loT]
  rfl
theorem cfT_eq : cfT x (ix3 i r p) = cf (x (ix3 i r p)) := by
  pointwise [cfT, frT, loT, allF]
  rfl

/-- One tap at an index. -/
theorem tapT_eq (F : FVec Ideal S4x24x24x1024 .f32) :
    tapT F a b u v (ix4 i r q p) = px (mp F i q) (a (ix3 i r p)) (b (ix3 i r p)) * (u (ix3 i r p) * v (ix3 i r p)) := by
  have ha := wd_lt (a (ix3 i r p))
  have hb := wd_lt (b (ix3 i r p))
  have hg := gather_pix gather_S4x1024x24x24_S4x8x512x2_S4x8x1024x512_2_23_0_0_23_3_1102411.wf
    (transpose S4x1024x24x24 [0, 3, 1, 2] F transposes_S4x24x24x1024_S4x1024x24x24_0_3_1_2) (ixT a b) i r q p _ _ (ix0 a b i r p) (ix1' a b i r p) hb ha
  have hv : bcT (vlT a b) (ix4 i r q p) = vl (a (ix3 i r p)) (b (ix3 i r p)) := by
    refine Eq.trans ?_ (vlT_eq a b i r p)
    pointwise [bcT]
  have hw : bcT (mulf u v) (ix4 i r q p) = u (ix3 i r p) * v (ix3 i r p) := by
    pointwise [bcT]
  show Host.gather _ _ _ _ * _ * _ = _
  refine congrArg₂ (· * ·) (congrArg₂ (· * ·) (hg.trans ?_) hv) hw
  have e : ∀ (s : Fin 576) (k l : Fin 24), s.val = k.val * 24 + l.val → F (ix4 i k l q) = mp F i q s := by
    intro s k l h
    unfold mp
    have h1 : (⟨s.val / 24, by omega⟩ : Fin 24) = k := Fin.ext (by show s.val / 24 = _; omega)
    have h2 : (⟨s.val % 24, by omega⟩ : Fin 24) = l := Fin.ext (by show s.val % 24 = _; omega)
    rw [h1, h2]
  refine Eq.trans ?_ (e (at_ (a (ix3 i r p)) (b (ix3 i r p))) ⟨_, hb⟩ ⟨_, ha⟩ rfl)
  pointwise

end

/-- The four taps at an index. -/
theorem sumT_eq (F : FVec Ideal S4x24x24x1024 .f32) (x y : FVec Ideal S4x8x512 .f32) (i : Fin 4) (r : Fin 8) (p : Fin 512) (q : Fin 1024) :
    sumT F x y (ix4 i r q p) = bil (mp F i q) (x (ix3 i r p)) (y (ix3 i r p)) := by
  show tapT F _ _ _ _ _ + tapT F _ _ _ _ _ + tapT F _ _ _ _ _ + tapT F _ _ _ _ _ = _
  simp only [tapT_eq, loT_eq, hiT_eq, frT_eq, cfT_eq]
  rfl

/-- The reference's term is the sampled features. -/
theorem res_at (F P) (b : Fin 32) (p : Fin 512) (q : Fin 1024) : res F P (ix3 b p q) = smp F P b p q := by
  have hb : rg (img b) ⟨b.val % 8, by omega⟩ = b := Fin.ext (by show b.val / 8 * 8 + b.val % 8 = b.val; omega)
  unfold res
  refine (shapeCast_apply _ _ _ (ix4 (img b) ⟨b.val % 8, by omega⟩ p q) ?_).trans ?_
  · refine (Shape.rowMajor_val_four (d := ![4, 8, 512, 1024]) _).trans (Eq.trans ?_ (Shape.rowMajor_val_three (d := ![32, 512, 1024]) _).symm)
    show ((b.val / 8 * 8 + b.val % 8) * 512 + p.val) * 1024 + q.val = (b.val * 512 + p.val) * 1024 + q.val
    omega
  · refine Eq.trans (b := sumT F (xT P) (yT P) (ix4 (img b) ⟨b.val % 8, by omega⟩ q p)) (by pointwise) ?_
    rw [sumT_eq, xT_eq, yT_eq, hb]
    rfl

theorem res_eq (F P) (y) : res F P y = smp F P (y 0) (y 1) (y 2) := by
  have hy : y = (ix3 (y 0) (y 1) (y 2) : S32x512x1024.Idx) := by
    funext a; match a with | ⟨0, _⟩ => rfl | ⟨1, _⟩ => rfl | ⟨2, _⟩ => rfl
  exact (congrArg _ hy).trans (res_at F P _ _ _)

end Cert.SampleRefIdeal.Val
-- ==== Proof.Claims3.lean ====
/-
  The claims about the sampling call.
-/
module

public import proofs.«01_k».proof.Defs
public import proofs.«01_k».proof.Proof.Gen.Sample.Frame
public import proofs.«01_k».proof.Proof.SampleRef

@[expose] public section
set_option maxRecDepth 16384
noncomputable section

namespace Cert.Claims.Sample
open Idealize.ShloMosaic.StableHlo
open Idealize.ShloMosaic Idealize.ShloMosaic.TcCoe Idealize.ShloMosaic.Tactic Idealize.SL.Sem

/-- The call's program runs, leaves its arguments and ends quiescent. -/
theorem frame_p : Cert.quiescent_Sample := fun m ρ _ => Cert.Sample.Gen.frame m ρ

/-- The same of its idealization. -/
theorem frame_pi : Cert.quiescent_SampleIdeal := fun m ρ _ => Cert.SampleIdeal.Gen.frame m ρ

/-- The reference runs, leaves its arguments and ends quiescent. -/
theorem frame_ri : Cert.quiescent_SampleRefIdeal := fun m ρ _ =>
  (θ_run Cert.SampleRefIdeal.defs _ _).mono (fun r h => ⟨fun c => (h c).2,
      Idealize.ShloMosaic.sem_eq_zero_of_no_sems (by decide) r.2⟩)
    (Cert.SampleRefIdeal.Value.run (F := Ideal) m ρ)

/-- No operation is rewritten. -/
theorem preserves : Cert.preserves_Sample_SampleIdeal := trivial

/-- The reference's run ends with its term of the launch arrays. -/
theorem run_ref (m : (ℓ : Loc Cert.SampleRefIdeal.nD Cert.SampleRefIdeal.τ Cert.SampleRefIdeal.sig) → Buf (Elt Ideal) ℓ)
    (ρ : Dev Cert.SampleRefIdeal.nD → PrngReg) :
    θ_run Cert.SampleRefIdeal.defs (onTc (τ := Cert.SampleRefIdeal.τ) (Cert.SampleRefIdeal.main (F := Ideal))) ⟨m, fun _ => 0, ρ⟩ fun r =>
      ∀ c : Dev Cert.SampleRefIdeal.nD,
        r.2.mem ((c.tc : Thread Cert.SampleRefIdeal.nD Cert.SampleRefIdeal.τ).loc Cert.SampleRefIdeal.main_v187)
            = SampleRefIdeal.Val.res (m ((c.tc : Thread Cert.SampleRefIdeal.nD Cert.SampleRefIdeal.τ).loc Cert.SampleRefIdeal.main_arg0))
                (m ((c.tc : Thread Cert.SampleRefIdeal.nD Cert.SampleRefIdeal.τ).loc Cert.SampleRefIdeal.main_arg1))
        ∧ r.2.mem ((c.tc : Thread Cert.SampleRefIdeal.nD Cert.SampleRefIdeal.τ).loc Cert.SampleRefIdeal.main_arg0)
            = m ((c.tc : Thread Cert.SampleRefIdeal.nD Cert.SampleRefIdeal.τ).loc Cert.SampleRefIdeal.main_arg0)
        ∧ r.2.mem ((c.tc : Thread Cert.SampleRefIdeal.nD Cert.SampleRefIdeal.τ).loc Cert.SampleRefIdeal.main_arg1)
            = m ((c.tc : Thread Cert.SampleRefIdeal.nD Cert.SampleRefIdeal.τ).loc Cert.SampleRefIdeal.main_arg1) :=
  (θ_run Cert.SampleRefIdeal.defs _ _).mono (fun _ h c => ⟨(h c).1.trans rfl, (h c).2⟩) (SampleRefIdeal.Value.run (F := Ideal) m ρ)

/-- Over the reals the call and the reference end with the same result. -/
theorem algebraic : Cert.algebraic_SampleIdeal_SampleRefIdeal := by
  intro m ρ m' ρ' _ hagree
  refine ⟨SampleIdeal.Val.val m, SampleIdeal.Val.run m ρ, ?_⟩
  refine (θ_run Cert.SampleRefIdeal.defs _ _).mono (fun _ h c => ⟨(h c).1.trans ?_, (h c).2⟩) (run_ref m' ρ')
  obtain ⟨e0, e1⟩ := hagree c
  rw [e0, e1]
  exact funext fun y => SampleRefIdeal.Val.res_eq _ _ y

end Cert.Claims.Sample
-- ==== Proof.Rows.lean ====
/-
  A counted loop that stores one slab of a buffer a trip: the stores of the first trips as a list, newest first, and what
  the buffer reads once they are made.
-/
module

public import Idealize.ShloMosaic.Lib.WritesUnit
public import Idealize.ShloMosaic.Lib.Pipeline.FrameBody

@[expose] public section
noncomputable section

namespace Cert.Rows
open Idealize.ShloMosaic

/-- The first `k` entries of a family, the newest first. -/
def before {α : Type*} {n : ℕ} (P : Fin n → α) : ℕ → List α
  | 0 => []
  | k + 1 => if h : k < n then P ⟨k, h⟩ :: before P k else before P k

theorem before_succ {α : Type*} {n : ℕ} (P : Fin n → α) (k : Fin n) : before P (k.val + 1) = P k :: before P k.val := by
  rw [before, dif_pos k.isLt]

variable {sig : RefSig} {κ : Kind} {sp : Space} {s : Shape} {e : EltTy} {Val : EltTy → Type}

/-- If trip `i` stores the slab `i` along an axis, whole along the others, and stores there what `g` says, then once the
first `k` trips are made the buffer reads `g` on the first `k` slabs. -/
theorem read_before (v : View sig κ sp s e) (f : v.ty.Contents Val) {n : ℕ} (off : Fin n → Fin s.rank → ℕ) (size : Fin s.rank → ℕ)
    (inb : ∀ i, ∀ a, off i a + size a ≤ s.size a) (w : (i : Fin n) → (Rect.unit (off i) size (inb i)).shape.Idx → Val e)
    (g : s.Idx → Val e) (ax : Fin s.rank) (hax : ∀ i, off i ax = i.val) (hone : size ax = 1)
    (hoff : ∀ i a, a ≠ ax → off i a = 0) (hsize : ∀ a, a ≠ ax → size a = s.size a)
    (hw : ∀ i x (y : s.Idx), (∀ a, (y a).val = off i a + (x a).val) → w i x = g y)
    (k : ℕ) (hk : k ≤ n) (y : s.Idx) (hy : (y ax).val < k) :
    v.read Val (v.writes Val f (before (fun i => (⟨Rect.unit (off i) size (inb i), w i⟩ : View.Piece Val s e)) k)) y = g y := by
  induction k with
  | zero => exact absurd hy (Nat.not_lt_zero _)
  | succ k ih =>
    have hkn : k < n := hk
    rw [before_succ _ (⟨k, hkn⟩ : Fin n)]
    by_cases h : (y ax).val = k
    · have hall : ∀ a, off ⟨k, hkn⟩ a ≤ (y a).val ∧ (y a).val < off ⟨k, hkn⟩ a + size a := by
        intro a
        by_cases ha : a = ax
        · subst ha; rw [hax, hone, h]; exact ⟨le_refl _, Nat.lt_succ_self _⟩
        · rw [hoff _ a ha, hsize a ha]; exact ⟨Nat.zero_le _, by have := (y a).isLt; omega⟩
      let x : (Rect.unit (off ⟨k, hkn⟩) size (inb ⟨k, hkn⟩)).shape.Idx := fun a => ⟨(y a).val - off ⟨k, hkn⟩ a, by
        have := hall a
        show (y a).val - off ⟨k, hkn⟩ a < size a
        omega⟩
      have hx : ∀ a, (y a).val = off ⟨k, hkn⟩ a + (x a).val := fun a => by
        have := hall a
        show (y a).val = off ⟨k, hkn⟩ a + ((y a).val - off ⟨k, hkn⟩ a)
        omega
      rw [View.read_writes_cons_unit_of_mem v f (inb ⟨k, hkn⟩) (w ⟨k, hkn⟩) _ y x rfl hx]
      exact hw _ x y hx
    · rw [View.read_writes_cons_unit_of_not_mem v f (inb ⟨k, hkn⟩) (w ⟨k, hkn⟩) _ y rfl ax (by rw [hax]; left; show _ < k; omega)]
      exact ih (by omega) (by omega)

end Cert.Rows
-- ==== Proof.FpsBodyIdeal.lean ====
/-
  The selection call's body: what its four loops carry and store, and what the body leaves in its eight results.
-/
module

public import proofs.«01_k».proof.Proof.Gen.FpsIdeal.Frame
public import proofs.«01_k».proof.Proof.Gen.FpsIdeal.Skeleton
public import proofs.«01_k».proof.Proof.Rows
public import Idealize.ShloMosaic.Lib.Exec
public import Idealize.ShloMosaic.Lib.Pointwise
public import Idealize.ShloMosaic.Lib.Claim

@[expose] public section
set_option maxRecDepth 16384
noncomputable section

namespace Cert.FpsIdeal.Body
open Cert.FpsIdeal Cert.FpsIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the loops carry -/

/-- The first selection before trip `k`: each point's distance to the chosen ones, and the point chosen next. -/
def near (v0 v2 : Vec F S32x1x512 .f32) : ℕ → FVec F S32x512 .f32 × IVec S32 32
  | 0 => (k0_pay7 (F := F), k0_pay8)
  | k + 1 => (k0_pay15 v0 v2 (near v0 v2 k).1 (near v0 v2 k).2, k0_pay16 v0 v2 (near v0 v2 k).1 (near v0 v2 k).2)

/-- The second selection, among the points of the first. -/
def near' (v11 v14 : FVec F S32x128 .f32) : ℕ → FVec F S32x128 .f32 × IVec S32 32
  | 0 => (k0_pay25 (F := F), k0_pay26)
  | k + 1 => (k0_pay33 v11 v14 (near' v11 v14 k).1 (near' v11 v14 k).2, k0_pay34 v11 v14 (near' v11 v14 k).1 (near' v11 v14 k).2)

/-- The first stage's distances before trip `k`, those of the neighbours taken so far at infinity. -/
def left (d : FVec F S32x128x512 .f32) : ℕ → FVec F S32x128x512 .f32
  | 0 => d
  | k + 1 => k0_pay24 (left d k)

/-- The second stage's distances before trip `k`. -/
def left' (d : FVec F S32x32x128 .f32) : ℕ → FVec F S32x32x128 .f32
  | 0 => d
  | k + 1 => k0_pay4 (left' d k)

/-! ## What they store -/

/-- An array of rows. -/
abbrev rows2 {n m : ℕ} {e : EltTy} (p : ℕ → Vec F ⟨2, ![1, m]⟩ e) : Vec F ⟨2, ![n, m]⟩ e :=
  fun y => p (y 0).val (ix2 (0 : Fin 1) (y 1 : Fin m))

/-- An array of slabs. -/
abbrev rows3 {n m r : ℕ} {e : EltTy} (p : ℕ → Vec F ⟨3, ![1, m, r]⟩ e) : Vec F ⟨3, ![n, m, r]⟩ e :=
  fun y => p (y 0).val (ix3 (0 : Fin 1) (y 1 : Fin m) (y 2 : Fin r))

/-- The points chosen first. -/
def o1 (v0 v2 : Vec F S32x1x512 .f32) : Vec F S128x32 .i32 := rows2 (n := 128) fun k => k0_pay9 (near v0 v2 k).2
/-- Their first coordinates. -/
def o2 (v0 v2 : Vec F S32x1x512 .f32) : Vec F S128x32 .f32 := rows2 (n := 128) fun k => k0_pay13 v0 (near v0 v2 k).2
/-- Their second coordinates. -/
def o3 (v0 v2 : Vec F S32x1x512 .f32) : Vec F S128x32 .f32 := rows2 (n := 128) fun k => k0_pay14 v2 (near v0 v2 k).2
/-- The neighbours of each chosen point, the nearest first, from the distances. -/
def o4 (d : FVec F S32x128x512 .f32) : Vec F S24x32x128 .i32 := rows3 (n := 24) fun k => k0_pay23 (left d k)
/-- The points chosen second. -/
def o5 (v11 v14 : FVec F S32x128 .f32) : Vec F S32x32 .i32 := rows2 (n := 32) fun k => k0_pay27 (near' v11 v14 k).2
/-- Their first coordinates. -/
def o6 (v11 v14 : FVec F S32x128 .f32) : Vec F S32x32 .f32 := rows2 (n := 32) fun k => k0_pay31 v11 (near' v11 v14 k).2
/-- Their second coordinates. -/
def o7 (v11 v14 : FVec F S32x128 .f32) : Vec F S32x32 .f32 := rows2 (n := 32) fun k => k0_pay32 v14 (near' v11 v14 k).2
/-- The second stage's neighbours. -/
def o8 (d : FVec F S32x32x128 .f32) : Vec F S24x32x32 .i32 := rows3 (n := 24) fun k => k0_pay3 (left' d k)

theorem trips1 : k0_t1_loop.trips = 128 := by decide +kernel
theorem trips2 : k0_t2_loop.trips = 24 := by decide +kernel
theorem trips3 : k0_t3_loop.trips = 32 := by decide +kernel
theorem trips4 : k0_t4_loop.trips = 24 := by decide +kernel

/-- The store into result 1 of a trip. -/
def pc1 (v0 v2 : Vec F S32x1x512 .f32) (k : Fin k0_t1_loop.trips) : View.Piece (Elt F) S128x32 .i32 :=
  ⟨Rect.unit (s := S128x32) (k0_off1 k) S1x32.size (k0_off1_inb k), k0_pay9 (near v0 v2 k.val).2⟩

/-- The store into result 2 of a trip. -/
def pc2 (v0 v2 : Vec F S32x1x512 .f32) (k : Fin k0_t1_loop.trips) : View.Piece (Elt F) S128x32 .f32 :=
  ⟨Rect.unit (s := S128x32) (k0_off1 k) S1x32.size (k0_off1_inb k), k0_pay13 v0 (near v0 v2 k.val).2⟩

/-- The store into result 3 of a trip. -/
def pc3 (v0 v2 : Vec F S32x1x512 .f32) (k : Fin k0_t1_loop.trips) : View.Piece (Elt F) S128x32 .f32 :=
  ⟨Rect.unit (s := S128x32) (k0_off1 k) S1x32.size (k0_off1_inb k), k0_pay14 v2 (near v0 v2 k.val).2⟩

/-- The store into result 4 of a trip. -/
def pc4 (d : FVec F S32x128x512 .f32) (k : Fin k0_t2_loop.trips) : View.Piece (Elt F) S24x32x128 .i32 :=
  ⟨Rect.unit (s := S24x32x128) (k0_off2 k) S1x32x128.size (k0_off2_inb k), k0_pay23 (left d k.val)⟩

/-- The store into result 5 of a trip. -/
def pc5 (v11 v14 : FVec F S32x128 .f32) (k : Fin k0_t3_loop.trips) : View.Piece (Elt F) S32x32 .i32 :=
  ⟨Rect.unit (s := S32x32) (k0_off3 k) S1x32.size (k0_off3_inb k), k0_pay27 (near' v11 v14 k.val).2⟩

/-- The store into result 6 of a trip. -/
def pc6 (v11 v14 : FVec F S32x128 .f32) (k : Fin k0_t3_loop.trips) : View.Piece (Elt F) S32x32 .f32 :=
  ⟨Rect.unit (s := S32x32) (k0_off3 k) S1x32.size (k0_off3_inb k), k0_pay31 v11 (near' v11 v14 k.val).2⟩

/-- The store into result 7 of a trip. -/
def pc7 (v11 v14 : FVec F S32x128 .f32) (k : Fin k0_t3_loop.trips) : View.Piece (Elt F) S32x32 .f32 :=
  ⟨Rect.unit (s := S32x32) (k0_off3 k) S1x32.size (k0_off3_inb k), k0_pay32 v14 (near' v11 v14 k.val).2⟩

/-- The store into result 8 of a trip. -/
def pc8 (d : FVec F S32x32x128 .f32) (k : Fin k0_t4_loop.trips) : View.Piece (Elt F) S24x32x32 .i32 :=
  ⟨Rect.unit (s := S24x32x32) (k0_off4 k) S1x32x32.size (k0_off4_inb k), k0_pay3 (left' d k.val)⟩

/-! ## What a result reads after its loop -/

section Reads
variable {sg : RefSig} {κ : Kind} {sp : Space}

/-- A buffer of rows, every row stored, reads the rows. -/
theorem read_rows2 {n m N : ℕ} {e : EltTy} (v : View sg κ sp ⟨2, ![n, m]⟩ e) (f : v.ty.Contents (Elt F)) (hN : N = n)
    (off : Fin N → Fin 2 → ℕ) (hoff : ∀ k, off k = ![k.val, 0])
    (inb : ∀ k, ∀ a : Fin 2, off k a + (![1, m] : Fin 2 → ℕ) a ≤ (![n, m] : Fin 2 → ℕ) a)
    (p : ℕ → Vec F ⟨2, ![1, m]⟩ e) :
    v.read (Elt F) (v.writes (Elt F) f (before (fun k : Fin N =>
      (⟨Rect.unit (s := ⟨2, ![n, m]⟩) (off k) ![1, m] (inb k), p k.val⟩ : View.Piece (Elt F) ⟨2, ![n, m]⟩ e)) N)) = rows2 p := by
  funext y
  refine read_before v f off ![1, m] inb (fun k => p k.val) (rows2 p) (0 : Fin 2) (fun i => by rw [hoff]; rfl) rfl
    (fun i a ha => ?_) (fun a ha => ?_) (fun i x y hxy => ?_) N le_rfl y (by rw [hN]; exact (y 0).isLt)
  · rw [hoff]; fin_cases a
    · exact absurd rfl ha
    · rfl
  · fin_cases a
    · exact absurd rfl ha
    · rfl
  · have hh : ∀ a : Fin 2, (y a).val = (![i.val, 0] : Fin 2 → ℕ) a + (x a).val := fun a =>
      (hxy a).trans (congrArg (· + (x a).val) (congrFun (hoff i) a))
    have h0 := hh 0; have h1 := hh 1
    have x0 : (x (0 : Fin 2)).val < 1 := (x (0 : Fin 2)).isLt
    have e0 : (y (0 : Fin 2)).val = i.val := by
      have : (y (0 : Fin 2)).val = i.val + (x (0 : Fin 2)).val := h0
      omega
    have e1 : (y (1 : Fin 2)).val = (x (1 : Fin 2)).val := by
      have : (y (1 : Fin 2)).val = 0 + (x (1 : Fin 2)).val := h1
      omega
    show p i.val x = p (y 0).val _
    rw [e0]
    refine congrArg (p i.val) (funext fun a => Fin.ext ?_)
    fin_cases a
    · show (x (0 : Fin 2)).val = 0; omega
    · exact e1.symm

/-- A buffer of slabs, every slab stored, reads the slabs. -/
theorem read_rows3 {n m r N : ℕ} {e : EltTy} (v : View sg κ sp ⟨3, ![n, m, r]⟩ e) (f : v.ty.Contents (Elt F)) (hN : N = n)
    (off : Fin N → Fin 3 → ℕ) (hoff : ∀ k, off k = ![k.val, 0, 0])
    (inb : ∀ k, ∀ a : Fin 3, off k a + (![1, m, r] : Fin 3 → ℕ) a ≤ (![n, m, r] : Fin 3 → ℕ) a)
    (p : ℕ → Vec F ⟨3, ![1, m, r]⟩ e) :
    v.read (Elt F) (v.writes (Elt F) f (before (fun k : Fin N =>
      (⟨Rect.unit (s := ⟨3, ![n, m, r]⟩) (off k) ![1, m, r] (inb k), p k.val⟩ : View.Piece (Elt F) ⟨3, ![n, m, r]⟩ e)) N)) = rows3 p := by
  funext y
  refine read_before v f off ![1, m, r] inb (fun k => p k.val) (rows3 p) (0 : Fin 3) (fun i => by rw [hoff]; rfl) rfl
    (fun i a ha => ?_) (fun a ha => ?_) (fun i x y hxy => ?_) N le_rfl y (by rw [hN]; exact (y 0).isLt)
  · rw [hoff]; fin_cases a
    · exact absurd rfl ha
    · rfl
    · rfl
  · fin_cases a
    · exact absurd rfl ha
    · rfl
    · rfl
  · have hh : ∀ a : Fin 3, (y a).val = (![i.val, 0, 0] : Fin 3 → ℕ) a + (x a).val := fun a =>
      (hxy a).trans (congrArg (· + (x a).val) (congrFun (hoff i) a))
    have h0 := hh 0; have h1 := hh 1; have h2 := hh 2
    have x0 : (x (0 : Fin 3)).val < 1 := (x (0 : Fin 3)).isLt
    have e0 : (y (0 : Fin 3)).val = i.val := by
      have : (y (0 : Fin 3)).val = i.val + (x (0 : Fin 3)).val := h0
      omega
    have e1 : (y (1 : Fin 3)).val = (x (1 : Fin 3)).val := by
      have : (y (1 : Fin 3)).val = 0 + (x (1 : Fin 3)).val := h1
      omega
    have e2 : (y (2 : Fin 3)).val = (x (2 : Fin 3)).val := by
      have : (y (2 : Fin 3)).val = 0 + (x (2 : Fin 3)).val := h2
      omega
    show p i.val x = p (y 0).val _
    rw [e0]
    refine congrArg (p i.val) (funext fun a => Fin.ext ?_)
    fin_cases a
    · show (x (0 : Fin 3)).val = 0; omega
    · exact e1.symm
    · exact e2.symm

end Reads

theorem read_pc1 (v0 v2 : Vec F S32x1x512 .f32) (arg : Memref sig .tc .vmem S128x32 .i32) (f : arg.view.ty.Contents (Elt F)) :
    arg.view.read (Elt F) (arg.view.writes (Elt F) f (before (pc1 v0 v2) k0_t1_loop.trips)) = o1 v0 v2 :=
  read_rows2 (n := 128) (m := 32) arg.view f trips1 k0_off1 k0_off1_eq k0_off1_inb fun k => k0_pay9 (near v0 v2 k).2

theorem read_pc2 (v0 v2 : Vec F S32x1x512 .f32) (arg : Memref sig .tc .vmem S128x32 .f32) (f : arg.view.ty.Contents (Elt F)) :
    arg.view.read (Elt F) (arg.view.writes (Elt F) f (before (pc2 v0 v2) k0_t1_loop.trips)) = o2 v0 v2 :=
  read_rows2 (n := 128) (m := 32) arg.view f trips1 k0_off1 k0_off1_eq k0_off1_inb fun k => k0_pay13 v0 (near v0 v2 k).2

theorem read_pc3 (v0 v2 : Vec F S32x1x512 .f32) (arg : Memref sig .tc .vmem S128x32 .f32) (f : arg.view.ty.Contents (Elt F)) :
    arg.view.read (Elt F) (arg.view.writes (Elt F) f (before (pc3 v0 v2) k0_t1_loop.trips)) = o3 v0 v2 :=
  read_rows2 (n := 128) (m := 32) arg.view f trips1 k0_off1 k0_off1_eq k0_off1_inb fun k => k0_pay14 v2 (near v0 v2 k).2

theorem read_pc4 (d : FVec F S32x128x512 .f32) (arg : Memref sig .tc .vmem S24x32x128 .i32) (f : arg.view.ty.Contents (Elt F)) :
    arg.view.read (Elt F) (arg.view.writes (Elt F) f (before (pc4 d) k0_t2_loop.trips)) = o4 d :=
  read_rows3 (n := 24) (m := 32) (r := 128) arg.view f trips2 k0_off2 k0_off2_eq k0_off2_inb fun k => k0_pay23 (left d k)

theorem read_pc5 (v11 v14 : FVec F S32x128 .f32) (arg : Memref sig .tc .vmem S32x32 .i32) (f : arg.view.ty.Contents (Elt F)) :
    arg.view.read (Elt F) (arg.view.writes (Elt F) f (before (pc5 v11 v14) k0_t3_loop.trips)) = o5 v11 v14 :=
  read_rows2 (n := 32) (m := 32) arg.view f trips3 k0_off3 k0_off3_eq k0_off3_inb fun k => k0_pay27 (near' v11 v14 k).2

theorem read_pc6 (v11 v14 : FVec F S32x128 .f32) (arg : Memref sig .tc .vmem S32x32 .f32) (f : arg.view.ty.Contents (Elt F)) :
    arg.view.read (Elt F) (arg.view.writes (Elt F) f (before (pc6 v11 v14) k0_t3_loop.trips)) = o6 v11 v14 :=
  read_rows2 (n := 32) (m := 32) arg.view f trips3 k0_off3 k0_off3_eq k0_off3_inb fun k => k0_pay31 v11 (near' v11 v14 k).2

theorem read_pc7 (v11 v14 : FVec F S32x128 .f32) (arg : Memref sig .tc .vmem S32x32 .f32) (f : arg.view.ty.Contents (Elt F)) :
    arg.view.read (Elt F) (arg.view.writes (Elt F) f (before (pc7 v11 v14) k0_t3_loop.trips)) = o7 v11 v14 :=
  read_rows2 (n := 32) (m := 32) arg.view f trips3 k0_off3 k0_off3_eq k0_off3_inb fun k => k0_pay32 v14 (near' v11 v14 k).2

theorem read_pc8 (d : FVec F S32x32x128 .f32) (arg : Memref sig .tc .vmem S24x32x32 .i32) (f : arg.view.ty.Contents (Elt F)) :
    arg.view.read (Elt F) (arg.view.writes (Elt F) f (before (pc8 d) k0_t4_loop.trips)) = o8 d :=
  read_rows3 (n := 24) (m := 32) (r := 32) arg.view f trips4 k0_off4 k0_off4_eq k0_off4_inb fun k => k0_pay3 (left' d k)

/-! ## The loops by their invariants -/

section Loops
variable (𝒱 : Variants) (c : Dev nD) (bd : Option 𝒱.V) (E : Set ℕ)
  (arg0 : Memref sig .tc .vmem S32x2x512 .f32) (harg0 : arg0.IsWhole) (arg1 : Memref sig .tc .vmem S128x32 .i32) (harg1 : arg1.IsWhole) (arg2 : Memref sig .tc .vmem S128x32 .f32) (harg2 : arg2.IsWhole) (arg3 : Memref sig .tc .vmem S128x32 .f32) (harg3 : arg3.IsWhole) (arg4 : Memref sig .tc .vmem S24x32x128 .i32) (harg4 : arg4.IsWhole) (arg5 : Memref sig .tc .vmem S32x32 .i32) (harg5 : arg5.IsWhole) (arg6 : Memref sig .tc .vmem S32x32 .f32) (harg6 : arg6.IsWhole) (arg7 : Memref sig .tc .vmem S32x32 .f32) (harg7 : arg7.IsWhole) (arg8 : Memref sig .tc .vmem S24x32x32 .i32) (harg8 : arg8.IsWhole)

/-- Before trip `k` of loop 1: the stores of the trips before, over the entry contents, and the carried values. -/
def inv1 (v0 v2 : Vec F S32x1x512 .f32) (g1 : BufTy.Contents (Elt F) arg1.view.ty) (g2 : BufTy.Contents (Elt F) arg2.view.ty) (g3 : BufTy.Contents (Elt F) arg3.view.ty) (k : ℕ) (acc : FVec F S32x512 .f32 × IVec S32 32) : sProp 𝕄 :=
  iprop((∃ f, (arg1.view.loc (c : Thread nD τ) ↦[arg1.view.set]{fullShare} f) ∗ ⌜f = arg1.view.writes (Elt F) g1 (before (pc1 v0 v2) k)⌝) ∗ (∃ f, (arg2.view.loc (c : Thread nD τ) ↦[arg2.view.set]{fullShare} f) ∗ ⌜f = arg2.view.writes (Elt F) g2 (before (pc2 v0 v2) k)⌝) ∗ (∃ f, (arg3.view.loc (c : Thread nD τ) ↦[arg3.view.set]{fullShare} f) ∗ ⌜f = arg3.view.writes (Elt F) g3 (before (pc3 v0 v2) k)⌝) ∗ ⌜acc = near v0 v2 k⌝)

/-- One trip of loop 1. -/
theorem step1 (v0 v2 : Vec F S32x1x512 .f32) (g1 : BufTy.Contents (Elt F) arg1.view.ty) (g2 : BufTy.Contents (Elt F) arg2.view.ty) (g3 : BufTy.Contents (Elt F) arg3.view.ty) (k : Fin k0_t1_loop.trips) (acc : FVec F S32x512 .f32 × IVec S32 32) :
    inv1 c arg1 arg2 arg3 v0 v2 g1 g2 g3 k.val acc ⊢ wp frame (wpE (defs₀ (F := F)) 𝒱 (c : Thread nD τ) bd) E
      ((k0_t1_body (F := F) arg0 harg0 arg1 harg1 arg2 harg2 arg3 harg3 arg4 harg4 arg5 harg5 arg6 harg6 arg7 harg7 arg8 harg8 v0 v2) k acc) (inv1 c arg1 arg2 arg3 v0 v2 g1 g2 g3 (k.val + 1)) := by
  obtain ⟨d0, far⟩ := acc
  unfold inv1 k0_t1_body
  iintro ⟨⟨%f1, H1, %h1⟩, ⟨%f2, H2, %h2⟩, ⟨%f3, H3, %h3⟩, %hacc⟩
  have hd : d0 = (near v0 v2 k.val).1 := congrArg Prod.fst hacc
  have hf : far = (near v0 v2 k.val).2 := congrArg Prod.snd hacc
  subst hd hf
  subst h1 h2 h3
  sl_exec
  sl_step
  isplitl [H1]
  · iexists _; isplitl [H1]; · iexact H1
    ipureintro
    rw [before_succ]; rfl
  isplitl [H2]
  · iexists _; isplitl [H2]; · iexact H2
    ipureintro
    rw [before_succ]; rfl
  isplitl [H3]
  · iexists _; isplitl [H3]; · iexact H3
    ipureintro
    rw [before_succ]; rfl
  ipureintro
  rfl

set_option warn.classDefReducibility false in
/-- Loop 1 by its invariant. -/
@[sl_loop] def loopInv1 (v0 v2 : Vec F S32x1x512 .f32) (g1 : BufTy.Contents (Elt F) arg1.view.ty) (g2 : BufTy.Contents (Elt F) arg2.view.ty) (g3 : BufTy.Contents (Elt F) arg3.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok (k0_pay7 (F := F), k0_pay8) (k0_t1_body (F := F) arg0 harg0 arg1 harg1 arg2 harg2 arg3 harg3 arg4 harg4 arg5 harg5 arg6 harg6 arg7 harg7 arg8 harg8 v0 v2) where
  inv := inv1 c arg1 arg2 arg3 v0 v2 g1 g2 g3
  step := step1 𝒱 c bd E arg0 harg0 arg1 harg1 arg2 harg2 arg3 harg3 arg4 harg4 arg5 harg5 arg6 harg6 arg7 harg7 arg8 harg8 v0 v2 g1 g2 g3

set_option warn.classDefReducibility false in
/-- After loop 1 its results hold all their slabs. -/
def exit1 (v0 v2 : Vec F S32x1x512 .f32) (g1 : BufTy.Contents (Elt F) arg1.view.ty) (g2 : BufTy.Contents (Elt F) arg2.view.ty) (g3 : BufTy.Contents (Elt F) arg3.view.ty) :
    LoopExit (loopInv1 (F := F) 𝒱 c bd E arg0 harg0 arg1 harg1 arg2 harg2 arg3 harg3 arg4 harg4 arg5 harg5 arg6 harg6 arg7 harg7 arg8 harg8 v0 v2 g1 g2 g3) where
  post acc := iprop((arg1.view.loc (c : Thread nD τ) ↦[arg1.view.set]{fullShare} (harg1.unread (o1 v0 v2))) ∗ (arg2.view.loc (c : Thread nD τ) ↦[arg2.view.set]{fullShare} (harg2.unread (o2 v0 v2))) ∗ (arg3.view.loc (c : Thread nD τ) ↦[arg3.view.set]{fullShare} (harg3.unread (o3 v0 v2))))
  exit acc := by
    show inv1 c arg1 arg2 arg3 v0 v2 g1 g2 g3 k0_t1_loop.trips acc ⊢ _
    unfold inv1
    iintro ⟨⟨%f1, H1, %h1⟩, ⟨%f2, H2, %h2⟩, ⟨%f3, H3, %h3⟩, -⟩
    subst h1
    rw [harg1.eq_unread (read_pc1 v0 v2 arg1 g1)]
    subst h2
    rw [harg2.eq_unread (read_pc2 v0 v2 arg2 g2)]
    subst h3
    rw [harg3.eq_unread (read_pc3 v0 v2 arg3 g3)]
    isplitl [H1]; · iexact H1
    isplitl [H2]; · iexact H2
    iexact H3

/-- Before trip `k` of loop 2: the stores of the trips before, over the entry contents, and the carried values. -/
def inv2 (d : FVec F S32x128x512 .f32) (g4 : BufTy.Contents (Elt F) arg4.view.ty) (k : ℕ) (acc : FVec F S32x128x512 .f32) : sProp 𝕄 :=
  iprop((∃ f, (arg4.view.loc (c : Thread nD τ) ↦[arg4.view.set]{fullShare} f) ∗ ⌜f = arg4.view.writes (Elt F) g4 (before (pc4 d) k)⌝) ∗ ⌜acc = left d k⌝)

/-- One trip of loop 2. -/
theorem step2 (v3 : FVec F S32x512 .f32) (v11 v14 : FVec F S32x128 .f32) (v41 : FVec F S32x128x512 .f32) (v42 : FVec F S32x512 .f32) (d : FVec F S32x128x512 .f32) (g4 : BufTy.Contents (Elt F) arg4.view.ty) (k : Fin k0_t2_loop.trips) (acc : FVec F S32x128x512 .f32) :
    inv2 c arg4 d g4 k.val acc ⊢ wp frame (wpE (defs₀ (F := F)) 𝒱 (c : Thread nD τ) bd) E
      ((k0_t2_body (F := F) arg0 harg0 arg1 harg1 arg2 harg2 arg3 harg3 arg4 harg4 arg5 harg5 arg6 harg6 arg7 harg7 arg8 harg8 v3 v11 v14 v41 v42) k acc) (inv2 c arg4 d g4 (k.val + 1)) := by
  unfold inv2 k0_t2_body
  iintro ⟨⟨%f4, H4, %h4⟩, %hacc⟩
  subst hacc
  subst h4
  sl_exec
  sl_step
  isplitl [H4]
  · iexists _; isplitl [H4]; · iexact H4
    ipureintro
    rw [before_succ]; rfl
  ipureintro
  rfl

set_option warn.classDefReducibility false in
/-- Loop 2 by its invariant. -/
@[sl_loop] def loopInv2 (v3 : FVec F S32x512 .f32) (v11 v14 : FVec F S32x128 .f32) (v41 : FVec F S32x128x512 .f32) (v42 : FVec F S32x512 .f32) (d : FVec F S32x128x512 .f32) (g4 : BufTy.Contents (Elt F) arg4.view.ty) :
    Idealize.ShloMosaic.LoopInv (M := 𝕄) Idealize.ShloMosaic.frame (wpE (defs₀ (F := F)) 𝒱 (c : Thread nD τ) bd) E
      k0_t2_loop.lb k0_t2_loop.ub k0_t2_loop.st k0_t2_ok d (k0_t2_body (F := F) arg0 harg0 arg1 harg1 arg2 harg2 arg3 harg3 arg4 harg4 arg5 harg5 arg6 harg6 arg7 harg7 arg8 harg8 v3 v11 v14 v41 v42) where
  inv := inv2 c arg4 d g4
  step := step2 𝒱 c bd E arg0 harg0 arg1 harg1 arg2 harg2 arg3 harg3 arg4 harg4 arg5 harg5 arg6 harg6 arg7 harg7 arg8 harg8 v3 v11 v14 v41 v42 d g4

set_option warn.classDefReducibility false in
/-- After loop 2 its results hold all their slabs. -/
def exit2 (v3 : FVec F S32x512 .f32) (v11 v14 : FVec F S32x128 .f32) (v41 : FVec F S32x128x512 .f32) (v42 : FVec F S32x512 .f32) (d : FVec F S32x128x512 .f32) (g4 : BufTy.Contents (Elt F) arg4.view.ty) :
    LoopExit (loopInv2 (F := F) 𝒱 c bd E arg0 harg0 arg1 harg1 arg2 harg2 arg3 harg3 arg4 harg4 arg5 harg5 arg6 harg6 arg7 harg7 arg8 harg8 v3 v11 v14 v41 v42 d g4) where
  post acc := iprop((arg4.view.loc (c : Thread nD τ) ↦[arg4.view.set]{fullShare} (harg4.unread (o4 d))))
  exit acc := by
    show inv2 c arg4 d g4 k0_t2_loop.trips acc ⊢ _
    unfold inv2
    iintro ⟨⟨%f4, H4, %h4⟩, -⟩
    subst h4
    rw [harg4.eq_unread (read_pc4 d arg4 g4)]
    iexact H4

/-- Before trip `k` of loop 3: the stores of the trips before, over the entry contents, and the carried values. -/
def inv3 (v11 v14 : FVec F S32x128 .f32) (g5 : BufTy.Contents (Elt F) arg5.view.ty) (g6 : BufTy.Contents (Elt F) arg6.view.ty) (g7 : BufTy.Contents (Elt F) arg7.view.ty) (k : ℕ) (acc : FVec F S32x128 .f32 × IVec S32 32) : sProp 𝕄 :=
  iprop((∃ f, (arg5.view.loc (c : Thread nD τ) ↦[arg5.view.set]{fullShare} f) ∗ ⌜f = arg5.view.writes (Elt F) g5 (before (pc5 v11 v14) k)⌝) ∗ (∃ f, (arg6.view.loc (c : Thread nD τ) ↦[arg6.view.set]{fullShare} f) ∗ ⌜f = arg6.view.writes (Elt F) g6 (before (pc6 v11 v14) k)⌝) ∗ (∃ f, (arg7.view.loc (c : Thread nD τ) ↦[arg7.view.set]{fullShare} f) ∗ ⌜f = arg7.view.writes (Elt F) g7 (before (pc7 v11 v14) k)⌝) ∗ ⌜acc = near' v11 v14 k⌝)

/-- One trip of loop 3. -/
theorem step3 (v3 : FVec F S32x512 .f32) (v11 v14 : FVec F S32x128 .f32) (v41 : FVec F S32x128x512 .f32) (v42 : FVec F S32x512 .f32) (g5 : BufTy.Contents (Elt F) arg5.view.ty) (g6 : BufTy.Contents (Elt F) arg6.view.ty) (g7 : BufTy.Contents (Elt F) arg7.view.ty) (k : Fin k0_t3_loop.trips) (acc : FVec F S32x128 .f32 × IVec S32 32) :
    inv3 c arg5 arg6 arg7 v11 v14 g5 g6 g7 k.val acc ⊢ wp frame (wpE (defs₀ (F := F)) 𝒱 (c : Thread nD τ) bd) E
      ((k0_t3_body (F := F) arg0 harg0 arg1 harg1 arg2 harg2 arg3 harg3 arg4 harg4 arg5 harg5 arg6 harg6 arg7 harg7 arg8 harg8 v3 v11 v14 v41 v42) k acc) (inv3 c arg5 arg6 arg7 v11 v14 g5 g6 g7 (k.val + 1)) := by
  obtain ⟨d0, far⟩ := acc
  unfold inv3 k0_t3_body
  iintro ⟨⟨%f5, H5, %h5⟩, ⟨%f6, H6, %h6⟩, ⟨%f7, H7, %h7⟩, %hacc⟩
  have hd : d0 = (near' v11 v14 k.val).1 := congrArg Prod.fst hacc
  have hf : far = (near' v11 v14 k.val).2 := congrArg Prod.snd hacc
  subst hd hf
  subst h5 h6 h7
  sl_exec
  sl_step
  isplitl [H5]
  · iexists _; isplitl [H5]; · iexact H5
    ipureintro
    rw [before_succ]; rfl
  isplitl [H6]
  · iexists _; isplitl [H6]; · iexact H6
    ipureintro
    rw [before_succ]; rfl
  isplitl [H7]
  · iexists _; isplitl [H7]; · iexact H7
    ipureintro
    rw [before_succ]; rfl
  ipureintro
  rfl

set_option warn.classDefReducibility false in
/-- Loop 3 by its invariant. -/
@[sl_loop] def loopInv3 (v3 : FVec F S32x512 .f32) (v11 v14 : FVec F S32x128 .f32) (v41 : FVec F S32x128x512 .f32) (v42 : FVec F S32x512 .f32) (g5 : BufTy.Contents (Elt F) arg5.view.ty) (g6 : BufTy.Contents (Elt F) arg6.view.ty) (g7 : BufTy.Contents (Elt F) arg7.view.ty) :
    Idealize.ShloMosaic.LoopInv (M := 𝕄) Idealize.ShloMosaic.frame (wpE (defs₀ (F := F)) 𝒱 (c : Thread nD τ) bd) E
      k0_t3_loop.lb k0_t3_loop.ub k0_t3_loop.st k0_t3_ok (k0_pay25 (F := F), k0_pay26) (k0_t3_body (F := F) arg0 harg0 arg1 harg1 arg2 harg2 arg3 harg3 arg4 harg4 arg5 harg5 arg6 harg6 arg7 harg7 arg8 harg8 v3 v11 v14 v41 v42) where
  inv := inv3 c arg5 arg6 arg7 v11 v14 g5 g6 g7
  step := step3 𝒱 c bd E arg0 harg0 arg1 harg1 arg2 harg2 arg3 harg3 arg4 harg4 arg5 harg5 arg6 harg6 arg7 harg7 arg8 harg8 v3 v11 v14 v41 v42 g5 g6 g7

set_option warn.classDefReducibility false in
/-- After loop 3 its results hold all their slabs. -/
def exit3 (v3 : FVec F S32x512 .f32) (v11 v14 : FVec F S32x128 .f32) (v41 : FVec F S32x128x512 .f32) (v42 : FVec F S32x512 .f32) (g5 : BufTy.Contents (Elt F) arg5.view.ty) (g6 : BufTy.Contents (Elt F) arg6.view.ty) (g7 : BufTy.Contents (Elt F) arg7.view.ty) :
    LoopExit (loopInv3 (F := F) 𝒱 c bd E arg0 harg0 arg1 harg1 arg2 harg2 arg3 harg3 arg4 harg4 arg5 harg5 arg6 harg6 arg7 harg7 arg8 harg8 v3 v11 v14 v41 v42 g5 g6 g7) where
  post acc := iprop((arg5.view.loc (c : Thread nD τ) ↦[arg5.view.set]{fullShare} (harg5.unread (o5 v11 v14))) ∗ (arg6.view.loc (c : Thread nD τ) ↦[arg6.view.set]{fullShare} (harg6.unread (o6 v11 v14))) ∗ (arg7.view.loc (c : Thread nD τ) ↦[arg7.view.set]{fullShare} (harg7.unread (o7 v11 v14))))
  exit acc := by
    show inv3 c arg5 arg6 arg7 v11 v14 g5 g6 g7 k0_t3_loop.trips acc ⊢ _
    unfold inv3
    iintro ⟨⟨%f5, H5, %h5⟩, ⟨%f6, H6, %h6⟩, ⟨%f7, H7, %h7⟩, -⟩
    subst h5
    rw [harg5.eq_unread (read_pc5 v11 v14 arg5 g5)]
    subst h6
    rw [harg6.eq_unread (read_pc6 v11 v14 arg6 g6)]
    subst h7
    rw [harg7.eq_unread (read_pc7 v11 v14 arg7 g7)]
    isplitl [H5]; · iexact H5
    isplitl [H6]; · iexact H6
    iexact H7

/-- Before trip `k` of loop 4: the stores of the trips before, over the entry contents, and the carried values. -/
def inv4 (d : FVec F S32x32x128 .f32) (g8 : BufTy.Contents (Elt F) arg8.view.ty) (k : ℕ) (acc : FVec F S32x32x128 .f32) : sProp 𝕄 :=
  iprop((∃ f, (arg8.view.loc (c : Thread nD τ) ↦[arg8.view.set]{fullShare} f) ∗ ⌜f = arg8.view.writes (Elt F) g8 (before (pc8 d) k)⌝) ∗ ⌜acc = left' d k⌝)

/-- One trip of loop 4. -/
theorem step4 (d : FVec F S32x32x128 .f32) (g8 : BufTy.Contents (Elt F) arg8.view.ty) (k : Fin k0_t4_loop.trips) (acc : FVec F S32x32x128 .f32) :
    inv4 c arg8 d g8 k.val acc ⊢ wp frame (wpE (defs₀ (F := F)) 𝒱 (c : Thread nD τ) bd) E
      ((k0_t4_body (F := F) arg0 harg0 arg1 harg1 arg2 harg2 arg3 harg3 arg4 harg4 arg5 harg5 arg6 harg6 arg7 harg7 arg8 harg8) k acc) (inv4 c arg8 d g8 (k.val + 1)) := by
  unfold inv4 k0_t4_body
  iintro ⟨⟨%f8, H8, %h8⟩, %hacc⟩
  subst hacc
  subst h8
  sl_exec
  sl_step
  isplitl [H8]
  · iexists _; isplitl [H8]; · iexact H8
    ipureintro
    rw [before_succ]; rfl
  ipureintro
  rfl

set_option warn.classDefReducibility false in
/-- Loop 4 by its invariant. -/
@[sl_loop] def loopInv4 (d : FVec F S32x32x128 .f32) (g8 : BufTy.Contents (Elt F) arg8.view.ty) :
    Idealize.ShloMosaic.LoopInv (M := 𝕄) Idealize.ShloMosaic.frame (wpE (defs₀ (F := F)) 𝒱 (c : Thread nD τ) bd) E
      k0_t4_loop.lb k0_t4_loop.ub k0_t4_loop.st k0_t4_ok d (k0_t4_body (F := F) arg0 harg0 arg1 harg1 arg2 harg2 arg3 harg3 arg4 harg4 arg5 harg5 arg6 harg6 arg7 harg7 arg8 harg8) where
  inv := inv4 c arg8 d g8
  step := step4 𝒱 c bd E arg0 harg0 arg1 harg1 arg2 harg2 arg3 harg3 arg4 harg4 arg5 harg5 arg6 harg6 arg7 harg7 arg8 harg8 d g8

set_option warn.classDefReducibility false in
/-- After loop 4 its results hold all their slabs. -/
def exit4 (d : FVec F S32x32x128 .f32) (g8 : BufTy.Contents (Elt F) arg8.view.ty) :
    LoopExit (loopInv4 (F := F) 𝒱 c bd E arg0 harg0 arg1 harg1 arg2 harg2 arg3 harg3 arg4 harg4 arg5 harg5 arg6 harg6 arg7 harg7 arg8 harg8 d g8) where
  post acc := iprop((arg8.view.loc (c : Thread nD τ) ↦[arg8.view.set]{fullShare} (harg8.unread (o8 d))))
  exit acc := by
    show inv4 c arg8 d g8 k0_t4_loop.trips acc ⊢ _
    unfold inv4
    iintro ⟨⟨%f8, H8, %h8⟩, -⟩
    subst h8
    rw [harg8.eq_unread (read_pc8 d arg8 g8)]
    iexact H8

end Loops

/-! ## The results of the body -/

/-- The first coordinates, as the body loads them. -/
def c0 (x : Vec F S32x2x512 .f32) : Vec F S32x1x512 .f32 :=
  View.ld x (Rect.unit (s := S32x2x512) ![0, 0, 0] S32x1x512.size inb_S32x2x512_S32x1x512_0_0_0)
/-- The second coordinates. -/
def c1 (x : Vec F S32x2x512 .f32) : Vec F S32x1x512 .f32 :=
  View.ld x (Rect.unit (s := S32x2x512) ![0, 1, 0] S32x1x512.size inb_S32x2x512_S32x1x512_0_1_0)
/-- The first chosen points' coordinates, a row for each cloud. -/
def n0 (x : Vec F S32x2x512 .f32) : FVec F S32x128 .f32 := k0_pay17 (o2 (c0 x) (c1 x))
def n1 (x : Vec F S32x2x512 .f32) : FVec F S32x128 .f32 := k0_pay18 (o3 (c0 x) (c1 x))
/-- The distances of the first stage. -/
def dist1 (x : Vec F S32x2x512 .f32) : FVec F S32x128x512 .f32 :=
  k0_pay21 (k0_pay6 (c1 x)) (k0_pay19 (c0 x) (c1 x) (o2 (c0 x) (c1 x)) (o3 (c0 x) (c1 x))) (k0_pay20 (c0 x))
/-- The distances of the second. -/
def dist2 (x : Vec F S32x2x512 .f32) : FVec F S32x32x128 .f32 :=
  k0_pay1 (n0 x) (n1 x) (k0_pay37 (n0 x) (n1 x) (o6 (n0 x) (n1 x)) (o7 (n0 x) (n1 x))) (k0_pay38 (o6 (n0 x) (n1 x)) (o7 (n0 x) (n1 x)))
def r1 (x : Vec F S32x2x512 .f32) : Vec F S128x32 .i32 := o1 (c0 x) (c1 x)
def r2 (x : Vec F S32x2x512 .f32) : Vec F S128x32 .f32 := o2 (c0 x) (c1 x)
def r3 (x : Vec F S32x2x512 .f32) : Vec F S128x32 .f32 := o3 (c0 x) (c1 x)
def r4 (x : Vec F S32x2x512 .f32) : Vec F S24x32x128 .i32 := o4 (dist1 x)
def r5 (x : Vec F S32x2x512 .f32) : Vec F S32x32 .i32 := o5 (n0 x) (n1 x)
def r6 (x : Vec F S32x2x512 .f32) : Vec F S32x32 .f32 := o6 (n0 x) (n1 x)
def r7 (x : Vec F S32x2x512 .f32) : Vec F S32x32 .f32 := o7 (n0 x) (n1 x)
def r8 (x : Vec F S32x2x512 .f32) : Vec F S24x32x32 .i32 := o8 (dist2 x)

/-- A load of a whole buffer reads what it holds. -/
theorem ld_whole2 {n m : ℕ} {e : EltTy} (x : Vec F ⟨2, ![n, m]⟩ e) (inb) :
    View.ld x (Rect.unit (s := ⟨2, ![n, m]⟩) ![0, 0] ![n, m] inb) = x := by
  funext y
  refine congrArg x (funext fun a => Fin.ext ?_)
  fin_cases a
  · show 0 + 1 * (y 0).val = (y 0).val; omega
  · show 0 + 1 * (y 1).val = (y 1).val; omega

/-- A load of a whole memref held at the contents that read `x` gives `x`. -/
theorem readAt_whole2 {n m : ℕ} {e : EltTy} (arg : Memref sig .tc .vmem ⟨2, ![n, m]⟩ e) (h : arg.IsWhole) (x : Vec F ⟨2, ![n, m]⟩ e) (inb) :
    arg.view.readAt (Elt F) (Rect.unit (s := ⟨2, ![n, m]⟩) ![0, 0] ![n, m] inb).toLoadRect (h.unread x) = x := by
  rw [View.readAt_eq_ld, h.read_unread]; exact ld_whole2 x inb

attribute [local instance] exit1 exit2 exit3 exit4 in
set_option maxHeartbeats 1000000 in
/-- The body leaves its results at `r1` to `r8` of its argument. -/
theorem sound_kernel (c : Dev nD) (E : Set ℕ) (arg0 : Memref sig .tc .vmem S32x2x512 .f32) (harg0 : arg0.IsWhole) (arg1 : Memref sig .tc .vmem S128x32 .i32) (harg1 : arg1.IsWhole) (arg2 : Memref sig .tc .vmem S128x32 .f32) (harg2 : arg2.IsWhole) (arg3 : Memref sig .tc .vmem S128x32 .f32) (harg3 : arg3.IsWhole) (arg4 : Memref sig .tc .vmem S24x32x128 .i32) (harg4 : arg4.IsWhole) (arg5 : Memref sig .tc .vmem S32x32 .i32) (harg5 : arg5.IsWhole) (arg6 : Memref sig .tc .vmem S32x32 .f32) (harg6 : arg6.IsWhole) (arg7 : Memref sig .tc .vmem S32x32 .f32) (harg7 : arg7.IsWhole) (arg8 : Memref sig .tc .vmem S24x32x32 .i32) (harg8 : arg8.IsWhole) (x : Vec F S32x2x512 .f32) (K : PUnit → sProp 𝕄) :
    iprop(owns (c : Thread nD τ) arg0 fullShare x ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x ∗ owns (c : Thread nD τ) arg1 fullShare (r1 x) ∗ owns (c : Thread nD τ) arg2 fullShare (r2 x) ∗ owns (c : Thread nD τ) arg3 fullShare (r3 x) ∗ owns (c : Thread nD τ) arg4 fullShare (r4 x) ∗ owns (c : Thread nD τ) arg5 fullShare (r5 x) ∗ owns (c : Thread nD τ) arg6 fullShare (r6 x) ∗ owns (c : Thread nD τ) arg7 fullShare (r7 x) ∗ owns (c : Thread nD τ) arg8 fullShare (r8 x)) -∗ K ⟨⟩))
      ⊢ wp frame (wpE (defs₀ (F := F)) Variants.none c none) E (cc0__fps_knn_body arg0 harg0 arg1 harg1 arg2 harg2 arg3 harg3 arg4 harg4 arg5 harg5 arg6 harg6 arg7 harg7 arg8 harg8) K := by
  simp only [cc0__fps_knn_body_eq_skeleton]; unfold cc0__fps_knn_body_skel
  simp only [k0_part1_eq_skeleton, k0_part2_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0
  sl_exec
  sl_step

  iapply Hk
  have e2 := readAt_whole2 (F := F) arg2 harg2 (o2 (c0 (arg0.view.read (Elt F) f0)) (c1 (arg0.view.read (Elt F) f0))) inb_S128x32_S128x32_0_0
  have e3 := readAt_whole2 (F := F) arg3 harg3 (o3 (c0 (arg0.view.read (Elt F) f0)) (c1 (arg0.view.read (Elt F) f0))) inb_S128x32_S128x32_0_0
  have e6 := readAt_whole2 (F := F) arg6 harg6 (o6 (n0 (arg0.view.read (Elt F) f0)) (n1 (arg0.view.read (Elt F) f0))) inb_S32x32_S32x32_0_0
  have e7 := readAt_whole2 (F := F) arg7 harg7 (o7 (n0 (arg0.view.read (Elt F) f0)) (n1 (arg0.view.read (Elt F) f0))) inb_S32x32_S32x32_0_0
  have m0 : k0_pay17 (arg2.view.readAt (Elt F) (Rect.unit (s := S128x32) ![0, 0] S128x32.size inb_S128x32_S128x32_0_0).toLoadRect
      (harg2.unread (o2 (c0 (arg0.view.read (Elt F) f0)) (c1 (arg0.view.read (Elt F) f0))))) = n0 (arg0.view.read (Elt F) f0) :=
    congrArg k0_pay17 e2
  have m1 : k0_pay18 (arg3.view.readAt (Elt F) (Rect.unit (s := S128x32) ![0, 0] S128x32.size inb_S128x32_S128x32_0_0).toLoadRect
      (harg3.unread (o3 (c0 (arg0.view.read (Elt F) f0)) (c1 (arg0.view.read (Elt F) f0))))) = n1 (arg0.view.read (Elt F) f0) :=
    congrArg k0_pay18 e3
  isplitl [H0]
  · iexists f0; isplitr; · ipureintro; rfl
    iexact H0
  isplitl [HL0]
  · iexists _; isplitr
    swap; · iexact HL0
    ipureintro
    refine (harg1.read_unread _).trans ?_
    rfl
  isplitl [HL1]
  · iexists _; isplitr
    swap; · iexact HL1
    ipureintro
    refine (harg2.read_unread _).trans ?_
    rfl
  isplitl [HL2]
  · iexists _; isplitr
    swap; · iexact HL2
    ipureintro
    refine (harg3.read_unread _).trans ?_
    rfl
  isplitl [HL3]
  · iexists _; isplitr
    swap; · iexact HL3
    ipureintro
    refine (harg4.read_unread _).trans ?_
    exact congrArg₂ (fun a b => o4 (k0_pay21 (k0_pay6 (c1 (arg0.view.read (Elt F) f0))) (k0_pay19 (c0 (arg0.view.read (Elt F) f0)) (c1 (arg0.view.read (Elt F) f0)) a b) (k0_pay20 (c0 (arg0.view.read (Elt F) f0))))) e2 e3
  isplitl [HL4]
  · iexists _; isplitr
    swap; · iexact HL4
    ipureintro
    refine (harg5.read_unread _).trans ?_
    exact congrArg₂ o5 m0 m1
  isplitl [HL5]
  · iexists _; isplitr
    swap; · iexact HL5
    ipureintro
    refine (harg6.read_unread _).trans ?_
    exact congrArg₂ o6 m0 m1
  isplitl [HL6]
  · iexists _; isplitr
    swap; · iexact HL6
    ipureintro
    refine (harg7.read_unread _).trans ?_
    exact congrArg₂ o7 m0 m1
  iexists _; isplitr
  swap; · iexact HL7
  ipureintro
  refine (harg8.read_unread _).trans ?_
  show o8 (k0_pay1 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0)))))) (k0_pay37 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0)))))) (arg6.view.readAt (Elt F) (Rect.unit (s := S32x32) ![0, 0] S32x32.size inb_S32x32_S32x32_0_0).toLoadRect (harg6.unread (o6 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0))))))))) (arg7.view.readAt (Elt F) (Rect.unit (s := S32x32) ![0, 0] S32x32.size inb_S32x32_S32x32_0_0).toLoadRect (harg7.unread (o7 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0)))))))))) (k0_pay38 (arg6.view.readAt (Elt F) (Rect.unit (s := S32x32) ![0, 0] S32x32.size inb_S32x32_S32x32_0_0).toLoadRect (harg6.unread (o6 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0))))))))) (arg7.view.readAt (Elt F) (Rect.unit (s := S32x32) ![0, 0] S32x32.size inb_S32x32_S32x32_0_0).toLoadRect (harg7.unread (o7 (k0_pay17 (arg2.view.readAt (Elt F) (Rect.unit (s := S128x32) ![0, 0] S128x32.size inb_S128x32_S128x32_0_0).toLoadRect (harg2.unread (o2 (c0 (arg0.view.read (Elt F) f0)) (c1 (arg0.view.read (Elt F) f0)))))) (k0_pay18 (arg3.view.readAt (Elt F) (Rect.unit (s := S128x32) ![0, 0] S128x32.size inb_S128x32_S128x32_0_0).toLoadRect (harg3.unread (o3 (c0 (arg0.view.read (Elt F) f0)) (c1 (arg0.view.read (Elt F) f0))))))))))) = r8 (arg0.view.read (Elt F) f0)
  rw [m0, m1]
  exact congrArg₂ (fun a b => o8 (k0_pay1 (n0 (arg0.view.read (Elt F) f0)) (n1 (arg0.view.read (Elt F) f0)) (k0_pay37 (n0 (arg0.view.read (Elt F) f0)) (n1 (arg0.view.read (Elt F) f0)) a b) (k0_pay38 a b))) e6 e7

/-! ## The call's run -/

variable (m : (ℓ : Loc nD τ sig) → Buf (Elt F) ℓ) (ρ : Dev nD → PrngReg)

/-- What the body finds and leaves in each of the call's buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => r1 (iblk m c 0 t)
    | ⟨2, _⟩ => r2 (iblk m c 0 t)
    | ⟨3, _⟩ => r3 (iblk m c 0 t)
    | ⟨4, _⟩ => r4 (iblk m c 0 t)
    | ⟨5, _⟩ => r5 (iblk m c 0 t)
    | ⟨6, _⟩ => r6 (iblk m c 0 t)
    | ⟨7, _⟩ => r7 (iblk m c 0 t)
    | ⟨8, _⟩ => r8 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = r1 (iblk m c 0 t) := by dsimp only [dats]
theorem after0_2 (c : Dev nD) (t : Fin cfg0.N) : (dats m 0 c).after 2 t = r2 (iblk m c 0 t) := by dsimp only [dats]
theorem after0_3 (c : Dev nD) (t : Fin cfg0.N) : (dats m 0 c).after 3 t = r3 (iblk m c 0 t) := by dsimp only [dats]
theorem after0_4 (c : Dev nD) (t : Fin cfg0.N) : (dats m 0 c).after 4 t = r4 (iblk m c 0 t) := by dsimp only [dats]
theorem after0_5 (c : Dev nD) (t : Fin cfg0.N) : (dats m 0 c).after 5 t = r5 (iblk m c 0 t) := by dsimp only [dats]
theorem after0_6 (c : Dev nD) (t : Fin cfg0.N) : (dats m 0 c).after 6 t = r6 (iblk m c 0 t) := by dsimp only [dats]
theorem after0_7 (c : Dev nD) (t : Fin cfg0.N) : (dats m 0 c).after 7 t = r7 (iblk m c 0 t) := by dsimp only [dats]
theorem after0_8 (c : Dev nD) (t : Fin cfg0.N) : (dats m 0 c).after 8 t = r8 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at the call's one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ (iblk m c 0 t) _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The program runs to the end from any memory, with every result as the body leaves it and no semaphore raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.FpsIdeal.Body
-- ==== Proof.Sel.lean ====
/-
  Choosing one entry of a row after another: the lowest index of an extremum, and the places of a stable sort.
-/
module

public import Idealize.ShloMosaic.Lib.SortFacts
public import Idealize.ShloMosaic.Lib.WordArith
public import Idealize.ShloMosaic.Lib.Pointwise

@[expose] public section
noncomputable section

namespace Cert.Sel
open Idealize.ShloMosaic

/-! ## The lowest index -/

/-- A running signed minimum of words below `2 ^ 31`: it is below every word, and it is one of them or its start. -/
theorem fold_minsi {ι : Type} [DecidableEq ι] (w : ι → BitVec 32) (z : BitVec 32) (hz : z.toNat < 2 ^ 31)
    (hw : ∀ i, (w i).toNat < 2 ^ 31) (s : Finset ι) :
    (s.fold IntOp.minsi z w).toNat < 2 ^ 31 ∧ (∀ i ∈ s, (s.fold IntOp.minsi z w).toNat ≤ (w i).toNat)
      ∧ (s.fold IntOp.minsi z w = z ∨ ∃ i ∈ s, s.fold IntOp.minsi z w = w i) := by
  induction s using Finset.induction_on with
  | empty => exact ⟨hz, fun i hi => absurd hi (Finset.notMem_empty i), Or.inl rfl⟩
  | insert a s ha ih =>
    obtain ⟨h1, h2, h3⟩ := ih
    rw [Finset.fold_insert ha]
    have e := WordArith.toNat_minsi_of_lt _ _ (hw a) h1
    refine ⟨by rw [e]; exact lt_of_le_of_lt (min_le_left _ _) (hw a), fun i hi => ?_, ?_⟩
    · rw [e]
      rcases Finset.mem_insert.mp hi with rfl | hi
      · exact min_le_left _ _
      · exact (min_le_right _ _).trans (h2 i hi)
    · rcases le_total (w a).toNat (s.fold IntOp.minsi z w).toNat with h | h
      · exact Or.inr ⟨a, Finset.mem_insert_self a s, BitVec.eq_of_toNat_eq (e.trans (min_eq_left h))⟩
      · have e' : IntOp.minsi (w a) (s.fold IntOp.minsi z w) = s.fold IntOp.minsi z w :=
          BitVec.eq_of_toNat_eq (e.trans (min_eq_right h))
        rw [e']
        rcases h3 with h3 | ⟨i, hi, h3⟩
        · exact Or.inl h3
        · exact Or.inr ⟨i, Finset.mem_insert_of_mem hi, h3⟩

/-- The least index with a property, found as a running minimum of the indices that have it. -/
theorem first_index {n : ℕ} (hn : n < 2147483647) (p : Fin n → Prop) [∀ i, Decidable (p i)] (hp : ∃ i, p i) :
    ∃ a : Fin n, p a ∧ (∀ b, b < a → ¬ p b) ∧
      Finset.univ.fold IntOp.minsi 2147483647#32 (fun x : Fin n => if p x then BitVec.ofNat 32 x.val else BitVec.ofNat 32 n)
        = BitVec.ofNat 32 a.val := by
  have hw : ∀ i : Fin n, (if p i then BitVec.ofNat 32 i.val else BitVec.ofNat 32 n).toNat = if p i then i.val else n := by
    intro i
    have := i.isLt
    split <;> exact Nat.mod_eq_of_lt (by omega)
  obtain ⟨h1, h2, h3⟩ := fold_minsi (fun x : Fin n => if p x then BitVec.ofNat 32 x.val else BitVec.ofNat 32 n) 2147483647#32
    (by decide) (fun i => by rw [hw]; have := i.isLt; split <;> omega) Finset.univ
  obtain ⟨i0, hi0⟩ := hp
  have hle := h2 i0 (Finset.mem_univ _)
  rw [hw, if_pos hi0] at hle
  have := i0.isLt
  rcases h3 with h3 | ⟨a, _, h3⟩
  · rw [h3] at hle
    have : (2147483647#32).toNat = 2147483647 := by decide
    omega
  · have hpa : p a := by
      by_contra hc
      rw [h3, hw, if_neg hc] at hle
      omega
    refine ⟨a, hpa, fun b hb hpb => ?_, by rw [h3, if_pos hpa]⟩
    have hle := h2 b (Finset.mem_univ _)
    rw [h3, hw, hw, if_pos hpa, if_pos hpb] at hle
    exact absurd hle (not_le.mpr hb)

/-- A row's maximum is one of its entries and above all of them. -/
theorem fold_max {n : ℕ} (g : Fin n → EReal) (i0 : Fin n) :
    (∃ i, g i = Finset.univ.fold max ⊥ g) ∧ ∀ i, g i ≤ Finset.univ.fold max ⊥ g := by
  have hle : ∀ i, g i ≤ Finset.univ.fold max ⊥ g := fun i =>
    (Finset.le_fold_max _).mpr (Or.inr ⟨i, Finset.mem_univ _, le_rfl⟩)
  obtain ⟨a, _, ha⟩ := Finset.exists_max_image Finset.univ g ⟨i0, Finset.mem_univ _⟩
  exact ⟨⟨a, le_antisymm (hle a) ((Finset.fold_max_le _).mpr ⟨bot_le, fun i hi => ha i hi⟩)⟩, hle⟩

/-- A row's minimum is one of its entries and below all of them. -/
theorem fold_min {n : ℕ} (g : Fin n → EReal) (i0 : Fin n) :
    (∃ i, g i = Finset.univ.fold min ⊤ g) ∧ ∀ i, Finset.univ.fold min ⊤ g ≤ g i := by
  have hle : ∀ i, Finset.univ.fold min ⊤ g ≤ g i := fun i =>
    (Finset.fold_min_le _).mpr (Or.inr ⟨i, Finset.mem_univ _, le_rfl⟩)
  obtain ⟨a, _, ha⟩ := Finset.exists_min_image Finset.univ g ⟨i0, Finset.mem_univ _⟩
  exact ⟨⟨a, le_antisymm ((Finset.le_fold_min _).mpr ⟨le_top, fun i hi => ha i hi⟩) (hle a)⟩, hle⟩

/-! ## The places of a stable sort -/

/-- The order of a row, the greatest first and of equal entries the lower index first. -/
def Ahead {n : ℕ} (f : Fin n → EReal) (i j : Fin n) : Prop := f j < f i ∨ (f i = f j ∧ i < j)

/-- The comparison the sort is given. -/
abbrev gt {n : ℕ} (f : Fin n → EReal) (i j : Fin n) : Bool := FloatOps.cmpfTotal (F := Ideal) (φ := .f32) .gt (f i) (f j) == 1#1

theorem gt_iff {n : ℕ} (f : Fin n → EReal) (i j : Fin n) : gt f i j = true ↔ f j < f i := by
  rw [beq_iff_eq, Ideal.cmpfTotal_def]
  show BitVec.ofBool (decide (f j < f i)) = 1#1 ↔ _
  by_cases h : f j < f i <;> simp [h]

theorem Ahead.trans {n : ℕ} {f : Fin n → EReal} {i j k : Fin n} (h : Ahead f i j) (h' : Ahead f j k) : Ahead f i k := by
  rcases h with h | ⟨h, hl⟩ <;> rcases h' with h' | ⟨h', hl'⟩
  · exact Or.inl (h'.trans h)
  · exact Or.inl (h' ▸ h)
  · exact Or.inl (h.symm ▸ h')
  · exact Or.inr ⟨h.trans h', hl.trans hl'⟩

theorem Ahead.asymm {n : ℕ} {f : Fin n → EReal} {i j : Fin n} (h : Ahead f i j) (h' : Ahead f j i) : False := by
  rcases h with h | ⟨h, hl⟩ <;> rcases h' with h' | ⟨h', hl'⟩
  · exact lt_asymm h h'
  · exact absurd h (by rw [h']; exact lt_irrefl _)
  · exact absurd h' (by rw [h]; exact lt_irrefl _)
  · exact lt_asymm hl hl'

/-- An element of lower index than a sorted list's goes to its place. -/
theorem pairwise_insert {n : ℕ} (f : Fin n → EReal) (a : Fin n) (l : List (Fin n)) (hl : l.Pairwise (Ahead f))
    (ha : ∀ b ∈ l, a < b) : (insertBefore (gt f) a l).Pairwise (Ahead f) := by
  induction l with
  | nil => exact List.pairwise_singleton _ _
  | cons b l ih =>
    have hl' := List.pairwise_cons.mp hl
    unfold insertBefore
    split
    · rename_i h
      refine List.pairwise_cons.mpr ⟨fun c hc => ?_, ih hl'.2 fun c hc => ha c (List.mem_cons_of_mem _ hc)⟩
      rcases List.mem_cons.mp ((perm_insertBefore _ a l).mem_iff.mp hc) with rfl | hc
      · exact Or.inl ((gt_iff f _ _).mp h)
      · exact hl'.1 c hc
    · rename_i h
      have hab : Ahead f a b := by
        have hn : ¬ f a < f b := fun hc => h ((gt_iff f _ _).mpr hc)
        rcases lt_or_eq_of_le (not_lt.mp hn) with h1 | h1
        · exact Or.inl h1
        · exact Or.inr ⟨h1.symm, ha b List.mem_cons_self⟩
      refine List.pairwise_cons.mpr ⟨fun c hc => ?_, hl⟩
      rcases List.mem_cons.mp hc with rfl | hc
      · exact hab
      · exact hab.trans (hl'.1 c hc)

/-- A list of increasing indices, sorted. -/
theorem pairwise_sort {n : ℕ} (f : Fin n → EReal) (l : List (Fin n)) (hl : l.Pairwise (· < ·)) :
    (stableSort (gt f) l).Pairwise (Ahead f) := by
  induction l with
  | nil => exact List.Pairwise.nil
  | cons a l ih =>
    have hl' := List.pairwise_cons.mp hl
    unfold stableSort
    exact pairwise_insert f a _ (ih hl'.2) fun b hb => hl'.1 b ((perm_stableSort _ l).mem_iff.mp hb)

/-- Of two places of a sorted row the earlier is ahead. -/
theorem sortedFrom_ahead {n : ℕ} (f : Fin n → EReal) (i j : Fin n) (hij : i < j) :
    Ahead f (sortedFrom (gt f) i) (sortedFrom (gt f) j) := by
  have hs : (List.finRange n).Pairwise (· < ·) := List.pairwise_lt_finRange n
  have hp := List.pairwise_iff_get.mp (pairwise_sort f (List.finRange n) hs)
  unfold sortedFrom
  exact hp _ _ hij

/-- A choice that takes, time after time, the entry ahead of all those left goes through a sorted row's places. -/
theorem sortedFrom_eq {n : ℕ} (f : Fin n → EReal) (sel : ℕ → Fin n) (K : ℕ)
    (h1 : ∀ k, k < K → ∀ j, j < k → sel j ≠ sel k)
    (h2 : ∀ k, k < K → ∀ i, (∀ j, j < k → sel j ≠ i) → i ≠ sel k → Ahead f (sel k) i) :
    ∀ k, k < K → ∀ hk : k < n, sortedFrom (gt f) ⟨k, hk⟩ = sel k := by
  intro k
  induction k using Nat.strong_induction_on with
  | _ k ih =>
    intro hK hk
    by_contra hne
    obtain ⟨i, hi⟩ := sortedFrom_surjective (gt f) (sel k)
    have hik : k < i.val := by
      rcases lt_trichotomy k i.val with h | h | h
      · exact h
      · exact absurd (by rw [← hi]; exact congrArg _ (Fin.ext h)) hne
      · have := ih i.val h (h.trans hK) i.isLt
        exact absurd (this.symm.trans hi) (h1 k hK i.val h)
    have ha := sortedFrom_ahead f ⟨k, hk⟩ i hik
    rw [hi] at ha
    refine ha.asymm (h2 k hK _ (fun j hj he => ?_) hne)
    have hj' := ih j hj (hj.trans hK) (hj.trans hk)
    have := sortedFrom_injective (gt f) (hj'.trans he)
    exact absurd (congrArg Fin.val this) (by simpa using hj.ne)

/-! ## One row's choices -/

section Row
variable {n : ℕ} [NeZero n]

/-- The place of a row's greatest entry, the lowest of several. -/
def top (d : Fin n → EReal) : Fin n := sortedFrom (gt d) 0

/-- The lowest index of the maximum is the first place of the sorted row. -/
theorem top_eq (d : Fin n → EReal) (a : Fin n) (ha : d a = Finset.univ.fold max ⊥ d)
    (hb : ∀ b, b < a → ¬ d b = Finset.univ.fold max ⊥ d) : top d = a := by
  have h := sortedFrom_eq d (fun _ => a) 1 (fun k hk j hj => by omega) (fun k _ i _ hi => by
    rcases lt_or_eq_of_le ((fold_max d 0).2 i) with h | h
    · exact Or.inl (ha ▸ h)
    · refine Or.inr ⟨ha.trans h.symm, ?_⟩
      rcases lt_trichotomy a i with h1 | h1 | h1
      · exact h1
      · exact absurd h1.symm hi
      · exact absurd h (hb i h1)) 0 one_pos (Nat.pos_of_ne_zero (NeZero.ne n))
  exact h

/-- The word found by a running minimum over the indices of the maximum. -/
theorem top_word (hn : n < 2147483647) (d : Fin n → EReal) (M : EReal) (hM : M = Finset.univ.fold max ⊥ d)
    [∀ i, Decidable (d i = M)] :
    Finset.univ.fold IntOp.minsi 2147483647#32 (fun x : Fin n => if d x = M then BitVec.ofNat 32 x.val else BitVec.ofNat 32 n)
      = BitVec.ofNat 32 (top d).val := by
  subst hM
  obtain ⟨a, ha, hb, e⟩ := first_index hn (fun i => d i = Finset.univ.fold max ⊥ d) (fold_max d 0).1
  rw [e, top_eq d a ha hb]

/-- A row has a lowest index of its minimum. -/
theorem exists_low (g : Fin n → EReal) : ∃ a, g a = Finset.univ.fold min ⊤ g ∧ ∀ b, b < a → ¬ g b = Finset.univ.fold min ⊤ g := by
  classical
  obtain ⟨i, hi⟩ := (fold_min g 0).1
  obtain ⟨a, ha, hb⟩ := Finset.exists_min_image (Finset.univ.filter fun i => g i = Finset.univ.fold min ⊤ g) id
    ⟨i, Finset.mem_filter.mpr ⟨Finset.mem_univ _, hi⟩⟩
  exact ⟨a, (Finset.mem_filter.mp ha).2, fun b hba h =>
    absurd (hb b (Finset.mem_filter.mpr ⟨Finset.mem_univ _, h⟩)) (not_le.mpr hba)⟩

/-- The lowest index of a row's minimum. -/
def low (g : Fin n → EReal) : Fin n := (exists_low g).choose

theorem low_min (g : Fin n → EReal) : g (low g) = Finset.univ.fold min ⊤ g := (exists_low g).choose_spec.1
theorem low_first (g : Fin n → EReal) (b : Fin n) (hb : b < low g) : ¬ g b = Finset.univ.fold min ⊤ g :=
  (exists_low g).choose_spec.2 b hb

/-- The word found by a running minimum over the indices of the minimum. -/
theorem low_word (hn : n < 2147483647) (d : Fin n → EReal) (M : EReal) (hM : M = Finset.univ.fold min ⊤ d)
    [∀ i, Decidable (d i = M)] :
    Finset.univ.fold IntOp.minsi 2147483647#32 (fun x : Fin n => if d x = M then BitVec.ofNat 32 x.val else BitVec.ofNat 32 n)
      = BitVec.ofNat 32 (low d).val := by
  subst hM
  obtain ⟨a, ha, hb, e⟩ := first_index hn (fun i => d i = Finset.univ.fold min ⊤ d) (fold_min d 0).1
  rw [e]
  rcases lt_trichotomy a (low d) with h | h | h
  · exact absurd ha (low_first d a h)
  · rw [h]
  · exact absurd (low_min d) (hb _ h)

/-- A row with its least entries, one after another, put at infinity. -/
def rest (e : Fin n → EReal) : ℕ → Fin n → EReal
  | 0 => e
  | k + 1 => fun i => if i = low (rest e k) then ⊤ else rest e k i

/-- What is left of a row: the entries not yet taken. -/
theorem rest_eq (e : Fin n → EReal) (k : ℕ) (i : Fin n) :
    ((∃ j, j < k ∧ low (rest e j) = i) → rest e k i = ⊤) ∧ ((∀ j, j < k → low (rest e j) ≠ i) → rest e k i = e i) := by
  induction k with
  | zero => exact ⟨fun ⟨j, hj, _⟩ => absurd hj (Nat.not_lt_zero _), fun _ => rfl⟩
  | succ k ih =>
    refine ⟨fun ⟨j, hj, h⟩ => ?_, fun h => ?_⟩
    · show (if i = low (rest e k) then ⊤ else rest e k i) = ⊤
      by_cases hi : i = low (rest e k)
      · rw [if_pos hi]
      · rw [if_neg hi]
        refine ih.1 ⟨j, ?_, h⟩
        rcases Nat.lt_succ_iff_lt_or_eq.mp hj with h' | rfl
        · exact h'
        · exact absurd h.symm hi
    · show (if i = low (rest e k) then ⊤ else rest e k i) = e i
      rw [if_neg (fun hi => h k (Nat.lt_succ_self k) hi.symm)]
      exact ih.2 fun j hj => h j (hj.trans (Nat.lt_succ_self k))

/-- Among finite entries the least one left is not yet taken. -/
theorem low_fresh (e : Fin n → EReal) (he : ∀ i, e i ≠ ⊤) (k : ℕ) (hk : k < n) (j : ℕ) (hj : j < k) :
    low (rest e j) ≠ low (rest e k) := by
  classical
  intro hc
  have hcard : ((Finset.range k).image fun j => low (rest e j)).card < (Finset.univ : Finset (Fin n)).card :=
    lt_of_le_of_lt Finset.card_image_le (by simpa using hk)
  obtain ⟨i, _, hi⟩ := Finset.exists_mem_notMem_of_card_lt_card hcard
  have hi' : rest e k i = e i := (rest_eq e k i).2 fun j hj h => hi (Finset.mem_image.mpr ⟨j, Finset.mem_range.mpr hj, h⟩)
  have h1 := (fold_min (rest e k) 0).2 i
  rw [← low_min, (rest_eq e k _).1 ⟨j, hj, hc⟩, hi'] at h1
  exact he i (top_le_iff.mp h1)

/-- The choice of the least entry left, time after time, goes through the places of the row sorted by its negation. -/
theorem low_rest (e : Fin n → EReal) (he : ∀ i, e i ≠ ⊤) (k : ℕ) (hk : k < n) :
    low (rest e k) = sortedFrom (gt fun i => -e i) ⟨k, hk⟩ := by
  refine (sortedFrom_eq (fun i => -e i) (fun k => low (rest e k)) n (fun k hk j hj => low_fresh e he k hk j hj)
    (fun k hk i hi hne => ?_) k hk hk).symm
  have e1 : rest e k (low (rest e k)) = e (low (rest e k)) := (rest_eq e k _).2 fun j hj => low_fresh e he k hk j hj
  have e2 : rest e k i = e i := (rest_eq e k i).2 hi
  have h := (fold_min (rest e k) 0).2 i
  have hm := low_min (rest e k)
  rcases lt_or_eq_of_le h with h' | h'
  · refine Or.inl (EReal.neg_lt_neg_iff.mpr ?_)
    rw [← hm, e1, e2] at h'
    exact h'
  · refine Or.inr ⟨congrArg (fun y : EReal => -y) (by rw [← e1, ← e2, hm, h']), ?_⟩
    rcases lt_trichotomy (low (rest e k)) i with h1 | h1 | h1
    · exact h1
    · exact absurd h1.symm hne
    · exact absurd h'.symm (low_first _ i h1)

end Row

/-! ## Choosing points -/

section Points
variable {n : ℕ} [NeZero n]

/-- The farthest points one after another: each point's distance to those chosen, and the point chosen next. -/
def pick (P : Fin n → Fin 2 → EReal) : ℕ → (Fin n → EReal) × Fin n
  | 0 => (fun _ => Ideal.ofBits .f32 0x501502F9#32, 0)
  | k + 1 =>
    let d : Fin n → EReal := fun i => min ((pick P k).1 i)
      ((P i 0 - P (pick P k).2 0) * (P i 0 - P (pick P k).2 0) + (P i 1 - P (pick P k).2 1) * (P i 1 - P (pick P k).2 1))
    (d, top d)

/-- The `r`-th chosen point. -/
def far (P : Fin n → Fin 2 → EReal) (r : ℕ) : Fin n := (pick P r).2

theorem far_succ (P : Fin n → Fin 2 → EReal) (r : ℕ) : far P (r + 1) = top (pick P (r + 1)).1 := by
  unfold far
  rw [pick]

/-- The squared distance of a point to a place, as the sums of products say it. -/
def sqd (P : Fin n → Fin 2 → EReal) (a : Fin 2 → EReal) (i : Fin n) : EReal :=
  Ideal.ofBits .f32 0xC0000000#32 * (a 0 * P i 0 + a 1 * P i 1) + (a 0 * a 0 + a 1 * a 1) + (P i 0 * P i 0 + P i 1 * P i 1)

end Points

end Cert.Sel

end
-- ==== Proof.FpsVal.lean ====
/-
  The selection call's first stage: its loops trip by trip, and its four results.
-/
module

public import proofs.«01_k».proof.Proof.FpsBodyIdeal
public import proofs.«01_k».proof.Proof.Sel
public import Idealize.ShloMosaic.Lib.Pointwise
public import Idealize.ShloMosaic.Lib.Pipeline.ValueKit

@[expose] public section
set_option maxRecDepth 16384
noncomputable section
namespace Cert.FpsIdeal.Val
open Cert.FpsIdeal Cert.FpsIdeal.Gen Cert.FpsIdeal.Body Cert.Sel
open Idealize.ShloMosaic Idealize.ShloMosaic.TcCoe Idealize.SL.Sem
open Idealize.ShloMosaic.Pipeline (Dat)

/-- A choice by the equality of two index words. -/
theorem select_eq {α : Type} {n : ℕ} (hn : n < 2147483647) (i q : Fin n) (a b : α) :
    Scalar.select (IntOp.cmpi CmpIPredicate.eq (BitVec.ofNat 32 i.val) (BitVec.ofNat 32 q.val)) a b = if i = q then a else b := by
  have e : (BitVec.ofNat 32 i.val == BitVec.ofNat 32 q.val) = decide (i = q) := by
    by_cases h : i = q
    · rw [h]; simp
    · rw [decide_eq_false h]
      refine beq_eq_false_iff_ne.mpr fun hc => h (Fin.ext ?_)
      have hc' := congrArg BitVec.toNat hc
      have := i.isLt
      have := q.isLt
      rwa [BitVec.toNat_ofNat, BitVec.toNat_ofNat, Nat.mod_eq_of_lt (by omega), Nat.mod_eq_of_lt (by omega)] at hc'
  unfold IntOp.cmpi Scalar.select
  simp only [e]
  by_cases h : i = q <;> simp [h]

/-- A sum with one term left is that term. -/
theorem sum_hot {n : ℕ} (q : Fin n) (v : Fin n → EReal) : ∑ i, (if i = q then v i else 0) = v q := by
  rw [Finset.sum_ite_eq' Finset.univ q v, if_pos (Finset.mem_univ _)]

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A region's points, from the transposed array. -/
def pk (x : Vec Ideal S32x2x512 .f32) (b : Fin 32) (i : Fin 512) (d : Fin 2) : EReal := x (ix3 b d i)

section Trip
variable (x : Vec Ideal S32x2x512 .f32)

theorem c0_eq (b : Fin 32) (i : Fin 512) : c0 x (ix3 b 0 i) = pk x b i 0 := by
  pointwise [c0]
  rfl
theorem c1_eq (b : Fin 32) (i : Fin 512) : c1 x (ix3 b 0 i) = pk x b i 1 := by
  pointwise [c1]
  rfl
theorem p5_eq (b : Fin 32) (i : Fin 512) : k0_pay5 (c0 x) (ix2 b i) = pk x b i 0 := by
  pointwise [k0_pay5]
  exact c0_eq x b i
theorem p6_eq (b : Fin 32) (i : Fin 512) : k0_pay6 (c1 x) (ix2 b i) = pk x b i 1 := by
  pointwise [k0_pay6]
  exact c1_eq x b i

variable (d : FVec Ideal S32x512 .f32) (v : IVec S32 32) (b : Fin 32) (q : Fin 512) (hq : v (ix1 b) = BitVec.ofNat 32 q.val)
include hq

theorem hot0 : k0_pay11 (c0 x) v (ix1 b) = pk x b q 0 := by
  pointwise [k0_pay11, k0_pay10]
  simp only [hq, select_eq (n := 512) (by norm_num), p5_eq]
  exact sum_hot q fun i => pk x b i 0
theorem hot1 : k0_pay12 (c1 x) v (ix1 b) = pk x b q 1 := by
  pointwise [k0_pay12, k0_pay10]
  simp only [hq, select_eq (n := 512) (by norm_num), p6_eq]
  exact sum_hot q fun i => pk x b i 1

/-- The distances after a trip. -/
theorem dist_eq (i : Fin 512) : k0_pay15 (c0 x) (c1 x) d v (ix2 b i) = min (d (ix2 b i))
    ((pk x b i 0 - pk x b q 0) * (pk x b i 0 - pk x b q 0) + (pk x b i 1 - pk x b q 1) * (pk x b i 1 - pk x b q 1)) := by
  pointwise [k0_pay15]
  rw [hot0 x v b q hq, hot1 x v b q hq, p5_eq, p6_eq]

omit hq in
/-- The next point. -/
theorem next_eq : k0_pay16 (c0 x) (c1 x) d v (ix1 b) = BitVec.ofNat 32 (top fun i => k0_pay15 (c0 x) (c1 x) d v (ix2 b i)).val := by
  pointwise [k0_pay16]
  have h := top_word (n := 512) (by norm_num) (fun i => k0_pay15 (c0 x) (c1 x) d v (ix2 b i)) _ rfl
  rw [← neg_inf] at h
  exact h

end Trip

/-- What the first selection carries is the choice of the farthest points. -/
theorem near_eq (x : Vec Ideal S32x2x512 .f32) (k : ℕ) :
    (∀ b i, (near (c0 x) (c1 x) k).1 (ix2 b i) = (pick (pk x b) k).1 i)
      ∧ ∀ b, (near (c0 x) (c1 x) k).2 (ix1 b) = BitVec.ofNat 32 (far (pk x b) k).val := by
  induction k with
  | zero => exact ⟨fun b i => rfl, fun b => rfl⟩
  | succ k ih =>
    have hd : ∀ b i, k0_pay15 (c0 x) (c1 x) (near (c0 x) (c1 x) k).1 (near (c0 x) (c1 x) k).2 (ix2 b i) = (pick (pk x b) (k + 1)).1 i := by
      intro b i
      rw [dist_eq x _ _ b _ (ih.2 b) i, ih.1]
      rfl
    have hn : ∀ b, k0_pay16 (c0 x) (c1 x) (near (c0 x) (c1 x) k).1 (near (c0 x) (c1 x) k).2 (ix1 b)
        = BitVec.ofNat 32 (top (pick (pk x b) (k + 1)).1).val := by
      intro b
      rw [next_eq, show (fun i => k0_pay15 (c0 x) (c1 x) (near (c0 x) (c1 x) k).1 (near (c0 x) (c1 x) k).2 (ix2 b i)) = (pick (pk x b) (k + 1)).1 from
        funext (hd b)]
    refine ⟨fun b i => ?_, fun b => ?_⟩
    · rw [near]
      exact hd b i
    · rw [near, far_succ]
      dsimp only
      rw [hn b]

section Results
variable (x : Vec Ideal S32x2x512 .f32)

theorem r1_eq (r : Fin 128) (b : Fin 32) : r1 x (ix2 r b) = BitVec.ofNat 32 (far (pk x b) r.val).val := by
  show k0_pay9 (near (c0 x) (c1 x) r.val).2 (ix2 0 b) = _
  pointwise [k0_pay9]
  exact (near_eq x r.val).2 b
theorem r2_eq (r : Fin 128) (b : Fin 32) : r2 x (ix2 r b) = pk x b (far (pk x b) r.val) 0 := by
  show k0_pay13 (c0 x) (near (c0 x) (c1 x) r.val).2 (ix2 0 b) = _
  pointwise [k0_pay13]
  exact hot0 x _ b _ ((near_eq x r.val).2 b)
theorem r3_eq (r : Fin 128) (b : Fin 32) : r3 x (ix2 r b) = pk x b (far (pk x b) r.val) 1 := by
  show k0_pay14 (c1 x) (near (c0 x) (c1 x) r.val).2 (ix2 0 b) = _
  pointwise [k0_pay14]
  exact hot1 x _ b _ ((near_eq x r.val).2 b)

/-- The distances of the first stage. -/
theorem dist1_eq (b : Fin 32) (r : Fin 128) (i : Fin 512) :
    dist1 x (ix3 b r i) = sqd (pk x b) (pk x b (far (pk x b) r.val)) i := by
  have e2 : o2 (c0 x) (c1 x) (ix2 r b) = pk x b (far (pk x b) r.val) 0 := r2_eq x r b
  have e3 : o3 (c0 x) (c1 x) (ix2 r b) = pk x b (far (pk x b) r.val) 1 := r3_eq x r b
  pointwise [dist1, k0_pay19, k0_pay20, k0_pay21, k0_pay17, k0_pay18]
  rw [e2, e3, p5_eq, p6_eq]
  rfl

/-- The neighbour taken, and the distances left. -/
theorem low_eq (d : FVec Ideal S32x128x512 .f32) (b : Fin 32) (r : Fin 128) :
    k0_pay22 d (ix2 b r) = BitVec.ofNat 32 (low fun i => d (ix3 b r i)).val := by
  pointwise [k0_pay22]
  have h := low_word (n := 512) (by norm_num) (fun i => d (ix3 b r i)) _ rfl
  rw [← pos_inf] at h
  exact h

theorem left_eq (d : FVec Ideal S32x128x512 .f32) (k : ℕ) (b : Fin 32) (r : Fin 128) (i : Fin 512) :
    left d k (ix3 b r i) = rest (fun i => d (ix3 b r i)) k i := by
  induction k generalizing i with
  | zero => rfl
  | succ k ih =>
    show k0_pay24 (left d k) (ix3 b r i) = _
    pointwise [k0_pay24]
    rw [low_eq, select_eq (n := 512) (by norm_num), pos_inf, ih, show (fun i => left d k (ix3 b r i)) = rest (fun i => d (ix3 b r i)) k from funext ih]
    rfl

theorem r4_eq (k : Fin 24) (b : Fin 32) (r : Fin 128) : r4 x (ix3 k b r)
    = BitVec.ofNat 32 (low (rest (sqd (pk x b) (pk x b (far (pk x b) r.val))) k.val)).val := by
  show k0_pay23 (left (dist1 x) k.val) (ix3 0 b r) = _
  pointwise [k0_pay23]
  rw [low_eq, show (fun i => left (dist1 x) k.val (ix3 b r i)) = rest (sqd (pk x b) (pk x b (far (pk x b) r.val))) k.val from
    funext fun i => (left_eq (dist1 x) k.val b r i).trans (congrArg (fun e => rest e k.val i) (funext fun i => dist1_eq x b r i))]

end Results
end Cert.FpsIdeal.Val
-- ==== Proof.FpsVal2.lean ====
/-
  The selection call's second stage, among the points of the first: its loops trip by trip, and its four results.
-/
module

public import proofs.«01_k».proof.Proof.FpsVal

@[expose] public section
set_option maxRecDepth 16384
noncomputable section
namespace Cert.FpsIdeal.Val
open Cert.FpsIdeal Cert.FpsIdeal.Gen Cert.FpsIdeal.Body Cert.Sel
open Idealize.ShloMosaic Idealize.ShloMosaic.TcCoe Idealize.SL.Sem
open Idealize.ShloMosaic.Pipeline (Dat)

/-- The points of the second stage: those the first one chose. -/
abbrev of1 (P : Fin 512 → Fin 2 → EReal) (i : Fin 128) (d : Fin 2) : EReal := P (far P i.val) d

section Trip2
variable (x : Vec Ideal S32x2x512 .f32)

theorem n0_eq (b : Fin 32) (i : Fin 128) : n0 x (ix2 b i) = of1 (pk x b) i 0 := by
  unfold n0
  pointwise [k0_pay17]
  exact r2_eq x i b
theorem n1_eq (b : Fin 32) (i : Fin 128) : n1 x (ix2 b i) = of1 (pk x b) i 1 := by
  unfold n1
  pointwise [k0_pay18]
  exact r3_eq x i b

variable (d : FVec Ideal S32x128 .f32) (v : IVec S32 32) (b : Fin 32) (q : Fin 128) (hq : v (ix1 b) = BitVec.ofNat 32 q.val)
include hq

theorem hot0' : k0_pay29 (n0 x) v (ix1 b) = of1 (pk x b) q 0 := by
  pointwise [k0_pay29, k0_pay28]
  simp only [hq, select_eq (n := 128) (by norm_num), n0_eq]
  exact sum_hot q fun i => of1 (pk x b) i 0
theorem hot1' : k0_pay30 (n1 x) v (ix1 b) = of1 (pk x b) q 1 := by
  pointwise [k0_pay30, k0_pay28]
  simp only [hq, select_eq (n := 128) (by norm_num), n1_eq]
  exact sum_hot q fun i => of1 (pk x b) i 1

/-- The distances after a trip. -/
theorem dist_eq' (i : Fin 128) : k0_pay33 (n0 x) (n1 x) d v (ix2 b i) = min (d (ix2 b i))
    ((of1 (pk x b) i 0 - of1 (pk x b) q 0) * (of1 (pk x b) i 0 - of1 (pk x b) q 0)
      + (of1 (pk x b) i 1 - of1 (pk x b) q 1) * (of1 (pk x b) i 1 - of1 (pk x b) q 1)) := by
  pointwise [k0_pay33]
  rw [hot0' x v b q hq, hot1' x v b q hq, n0_eq, n1_eq]

omit hq in
/-- The next point. -/
theorem next_eq' : k0_pay34 (n0 x) (n1 x) d v (ix1 b) = BitVec.ofNat 32 (top fun i => k0_pay33 (n0 x) (n1 x) d v (ix2 b i)).val := by
  pointwise [k0_pay34]
  have h := top_word (n := 128) (by norm_num) (fun i => k0_pay33 (n0 x) (n1 x) d v (ix2 b i)) _ rfl
  rw [← neg_inf] at h
  exact h

end Trip2

/-- What the second selection carries is the choice of the farthest among the first stage's points. -/
theorem near_eq' (x : Vec Ideal S32x2x512 .f32) (k : ℕ) :
    (∀ b i, (near' (n0 x) (n1 x) k).1 (ix2 b i) = (pick (of1 (pk x b)) k).1 i)
      ∧ ∀ b, (near' (n0 x) (n1 x) k).2 (ix1 b) = BitVec.ofNat 32 (far (of1 (pk x b)) k).val := by
  induction k with
  | zero => exact ⟨fun b i => rfl, fun b => rfl⟩
  | succ k ih =>
    have hd : ∀ b i, k0_pay33 (n0 x) (n1 x) (near' (n0 x) (n1 x) k).1 (near' (n0 x) (n1 x) k).2 (ix2 b i) = (pick (of1 (pk x b)) (k + 1)).1 i := by
      intro b i
      rw [dist_eq' x _ _ b _ (ih.2 b) i, ih.1]
      rfl
    have hn : ∀ b, k0_pay34 (n0 x) (n1 x) (near' (n0 x) (n1 x) k).1 (near' (n0 x) (n1 x) k).2 (ix1 b)
        = BitVec.ofNat 32 (top (pick (of1 (pk x b)) (k + 1)).1).val := by
      intro b
      rw [next_eq', show (fun i => k0_pay33 (n0 x) (n1 x) (near' (n0 x) (n1 x) k).1 (near' (n0 x) (n1 x) k).2 (ix2 b i)) = (pick (of1 (pk x b)) (k + 1)).1 from
        funext (hd b)]
    refine ⟨fun b i => ?_, fun b => ?_⟩
    · rw [near']
      exact hd b i
    · rw [near', far_succ]
      dsimp only
      rw [hn b]

section Results2
variable (x : Vec Ideal S32x2x512 .f32)

theorem r5_eq (r : Fin 32) (b : Fin 32) : r5 x (ix2 r b) = BitVec.ofNat 32 (far (of1 (pk x b)) r.val).val := by
  show k0_pay27 (near' (n0 x) (n1 x) r.val).2 (ix2 0 b) = _
  pointwise [k0_pay27]
  exact (near_eq' x r.val).2 b
theorem r6_eq (r : Fin 32) (b : Fin 32) : r6 x (ix2 r b) = of1 (pk x b) (far (of1 (pk x b)) r.val) 0 := by
  show k0_pay31 (n0 x) (near' (n0 x) (n1 x) r.val).2 (ix2 0 b) = _
  pointwise [k0_pay31]
  exact hot0' x _ b _ ((near_eq' x r.val).2 b)
theorem r7_eq (r : Fin 32) (b : Fin 32) : r7 x (ix2 r b) = of1 (pk x b) (far (of1 (pk x b)) r.val) 1 := by
  show k0_pay32 (n1 x) (near' (n0 x) (n1 x) r.val).2 (ix2 0 b) = _
  pointwise [k0_pay32]
  exact hot1' x _ b _ ((near_eq' x r.val).2 b)

/-- The distances of the second stage. -/
theorem dist2_eq (b : Fin 32) (r : Fin 32) (i : Fin 128) :
    dist2 x (ix3 b r i) = sqd (of1 (pk x b)) (of1 (pk x b) (far (of1 (pk x b)) r.val)) i := by
  have e2 : o6 (n0 x) (n1 x) (ix2 r b) = of1 (pk x b) (far (of1 (pk x b)) r.val) 0 := r6_eq x r b
  have e3 : o7 (n0 x) (n1 x) (ix2 r b) = of1 (pk x b) (far (of1 (pk x b)) r.val) 1 := r7_eq x r b
  pointwise [dist2, k0_pay1, k0_pay37, k0_pay38, k0_pay35, k0_pay36]
  rw [e2, e3, n0_eq, n1_eq]
  rfl

/-- The neighbour taken, and the distances left. -/
theorem low_eq' (d : FVec Ideal S32x32x128 .f32) (b : Fin 32) (r : Fin 32) :
    k0_pay2 d (ix2 b r) = BitVec.ofNat 32 (low fun i => d (ix3 b r i)).val := by
  pointwise [k0_pay2]
  have h := low_word (n := 128) (by norm_num) (fun i => d (ix3 b r i)) _ rfl
  rw [← pos_inf] at h
  exact h

theorem left_eq' (d : FVec Ideal S32x32x128 .f32) (k : ℕ) (b : Fin 32) (r : Fin 32) (i : Fin 128) :
    left' d k (ix3 b r i) = rest (fun i => d (ix3 b r i)) k i := by
  induction k generalizing i with
  | zero => rfl
  | succ k ih =>
    show k0_pay4 (left' d k) (ix3 b r i) = _
    pointwise [k0_pay4]
    rw [low_eq', select_eq (n := 128) (by norm_num), pos_inf, ih, show (fun i => left' d k (ix3 b r i)) = rest (fun i => d (ix3 b r i)) k from funext ih]
    rfl

theorem r8_eq (k : Fin 24) (b : Fin 32) (r : Fin 32) : r8 x (ix3 k b r)
    = BitVec.ofNat 32 (low (rest (sqd (of1 (pk x b)) (of1 (pk x b) (far (of1 (pk x b)) r.val))) k.val)).val := by
  show k0_pay3 (left' (dist2 x) k.val) (ix3 0 b r) = _
  pointwise [k0_pay3]
  rw [low_eq', show (fun i => left' (dist2 x) k.val (ix3 b r i)) = rest (sqd (of1 (pk x b)) (of1 (pk x b) (far (of1 (pk x b)) r.val))) k.val from
    funext fun i => (left_eq' (dist2 x) k.val b r i).trans (congrArg (fun e => rest e k.val i) (funext fun i => dist2_eq x b r i))]

end Results2
end Cert.FpsIdeal.Val
-- ==== Proof.FpsRun.lean ====
/-
  The selection call's run: what its result arrays hold.
-/
module

public import proofs.«01_k».proof.Proof.FpsVal2

@[expose] public section
set_option maxRecDepth 16384
noncomputable section
namespace Cert.FpsIdeal.Val
open Cert.FpsIdeal Cert.FpsIdeal.Gen Cert.FpsIdeal.Body Cert.Sel
open Idealize.ShloMosaic Idealize.ShloMosaic.TcCoe Idealize.SL.Sem
open Idealize.ShloMosaic.Pipeline (Dat)

/-! ## The call's results -/

section Run
variable (m : (ℓ : Loc nD τ sig) → Buf (Elt Ideal) ℓ) (ρ : Dev nD → PrngReg)

/-- The windows' index maps: the one grid point takes every array whole. -/
theorem idx : ∀ t : Fin cfg0.N, win0_0.index t = ![0, 0, 0] ∧ win0_1.index t = ![0, 0] ∧ win0_2.index t = ![0, 0]
    ∧ win0_3.index t = ![0, 0] ∧ win0_4.index t = ![0, 0, 0] :=
  (by decide +kernel : ∀ t : Fin grid0.N, _)

/-- The call's block is the launch's transposed points. -/
theorem blk0 (c : Dev nD) (t : Fin cfg0.N) (b : Fin 32) (i : Fin 512) (d : Fin 2) :
    pk (iblk m c 0 t) b i d = m ((c : Thread nD τ).loc main_arg0) (ix3 b i d) := by
  have e : iblk m c 0 t (ix3 b d i) = V m c main_v0 (ix3 b d i) := by
    blk_ext [iblk, idx t]
  refine Eq.trans (show pk (iblk m c 0 t) b i d = iblk m c 0 t (ix3 b d i) from rfl) (e.trans ?_)
  entry_read
  pointwise

/-- A region's points. -/
def pt (c : Dev nD) (b : Fin 32) (i : Fin 512) (d : Fin 2) : EReal := m ((c : Thread nD τ).loc main_arg0) (ix3 b i d)

theorem pk_blk (c : Dev nD) (t : Fin cfg0.N) (b : Fin 32) : pk (iblk m c 0 t) b = pt m c b :=
  funext fun i => funext fun d => blk0 m c t b i d

/-- The chosen points. -/
def val0 (c : Dev nD) : (⟨S128x32, .i32⟩ : BufTy).Contents (Elt Ideal) := fun y => BitVec.ofNat 32 (far (pt m c (y 1)) (y 0).val).val
/-- Their first coordinates. -/
def val1 (c : Dev nD) : (⟨S128x32, .f32⟩ : BufTy).Contents (Elt Ideal) := fun y => pt m c (y 1) (far (pt m c (y 1)) (y 0).val) 0
/-- Their second coordinates. -/
def val2 (c : Dev nD) : (⟨S128x32, .f32⟩ : BufTy).Contents (Elt Ideal) := fun y => pt m c (y 1) (far (pt m c (y 1)) (y 0).val) 1
/-- Their neighbours. -/
def val3 (c : Dev nD) : (⟨S24x32x128, .i32⟩ : BufTy).Contents (Elt Ideal) := fun y =>
  BitVec.ofNat 32 (low (rest (sqd (pt m c (y 1)) (pt m c (y 1) (far (pt m c (y 1)) (y 2).val))) (y 0).val)).val

theorem val0_blk (c : Dev nD) (t : Fin cfg0.N) (p : Fin 128) (q : Fin 32) : r1 (iblk m c 0 t) (ix2 p q) = val0 m c (ix2 p q) := by
  rw [r1_eq, pk_blk]
  rfl
theorem val1_blk (c : Dev nD) (t : Fin cfg0.N) (p : Fin 128) (q : Fin 32) : r2 (iblk m c 0 t) (ix2 p q) = val1 m c (ix2 p q) := by
  rw [r2_eq, pk_blk]
  rfl
theorem val2_blk (c : Dev nD) (t : Fin cfg0.N) (p : Fin 128) (q : Fin 32) : r3 (iblk m c 0 t) (ix2 p q) = val2 m c (ix2 p q) := by
  rw [r3_eq, pk_blk]
  rfl
theorem val3_blk (c : Dev nD) (t : Fin cfg0.N) (k : Fin 24) (p : Fin 32) (q : Fin 128) :
    r4 (iblk m c 0 t) (ix3 k p q) = val3 m c (ix3 k p q) := by
  rw [r4_eq, pk_blk]
  rfl

theorem arr0 (c : Dev nD) : (dats m 0 c).arrAt 1 cfg0.N = val0 m c := by
  refine (dats m 0 c).arrAt_eq_of_covers 1 _ (by decide +kernel) fun t _ y => ?_
  blk_simp
  rw [after0_1]
  have he : (((View.whole main_v1_0).slice (win0_1.rect t)).emb y) = (ix2 (y 0) (y 1) : S128x32.Idx) := by
    blk_ext [idx t]
  rw [he]
  have hy : y = (ix2 (y 0) (y 1) : S128x32.Idx) := by
    funext a; match a with | ⟨0, _⟩ => rfl | ⟨1, _⟩ => rfl
  refine (congrArg (r1 (iblk m c 0 t)) hy).trans ?_
  exact val0_blk m c t (y 0) (y 1)

theorem arr1 (c : Dev nD) : (dats m 0 c).arrAt 2 cfg0.N = val1 m c := by
  refine (dats m 0 c).arrAt_eq_of_covers 2 _ (by decide +kernel) fun t _ y => ?_
  blk_simp
  rw [after0_2]
  have he : (((View.whole main_v1_1).slice (win0_2.rect t)).emb y) = (ix2 (y 0) (y 1) : S128x32.Idx) := by
    blk_ext [idx t]
  rw [he]
  have hy : y = (ix2 (y 0) (y 1) : S128x32.Idx) := by
    funext a; match a with | ⟨0, _⟩ => rfl | ⟨1, _⟩ => rfl
  refine (congrArg (r2 (iblk m c 0 t)) hy).trans ?_
  exact val1_blk m c t (y 0) (y 1)

theorem arr2 (c : Dev nD) : (dats m 0 c).arrAt 3 cfg0.N = val2 m c := by
  refine (dats m 0 c).arrAt_eq_of_covers 3 _ (by decide +kernel) fun t _ y => ?_
  blk_simp
  rw [after0_3]
  have he : (((View.whole main_v1_2).slice (win0_3.rect t)).emb y) = (ix2 (y 0) (y 1) : S128x32.Idx) := by
    blk_ext [idx t]
  rw [he]
  have hy : y = (ix2 (y 0) (y 1) : S128x32.Idx) := by
    funext a; match a with | ⟨0, _⟩ => rfl | ⟨1, _⟩ => rfl
  refine (congrArg (r3 (iblk m c 0 t)) hy).trans ?_
  exact val2_blk m c t (y 0) (y 1)

theorem arr3 (c : Dev nD) : (dats m 0 c).arrAt 4 cfg0.N = val3 m c := by
  refine (dats m 0 c).arrAt_eq_of_covers 4 _ (by decide +kernel) fun t _ y => ?_
  blk_simp
  rw [after0_4]
  have he : (((View.whole main_v1_3).slice (win0_4.rect t)).emb y) = (ix3 (y 0) (y 1) (y 2) : S24x32x128.Idx) := by
    blk_ext [idx t]
  rw [he]
  have hy : y = (ix3 (y 0) (y 1) (y 2) : S24x32x128.Idx) := by
    funext a; match a with | ⟨0, _⟩ => rfl | ⟨1, _⟩ => rfl | ⟨2, _⟩ => rfl
  refine (congrArg (r4 (iblk m c 0 t)) hy).trans ?_
  exact val3_blk m c t (y 0) (y 1) (y 2)

/-! ## The second stage's results -/

/-- The second stage's windows take every array whole too. -/
theorem idx' : ∀ t : Fin cfg0.N, win0_5.index t = ![0, 0] ∧ win0_6.index t = ![0, 0] ∧ win0_7.index t = ![0, 0]
    ∧ win0_8.index t = ![0, 0, 0] :=
  (by decide +kernel : ∀ t : Fin grid0.N, _)

/-- A region's points that the first stage chose. -/
abbrev pt1 (c : Dev nD) (b : Fin 32) : Fin 128 → Fin 2 → EReal := of1 (pt m c b)

/-- The points chosen among them. -/
def val4 (c : Dev nD) : (⟨S32x32, .i32⟩ : BufTy).Contents (Elt Ideal) := fun y => BitVec.ofNat 32 (far (pt1 m c (y 1)) (y 0).val).val
/-- Their first coordinates. -/
def val5 (c : Dev nD) : (⟨S32x32, .f32⟩ : BufTy).Contents (Elt Ideal) := fun y => pt1 m c (y 1) (far (pt1 m c (y 1)) (y 0).val) 0
/-- Their second coordinates. -/
def val6 (c : Dev nD) : (⟨S32x32, .f32⟩ : BufTy).Contents (Elt Ideal) := fun y => pt1 m c (y 1) (far (pt1 m c (y 1)) (y 0).val) 1
/-- Their neighbours. -/
def val7 (c : Dev nD) : (⟨S24x32x32, .i32⟩ : BufTy).Contents (Elt Ideal) := fun y =>
  BitVec.ofNat 32 (low (rest (sqd (pt1 m c (y 1)) (pt1 m c (y 1) (far (pt1 m c (y 1)) (y 2).val))) (y 0).val)).val

theorem val4_blk (c : Dev nD) (t : Fin cfg0.N) (p : Fin 32) (q : Fin 32) : r5 (iblk m c 0 t) (ix2 p q) = val4 m c (ix2 p q) := by
  rw [r5_eq, pk_blk]
  rfl
theorem val5_blk (c : Dev nD) (t : Fin cfg0.N) (p : Fin 32) (q : Fin 32) : r6 (iblk m c 0 t) (ix2 p q) = val5 m c (ix2 p q) := by
  rw [r6_eq, pk_blk]
  rfl
theorem val6_blk (c : Dev nD) (t : Fin cfg0.N) (p : Fin 32) (q : Fin 32) : r7 (iblk m c 0 t) (ix2 p q) = val6 m c (ix2 p q) := by
  rw [r7_eq, pk_blk]
  rfl
theorem val7_blk (c : Dev nD) (t : Fin cfg0.N) (k : Fin 24) (p : Fin 32) (q : Fin 32) :
    r8 (iblk m c 0 t) (ix3 k p q) = val7 m c (ix3 k p q) := by
  rw [r8_eq, pk_blk]
  rfl

theorem arr4 (c : Dev nD) : (dats m 0 c).arrAt 5 cfg0.N = val4 m c := by
  refine (dats m 0 c).arrAt_eq_of_covers 5 _ (by decide +kernel) fun t _ y => ?_
  blk_simp
  rw [after0_5]
  have he : (((View.whole main_v1_4).slice (win0_5.rect t)).emb y) = (ix2 (y 0) (y 1) : S32x32.Idx) := by
    blk_ext [idx' t]
  rw [he]
  have hy : y = (ix2 (y 0) (y 1) : S32x32.Idx) := by
    funext a; match a with | ⟨0, _⟩ => rfl | ⟨1, _⟩ => rfl
  refine (congrArg (r5 (iblk m c 0 t)) hy).trans ?_
  exact val4_blk m c t (y 0) (y 1)

theorem arr5 (c : Dev nD) : (dats m 0 c).arrAt 6 cfg0.N = val5 m c := by
  refine (dats m 0 c).arrAt_eq_of_covers 6 _ (by decide +kernel) fun t _ y => ?_
  blk_simp
  rw [after0_6]
  have he : (((View.whole main_v1_5).slice (win0_6.rect t)).emb y) = (ix2 (y 0) (y 1) : S32x32.Idx) := by
    blk_ext [idx' t]
  rw [he]
  have hy : y = (ix2 (y 0) (y 1) : S32x32.Idx) := by
    funext a; match a with | ⟨0, _⟩ => rfl | ⟨1, _⟩ => rfl
  refine (congrArg (r6 (iblk m c 0 t)) hy).trans ?_
  exact val5_blk m c t (y 0) (y 1)

theorem arr6 (c : Dev nD) : (dats m 0 c).arrAt 7 cfg0.N = val6 m c := by
  refine (dats m 0 c).arrAt_eq_of_covers 7 _ (by decide +kernel) fun t _ y => ?_
  blk_simp
  rw [after0_7]
  have he : (((View.whole main_v1_6).slice (win0_7.rect t)).emb y) = (ix2 (y 0) (y 1) : S32x32.Idx) := by
    blk_ext [idx' t]
  rw [he]
  have hy : y = (ix2 (y 0) (y 1) : S32x32.Idx) := by
    funext a; match a with | ⟨0, _⟩ => rfl | ⟨1, _⟩ => rfl
  refine (congrArg (r7 (iblk m c 0 t)) hy).trans ?_
  exact val6_blk m c t (y 0) (y 1)

theorem arr7 (c : Dev nD) : (dats m 0 c).arrAt 8 cfg0.N = val7 m c := by
  refine (dats m 0 c).arrAt_eq_of_covers 8 _ (by decide +kernel) fun t _ y => ?_
  blk_simp
  rw [after0_8]
  have he : (((View.whole main_v1_7).slice (win0_8.rect t)).emb y) = (ix3 (y 0) (y 1) (y 2) : S24x32x32.Idx) := by
    blk_ext [idx' t]
  rw [he]
  have hy : y = (ix3 (y 0) (y 1) (y 2) : S24x32x32.Idx) := by
    funext a; match a with | ⟨0, _⟩ => rfl | ⟨1, _⟩ => rfl | ⟨2, _⟩ => rfl
  refine (congrArg (r8 (iblk m c 0 t)) hy).trans ?_
  exact val7_blk m c t (y 0) (y 1) (y 2)

/-- The run ends with the eight results, the argument unchanged. -/
theorem run : θ_run defs (onTc (τ := τ) (main (F := Ideal))) ⟨m, fun _ => 0, ρ⟩ fun r => ∀ c : Dev nD,
      r.2.mem ((c.tc : Thread nD τ).loc main_v1_0) = val0 m c
      ∧ r.2.mem ((c.tc : Thread nD τ).loc main_v1_1) = val1 m c
      ∧ r.2.mem ((c.tc : Thread nD τ).loc main_v1_2) = val2 m c
      ∧ r.2.mem ((c.tc : Thread nD τ).loc main_v1_3) = val3 m c
      ∧ r.2.mem ((c.tc : Thread nD τ).loc main_v1_4) = val4 m c
      ∧ r.2.mem ((c.tc : Thread nD τ).loc main_v1_5) = val5 m c
      ∧ r.2.mem ((c.tc : Thread nD τ).loc main_v1_6) = val6 m c
      ∧ r.2.mem ((c.tc : Thread nD τ).loc main_v1_7) = val7 m c
      ∧ r.2.mem ((c.tc : Thread nD τ).loc main_arg0) = m ((c.tc : Thread nD τ).loc main_arg0) :=
  (θ_run defs _ _).mono (fun r h c => ⟨((h c).1 1).trans (arr0 m c), ((h c).1 2).trans (arr1 m c), ((h c).1 3).trans (arr2 m c),
      ((h c).1 4).trans (arr3 m c), ((h c).1 5).trans (arr4 m c), ((h c).1 6).trans (arr5 m c), ((h c).1 7).trans (arr6 m c),
      ((h c).1 8).trans (arr7 m c),
      ((h c).2 main_arg0 (Pipeline.mem_restRefs_of main_arg0 (by decide) (by decide))).trans (V_main_arg0 m c)⟩) (run_main m ρ)

end Run

end Cert.FpsIdeal.Val
-- ==== Proof.FpsRefStep.lean ====
/-
  One trip of each of the plain selection's two loops, operation by operation, and the results of the last state.
-/
module

public import proofs.«01_k».proof.Proof.Gen.FpsRefIdeal

@[expose] public section

noncomputable section

namespace Cert.FpsRefIdeal.Step
open Idealize.ShloMosaic Cert.FpsRefIdeal Cert.FpsRefIdeal.Gen

variable {F : FTy → Type} [FloatOps F]

/-- What a trip hands the next. -/
structure State (F : FTy → Type) [FloatOps F] where
  dist : (⟨S32x512, .f32⟩ : BufTy).Contents (Elt F)
  next : (⟨S32, .i32⟩ : BufTy).Contents (Elt F)
  list : (⟨S128x32, .i32⟩ : BufTy).Contents (Elt F)
  pts : (⟨S32x512x2, .f32⟩ : BufTy).Contents (Elt F)

/-! What the first trip starts from. -/

def K_cst : (⟨S_, .f32⟩ : BufTy).Contents (Elt F) := constant S_ .f32 0x501502F9#32
def K_v0 : (⟨S32x512, .f32⟩ : BufTy).Contents (Elt F) := broadcastInDim S32x512 ![] bcast_S_S32x512 ((K_cst (F := F)))
def K_c : (⟨S_, .i32⟩ : BufTy).Contents (Elt F) := constantI S_ 32 0#32
def K_v1 : (⟨S32, .i32⟩ : BufTy).Contents (Elt F) := broadcastInDim S32 ![] bcast_S_S32 ((K_c (F := F)))
def K_c_0 : (⟨S_, .i32⟩ : BufTy).Contents (Elt F) := constantI S_ 32 0#32
def K_v2 : (⟨S128x32, .i32⟩ : BufTy).Contents (Elt F) := broadcastInDim S128x32 ![] bcast_S_S128x32 ((K_c_0 (F := F)))
def K_c_1 : (⟨S_, .i32⟩ : BufTy).Contents (Elt F) := constantI S_ 32 0#32

/-! One trip's values, in the body's order. -/

def b0 (j : ℕ) (s : State F) : (⟨S32x1x1, .i32⟩ : BufTy).Contents (Elt F) :=
  broadcastInDim S32x1x1 ![0] bcast_S32_S32x1x1_0 (s.next)
def b1 (j : ℕ) (s : State F) : (⟨S_, .i32⟩ : BufTy).Contents (Elt F) :=
  constantI S_ 32 0#32
def b2 (j : ℕ) (s : State F) : (⟨S32x1x1, .i32⟩ : BufTy).Contents (Elt F) :=
  broadcastInDim S32x1x1 ![] bcast_S_S32x1x1 ((b1 j s))
def b3 (j : ℕ) (s : State F) : (⟨S32x1x1, .i1⟩ : BufTy).Contents (Elt F) :=
  cmpi .slt ((b0 j s)) ((b2 j s))
def b4 (j : ℕ) (s : State F) : (⟨S_, .i32⟩ : BufTy).Contents (Elt F) :=
  constantI S_ 32 512#32
def b5 (j : ℕ) (s : State F) : (⟨S32x1x1, .i32⟩ : BufTy).Contents (Elt F) :=
  broadcastInDim S32x1x1 ![] bcast_S_S32x1x1 ((b4 j s))
def b6 (j : ℕ) (s : State F) : (⟨S32x1x1, .i32⟩ : BufTy).Contents (Elt F) :=
  addi ((b0 j s)) ((b5 j s))
def b7 (j : ℕ) (s : State F) : (⟨S32x1x1, .i32⟩ : BufTy).Contents (Elt F) :=
  select ((b3 j s)) ((b6 j s)) ((b0 j s))
def b8 (j : ℕ) (s : State F) : (⟨S32x1x2, .f32⟩ : BufTy).Contents (Elt F) :=
  Host.gather gather_S32x512x2_S32x1x1_S32x1x2_2_1_0_0_1_2_112 (s.pts) ((b7 j s))
def b9 (j : ℕ) (s : State F) : (⟨S32x512x2, .f32⟩ : BufTy).Contents (Elt F) :=
  broadcastInDim S32x512x2 ![0, 1, 2] bcast_S32x1x2_S32x512x2_0_1_2 ((b8 j s))
def b10 (j : ℕ) (s : State F) : (⟨S32x512x2, .f32⟩ : BufTy).Contents (Elt F) :=
  subf (s.pts) ((b9 j s))
def b11 (j : ℕ) (s : State F) : (⟨S32x512x2, .f32⟩ : BufTy).Contents (Elt F) :=
  mulf ((b10 j s)) ((b10 j s))
def b12 (j : ℕ) (s : State F) : (⟨S_, .f32⟩ : BufTy).Contents (Elt F) :=
  constant S_ .f32 0x00000000#32
def b13 (j : ℕ) (s : State F) : (⟨S32x512, .f32⟩ : BufTy).Contents (Elt F) :=
  Host.reduceAdd ((b11 j s)) ((b12 j s)) reducesTo_S32x512x2_S32x512_d2 h_S_
def b14 (j : ℕ) (s : State F) : (⟨S32x512, .f32⟩ : BufTy).Contents (Elt F) :=
  minimumf (s.dist) ((b13 j s))
def b15 (j : ℕ) (s : State F) : (⟨S32x1, .f32⟩ : BufTy).Contents (Elt F) :=
  (Host.topK S32x1 1 (FloatOps.cmpfTotal .gt) ((b14 j s)) sliceFits_S32x512_S32x1).1
def b16 (j : ℕ) (s : State F) : (⟨S32x1, .i32⟩ : BufTy).Contents (Elt F) :=
  (Host.topK S32x1 1 (FloatOps.cmpfTotal .gt) ((b14 j s)) sliceFits_S32x512_S32x1).2
def b17 (j : ℕ) (s : State F) : (⟨S32, .i32⟩ : BufTy).Contents (Elt F) :=
  shapeCast S32 ((b16 j s)) shapeCasts_S32x1_S32
def b18 (j : ℕ) (s : State F) : (⟨S1x32, .i32⟩ : BufTy).Contents (Elt F) :=
  broadcastInDim S1x32 ![1] bcast_S32_S1x32_1 (s.next)
def b19 (j : ℕ) (s : State F) : (⟨S_, .i32⟩ : BufTy).Contents (Elt F) :=
  constantI S_ 32 0#32
def b20 (j : ℕ) (s : State F) : (⟨S128x32, .i32⟩ : BufTy).Contents (Elt F) :=
  Host.dynamicUpdateSlice (s.list) ((b18 j s)) (fun k => (((![(constantI S_ 32 (BitVec.ofNat 32 j) : (⟨S_, .i32⟩ : BufTy).Contents (Elt F)), (b19 j s)] : Fin 2 → (⟨S_, .i32⟩ : BufTy).Contents (Elt F))) k (Shape.Idx.first h_S_)).toInt) updateFits_S128x32_S1x32

/-- The first trip's state. -/
def init (x : (⟨S32x512x2, .f32⟩ : BufTy).Contents (Elt F)) : State F :=
  { dist := K_v0 (F := F), next := K_v1 (F := F), list := K_v2 (F := F), pts := x }

/-- One trip. -/
def step (j : ℕ) (s : State F) : State F :=
  { dist := b14 j s, next := b17 j s, list := b20 j s, pts := s.pts }
theorem step_dist (j : ℕ) (s : State F) : (step j s).dist = b14 j s := by unfold step; rfl
theorem step_next (j : ℕ) (s : State F) : (step j s).next = b17 j s := by unfold step; rfl
theorem step_list (j : ℕ) (s : State F) : (step j s).list = b20 j s := by unfold step; rfl

/-- The result `main_v22` of the loop\'s last state. -/
def chosen (s : State F) : (⟨S128x32, .i32⟩ : BufTy).Contents (Elt F) :=
  transpose S128x32 [1, 0] (transpose S32x128 [1, 0] (s.list) transposes_S128x32_S32x128_1_0) transposes_S32x128_S128x32_1_0

/-- The result `main_v25` of the loop\'s last state. -/
def firsts (s : State F) (x : (⟨S32x512x2, .f32⟩ : BufTy).Contents (Elt F)) : (⟨S128x32, .f32⟩ : BufTy).Contents (Elt F) :=
  transpose S128x32 [1, 0] (shapeCast _ (extractStridedSlice S32x128x1 ![0, 0, 0] (Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0)))) slices_S32x128x2_S32x128x1_0_0_0) shapeCasts_S32x128x1_S32x128) transposes_S32x128_S128x32_1_0

/-- The result `main_v28` of the loop\'s last state. -/
def seconds (s : State F) (x : (⟨S32x512x2, .f32⟩ : BufTy).Contents (Elt F)) : (⟨S128x32, .f32⟩ : BufTy).Contents (Elt F) :=
  transpose S128x32 [1, 0] (shapeCast _ (extractStridedSlice S32x128x1 ![0, 0, 1] (Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0)))) slices_S32x128x2_S32x128x1_0_0_1) shapeCasts_S32x128x1_S32x128) transposes_S32x128_S128x32_1_0

/-- The result `main_v29` of the loop\'s last state. -/
def nears (s : State F) (x : (⟨S32x512x2, .f32⟩ : BufTy).Contents (Elt F)) : (⟨S24x32x128, .i32⟩ : BufTy).Contents (Elt F) :=
  transpose S24x32x128 [2, 0, 1] ((Host.topK S32x128x24 2 (FloatOps.cmpfTotal .gt) (Host.negf (addf (addf (mulf (broadcastInDim S32x128x512 ![] bcast_S_S32x128x512 (constant S_ .f32 0xC0000000#32)) (Host.dotGeneral dot_S32x128x2_S32x2x512_S32x128x512_2_1_1_2_0_0 none (Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0)))) (transpose S32x2x512 [0, 2, 1] (x) transposes_S32x512x2_S32x2x512_0_2_1))) (broadcastInDim S32x128x512 ![0, 1, 2] bcast_S32x128x1_S32x128x512_0_1_2 (broadcastInDim S32x128x1 ![0, 1] bcast_S32x128_S32x128x1_0_1 (Host.reduceAdd (mulf (Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0)))) (Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0))))) (constant S_ .f32 0x00000000#32) reducesTo_S32x128x2_S32x128_d2 h_S_)))) (broadcastInDim S32x128x512 ![0, 1, 2] bcast_S32x1x512_S32x128x512_0_1_2 (broadcastInDim S32x1x512 ![0, 2] bcast_S32x512_S32x1x512_0_2 (Host.reduceAdd (mulf (x) (x)) (constant S_ .f32 0x00000000#32) reducesTo_S32x512x2_S32x512_d2 h_S_))))) sliceFits_S32x128x512_S32x128x24).2) transposes_S32x128x24_S24x32x128_2_0_1

/-- The chosen points' coordinates. -/
def news (s : State F) (x : (⟨S32x512x2, .f32⟩ : BufTy).Contents (Elt F)) : (⟨S32x128x2, .f32⟩ : BufTy).Contents (Elt F) :=
  Host.gather gather_S32x512x2_S32x128x1_S32x128x2_2_1_0_0_1_2_112 (x) (select (cmpi .slt (broadcastInDim S32x128x1 ![0, 1] bcast_S32x128_S32x128x1_0_1 (transpose S32x128 [1, 0] (s.list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] (s.list) transposes_S128x32_S32x128_1_0)) (broadcastInDim S32x128x1 ![] bcast_S_S32x128x1 (constantI S_ 32 512#32))) (broadcastInDim S32x128x1 ![0, 1] bcast_S32x128_S32x128x1_0_1 (transpose S32x128 [1, 0] (s.list) transposes_S128x32_S32x128_1_0)))

end Cert.FpsRefIdeal.Step

namespace Cert.FpsRefIdeal.Step2
open Idealize.ShloMosaic Cert.FpsRefIdeal Cert.FpsRefIdeal.Gen

variable {F : FTy → Type} [FloatOps F]

/-- What a trip hands the next. -/
structure State (F : FTy → Type) [FloatOps F] where
  dist : (⟨S32x128, .f32⟩ : BufTy).Contents (Elt F)
  next : (⟨S32, .i32⟩ : BufTy).Contents (Elt F)
  list : (⟨S32x32, .i32⟩ : BufTy).Contents (Elt F)
  pts : (⟨S32x128x2, .f32⟩ : BufTy).Contents (Elt F)

/-! What the first trip starts from. -/

def K_cst : (⟨S_, .f32⟩ : BufTy).Contents (Elt F) := constant S_ .f32 0x501502F9#32
def K_v0 : (⟨S32x128, .f32⟩ : BufTy).Contents (Elt F) := broadcastInDim S32x128 ![] bcast_S_S32x128 ((K_cst (F := F)))
def K_c : (⟨S_, .i32⟩ : BufTy).Contents (Elt F) := constantI S_ 32 0#32
def K_v1 : (⟨S32, .i32⟩ : BufTy).Contents (Elt F) := broadcastInDim S32 ![] bcast_S_S32 ((K_c (F := F)))
def K_c_0 : (⟨S_, .i32⟩ : BufTy).Contents (Elt F) := constantI S_ 32 0#32
def K_v2 : (⟨S32x32, .i32⟩ : BufTy).Contents (Elt F) := broadcastInDim S32x32 ![] bcast_S_S32x32 ((K_c_0 (F := F)))
def K_c_1 : (⟨S_, .i32⟩ : BufTy).Contents (Elt F) := constantI S_ 32 0#32

/-! One trip's values, in the body's order. -/

def b0 (j : ℕ) (s : State F) : (⟨S32x1x1, .i32⟩ : BufTy).Contents (Elt F) :=
  broadcastInDim S32x1x1 ![0] bcast_S32_S32x1x1_0 (s.next)
def b1 (j : ℕ) (s : State F) : (⟨S_, .i32⟩ : BufTy).Contents (Elt F) :=
  constantI S_ 32 0#32
def b2 (j : ℕ) (s : State F) : (⟨S32x1x1, .i32⟩ : BufTy).Contents (Elt F) :=
  broadcastInDim S32x1x1 ![] bcast_S_S32x1x1 ((b1 j s))
def b3 (j : ℕ) (s : State F) : (⟨S32x1x1, .i1⟩ : BufTy).Contents (Elt F) :=
  cmpi .slt ((b0 j s)) ((b2 j s))
def b4 (j : ℕ) (s : State F) : (⟨S_, .i32⟩ : BufTy).Contents (Elt F) :=
  constantI S_ 32 128#32
def b5 (j : ℕ) (s : State F) : (⟨S32x1x1, .i32⟩ : BufTy).Contents (Elt F) :=
  broadcastInDim S32x1x1 ![] bcast_S_S32x1x1 ((b4 j s))
def b6 (j : ℕ) (s : State F) : (⟨S32x1x1, .i32⟩ : BufTy).Contents (Elt F) :=
  addi ((b0 j s)) ((b5 j s))
def b7 (j : ℕ) (s : State F) : (⟨S32x1x1, .i32⟩ : BufTy).Contents (Elt F) :=
  select ((b3 j s)) ((b6 j s)) ((b0 j s))
def b8 (j : ℕ) (s : State F) : (⟨S32x1x2, .f32⟩ : BufTy).Contents (Elt F) :=
  Host.gather gather_S32x128x2_S32x1x1_S32x1x2_2_1_0_0_1_2_112 (s.pts) ((b7 j s))
def b9 (j : ℕ) (s : State F) : (⟨S32x128x2, .f32⟩ : BufTy).Contents (Elt F) :=
  broadcastInDim S32x128x2 ![0, 1, 2] bcast_S32x1x2_S32x128x2_0_1_2 ((b8 j s))
def b10 (j : ℕ) (s : State F) : (⟨S32x128x2, .f32⟩ : BufTy).Contents (Elt F) :=
  subf (s.pts) ((b9 j s))
def b11 (j : ℕ) (s : State F) : (⟨S32x128x2, .f32⟩ : BufTy).Contents (Elt F) :=
  mulf ((b10 j s)) ((b10 j s))
def b12 (j : ℕ) (s : State F) : (⟨S_, .f32⟩ : BufTy).Contents (Elt F) :=
  constant S_ .f32 0x00000000#32
def b13 (j : ℕ) (s : State F) : (⟨S32x128, .f32⟩ : BufTy).Contents (Elt F) :=
  Host.reduceAdd ((b11 j s)) ((b12 j s)) reducesTo_S32x128x2_S32x128_d2 h_S_
def b14 (j : ℕ) (s : State F) : (⟨S32x128, .f32⟩ : BufTy).Contents (Elt F) :=
  minimumf (s.dist) ((b13 j s))
def b15 (j : ℕ) (s : State F) : (⟨S32x1, .f32⟩ : BufTy).Contents (Elt F) :=
  (Host.topK S32x1 1 (FloatOps.cmpfTotal .gt) ((b14 j s)) sliceFits_S32x128_S32x1).1
def b16 (j : ℕ) (s : State F) : (⟨S32x1, .i32⟩ : BufTy).Contents (Elt F) :=
  (Host.topK S32x1 1 (FloatOps.cmpfTotal .gt) ((b14 j s)) sliceFits_S32x128_S32x1).2
def b17 (j : ℕ) (s : State F) : (⟨S32, .i32⟩ : BufTy).Contents (Elt F) :=
  shapeCast S32 ((b16 j s)) shapeCasts_S32x1_S32
def b18 (j : ℕ) (s : State F) : (⟨S1x32, .i32⟩ : BufTy).Contents (Elt F) :=
  broadcastInDim S1x32 ![1] bcast_S32_S1x32_1 (s.next)
def b19 (j : ℕ) (s : State F) : (⟨S_, .i32⟩ : BufTy).Contents (Elt F) :=
  constantI S_ 32 0#32
def b20 (j : ℕ) (s : State F) : (⟨S32x32, .i32⟩ : BufTy).Contents (Elt F) :=
  Host.dynamicUpdateSlice (s.list) ((b18 j s)) (fun k => (((![(constantI S_ 32 (BitVec.ofNat 32 j) : (⟨S_, .i32⟩ : BufTy).Contents (Elt F)), (b19 j s)] : Fin 2 → (⟨S_, .i32⟩ : BufTy).Contents (Elt F))) k (Shape.Idx.first h_S_)).toInt) updateFits_S32x32_S1x32

/-- The first trip's state. -/
def init (x : (⟨S32x128x2, .f32⟩ : BufTy).Contents (Elt F)) : State F :=
  { dist := K_v0 (F := F), next := K_v1 (F := F), list := K_v2 (F := F), pts := x }

/-- One trip. -/
def step (j : ℕ) (s : State F) : State F :=
  { dist := b14 j s, next := b17 j s, list := b20 j s, pts := s.pts }
theorem step_dist (j : ℕ) (s : State F) : (step j s).dist = b14 j s := by unfold step; rfl
theorem step_next (j : ℕ) (s : State F) : (step j s).next = b17 j s := by unfold step; rfl
theorem step_list (j : ℕ) (s : State F) : (step j s).list = b20 j s := by unfold step; rfl

/-- The result `main_v22` of the loop\'s last state. -/
def chosen (s : State F) : (⟨S32x32, .i32⟩ : BufTy).Contents (Elt F) :=
  transpose S32x32 [1, 0] (transpose S32x32 [1, 0] (s.list) transposes_S32x32_S32x32_1_0) transposes_S32x32_S32x32_1_0

/-- The result `main_v25` of the loop\'s last state. -/
def firsts (s : State F) (x : (⟨S32x128x2, .f32⟩ : BufTy).Contents (Elt F)) : (⟨S32x32, .f32⟩ : BufTy).Contents (Elt F) :=
  transpose S32x32 [1, 0] (shapeCast _ (extractStridedSlice S32x32x1 ![0, 0, 0] (Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0)))) slices_S32x32x2_S32x32x1_0_0_0) shapeCasts_S32x32x1_S32x32) transposes_S32x32_S32x32_1_0

/-- The result `main_v28` of the loop\'s last state. -/
def seconds (s : State F) (x : (⟨S32x128x2, .f32⟩ : BufTy).Contents (Elt F)) : (⟨S32x32, .f32⟩ : BufTy).Contents (Elt F) :=
  transpose S32x32 [1, 0] (shapeCast _ (extractStridedSlice S32x32x1 ![0, 0, 1] (Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0)))) slices_S32x32x2_S32x32x1_0_0_1) shapeCasts_S32x32x1_S32x32) transposes_S32x32_S32x32_1_0

/-- The result `main_v29` of the loop\'s last state. -/
def nears (s : State F) (x : (⟨S32x128x2, .f32⟩ : BufTy).Contents (Elt F)) : (⟨S24x32x32, .i32⟩ : BufTy).Contents (Elt F) :=
  transpose S24x32x32 [2, 0, 1] ((Host.topK S32x32x24 2 (FloatOps.cmpfTotal .gt) (Host.negf (addf (addf (mulf (broadcastInDim S32x32x128 ![] bcast_S_S32x32x128 (constant S_ .f32 0xC0000000#32)) (Host.dotGeneral dot_S32x32x2_S32x2x128_S32x32x128_2_1_1_2_0_0 none (Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0)))) (transpose S32x2x128 [0, 2, 1] (x) transposes_S32x128x2_S32x2x128_0_2_1))) (broadcastInDim S32x32x128 ![0, 1, 2] bcast_S32x32x1_S32x32x128_0_1_2 (broadcastInDim S32x32x1 ![0, 1] bcast_S32x32_S32x32x1_0_1 (Host.reduceAdd (mulf (Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0)))) (Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0))))) (constant S_ .f32 0x00000000#32) reducesTo_S32x32x2_S32x32_d2 h_S_)))) (broadcastInDim S32x32x128 ![0, 1, 2] bcast_S32x1x128_S32x32x128_0_1_2 (broadcastInDim S32x1x128 ![0, 2] bcast_S32x128_S32x1x128_0_2 (Host.reduceAdd (mulf (x) (x)) (constant S_ .f32 0x00000000#32) reducesTo_S32x128x2_S32x128_d2 h_S_))))) sliceFits_S32x32x128_S32x32x24).2) transposes_S32x32x24_S24x32x32_2_0_1

/-- The chosen points' coordinates. -/
def news (s : State F) (x : (⟨S32x128x2, .f32⟩ : BufTy).Contents (Elt F)) : (⟨S32x32x2, .f32⟩ : BufTy).Contents (Elt F) :=
  Host.gather gather_S32x128x2_S32x32x1_S32x32x2_2_1_0_0_1_2_112 (x) (select (cmpi .slt (broadcastInDim S32x32x1 ![0, 1] bcast_S32x32_S32x32x1_0_1 (transpose S32x32 [1, 0] (s.list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] (s.list) transposes_S32x32_S32x32_1_0)) (broadcastInDim S32x32x1 ![] bcast_S_S32x32x1 (constantI S_ 32 128#32))) (broadcastInDim S32x32x1 ![0, 1] bcast_S32x32_S32x32x1_0_1 (transpose S32x32 [1, 0] (s.list) transposes_S32x32_S32x32_1_0)))

end Cert.FpsRefIdeal.Step2

end
-- ==== Proof.TopK.lean ====
/-
  The greatest entries of a row with their places, read at an index: the sorted row's places.
-/
module

public import proofs.«01_k».proof.Proof.Sel
public import Idealize.ShloMosaic.Lib.Pointwise

@[expose] public section
noncomputable section
namespace Cert.Sel
open Idealize.ShloMosaic

/-- The places of the greatest entries of a matrix's rows. -/
theorem topK_row2 {B n k : ℕ} (x : FVec Ideal ⟨2, ![B, n]⟩ .f32) (h : (⟨2, ![B, n]⟩ : Shape).Slices (fun _ => 0) ⟨2, ![B, k]⟩)
    (b : Fin B) (j : Fin k) (hj : j.val < n) :
    (Host.topK ⟨2, ![B, k]⟩ 1 (FloatOps.cmpfTotal .gt) x h).2 (ix2 b j)
      = BitVec.ofNat 32 (sortedFrom (gt fun i => x (ix2 b i)) ⟨j.val, hj⟩).val := by
  have ha : ∀ i : Fin n, (Shape.Idx.along (s := ⟨2, ![B, n]⟩) (ix2 b ⟨j.val, hj⟩) 1 i) = ix2 b i := by
    intro i
    funext a
    fin_cases a
    · rfl
    · rfl
  have key : ∀ J : (⟨2, ![B, n]⟩ : Shape).Idx, J = ix2 b ⟨j.val, hj⟩ →
      BitVec.ofNat 32 ((Shape.Idx.along J 1 (sortedFrom (fun k k' => FloatOps.cmpfTotal (F := Ideal) (φ := .f32) .gt
        (x (Shape.Idx.along J 1 k)) (x (Shape.Idx.along J 1 k')) == 1#1) (J 1))) 1).val
        = BitVec.ofNat 32 (sortedFrom (gt fun i => x (ix2 b i)) ⟨j.val, hj⟩).val := by
    rintro _ rfl
    have e : (fun k k' : Fin n => FloatOps.cmpfTotal (F := Ideal) (φ := .f32) .gt
        (x (Shape.Idx.along (s := ⟨2, ![B, n]⟩) (ix2 b ⟨j.val, hj⟩) 1 k)) (x (Shape.Idx.along (s := ⟨2, ![B, n]⟩) (ix2 b ⟨j.val, hj⟩) 1 k')) == 1#1)
        = gt fun i => x (ix2 b i) := by
      funext k k'
      rw [ha, ha]
    exact congrArg (fun z => BitVec.ofNat 32 (z 1).val) (ha _) |>.trans (congrArg (fun f => BitVec.ofNat 32 (sortedFrom f _).val) e)
  refine key _ ?_
  funext a
  fin_cases a
  · exact Fin.ext (Nat.zero_add _)
  · exact Fin.ext (Nat.zero_add _)

/-- The places of the greatest entries along the last of three axes. -/
theorem topK_row3 {B m n k : ℕ} (x : FVec Ideal ⟨3, ![B, m, n]⟩ .f32)
    (h : (⟨3, ![B, m, n]⟩ : Shape).Slices (fun _ => 0) ⟨3, ![B, m, k]⟩)
    (b : Fin B) (p : Fin m) (j : Fin k) (hj : j.val < n) :
    (Host.topK ⟨3, ![B, m, k]⟩ 2 (FloatOps.cmpfTotal .gt) x h).2 (ix3 b p j)
      = BitVec.ofNat 32 (sortedFrom (gt fun i => x (ix3 b p i)) ⟨j.val, hj⟩).val := by
  have ha : ∀ i : Fin n, (Shape.Idx.along (s := ⟨3, ![B, m, n]⟩) (ix3 b p ⟨j.val, hj⟩) 2 i) = ix3 b p i := by
    intro i
    funext a
    fin_cases a
    · rfl
    · rfl
    · rfl
  have key : ∀ J : (⟨3, ![B, m, n]⟩ : Shape).Idx, J = ix3 b p ⟨j.val, hj⟩ →
      BitVec.ofNat 32 ((Shape.Idx.along J 2 (sortedFrom (fun k k' => FloatOps.cmpfTotal (F := Ideal) (φ := .f32) .gt
        (x (Shape.Idx.along J 2 k)) (x (Shape.Idx.along J 2 k')) == 1#1) (J 2))) 2).val
        = BitVec.ofNat 32 (sortedFrom (gt fun i => x (ix3 b p i)) ⟨j.val, hj⟩).val := by
    rintro _ rfl
    have e : (fun k k' : Fin n => FloatOps.cmpfTotal (F := Ideal) (φ := .f32) .gt
        (x (Shape.Idx.along (s := ⟨3, ![B, m, n]⟩) (ix3 b p ⟨j.val, hj⟩) 2 k)) (x (Shape.Idx.along (s := ⟨3, ![B, m, n]⟩) (ix3 b p ⟨j.val, hj⟩) 2 k')) == 1#1)
        = gt fun i => x (ix3 b p i) := by
      funext k k'
      rw [ha, ha]
    exact congrArg (fun z => BitVec.ofNat 32 (z 2).val) (ha _) |>.trans (congrArg (fun f => BitVec.ofNat 32 (sortedFrom f _).val) e)
  refine key _ ?_
  funext a
  fin_cases a
  · exact Fin.ext (Nat.zero_add _)
  · exact Fin.ext (Nat.zero_add _)
  · exact Fin.ext (Nat.zero_add _)

end Cert.Sel

end
-- ==== Proof.FpsRefVal.lean ====
/-
  The plain selection's two loops, trip by trip, and the four results of each.
-/
module

public import proofs.«01_k».proof.Proof.FpsRefStep
public import proofs.«01_k».proof.Proof.Gather
public import proofs.«01_k».proof.Proof.TopK
public import Idealize.ShloMosaic.Lib.Pointwise

@[expose] public section
set_option maxRecDepth 16384
noncomputable section
namespace Cert.FpsRefIdeal.Val
open Cert.FpsRefIdeal Cert.FpsRefIdeal.Gen Cert.FpsRefIdeal.Step Cert.Math Cert.Sel
open Idealize.ShloMosaic Idealize.ShloMosaic.TcCoe

/-- A region's points. -/
def pt (x : FVec Ideal S32x512x2 .f32) (b : Fin 32) (i : Fin 512) (d : Fin 2) : EReal := x (ix3 b i d)

section Trip
variable (s : State Ideal)

/-- The index word is in range, so its wrap leaves it. -/
theorem word_eq (j : ℕ) (b : Fin 32) (q : Fin 512) (hq : s.next (ix1 b) = BitVec.ofNat 32 q.val) :
    b7 j s (ix3 b 0 0) = BitVec.ofNat 32 q.val := by
  pointwise [b7, b6, b5, b4, b3, b2, b1, b0]
  rw [hq]
  refine wrap_word _ _ ?_
  have := q.isLt
  rw [BitVec.toNat_ofNat, Nat.mod_eq_of_lt (by omega)]
  omega

/-- The chosen point's coordinates. -/
theorem centre_eq (j : ℕ) (b : Fin 32) (q : Fin 512) (d : Fin 2) (hq : s.next (ix1 b) = BitVec.ofNat 32 q.val) :
    b8 j s (ix3 b 0 d) = pt s.pts b q d := by
  have := q.isLt
  have e : (BitVec.ofNat 32 q.val).toNat = q.val := by rw [BitVec.toNat_ofNat, Nat.mod_eq_of_lt (by omega)]
  refine (gather_mid gather_S32x512x2_S32x1x1_S32x1x2_2_1_0_0_1_2_112.wf s.pts (b7 j s) b 0 d _ (word_eq s j b q hq)
    (by norm_num) (by rw [e]; exact q.isLt)).trans ?_
  show s.pts (ix3 b ⟨(BitVec.ofNat 32 q.val).toNat, _⟩ d) = s.pts (ix3 b q d)
  exact congrArg (fun z => s.pts (ix3 b z d)) (Fin.ext e)

/-- The distances after a trip. -/
theorem dist_eq (j : ℕ) (b : Fin 32) (q : Fin 512) (hq : s.next (ix1 b) = BitVec.ofNat 32 q.val) (i : Fin 512) :
    b14 j s (ix2 b i) = min (s.dist (ix2 b i))
      ((pt s.pts b i 0 - pt s.pts b q 0) * (pt s.pts b i 0 - pt s.pts b q 0)
        + (pt s.pts b i 1 - pt s.pts b q 1) * (pt s.pts b i 1 - pt s.pts b q 1)) := by
  pointwise [b14, b13, b12, b11, b10, b9]
  rw [Fin.sum_univ_two, centre_eq s j b q 0 hq, centre_eq s j b q 1 hq]
  rfl

/-- The next point. -/
theorem next_eq (j : ℕ) (b : Fin 32) : b17 j s (ix1 b) = BitVec.ofNat 32 (top fun i => b14 j s (ix2 b i)).val := by
  pointwise [b17, b16]
  exact topK_row2 (b14 j s) sliceFits_S32x512_S32x1 b 0 (by norm_num)

/-- The list of the chosen points after a trip: the trip's row is written. -/
theorem list_eq (j : ℕ) (hj : j < 128) (r : Fin 128) (b : Fin 32) :
    b20 j s (ix2 r b) = if r.val = j then s.next (ix1 b) else s.list (ix2 r b) := by
  have c0 := Host.clampedStart_of_le (s := S128x32) (t := S1x32) rfl
    (fun k => BitVec.toInt ((![(constantI S_ 32 (BitVec.ofNat 32 j) : (⟨S_, .i32⟩ : BufTy).Contents (Elt Ideal)), constantI S_ 32 0#32] : Fin 2 → (⟨S_, .i32⟩ : BufTy).Contents (Elt Ideal)) k (Shape.Idx.first h_S_)))
    0 j (by
      show (BitVec.ofNat 32 j).toInt = (j : ℤ)
      rw [BitVec.toInt_eq_toNat_of_lt (by rw [BitVec.toNat_ofNat, Nat.mod_eq_of_lt (by omega)]; omega), BitVec.toNat_ofNat,
        Nat.mod_eq_of_lt (by omega)]) (by show j + 1 ≤ 128; omega)
  have c1 := Host.clampedStart_of_le (s := S128x32) (t := S1x32) rfl
    (fun k => BitVec.toInt ((![(constantI S_ 32 (BitVec.ofNat 32 j) : (⟨S_, .i32⟩ : BufTy).Contents (Elt Ideal)), constantI S_ 32 0#32] : Fin 2 → (⟨S_, .i32⟩ : BufTy).Contents (Elt Ideal)) k (Shape.Idx.first h_S_)))
    1 0 (by show (0#32).toInt = ((0 : ℕ) : ℤ); decide) (by show 0 + 32 ≤ 32; omega)
  pointwise [b20, b18, b19]
  simp only [c0, c1]
  by_cases h : r.val = j
  · rw [if_pos h, dif_pos ⟨⟨by omega, by omega⟩, Nat.zero_le _⟩]
    rfl
  · rw [if_neg h, dif_neg (fun hc => h (by omega))]

end Trip

/-- The loop's states. -/
def it (x : FVec Ideal S32x512x2 .f32) : ℕ → State Ideal
  | 0 => init x
  | k + 1 => step k (it x k)

/-- What the loop carries is the choice of the farthest points, and the list holds those chosen so far. -/
theorem inv (x : FVec Ideal S32x512x2 .f32) (k : ℕ) :
    (it x k).pts = x ∧ (∀ b i, (it x k).dist (ix2 b i) = (pick (pt x b) k).1 i)
      ∧ (∀ b, (it x k).next (ix1 b) = BitVec.ofNat 32 (pick (pt x b) k).2.val)
      ∧ (k ≤ 128 → ∀ (r : Fin 128) (b : Fin 32), r.val < k → (it x k).list (ix2 r b) = BitVec.ofNat 32 (far (pt x b) r.val).val) := by
  induction k with
  | zero => exact ⟨rfl, fun b i => rfl, fun b => rfl, fun _ r b h => absurd h (Nat.not_lt_zero _)⟩
  | succ k ih =>
    obtain ⟨h0, h1, h2, h3⟩ := ih
    have hd : ∀ b i, b14 k (it x k) (ix2 b i) = (pick (pt x b) (k + 1)).1 i := fun b i => by
      rw [dist_eq (it x k) k b _ (h2 b) i, h0, h1]
      rfl
    refine ⟨h0, fun b i => hd b i, fun b => ?_, fun hk r b hr => ?_⟩
    · refine (next_eq (it x k) k b).trans ?_
      rw [show (fun i => b14 k (it x k) (ix2 b i)) = (pick (pt x b) (k + 1)).1 from funext (hd b)]
      rfl
    · refine (list_eq (it x k) k (by omega) r b).trans ?_
      by_cases h : r.val = k
      · rw [if_pos h, h2, h]
        rfl
      · rw [if_neg h]
        exact h3 (by omega) r b (by omega)

section Results
variable (x : FVec Ideal S32x512x2 .f32)

/-- The list after the loop. -/
theorem cents (r : Fin 128) (b : Fin 32) : (it x 128).list (ix2 r b) = BitVec.ofNat 32 (far (pt x b) r.val).val :=
  (inv x 128).2.2.2 le_rfl r b r.isLt

/-- The chosen points. -/
theorem res22 (r : Fin 128) (b : Fin 32) : chosen (it x 128) (ix2 r b) = BitVec.ofNat 32 (far (pt x b) r.val).val := by
  pointwise [chosen]
  exact cents x r b

/-- The list's words, those below zero wrapped. -/
def words : IVec S32x128x1 32 := select (cmpi .slt (broadcastInDim S32x128x1 ![0, 1] bcast_S32x128_S32x128x1_0_1 (transpose S32x128 [1, 0] ((it x 128).list) transposes_S128x32_S32x128_1_0)) (broadcastInDim S32x128x1 ![] bcast_S_S32x128x1 (constantI S_ 32 0#32))) (addi (broadcastInDim S32x128x1 ![0, 1] bcast_S32x128_S32x128x1_0_1 (transpose S32x128 [1, 0] ((it x 128).list) transposes_S128x32_S32x128_1_0)) (broadcastInDim S32x128x1 ![] bcast_S_S32x128x1 (constantI S_ 32 512#32))) (broadcastInDim S32x128x1 ![0, 1] bcast_S32x128_S32x128x1_0_1 (transpose S32x128 [1, 0] ((it x 128).list) transposes_S128x32_S32x128_1_0))

theorem words_eq (b : Fin 32) (r : Fin 128) : words x (ix3 b r 0) = BitVec.ofNat 32 (far (pt x b) r.val).val := by
  pointwise [words]
  rw [cents]
  refine wrap_word _ _ ?_
  have := (far (pt x b) r.val).isLt
  rw [BitVec.toNat_ofNat, Nat.mod_eq_of_lt (by omega)]
  omega

/-- The chosen points' coordinates. -/
def newp : FVec Ideal S32x128x2 .f32 := Host.gather gather_S32x512x2_S32x128x1_S32x128x2_2_1_0_0_1_2_112 x (words x)

theorem newp_eq (b : Fin 32) (r : Fin 128) (d : Fin 2) : newp x (ix3 b r d) = pt x b (far (pt x b) r.val) d := by
  have := (far (pt x b) r.val).isLt
  have e : (BitVec.ofNat 32 (far (pt x b) r.val).val).toNat = (far (pt x b) r.val).val := by
    rw [BitVec.toNat_ofNat, Nat.mod_eq_of_lt (by omega)]
  refine (gather_mid gather_S32x512x2_S32x128x1_S32x128x2_2_1_0_0_1_2_112.wf x (words x) b r d _ (words_eq x b r)
    (by norm_num) (by rw [e]; exact this)).trans ?_
  exact congrArg (fun z => x (ix3 b z d)) (Fin.ext e)

theorem res25 (r : Fin 128) (b : Fin 32) : firsts (it x 128) x (ix2 r b) = pt x b (far (pt x b) r.val) 0 := by
  pointwise [firsts]
  exact newp_eq x b r 0

theorem res28 (r : Fin 128) (b : Fin 32) : seconds (it x 128) x (ix2 r b) = pt x b (far (pt x b) r.val) 1 := by
  pointwise [seconds]
  exact newp_eq x b r 1

/-- The squared distances of all points to the chosen ones. -/
def sq : FVec Ideal S32x128x512 .f32 := addf (addf (mulf (broadcastInDim S32x128x512 ![] bcast_S_S32x128x512 (constant S_ .f32 0xC0000000#32)) (Host.dotGeneral dot_S32x128x2_S32x2x512_S32x128x512_2_1_1_2_0_0 none (newp x) (transpose S32x2x512 [0, 2, 1] x transposes_S32x512x2_S32x2x512_0_2_1))) (broadcastInDim S32x128x512 ![0, 1, 2] bcast_S32x128x1_S32x128x512_0_1_2 (broadcastInDim S32x128x1 ![0, 1] bcast_S32x128_S32x128x1_0_1 (Host.reduceAdd (mulf (newp x) (newp x)) (constant S_ .f32 0x00000000#32) reducesTo_S32x128x2_S32x128_d2 h_S_)))) (broadcastInDim S32x128x512 ![0, 1, 2] bcast_S32x1x512_S32x128x512_0_1_2 (broadcastInDim S32x1x512 ![0, 2] bcast_S32x512_S32x1x512_0_2 (Host.reduceAdd (mulf x x) (constant S_ .f32 0x00000000#32) reducesTo_S32x512x2_S32x512_d2 h_S_)))

theorem sq_eq (b : Fin 32) (r : Fin 128) (i : Fin 512) :
    sq x (ix3 b r i) = sqd (pt x b) (pt x b (far (pt x b) r.val)) i := by
  pointwise [sq]
  simp only [Fin.sum_univ_two, newp_eq]
  rfl

theorem res29 (k : Fin 24) (b : Fin 32) (r : Fin 128) : nears (it x 128) x (ix3 k b r)
    = BitVec.ofNat 32 (sortedFrom (gt fun i => -sqd (pt x b) (pt x b (far (pt x b) r.val)) i) ⟨k.val, by omega⟩).val := by
  have e : nears (it x 128) x = transpose S24x32x128 [2, 0, 1] ((Host.topK S32x128x24 2 (FloatOps.cmpfTotal .gt)
      (Host.negf (sq x)) sliceFits_S32x128x512_S32x128x24).2) transposes_S32x128x24_S24x32x128_2_0_1 := rfl
  rw [e]
  pointwise
  refine (topK_row3 (Host.negf (sq x)) sliceFits_S32x128x512_S32x128x24 b r k (by omega)).trans ?_
  have e2 : (fun i => Host.negf (sq x) (ix3 b r i)) = fun i => -sqd (pt x b) (pt x b (far (pt x b) r.val)) i := by
    funext i
    pointwise
    rw [sq_eq]
  rw [e2]

end Results
end Cert.FpsRefIdeal.Val

namespace Cert.FpsRefIdeal.Val2
open Cert.FpsRefIdeal Cert.FpsRefIdeal.Gen Cert.FpsRefIdeal.Step2 Cert.Math Cert.Sel
open Idealize.ShloMosaic Idealize.ShloMosaic.TcCoe

/-- A region's points. -/
def pt (x : FVec Ideal S32x128x2 .f32) (b : Fin 32) (i : Fin 128) (d : Fin 2) : EReal := x (ix3 b i d)

section Trip
variable (s : State Ideal)

/-- The index word is in range, so its wrap leaves it. -/
theorem word_eq (j : ℕ) (b : Fin 32) (q : Fin 128) (hq : s.next (ix1 b) = BitVec.ofNat 32 q.val) :
    b7 j s (ix3 b 0 0) = BitVec.ofNat 32 q.val := by
  pointwise [b7, b6, b5, b4, b3, b2, b1, b0]
  rw [hq]
  refine wrap_word _ _ ?_
  have := q.isLt
  rw [BitVec.toNat_ofNat, Nat.mod_eq_of_lt (by omega)]
  omega

/-- The chosen point's coordinates. -/
theorem centre_eq (j : ℕ) (b : Fin 32) (q : Fin 128) (d : Fin 2) (hq : s.next (ix1 b) = BitVec.ofNat 32 q.val) :
    b8 j s (ix3 b 0 d) = pt s.pts b q d := by
  have := q.isLt
  have e : (BitVec.ofNat 32 q.val).toNat = q.val := by rw [BitVec.toNat_ofNat, Nat.mod_eq_of_lt (by omega)]
  refine (gather_mid gather_S32x128x2_S32x1x1_S32x1x2_2_1_0_0_1_2_112.wf s.pts (b7 j s) b 0 d _ (word_eq s j b q hq)
    (by norm_num) (by rw [e]; exact q.isLt)).trans ?_
  show s.pts (ix3 b ⟨(BitVec.ofNat 32 q.val).toNat, _⟩ d) = s.pts (ix3 b q d)
  exact congrArg (fun z => s.pts (ix3 b z d)) (Fin.ext e)

/-- The distances after a trip. -/
theorem dist_eq (j : ℕ) (b : Fin 32) (q : Fin 128) (hq : s.next (ix1 b) = BitVec.ofNat 32 q.val) (i : Fin 128) :
    b14 j s (ix2 b i) = min (s.dist (ix2 b i))
      ((pt s.pts b i 0 - pt s.pts b q 0) * (pt s.pts b i 0 - pt s.pts b q 0)
        + (pt s.pts b i 1 - pt s.pts b q 1) * (pt s.pts b i 1 - pt s.pts b q 1)) := by
  pointwise [b14, b13, b12, b11, b10, b9]
  rw [Fin.sum_univ_two, centre_eq s j b q 0 hq, centre_eq s j b q 1 hq]
  rfl

/-- The next point. -/
theorem next_eq (j : ℕ) (b : Fin 32) : b17 j s (ix1 b) = BitVec.ofNat 32 (top fun i => b14 j s (ix2 b i)).val := by
  pointwise [b17, b16]
  exact topK_row2 (b14 j s) sliceFits_S32x128_S32x1 b 0 (by norm_num)

/-- The list of the chosen points after a trip: the trip's row is written. -/
theorem list_eq (j : ℕ) (hj : j < 32) (r : Fin 32) (b : Fin 32) :
    b20 j s (ix2 r b) = if r.val = j then s.next (ix1 b) else s.list (ix2 r b) := by
  have c0 := Host.clampedStart_of_le (s := S32x32) (t := S1x32) rfl
    (fun k => BitVec.toInt ((![(constantI S_ 32 (BitVec.ofNat 32 j) : (⟨S_, .i32⟩ : BufTy).Contents (Elt Ideal)), constantI S_ 32 0#32] : Fin 2 → (⟨S_, .i32⟩ : BufTy).Contents (Elt Ideal)) k (Shape.Idx.first h_S_)))
    0 j (by
      show (BitVec.ofNat 32 j).toInt = (j : ℤ)
      rw [BitVec.toInt_eq_toNat_of_lt (by rw [BitVec.toNat_ofNat, Nat.mod_eq_of_lt (by omega)]; omega), BitVec.toNat_ofNat,
        Nat.mod_eq_of_lt (by omega)]) (by show j + 1 ≤ 32; omega)
  have c1 := Host.clampedStart_of_le (s := S32x32) (t := S1x32) rfl
    (fun k => BitVec.toInt ((![(constantI S_ 32 (BitVec.ofNat 32 j) : (⟨S_, .i32⟩ : BufTy).Contents (Elt Ideal)), constantI S_ 32 0#32] : Fin 2 → (⟨S_, .i32⟩ : BufTy).Contents (Elt Ideal)) k (Shape.Idx.first h_S_)))
    1 0 (by show (0#32).toInt = ((0 : ℕ) : ℤ); decide) (by show 0 + 32 ≤ 32; omega)
  pointwise [b20, b18, b19]
  simp only [c0, c1]
  by_cases h : r.val = j
  · rw [if_pos h, dif_pos ⟨⟨by omega, by omega⟩, Nat.zero_le _⟩]
    rfl
  · rw [if_neg h, dif_neg (fun hc => h (by omega))]

end Trip

/-- The loop's states. -/
def it (x : FVec Ideal S32x128x2 .f32) : ℕ → State Ideal
  | 0 => init x
  | k + 1 => step k (it x k)

/-- What the loop carries is the choice of the farthest points, and the list holds those chosen so far. -/
theorem inv (x : FVec Ideal S32x128x2 .f32) (k : ℕ) :
    (it x k).pts = x ∧ (∀ b i, (it x k).dist (ix2 b i) = (pick (pt x b) k).1 i)
      ∧ (∀ b, (it x k).next (ix1 b) = BitVec.ofNat 32 (pick (pt x b) k).2.val)
      ∧ (k ≤ 32 → ∀ (r : Fin 32) (b : Fin 32), r.val < k → (it x k).list (ix2 r b) = BitVec.ofNat 32 (far (pt x b) r.val).val) := by
  induction k with
  | zero => exact ⟨rfl, fun b i => rfl, fun b => rfl, fun _ r b h => absurd h (Nat.not_lt_zero _)⟩
  | succ k ih =>
    obtain ⟨h0, h1, h2, h3⟩ := ih
    have hd : ∀ b i, b14 k (it x k) (ix2 b i) = (pick (pt x b) (k + 1)).1 i := fun b i => by
      rw [dist_eq (it x k) k b _ (h2 b) i, h0, h1]
      rfl
    refine ⟨h0, fun b i => hd b i, fun b => ?_, fun hk r b hr => ?_⟩
    · refine (next_eq (it x k) k b).trans ?_
      rw [show (fun i => b14 k (it x k) (ix2 b i)) = (pick (pt x b) (k + 1)).1 from funext (hd b)]
      rfl
    · refine (list_eq (it x k) k (by omega) r b).trans ?_
      by_cases h : r.val = k
      · rw [if_pos h, h2, h]
        rfl
      · rw [if_neg h]
        exact h3 (by omega) r b (by omega)

section Results
variable (x : FVec Ideal S32x128x2 .f32)

/-- The list after the loop. -/
theorem cents (r : Fin 32) (b : Fin 32) : (it x 32).list (ix2 r b) = BitVec.ofNat 32 (far (pt x b) r.val).val :=
  (inv x 32).2.2.2 le_rfl r b r.isLt

/-- The chosen points. -/
theorem res22 (r : Fin 32) (b : Fin 32) : chosen (it x 32) (ix2 r b) = BitVec.ofNat 32 (far (pt x b) r.val).val := by
  pointwise [chosen]
  exact cents x r b

/-- The list's words, those below zero wrapped. -/
def words : IVec S32x32x1 32 := select (cmpi .slt (broadcastInDim S32x32x1 ![0, 1] bcast_S32x32_S32x32x1_0_1 (transpose S32x32 [1, 0] ((it x 32).list) transposes_S32x32_S32x32_1_0)) (broadcastInDim S32x32x1 ![] bcast_S_S32x32x1 (constantI S_ 32 0#32))) (addi (broadcastInDim S32x32x1 ![0, 1] bcast_S32x32_S32x32x1_0_1 (transpose S32x32 [1, 0] ((it x 32).list) transposes_S32x32_S32x32_1_0)) (broadcastInDim S32x32x1 ![] bcast_S_S32x32x1 (constantI S_ 32 128#32))) (broadcastInDim S32x32x1 ![0, 1] bcast_S32x32_S32x32x1_0_1 (transpose S32x32 [1, 0] ((it x 32).list) transposes_S32x32_S32x32_1_0))

theorem words_eq (b : Fin 32) (r : Fin 32) : words x (ix3 b r 0) = BitVec.ofNat 32 (far (pt x b) r.val).val := by
  pointwise [words]
  rw [cents]
  refine wrap_word _ _ ?_
  have := (far (pt x b) r.val).isLt
  rw [BitVec.toNat_ofNat, Nat.mod_eq_of_lt (by omega)]
  omega

/-- The chosen points' coordinates. -/
def newp : FVec Ideal S32x32x2 .f32 := Host.gather gather_S32x128x2_S32x32x1_S32x32x2_2_1_0_0_1_2_112 x (words x)

theorem newp_eq (b : Fin 32) (r : Fin 32) (d : Fin 2) : newp x (ix3 b r d) = pt x b (far (pt x b) r.val) d := by
  have := (far (pt x b) r.val).isLt
  have e : (BitVec.ofNat 32 (far (pt x b) r.val).val).toNat = (far (pt x b) r.val).val := by
    rw [BitVec.toNat_ofNat, Nat.mod_eq_of_lt (by omega)]
  refine (gather_mid gather_S32x128x2_S32x32x1_S32x32x2_2_1_0_0_1_2_112.wf x (words x) b r d _ (words_eq x b r)
    (by norm_num) (by rw [e]; exact this)).trans ?_
  exact congrArg (fun z => x (ix3 b z d)) (Fin.ext e)

theorem res25 (r : Fin 32) (b : Fin 32) : firsts (it x 32) x (ix2 r b) = pt x b (far (pt x b) r.val) 0 := by
  pointwise [firsts]
  exact newp_eq x b r 0

theorem res28 (r : Fin 32) (b : Fin 32) : seconds (it x 32) x (ix2 r b) = pt x b (far (pt x b) r.val) 1 := by
  pointwise [seconds]
  exact newp_eq x b r 1

/-- The squared distances of all points to the chosen ones. -/
def sq : FVec Ideal S32x32x128 .f32 := addf (addf (mulf (broadcastInDim S32x32x128 ![] bcast_S_S32x32x128 (constant S_ .f32 0xC0000000#32)) (Host.dotGeneral dot_S32x32x2_S32x2x128_S32x32x128_2_1_1_2_0_0 none (newp x) (transpose S32x2x128 [0, 2, 1] x transposes_S32x128x2_S32x2x128_0_2_1))) (broadcastInDim S32x32x128 ![0, 1, 2] bcast_S32x32x1_S32x32x128_0_1_2 (broadcastInDim S32x32x1 ![0, 1] bcast_S32x32_S32x32x1_0_1 (Host.reduceAdd (mulf (newp x) (newp x)) (constant S_ .f32 0x00000000#32) reducesTo_S32x32x2_S32x32_d2 h_S_)))) (broadcastInDim S32x32x128 ![0, 1, 2] bcast_S32x1x128_S32x32x128_0_1_2 (broadcastInDim S32x1x128 ![0, 2] bcast_S32x128_S32x1x128_0_2 (Host.reduceAdd (mulf x x) (constant S_ .f32 0x00000000#32) reducesTo_S32x128x2_S32x128_d2 h_S_)))

theorem sq_eq (b : Fin 32) (r : Fin 32) (i : Fin 128) :
    sq x (ix3 b r i) = sqd (pt x b) (pt x b (far (pt x b) r.val)) i := by
  pointwise [sq]
  simp only [Fin.sum_univ_two, newp_eq]
  rfl

theorem res29 (k : Fin 24) (b : Fin 32) (r : Fin 32) : nears (it x 32) x (ix3 k b r)
    = BitVec.ofNat 32 (sortedFrom (gt fun i => -sqd (pt x b) (pt x b (far (pt x b) r.val)) i) ⟨k.val, by omega⟩).val := by
  have e : nears (it x 32) x = transpose S24x32x32 [2, 0, 1] ((Host.topK S32x32x24 2 (FloatOps.cmpfTotal .gt)
      (Host.negf (sq x)) sliceFits_S32x32x128_S32x32x24).2) transposes_S32x32x24_S24x32x32_2_0_1 := rfl
  rw [e]
  pointwise
  refine (topK_row3 (Host.negf (sq x)) sliceFits_S32x32x128_S32x32x24 b r k (by omega)).trans ?_
  have e2 : (fun i => Host.negf (sq x) (ix3 b r i)) = fun i => -sqd (pt x b) (pt x b (far (pt x b) r.val)) i := by
    funext i
    pointwise
    rw [sq_eq]
  rw [e2]

end Results
end Cert.FpsRefIdeal.Val2
-- ==== Proof.FpsRefLists.lean ====
/-
  The operations of the plain selection's program, in order: before its first loop, the two loops' bodies, between the loops and
  after the second; with the buffers each of them writes.
-/
module

public import proofs.«01_k».proof.Proof.Gen.FpsRefIdeal
public import Idealize.ShloMosaic.Lib.Pipeline.Regions
public import Idealize.ShloMosaic.Lib.StableHlo.RunLoop
public import Idealize.ShloMosaic.Lib.StableHlo.RunRead

@[expose] public section

noncomputable section

namespace Cert.FpsRefIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The program as its stretches and loops in order -/

/-- 12 host operations of @main, in order. -/
abbrev hostOps0 : List (HloOp τ sig (Elt F)) :=
  [ StableHlo.nullary main_cst (constant S_ .f32 0x501502F9#32),
    StableHlo.unary main_cst main_v0 (broadcastInDim S32x512 ![] bcast_S_S32x512 : (⟨S_, .f32⟩ : BufTy).Contents (Elt F) → (⟨S32x512, .f32⟩ : BufTy).Contents (Elt F)),
    StableHlo.nullary main_c (constantI S_ 32 0#32),
    StableHlo.unary main_c main_v1 (broadcastInDim S32 ![] bcast_S_S32 : (⟨S_, .i32⟩ : BufTy).Contents (Elt F) → (⟨S32, .i32⟩ : BufTy).Contents (Elt F)),
    StableHlo.nullary main_c_0 (constantI S_ 32 0#32),
    StableHlo.unary main_c_0 main_v2 (broadcastInDim S128x32 ![] bcast_S_S128x32 : (⟨S_, .i32⟩ : BufTy).Contents (Elt F) → (⟨S128x32, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
/-- The operations name buffers of the one core only. -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 2 host operations of @main, in order. -/
abbrev hostOps0_1 : List (HloOp τ sig (Elt F)) :=
  [ StableHlo.unary main_v3_4 main_v4 ((transpose S32x128 [1, 0] · transposes_S128x32_S32x128_1_0) : (⟨S128x32, .i32⟩ : BufTy).Contents (Elt F) → (⟨S32x128, .i32⟩ : BufTy).Contents (Elt F)),
    StableHlo.unary main_v4 main_v5 (broadcastInDim S32x128x1 ![0, 1] bcast_S32x128_S32x128x1_0_1 : (⟨S32x128, .i32⟩ : BufTy).Contents (Elt F) → (⟨S32x128x1, .i32⟩ : BufTy).Contents (Elt F)) ]
/-- The operations name buffers of the one core only. -/
theorem hostOps0_1_sub : (hostOps0_1 : List (HloOp τ sig (Elt F))).Forall fun op => op.bufs ⊆ StableHlo.tcRefs τ sig :=
  ⟨StableHlo.unary_bufs_sub .., StableHlo.unary_bufs_sub ..⟩
/-- 8 host operations of @take_along_axis_0 (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S32x128x1, .i32⟩) (broadcastInDim S32x128x1 ![] bcast_S_S32x128x1),
    StableHlo.TRef.binary (.of main_v5 : StableHlo.TRef sig ⟨S32x128x1, .i32⟩) (.of main_call2_v0 : StableHlo.TRef sig ⟨S32x128x1, .i32⟩) (.of main_call2_v1 : StableHlo.TRef sig ⟨S32x128x1, .i1⟩) (cmpi .slt),
    StableHlo.TRef.nullary (.of main_call2_c_0 : StableHlo.TRef sig ⟨S_, .i32⟩) (constantI S_ 32 512#32),
    StableHlo.TRef.unary (.of main_call2_c_0 : StableHlo.TRef sig ⟨S_, .i32⟩) (.of main_call2_v2 : StableHlo.TRef sig ⟨S32x128x1, .i32⟩) (broadcastInDim S32x128x1 ![] bcast_S_S32x128x1),
    StableHlo.TRef.binary (.of main_v5 : StableHlo.TRef sig ⟨S32x128x1, .i32⟩) (.of main_call2_v2 : StableHlo.TRef sig ⟨S32x128x1, .i32⟩) (.of main_call2_v3 : StableHlo.TRef sig ⟨S32x128x1, .i32⟩) addi,
    StableHlo.TRef.ternary (.of main_call2_v1 : StableHlo.TRef sig ⟨S32x128x1, .i1⟩) (.of main_call2_v3 : StableHlo.TRef sig ⟨S32x128x1, .i32⟩) (.of main_v5 : StableHlo.TRef sig ⟨S32x128x1, .i32⟩) (.of main_call2_v4 : StableHlo.TRef sig ⟨S32x128x1, .i32⟩) select,
    StableHlo.TRef.binary (.of main_arg0 : StableHlo.TRef sig ⟨S32x512x2, .f32⟩) (.of main_call2_v4 : StableHlo.TRef sig ⟨S32x128x1, .i32⟩) (.of main_v6 : StableHlo.TRef sig ⟨S32x128x2, .f32⟩) (fun x i => Host.gather gather_S32x512x2_S32x128x1_S32x128x2_2_1_0_0_1_2_112 x i) ]
/-- The operations name buffers of the one core only. -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 40 host operations of @main, in order. -/
abbrev hostOps0_3 : List (HloOp τ sig (Elt F)) :=
  ( StableHlo.unary main_arg0 main_v7 ((transpose S32x2x512 [0, 2, 1] · transposes_S32x512x2_S32x2x512_0_2_1) : (⟨S32x512x2, .f32⟩ : BufTy).Contents (Elt F) → (⟨S32x2x512, .f32⟩ : BufTy).Contents (Elt F))
  :: StableHlo.binary main_v6 main_v7 main_v8 ((fun l r => Host.dotGeneral dot_S32x128x2_S32x2x512_S32x128x512_2_1_1_2_0_0 none l r) : (⟨S32x128x2, .f32⟩ : BufTy).Contents (Elt F) → (⟨S32x2x512, .f32⟩ : BufTy).Contents (Elt F) → (⟨S32x128x512, .f32⟩ : BufTy).Contents (Elt F))
  :: StableHlo.nullary main_cst_2 (constant S_ .f32 0xC0000000#32)
  :: StableHlo.unary main_cst_2 main_v9 (broadcastInDim S32x128x512 ![] bcast_S_S32x128x512 : (⟨S_, .f32⟩ : BufTy).Contents (Elt F) → (⟨S32x128x512, .f32⟩ : BufTy).Contents (Elt F))
  :: StableHlo.binary main_v9 main_v8 main_v10 (mulf : (⟨S32x128x512, .f32⟩ : BufTy).Contents (Elt F) → (⟨S32x128x512, .f32⟩ : BufTy).Contents (Elt F) → (⟨S32x128x512, .f32⟩ : BufTy).Contents (Elt F))
  :: StableHlo.binary main_v6 main_v6 main_v11 (mulf : (⟨S32x128x2, .f32⟩ : BufTy).Contents (Elt F) → (⟨S32x128x2, .f32⟩ : BufTy).Contents (Elt F) → (⟨S32x128x2, .f32⟩ : BufTy).Contents (Elt F))
  :: StableHlo.nullary main_cst_3 (constant S_ .f32 0x00000000#32)
  :: StableHlo.binary main_v11 main_cst_3 main_v12 ((fun x v => Host.reduceAdd x v reducesTo_S32x128x2_S32x128_d2 h_S_) : (⟨S32x128x2, .f32⟩ : BufTy).Contents (Elt F) → (⟨S_, .f32⟩ : BufTy).Contents (Elt F) → (⟨S32x128, .f32⟩ : BufTy).Contents (Elt F))
  :: StableHlo.unary main_v12 main_v13 (broadcastInDim S32x128x1 ![0, 1] bcast_S32x128_S32x128x1_0_1 : (⟨S32x128, .f32⟩ : BufTy).Contents (Elt F) → (⟨S32x128x1, .f32⟩ : BufTy).Contents (Elt F))
  :: StableHlo.unary main_v13 main_v14 (broadcastInDim S32x128x512 ![0, 1, 2] bcast_S32x128x1_S32x128x512_0_1_2 : (⟨S32x128x1, .f32⟩ : BufTy).Contents (Elt F) → (⟨S32x128x512, .f32⟩ : BufTy).Contents (Elt F))
  :: StableHlo.binary main_v10 main_v14 main_v15 (addf : (⟨S32x128x512, .f32⟩ : BufTy).Contents (Elt F) → (⟨S32x128x512, .f32⟩ : BufTy).Contents (Elt F) → (⟨S32x128x512, .f32⟩ : BufTy).Contents (Elt F))
  :: StableHlo.binary main_arg0 main_arg0 main_v16 (mulf : (⟨S32x512x2, .f32⟩ : BufTy).Contents (Elt F) → (⟨S32x512x2, .f32⟩ : BufTy).Contents (Elt F) → (⟨S32x512x2, .f32⟩ : BufTy).Contents (Elt F))
  :: StableHlo.nullary main_cst_4 (constant S_ .f32 0x00000000#32)
  :: StableHlo.binary main_v16 main_cst_4 main_v17 ((fun x v => Host.reduceAdd x v reducesTo_S32x512x2_S32x512_d2 h_S_) : (⟨S32x512x2, .f32⟩ : BufTy).Contents (Elt F) → (⟨S_, .f32⟩ : BufTy).Contents (Elt F) → (⟨S32x512, .f32⟩ : BufTy).Contents (Elt F))
  :: StableHlo.unary main_v17 main_v18 (broadcastInDim S32x1x512 ![0, 2] bcast_S32x512_S32x1x512_0_2 : (⟨S32x512, .f32⟩ : BufTy).Contents (Elt F) → (⟨S32x1x512, .f32⟩ : BufTy).Contents (Elt F))
  :: StableHlo.unary main_v18 main_v19 (broadcastInDim S32x128x512 ![0, 1, 2] bcast_S32x1x512_S32x128x512_0_1_2 : (⟨S32x1x512, .f32⟩ : BufTy).Contents (Elt F) → (⟨S32x128x512, .f32⟩ : BufTy).Contents (Elt F))
  :: StableHlo.binary main_v15 main_v19 main_v20 (addf : (⟨S32x128x512, .f32⟩ : BufTy).Contents (Elt F) → (⟨S32x128x512, .f32⟩ : BufTy).Contents (Elt F) → (⟨S32x128x512, .f32⟩ : BufTy).Contents (Elt F))
  :: StableHlo.unary main_v20 main_v21 (Host.negf : (⟨S32x128x512, .f32⟩ : BufTy).Contents (Elt F) → (⟨S32x128x512, .f32⟩ : BufTy).Contents (Elt F))
  :: StableHlo.unary main_v21 main_values ((fun x => (Host.topK S32x128x24 2 (FloatOps.cmpfTotal .gt) x sliceFits_S32x128x512_S32x128x24).1) : (⟨S32x128x512, .f32⟩ : BufTy).Contents (Elt F) → (⟨S32x128x24, .f32⟩ : BufTy).Contents (Elt F))
  :: StableHlo.unary main_v21 main_indices ((fun x => (Host.topK S32x128x24 2 (FloatOps.cmpfTotal .gt) x sliceFits_S32x128x512_S32x128x24).2) : (⟨S32x128x512, .f32⟩ : BufTy).Contents (Elt F) → (⟨S32x128x24, .i32⟩ : BufTy).Contents (Elt F))
  :: StableHlo.unary main_v4 main_v22 ((transpose S128x32 [1, 0] · transposes_S32x128_S128x32_1_0) : (⟨S32x128, .i32⟩ : BufTy).Contents (Elt F) → (⟨S128x32, .i32⟩ : BufTy).Contents (Elt F))
  :: StableHlo.unary main_v6 main_v23 ((extractStridedSlice S32x128x1 ![0, 0, 0] · slices_S32x128x2_S32x128x1_0_0_0) : (⟨S32x128x2, .f32⟩ : BufTy).Contents (Elt F) → (⟨S32x128x1, .f32⟩ : BufTy).Contents (Elt F))
  :: StableHlo.reshape main_v23 main_v24 (rfl : (.f32 : EltTy) = .f32) shapeCasts_S32x128x1_S32x128
  :: StableHlo.unary main_v24 main_v25 ((transpose S128x32 [1, 0] · transposes_S32x128_S128x32_1_0) : (⟨S32x128, .f32⟩ : BufTy).Contents (Elt F) → (⟨S128x32, .f32⟩ : BufTy).Contents (Elt F))
  :: StableHlo.unary main_v6 main_v26 ((extractStridedSlice S32x128x1 ![0, 0, 1] · slices_S32x128x2_S32x128x1_0_0_1) : (⟨S32x128x2, .f32⟩ : BufTy).Contents (Elt F) → (⟨S32x128x1, .f32⟩ : BufTy).Contents (Elt F))
  :: StableHlo.reshape main_v26 main_v27 (rfl : (.f32 : EltTy) = .f32) shapeCasts_S32x128x1_S32x128
  :: StableHlo.unary main_v27 main_v28 ((transpose S128x32 [1, 0] · transposes_S32x128_S128x32_1_0) : (⟨S32x128, .f32⟩ : BufTy).Contents (Elt F) → (⟨S128x32, .f32⟩ : BufTy).Contents (Elt F))
  :: StableHlo.unary main_indices main_v29 ((transpose S24x32x128 [2, 0, 1] · transposes_S32x128x24_S24x32x128_2_0_1) : (⟨S32x128x24, .i32⟩ : BufTy).Contents (Elt F) → (⟨S24x32x128, .i32⟩ : BufTy).Contents (Elt F))
  :: StableHlo.nullary main_cst_5 (constant S_ .f32 0x501502F9#32)
  :: StableHlo.unary main_cst_5 main_v30 (broadcastInDim S32x128 ![] bcast_S_S32x128 : (⟨S_, .f32⟩ : BufTy).Contents (Elt F) → (⟨S32x128, .f32⟩ : BufTy).Contents (Elt F))
  :: StableHlo.nullary main_c_6 (constantI S_ 32 0#32)
  :: StableHlo.unary main_c_6 main_v31 (broadcastInDim S32 ![] bcast_S_S32 : (⟨S_, .i32⟩ : BufTy).Contents (Elt F) → (⟨S32, .i32⟩ : BufTy).Contents (Elt F))
  :: StableHlo.nullary main_c_7 (constantI S_ 32 0#32)
  :: StableHlo.unary main_c_7 main_v32 (broadcastInDim S32x32 ![] bcast_S_S32x32 : (⟨S_, .i32⟩ : BufTy).Contents (Elt F) → (⟨S32x32, .i32⟩ : BufTy).Contents (Elt F))
  :: StableHlo.nullary main_c_8 (constantI S_ 32 0#32)
  :: StableHlo.unary main_v6 main_v33_0 id
  :: StableHlo.unary main_c_8 main_v33_1 id
  :: StableHlo.unary main_v30 main_v33_2 id
  :: StableHlo.unary main_v31 main_v33_3 id
  :: StableHlo.unary main_v32 main_v33_4 id
  :: [] )
/-- The operations name buffers of the one core only. -/
theorem hostOps0_3_sub : (hostOps0_3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 2 host operations of @main, in order. -/
abbrev hostOps0_4 : List (HloOp τ sig (Elt F)) :=
  [ StableHlo.unary main_v33_4 main_v34 ((transpose S32x32 [1, 0] · transposes_S32x32_S32x32_1_0) : (⟨S32x32, .i32⟩ : BufTy).Contents (Elt F) → (⟨S32x32, .i32⟩ : BufTy).Contents (Elt F)),
    StableHlo.unary main_v34 main_v35 (broadcastInDim S32x32x1 ![0, 1] bcast_S32x32_S32x32x1_0_1 : (⟨S32x32, .i32⟩ : BufTy).Contents (Elt F) → (⟨S32x32x1, .i32⟩ : BufTy).Contents (Elt F)) ]
/-- The operations name buffers of the one core only. -/
theorem hostOps0_4_sub : (hostOps0_4 : List (HloOp τ sig (Elt F))).Forall fun op => op.bufs ⊆ StableHlo.tcRefs τ sig :=
  ⟨StableHlo.unary_bufs_sub .., StableHlo.unary_bufs_sub ..⟩
/-- 8 host operations of @take_along_axis_3 (main_call5), in order. -/
abbrev hostOps0_5 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S32x32x1, .i32⟩) (broadcastInDim S32x32x1 ![] bcast_S_S32x32x1),
    StableHlo.TRef.binary (.of main_v35 : StableHlo.TRef sig ⟨S32x32x1, .i32⟩) (.of main_call5_v0 : StableHlo.TRef sig ⟨S32x32x1, .i32⟩) (.of main_call5_v1 : StableHlo.TRef sig ⟨S32x32x1, .i1⟩) (cmpi .slt),
    StableHlo.TRef.nullary (.of main_call5_c_0 : StableHlo.TRef sig ⟨S_, .i32⟩) (constantI S_ 32 128#32),
    StableHlo.TRef.unary (.of main_call5_c_0 : StableHlo.TRef sig ⟨S_, .i32⟩) (.of main_call5_v2 : StableHlo.TRef sig ⟨S32x32x1, .i32⟩) (broadcastInDim S32x32x1 ![] bcast_S_S32x32x1),
    StableHlo.TRef.binary (.of main_v35 : StableHlo.TRef sig ⟨S32x32x1, .i32⟩) (.of main_call5_v2 : StableHlo.TRef sig ⟨S32x32x1, .i32⟩) (.of main_call5_v3 : StableHlo.TRef sig ⟨S32x32x1, .i32⟩) addi,
    StableHlo.TRef.ternary (.of main_call5_v1 : StableHlo.TRef sig ⟨S32x32x1, .i1⟩) (.of main_call5_v3 : StableHlo.TRef sig ⟨S32x32x1, .i32⟩) (.of main_v35 : StableHlo.TRef sig ⟨S32x32x1, .i32⟩) (.of main_call5_v4 : StableHlo.TRef sig ⟨S32x32x1, .i32⟩) select,
    StableHlo.TRef.binary (.of main_v6 : StableHlo.TRef sig ⟨S32x128x2, .f32⟩) (.of main_call5_v4 : StableHlo.TRef sig ⟨S32x32x1, .i32⟩) (.of main_v36 : StableHlo.TRef sig ⟨S32x32x2, .f32⟩) (fun x i => Host.gather gather_S32x128x2_S32x32x1_S32x32x2_2_1_0_0_1_2_112 x i) ]
/-- The operations name buffers of the one core only. -/
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 28 host operations of @main, in order. -/
abbrev hostOps0_6 : List (HloOp τ sig (Elt F)) :=
  [ StableHlo.unary main_v6 main_v37 ((transpose S32x2x128 [0, 2, 1] · transposes_S32x128x2_S32x2x128_0_2_1) : (⟨S32x128x2, .f32⟩ : BufTy).Contents (Elt F) → (⟨S32x2x128, .f32⟩ : BufTy).Contents (Elt F)),
    StableHlo.binary main_v36 main_v37 main_v38 ((fun l r => Host.dotGeneral dot_S32x32x2_S32x2x128_S32x32x128_2_1_1_2_0_0 none l r) : (⟨S32x32x2, .f32⟩ : BufTy).Contents (Elt F) → (⟨S32x2x128, .f32⟩ : BufTy).Contents (Elt F) → (⟨S32x32x128, .f32⟩ : BufTy).Contents (Elt F)),
    StableHlo.nullary main_cst_9 (constant S_ .f32 0xC0000000#32),
    StableHlo.unary main_cst_9 main_v39 (broadcastInDim S32x32x128 ![] bcast_S_S32x32x128 : (⟨S_, .f32⟩ : BufTy).Contents (Elt F) → (⟨S32x32x128, .f32⟩ : BufTy).Contents (Elt F)),
    StableHlo.binary main_v39 main_v38 main_v40 (mulf : (⟨S32x32x128, .f32⟩ : BufTy).Contents (Elt F) → (⟨S32x32x128, .f32⟩ : BufTy).Contents (Elt F) → (⟨S32x32x128, .f32⟩ : BufTy).Contents (Elt F)),
    StableHlo.binary main_v36 main_v36 main_v41 (mulf : (⟨S32x32x2, .f32⟩ : BufTy).Contents (Elt F) → (⟨S32x32x2, .f32⟩ : BufTy).Contents (Elt F) → (⟨S32x32x2, .f32⟩ : BufTy).Contents (Elt F)),
    StableHlo.nullary main_cst_10 (constant S_ .f32 0x00000000#32),
    StableHlo.binary main_v41 main_cst_10 main_v42 ((fun x v => Host.reduceAdd x v reducesTo_S32x32x2_S32x32_d2 h_S_) : (⟨S32x32x2, .f32⟩ : BufTy).Contents (Elt F) → (⟨S_, .f32⟩ : BufTy).Contents (Elt F) → (⟨S32x32, .f32⟩ : BufTy).Contents (Elt F)),
    StableHlo.unary main_v42 main_v43 (broadcastInDim S32x32x1 ![0, 1] bcast_S32x32_S32x32x1_0_1 : (⟨S32x32, .f32⟩ : BufTy).Contents (Elt F) → (⟨S32x32x1, .f32⟩ : BufTy).Contents (Elt F)),
    StableHlo.unary main_v43 main_v44 (broadcastInDim S32x32x128 ![0, 1, 2] bcast_S32x32x1_S32x32x128_0_1_2 : (⟨S32x32x1, .f32⟩ : BufTy).Contents (Elt F) → (⟨S32x32x128, .f32⟩ : BufTy).Contents (Elt F)),
    StableHlo.binary main_v40 main_v44 main_v45 (addf : (⟨S32x32x128, .f32⟩ : BufTy).Contents (Elt F) → (⟨S32x32x128, .f32⟩ : BufTy).Contents (Elt F) → (⟨S32x32x128, .f32⟩ : BufTy).Contents (Elt F)),
    StableHlo.binary main_v6 main_v6 main_v46 (mulf : (⟨S32x128x2, .f32⟩ : BufTy).Contents (Elt F) → (⟨S32x128x2, .f32⟩ : BufTy).Contents (Elt F) → (⟨S32x128x2, .f32⟩ : BufTy).Contents (Elt F)),
    StableHlo.nullary main_cst_11 (constant S_ .f32 0x00000000#32),
    StableHlo.binary main_v46 main_cst_11 main_v47 ((fun x v => Host.reduceAdd x v reducesTo_S32x128x2_S32x128_d2 h_S_) : (⟨S32x128x2, .f32⟩ : BufTy).Contents (Elt F) → (⟨S_, .f32⟩ : BufTy).Contents (Elt F) → (⟨S32x128, .f32⟩ : BufTy).Contents (Elt F)),
    StableHlo.unary main_v47 main_v48 (broadcastInDim S32x1x128 ![0, 2] bcast_S32x128_S32x1x128_0_2 : (⟨S32x128, .f32⟩ : BufTy).Contents (Elt F) → (⟨S32x1x128, .f32⟩ : BufTy).Contents (Elt F)),
    StableHlo.unary main_v48 main_v49 (broadcastInDim S32x32x128 ![0, 1, 2] bcast_S32x1x128_S32x32x128_0_1_2 : (⟨S32x1x128, .f32⟩ : BufTy).Contents (Elt F) → (⟨S32x32x128, .f32⟩ : BufTy).Contents (Elt F)),
    StableHlo.binary main_v45 main_v49 main_v50 (addf : (⟨S32x32x128, .f32⟩ : BufTy).Contents (Elt F) → (⟨S32x32x128, .f32⟩ : BufTy).Contents (Elt F) → (⟨S32x32x128, .f32⟩ : BufTy).Contents (Elt F)),
    StableHlo.unary main_v50 main_v51 (Host.negf : (⟨S32x32x128, .f32⟩ : BufTy).Contents (Elt F) → (⟨S32x32x128, .f32⟩ : BufTy).Contents (Elt F)),
    StableHlo.unary main_v51 main_values_12 ((fun x => (Host.topK S32x32x24 2 (FloatOps.cmpfTotal .gt) x sliceFits_S32x32x128_S32x32x24).1) : (⟨S32x32x128, .f32⟩ : BufTy).Contents (Elt F) → (⟨S32x32x24, .f32⟩ : BufTy).Contents (Elt F)),
    StableHlo.unary main_v51 main_indices_13 ((fun x => (Host.topK S32x32x24 2 (FloatOps.cmpfTotal .gt) x sliceFits_S32x32x128_S32x32x24).2) : (⟨S32x32x128, .f32⟩ : BufTy).Contents (Elt F) → (⟨S32x32x24, .i32⟩ : BufTy).Contents (Elt F)),
    StableHlo.unary main_v34 main_v52 ((transpose S32x32 [1, 0] · transposes_S32x32_S32x32_1_0) : (⟨S32x32, .i32⟩ : BufTy).Contents (Elt F) → (⟨S32x32, .i32⟩ : BufTy).Contents (Elt F)),
    StableHlo.unary main_v36 main_v53 ((extractStridedSlice S32x32x1 ![0, 0, 0] · slices_S32x32x2_S32x32x1_0_0_0) : (⟨S32x32x2, .f32⟩ : BufTy).Contents (Elt F) → (⟨S32x32x1, .f32⟩ : BufTy).Contents (Elt F)),
    StableHlo.reshape main_v53 main_v54 (rfl : (.f32 : EltTy) = .f32) shapeCasts_S32x32x1_S32x32,
    StableHlo.unary main_v54 main_v55 ((transpose S32x32 [1, 0] · transposes_S32x32_S32x32_1_0) : (⟨S32x32, .f32⟩ : BufTy).Contents (Elt F) → (⟨S32x32, .f32⟩ : BufTy).Contents (Elt F)),
    StableHlo.unary main_v36 main_v56 ((extractStridedSlice S32x32x1 ![0, 0, 1] · slices_S32x32x2_S32x32x1_0_0_1) : (⟨S32x32x2, .f32⟩ : BufTy).Contents (Elt F) → (⟨S32x32x1, .f32⟩ : BufTy).Contents (Elt F)),
    StableHlo.reshape main_v56 main_v57 (rfl : (.f32 : EltTy) = .f32) shapeCasts_S32x32x1_S32x32,
    StableHlo.unary main_v57 main_v58 ((transpose S32x32 [1, 0] · transposes_S32x32_S32x32_1_0) : (⟨S32x32, .f32⟩ : BufTy).Contents (Elt F) → (⟨S32x32, .f32⟩ : BufTy).Contents (Elt F)),
    StableHlo.unary main_indices_13 main_v59 ((transpose S24x32x32 [2, 0, 1] · transposes_S32x32x24_S24x32x32_2_0_1) : (⟨S32x32x24, .i32⟩ : BufTy).Contents (Elt F) → (⟨S24x32x32, .i32⟩ : BufTy).Contents (Elt F)) ]
/-- The operations name buffers of the one core only. -/
theorem hostOps0_6_sub : (hostOps0_6 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub ..⟩
/-- 12 host operations of @main, window 0 (statements 1 … 60), in order. -/
abbrev main_part0_ops0 : List (HloOp τ sig (Elt F)) :=
  [ StableHlo.nullary main_cst (constant S_ .f32 0x501502F9#32),
    StableHlo.unary main_cst main_v0 (broadcastInDim S32x512 ![] bcast_S_S32x512 : (⟨S_, .f32⟩ : BufTy).Contents (Elt F) → (⟨S32x512, .f32⟩ : BufTy).Contents (Elt F)),
    StableHlo.nullary main_c (constantI S_ 32 0#32),
    StableHlo.unary main_c main_v1 (broadcastInDim S32 ![] bcast_S_S32 : (⟨S_, .i32⟩ : BufTy).Contents (Elt F) → (⟨S32, .i32⟩ : BufTy).Contents (Elt F)),
    StableHlo.nullary main_c_0 (constantI S_ 32 0#32),
    StableHlo.unary main_c_0 main_v2 (broadcastInDim S128x32 ![] bcast_S_S128x32 : (⟨S_, .i32⟩ : BufTy).Contents (Elt F) → (⟨S128x32, .i32⟩ : BufTy).Contents (Elt F)),
    StableHlo.nullary main_c_1 (constantI S_ 32 0#32),
    StableHlo.unary main_arg0 main_v3_0 id,
    StableHlo.unary main_c_1 main_v3_1 id,
    StableHlo.unary main_v0 main_v3_2 id,
    StableHlo.unary main_v1 main_v3_3 id,
    StableHlo.unary main_v2 main_v3_4 id ]
/-- The operations name buffers of the one core only. -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 2 host operations of @main, window 0 (statements 1 … 60), in order. -/
abbrev main_part0_ops1 : List (HloOp τ sig (Elt F)) :=
  [ StableHlo.unary main_v3_4 main_v4 ((transpose S32x128 [1, 0] · transposes_S128x32_S32x128_1_0) : (⟨S128x32, .i32⟩ : BufTy).Contents (Elt F) → (⟨S32x128, .i32⟩ : BufTy).Contents (Elt F)),
    StableHlo.unary main_v4 main_v5 (broadcastInDim S32x128x1 ![0, 1] bcast_S32x128_S32x128x1_0_1 : (⟨S32x128, .i32⟩ : BufTy).Contents (Elt F) → (⟨S32x128x1, .i32⟩ : BufTy).Contents (Elt F)) ]
/-- The operations name buffers of the one core only. -/
theorem main_part0_ops1_sub : (main_part0_ops1 : List (HloOp τ sig (Elt F))).Forall fun op => op.bufs ⊆ StableHlo.tcRefs τ sig :=
  ⟨StableHlo.unary_bufs_sub .., StableHlo.unary_bufs_sub ..⟩
/-- 8 host operations of @take_along_axis_0 (main_call2), window 0 (statements 1 … 60), in order. -/
abbrev main_part0_ops2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S32x128x1, .i32⟩) (broadcastInDim S32x128x1 ![] bcast_S_S32x128x1),
    StableHlo.TRef.binary (.of main_v5 : StableHlo.TRef sig ⟨S32x128x1, .i32⟩) (.of main_call2_v0 : StableHlo.TRef sig ⟨S32x128x1, .i32⟩) (.of main_call2_v1 : StableHlo.TRef sig ⟨S32x128x1, .i1⟩) (cmpi .slt),
    StableHlo.TRef.nullary (.of main_call2_c_0 : StableHlo.TRef sig ⟨S_, .i32⟩) (constantI S_ 32 512#32),
    StableHlo.TRef.unary (.of main_call2_c_0 : StableHlo.TRef sig ⟨S_, .i32⟩) (.of main_call2_v2 : StableHlo.TRef sig ⟨S32x128x1, .i32⟩) (broadcastInDim S32x128x1 ![] bcast_S_S32x128x1),
    StableHlo.TRef.binary (.of main_v5 : StableHlo.TRef sig ⟨S32x128x1, .i32⟩) (.of main_call2_v2 : StableHlo.TRef sig ⟨S32x128x1, .i32⟩) (.of main_call2_v3 : StableHlo.TRef sig ⟨S32x128x1, .i32⟩) addi,
    StableHlo.TRef.ternary (.of main_call2_v1 : StableHlo.TRef sig ⟨S32x128x1, .i1⟩) (.of main_call2_v3 : StableHlo.TRef sig ⟨S32x128x1, .i32⟩) (.of main_v5 : StableHlo.TRef sig ⟨S32x128x1, .i32⟩) (.of main_call2_v4 : StableHlo.TRef sig ⟨S32x128x1, .i32⟩) select,
    StableHlo.TRef.binary (.of main_arg0 : StableHlo.TRef sig ⟨S32x512x2, .f32⟩) (.of main_call2_v4 : StableHlo.TRef sig ⟨S32x128x1, .i32⟩) (.of main_v6 : StableHlo.TRef sig ⟨S32x128x2, .f32⟩) (fun x i => Host.gather gather_S32x512x2_S32x128x1_S32x128x2_2_1_0_0_1_2_112 x i) ]
/-- The operations name buffers of the one core only. -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 40 host operations of @main, window 0 (statements 1 … 60), in order. -/
abbrev main_part0_ops3 : List (HloOp τ sig (Elt F)) :=
  ( StableHlo.unary main_arg0 main_v7 ((transpose S32x2x512 [0, 2, 1] · transposes_S32x512x2_S32x2x512_0_2_1) : (⟨S32x512x2, .f32⟩ : BufTy).Contents (Elt F) → (⟨S32x2x512, .f32⟩ : BufTy).Contents (Elt F))
  :: StableHlo.binary main_v6 main_v7 main_v8 ((fun l r => Host.dotGeneral dot_S32x128x2_S32x2x512_S32x128x512_2_1_1_2_0_0 none l r) : (⟨S32x128x2, .f32⟩ : BufTy).Contents (Elt F) → (⟨S32x2x512, .f32⟩ : BufTy).Contents (Elt F) → (⟨S32x128x512, .f32⟩ : BufTy).Contents (Elt F))
  :: StableHlo.nullary main_cst_2 (constant S_ .f32 0xC0000000#32)
  :: StableHlo.unary main_cst_2 main_v9 (broadcastInDim S32x128x512 ![] bcast_S_S32x128x512 : (⟨S_, .f32⟩ : BufTy).Contents (Elt F) → (⟨S32x128x512, .f32⟩ : BufTy).Contents (Elt F))
  :: StableHlo.binary main_v9 main_v8 main_v10 (mulf : (⟨S32x128x512, .f32⟩ : BufTy).Contents (Elt F) → (⟨S32x128x512, .f32⟩ : BufTy).Contents (Elt F) → (⟨S32x128x512, .f32⟩ : BufTy).Contents (Elt F))
  :: StableHlo.binary main_v6 main_v6 main_v11 (mulf : (⟨S32x128x2, .f32⟩ : BufTy).Contents (Elt F) → (⟨S32x128x2, .f32⟩ : BufTy).Contents (Elt F) → (⟨S32x128x2, .f32⟩ : BufTy).Contents (Elt F))
  :: StableHlo.nullary main_cst_3 (constant S_ .f32 0x00000000#32)
  :: StableHlo.binary main_v11 main_cst_3 main_v12 ((fun x v => Host.reduceAdd x v reducesTo_S32x128x2_S32x128_d2 h_S_) : (⟨S32x128x2, .f32⟩ : BufTy).Contents (Elt F) → (⟨S_, .f32⟩ : BufTy).Contents (Elt F) → (⟨S32x128, .f32⟩ : BufTy).Contents (Elt F))
  :: StableHlo.unary main_v12 main_v13 (broadcastInDim S32x128x1 ![0, 1] bcast_S32x128_S32x128x1_0_1 : (⟨S32x128, .f32⟩ : BufTy).Contents (Elt F) → (⟨S32x128x1, .f32⟩ : BufTy).Contents (Elt F))
  :: StableHlo.unary main_v13 main_v14 (broadcastInDim S32x128x512 ![0, 1, 2] bcast_S32x128x1_S32x128x512_0_1_2 : (⟨S32x128x1, .f32⟩ : BufTy).Contents (Elt F) → (⟨S32x128x512, .f32⟩ : BufTy).Contents (Elt F))
  :: StableHlo.binary main_v10 main_v14 main_v15 (addf : (⟨S32x128x512, .f32⟩ : BufTy).Contents (Elt F) → (⟨S32x128x512, .f32⟩ : BufTy).Contents (Elt F) → (⟨S32x128x512, .f32⟩ : BufTy).Contents (Elt F))
  :: StableHlo.binary main_arg0 main_arg0 main_v16 (mulf : (⟨S32x512x2, .f32⟩ : BufTy).Contents (Elt F) → (⟨S32x512x2, .f32⟩ : BufTy).Contents (Elt F) → (⟨S32x512x2, .f32⟩ : BufTy).Contents (Elt F))
  :: StableHlo.nullary main_cst_4 (constant S_ .f32 0x00000000#32)
  :: StableHlo.binary main_v16 main_cst_4 main_v17 ((fun x v => Host.reduceAdd x v reducesTo_S32x512x2_S32x512_d2 h_S_) : (⟨S32x512x2, .f32⟩ : BufTy).Contents (Elt F) → (⟨S_, .f32⟩ : BufTy).Contents (Elt F) → (⟨S32x512, .f32⟩ : BufTy).Contents (Elt F))
  :: StableHlo.unary main_v17 main_v18 (broadcastInDim S32x1x512 ![0, 2] bcast_S32x512_S32x1x512_0_2 : (⟨S32x512, .f32⟩ : BufTy).Contents (Elt F) → (⟨S32x1x512, .f32⟩ : BufTy).Contents (Elt F))
  :: StableHlo.unary main_v18 main_v19 (broadcastInDim S32x128x512 ![0, 1, 2] bcast_S32x1x512_S32x128x512_0_1_2 : (⟨S32x1x512, .f32⟩ : BufTy).Contents (Elt F) → (⟨S32x128x512, .f32⟩ : BufTy).Contents (Elt F))
  :: StableHlo.binary main_v15 main_v19 main_v20 (addf : (⟨S32x128x512, .f32⟩ : BufTy).Contents (Elt F) → (⟨S32x128x512, .f32⟩ : BufTy).Contents (Elt F) → (⟨S32x128x512, .f32⟩ : BufTy).Contents (Elt F))
  :: StableHlo.unary main_v20 main_v21 (Host.negf : (⟨S32x128x512, .f32⟩ : BufTy).Contents (Elt F) → (⟨S32x128x512, .f32⟩ : BufTy).Contents (Elt F))
  :: StableHlo.unary main_v21 main_values ((fun x => (Host.topK S32x128x24 2 (FloatOps.cmpfTotal .gt) x sliceFits_S32x128x512_S32x128x24).1) : (⟨S32x128x512, .f32⟩ : BufTy).Contents (Elt F) → (⟨S32x128x24, .f32⟩ : BufTy).Contents (Elt F))
  :: StableHlo.unary main_v21 main_indices ((fun x => (Host.topK S32x128x24 2 (FloatOps.cmpfTotal .gt) x sliceFits_S32x128x512_S32x128x24).2) : (⟨S32x128x512, .f32⟩ : BufTy).Contents (Elt F) → (⟨S32x128x24, .i32⟩ : BufTy).Contents (Elt F))
  :: StableHlo.unary main_v4 main_v22 ((transpose S128x32 [1, 0] · transposes_S32x128_S128x32_1_0) : (⟨S32x128, .i32⟩ : BufTy).Contents (Elt F) → (⟨S128x32, .i32⟩ : BufTy).Contents (Elt F))
  :: StableHlo.unary main_v6 main_v23 ((extractStridedSlice S32x128x1 ![0, 0, 0] · slices_S32x128x2_S32x128x1_0_0_0) : (⟨S32x128x2, .f32⟩ : BufTy).Contents (Elt F) → (⟨S32x128x1, .f32⟩ : BufTy).Contents (Elt F))
  :: StableHlo.reshape main_v23 main_v24 (rfl : (.f32 : EltTy) = .f32) shapeCasts_S32x128x1_S32x128
  :: StableHlo.unary main_v24 main_v25 ((transpose S128x32 [1, 0] · transposes_S32x128_S128x32_1_0) : (⟨S32x128, .f32⟩ : BufTy).Contents (Elt F) → (⟨S128x32, .f32⟩ : BufTy).Contents (Elt F))
  :: StableHlo.unary main_v6 main_v26 ((extractStridedSlice S32x128x1 ![0, 0, 1] · slices_S32x128x2_S32x128x1_0_0_1) : (⟨S32x128x2, .f32⟩ : BufTy).Contents (Elt F) → (⟨S32x128x1, .f32⟩ : BufTy).Contents (Elt F))
  :: StableHlo.reshape main_v26 main_v27 (rfl : (.f32 : EltTy) = .f32) shapeCasts_S32x128x1_S32x128
  :: StableHlo.unary main_v27 main_v28 ((transpose S128x32 [1, 0] · transposes_S32x128_S128x32_1_0) : (⟨S32x128, .f32⟩ : BufTy).Contents (Elt F) → (⟨S128x32, .f32⟩ : BufTy).Contents (Elt F))
  :: StableHlo.unary main_indices main_v29 ((transpose S24x32x128 [2, 0, 1] · transposes_S32x128x24_S24x32x128_2_0_1) : (⟨S32x128x24, .i32⟩ : BufTy).Contents (Elt F) → (⟨S24x32x128, .i32⟩ : BufTy).Contents (Elt F))
  :: StableHlo.nullary main_cst_5 (constant S_ .f32 0x501502F9#32)
  :: StableHlo.unary main_cst_5 main_v30 (broadcastInDim S32x128 ![] bcast_S_S32x128 : (⟨S_, .f32⟩ : BufTy).Contents (Elt F) → (⟨S32x128, .f32⟩ : BufTy).Contents (Elt F))
  :: StableHlo.nullary main_c_6 (constantI S_ 32 0#32)
  :: StableHlo.unary main_c_6 main_v31 (broadcastInDim S32 ![] bcast_S_S32 : (⟨S_, .i32⟩ : BufTy).Contents (Elt F) → (⟨S32, .i32⟩ : BufTy).Contents (Elt F))
  :: StableHlo.nullary main_c_7 (constantI S_ 32 0#32)
  :: StableHlo.unary main_c_7 main_v32 (broadcastInDim S32x32 ![] bcast_S_S32x32 : (⟨S_, .i32⟩ : BufTy).Contents (Elt F) → (⟨S32x32, .i32⟩ : BufTy).Contents (Elt F))
  :: StableHlo.nullary main_c_8 (constantI S_ 32 0#32)
  :: StableHlo.unary main_v6 main_v33_0 id
  :: StableHlo.unary main_c_8 main_v33_1 id
  :: StableHlo.unary main_v30 main_v33_2 id
  :: StableHlo.unary main_v31 main_v33_3 id
  :: StableHlo.unary main_v32 main_v33_4 id
  :: [] )
/-- The operations name buffers of the one core only. -/
theorem main_part0_ops3_sub : (main_part0_ops3 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 2 host operations of @main, window 0 (statements 1 … 60), in order. -/
abbrev main_part0_ops4 : List (HloOp τ sig (Elt F)) :=
  [ StableHlo.unary main_v33_4 main_v34 ((transpose S32x32 [1, 0] · transposes_S32x32_S32x32_1_0) : (⟨S32x32, .i32⟩ : BufTy).Contents (Elt F) → (⟨S32x32, .i32⟩ : BufTy).Contents (Elt F)),
    StableHlo.unary main_v34 main_v35 (broadcastInDim S32x32x1 ![0, 1] bcast_S32x32_S32x32x1_0_1 : (⟨S32x32, .i32⟩ : BufTy).Contents (Elt F) → (⟨S32x32x1, .i32⟩ : BufTy).Contents (Elt F)) ]
/-- The operations name buffers of the one core only. -/
theorem main_part0_ops4_sub : (main_part0_ops4 : List (HloOp τ sig (Elt F))).Forall fun op => op.bufs ⊆ StableHlo.tcRefs τ sig :=
  ⟨StableHlo.unary_bufs_sub .., StableHlo.unary_bufs_sub ..⟩
/-- 8 host operations of @take_along_axis_3 (main_call5), window 0 (statements 1 … 60), in order. -/
abbrev main_part0_ops5 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S32x32x1, .i32⟩) (broadcastInDim S32x32x1 ![] bcast_S_S32x32x1),
    StableHlo.TRef.binary (.of main_v35 : StableHlo.TRef sig ⟨S32x32x1, .i32⟩) (.of main_call5_v0 : StableHlo.TRef sig ⟨S32x32x1, .i32⟩) (.of main_call5_v1 : StableHlo.TRef sig ⟨S32x32x1, .i1⟩) (cmpi .slt),
    StableHlo.TRef.nullary (.of main_call5_c_0 : StableHlo.TRef sig ⟨S_, .i32⟩) (constantI S_ 32 128#32),
    StableHlo.TRef.unary (.of main_call5_c_0 : StableHlo.TRef sig ⟨S_, .i32⟩) (.of main_call5_v2 : StableHlo.TRef sig ⟨S32x32x1, .i32⟩) (broadcastInDim S32x32x1 ![] bcast_S_S32x32x1),
    StableHlo.TRef.binary (.of main_v35 : StableHlo.TRef sig ⟨S32x32x1, .i32⟩) (.of main_call5_v2 : StableHlo.TRef sig ⟨S32x32x1, .i32⟩) (.of main_call5_v3 : StableHlo.TRef sig ⟨S32x32x1, .i32⟩) addi,
    StableHlo.TRef.ternary (.of main_call5_v1 : StableHlo.TRef sig ⟨S32x32x1, .i1⟩) (.of main_call5_v3 : StableHlo.TRef sig ⟨S32x32x1, .i32⟩) (.of main_v35 : StableHlo.TRef sig ⟨S32x32x1, .i32⟩) (.of main_call5_v4 : StableHlo.TRef sig ⟨S32x32x1, .i32⟩) select,
    StableHlo.TRef.binary (.of main_v6 : StableHlo.TRef sig ⟨S32x128x2, .f32⟩) (.of main_call5_v4 : StableHlo.TRef sig ⟨S32x32x1, .i32⟩) (.of main_v36 : StableHlo.TRef sig ⟨S32x32x2, .f32⟩) (fun x i => Host.gather gather_S32x128x2_S32x32x1_S32x32x2_2_1_0_0_1_2_112 x i) ]
/-- The operations name buffers of the one core only. -/
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- The text is its stretches and loops in order. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    HostLoop.enter 1,
    StableHlo.seq main_part0_ops4 ]
  (StableHlo.seq main_part0_ops5) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons]
  chain_rfl

/-- 28 host operations of @main, window 1 (statements 61 … 89), in order. -/
abbrev main_part1_ops0 : List (HloOp τ sig (Elt F)) :=
  [ StableHlo.unary main_v6 main_v37 ((transpose S32x2x128 [0, 2, 1] · transposes_S32x128x2_S32x2x128_0_2_1) : (⟨S32x128x2, .f32⟩ : BufTy).Contents (Elt F) → (⟨S32x2x128, .f32⟩ : BufTy).Contents (Elt F)),
    StableHlo.binary main_v36 main_v37 main_v38 ((fun l r => Host.dotGeneral dot_S32x32x2_S32x2x128_S32x32x128_2_1_1_2_0_0 none l r) : (⟨S32x32x2, .f32⟩ : BufTy).Contents (Elt F) → (⟨S32x2x128, .f32⟩ : BufTy).Contents (Elt F) → (⟨S32x32x128, .f32⟩ : BufTy).Contents (Elt F)),
    StableHlo.nullary main_cst_9 (constant S_ .f32 0xC0000000#32),
    StableHlo.unary main_cst_9 main_v39 (broadcastInDim S32x32x128 ![] bcast_S_S32x32x128 : (⟨S_, .f32⟩ : BufTy).Contents (Elt F) → (⟨S32x32x128, .f32⟩ : BufTy).Contents (Elt F)),
    StableHlo.binary main_v39 main_v38 main_v40 (mulf : (⟨S32x32x128, .f32⟩ : BufTy).Contents (Elt F) → (⟨S32x32x128, .f32⟩ : BufTy).Contents (Elt F) → (⟨S32x32x128, .f32⟩ : BufTy).Contents (Elt F)),
    StableHlo.binary main_v36 main_v36 main_v41 (mulf : (⟨S32x32x2, .f32⟩ : BufTy).Contents (Elt F) → (⟨S32x32x2, .f32⟩ : BufTy).Contents (Elt F) → (⟨S32x32x2, .f32⟩ : BufTy).Contents (Elt F)),
    StableHlo.nullary main_cst_10 (constant S_ .f32 0x00000000#32),
    StableHlo.binary main_v41 main_cst_10 main_v42 ((fun x v => Host.reduceAdd x v reducesTo_S32x32x2_S32x32_d2 h_S_) : (⟨S32x32x2, .f32⟩ : BufTy).Contents (Elt F) → (⟨S_, .f32⟩ : BufTy).Contents (Elt F) → (⟨S32x32, .f32⟩ : BufTy).Contents (Elt F)),
    StableHlo.unary main_v42 main_v43 (broadcastInDim S32x32x1 ![0, 1] bcast_S32x32_S32x32x1_0_1 : (⟨S32x32, .f32⟩ : BufTy).Contents (Elt F) → (⟨S32x32x1, .f32⟩ : BufTy).Contents (Elt F)),
    StableHlo.unary main_v43 main_v44 (broadcastInDim S32x32x128 ![0, 1, 2] bcast_S32x32x1_S32x32x128_0_1_2 : (⟨S32x32x1, .f32⟩ : BufTy).Contents (Elt F) → (⟨S32x32x128, .f32⟩ : BufTy).Contents (Elt F)),
    StableHlo.binary main_v40 main_v44 main_v45 (addf : (⟨S32x32x128, .f32⟩ : BufTy).Contents (Elt F) → (⟨S32x32x128, .f32⟩ : BufTy).Contents (Elt F) → (⟨S32x32x128, .f32⟩ : BufTy).Contents (Elt F)),
    StableHlo.binary main_v6 main_v6 main_v46 (mulf : (⟨S32x128x2, .f32⟩ : BufTy).Contents (Elt F) → (⟨S32x128x2, .f32⟩ : BufTy).Contents (Elt F) → (⟨S32x128x2, .f32⟩ : BufTy).Contents (Elt F)),
    StableHlo.nullary main_cst_11 (constant S_ .f32 0x00000000#32),
    StableHlo.binary main_v46 main_cst_11 main_v47 ((fun x v => Host.reduceAdd x v reducesTo_S32x128x2_S32x128_d2 h_S_) : (⟨S32x128x2, .f32⟩ : BufTy).Contents (Elt F) → (⟨S_, .f32⟩ : BufTy).Contents (Elt F) → (⟨S32x128, .f32⟩ : BufTy).Contents (Elt F)),
    StableHlo.unary main_v47 main_v48 (broadcastInDim S32x1x128 ![0, 2] bcast_S32x128_S32x1x128_0_2 : (⟨S32x128, .f32⟩ : BufTy).Contents (Elt F) → (⟨S32x1x128, .f32⟩ : BufTy).Contents (Elt F)),
    StableHlo.unary main_v48 main_v49 (broadcastInDim S32x32x128 ![0, 1, 2] bcast_S32x1x128_S32x32x128_0_1_2 : (⟨S32x1x128, .f32⟩ : BufTy).Contents (Elt F) → (⟨S32x32x128, .f32⟩ : BufTy).Contents (Elt F)),
    StableHlo.binary main_v45 main_v49 main_v50 (addf : (⟨S32x32x128, .f32⟩ : BufTy).Contents (Elt F) → (⟨S32x32x128, .f32⟩ : BufTy).Contents (Elt F) → (⟨S32x32x128, .f32⟩ : BufTy).Contents (Elt F)),
    StableHlo.unary main_v50 main_v51 (Host.negf : (⟨S32x32x128, .f32⟩ : BufTy).Contents (Elt F) → (⟨S32x32x128, .f32⟩ : BufTy).Contents (Elt F)),
    StableHlo.unary main_v51 main_values_12 ((fun x => (Host.topK S32x32x24 2 (FloatOps.cmpfTotal .gt) x sliceFits_S32x32x128_S32x32x24).1) : (⟨S32x32x128, .f32⟩ : BufTy).Contents (Elt F) → (⟨S32x32x24, .f32⟩ : BufTy).Contents (Elt F)),
    StableHlo.unary main_v51 main_indices_13 ((fun x => (Host.topK S32x32x24 2 (FloatOps.cmpfTotal .gt) x sliceFits_S32x32x128_S32x32x24).2) : (⟨S32x32x128, .f32⟩ : BufTy).Contents (Elt F) → (⟨S32x32x24, .i32⟩ : BufTy).Contents (Elt F)),
    StableHlo.unary main_v34 main_v52 ((transpose S32x32 [1, 0] · transposes_S32x32_S32x32_1_0) : (⟨S32x32, .i32⟩ : BufTy).Contents (Elt F) → (⟨S32x32, .i32⟩ : BufTy).Contents (Elt F)),
    StableHlo.unary main_v36 main_v53 ((extractStridedSlice S32x32x1 ![0, 0, 0] · slices_S32x32x2_S32x32x1_0_0_0) : (⟨S32x32x2, .f32⟩ : BufTy).Contents (Elt F) → (⟨S32x32x1, .f32⟩ : BufTy).Contents (Elt F)),
    StableHlo.reshape main_v53 main_v54 (rfl : (.f32 : EltTy) = .f32) shapeCasts_S32x32x1_S32x32,
    StableHlo.unary main_v54 main_v55 ((transpose S32x32 [1, 0] · transposes_S32x32_S32x32_1_0) : (⟨S32x32, .f32⟩ : BufTy).Contents (Elt F) → (⟨S32x32, .f32⟩ : BufTy).Contents (Elt F)),
    StableHlo.unary main_v36 main_v56 ((extractStridedSlice S32x32x1 ![0, 0, 1] · slices_S32x32x2_S32x32x1_0_0_1) : (⟨S32x32x2, .f32⟩ : BufTy).Contents (Elt F) → (⟨S32x32x1, .f32⟩ : BufTy).Contents (Elt F)),
    StableHlo.reshape main_v56 main_v57 (rfl : (.f32 : EltTy) = .f32) shapeCasts_S32x32x1_S32x32,
    StableHlo.unary main_v57 main_v58 ((transpose S32x32 [1, 0] · transposes_S32x32_S32x32_1_0) : (⟨S32x32, .f32⟩ : BufTy).Contents (Elt F) → (⟨S32x32, .f32⟩ : BufTy).Contents (Elt F)),
    StableHlo.unary main_indices_13 main_v59 ((transpose S24x32x32 [2, 0, 1] · transposes_S32x32x24_S24x32x32_2_0_1) : (⟨S32x32x24, .i32⟩ : BufTy).Contents (Elt F) → (⟨S24x32x32, .i32⟩ : BufTy).Contents (Elt F)) ]
/-- The operations name buffers of the one core only. -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub ..⟩
/-- The last window of `main` (`main_part1`, statements 61 … 89) is the chain of ITS items, each item aligned with the window's
    statements, then `chain_rfl`. -/
theorem main_part1_chain (c : Dev nD) : main_part1 (F := F) c = (Pipeline.chain
  [ StableHlo.seq main_part1_ops0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The text is its stretches and loops in order. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    HostLoop.enter 1,
    StableHlo.seq main_part0_ops4,
    StableHlo.seq main_part0_ops5,
    StableHlo.seq main_part1_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1],
    .ops [main_part0_ops2],
    .ops [main_part0_ops3],
    .prog (HostLoop.enter 1),
    .ops [main_part0_ops4],
    .ops [main_part0_ops5],
    .ops [main_part1_ops0] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    HostLoop.enter 1,
    StableHlo.seq main_part0_ops4,
    StableHlo.seq main_part0_ops5,
    StableHlo.seq main_part1_ops0 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4,
    StableHlo.seq hostOps0_5,
    StableHlo.seq hostOps0_6 ] : Prog (TpuEff nD τ sig (Elt F) (HostLoop.Sig (Pipeline.Sig Λ₀ (Fin 0) fun p => (pcfgs (F := F) p).Adm) 2) .tc) PUnit) := by
  chain_rfl

/-- The text is its stretches and loops in order. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    HostLoop.enter 1,
    StableHlo.seq hostOps0_4,
    StableHlo.seq hostOps0_5,
    StableHlo.seq hostOps0_6 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 1 host operation of host loop 0's body region, in order. -/
abbrev while0Ops0 : List (HloOp τ sig (Elt F)) :=
  [ StableHlo.unary main_v3_3 main_while0b_v60 (broadcastInDim S32x1x1 ![0] bcast_S32_S32x1x1_0 : (⟨S32, .i32⟩ : BufTy).Contents (Elt F) → (⟨S32x1x1, .i32⟩ : BufTy).Contents (Elt F)) ]
/-- The operations name buffers of the one core only. -/
theorem while0Ops0_sub : (while0Ops0 : List (HloOp τ sig (Elt F))).Forall fun op => op.bufs ⊆ StableHlo.tcRefs τ sig :=
  StableHlo.unary_bufs_sub ..
/-- 8 host operations of @take_along_axis (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S32x1x1, .i32⟩) (broadcastInDim S32x1x1 ![] bcast_S_S32x1x1),
    StableHlo.TRef.binary (.of main_while0b_v60 : StableHlo.TRef sig ⟨S32x1x1, .i32⟩) (.of main_while0b_call0_v0 : StableHlo.TRef sig ⟨S32x1x1, .i32⟩) (.of main_while0b_call0_v1 : StableHlo.TRef sig ⟨S32x1x1, .i1⟩) (cmpi .slt),
    StableHlo.TRef.nullary (.of main_while0b_call0_c_0 : StableHlo.TRef sig ⟨S_, .i32⟩) (constantI S_ 32 512#32),
    StableHlo.TRef.unary (.of main_while0b_call0_c_0 : StableHlo.TRef sig ⟨S_, .i32⟩) (.of main_while0b_call0_v2 : StableHlo.TRef sig ⟨S32x1x1, .i32⟩) (broadcastInDim S32x1x1 ![] bcast_S_S32x1x1),
    StableHlo.TRef.binary (.of main_while0b_v60 : StableHlo.TRef sig ⟨S32x1x1, .i32⟩) (.of main_while0b_call0_v2 : StableHlo.TRef sig ⟨S32x1x1, .i32⟩) (.of main_while0b_call0_v3 : StableHlo.TRef sig ⟨S32x1x1, .i32⟩) addi,
    StableHlo.TRef.ternary (.of main_while0b_call0_v1 : StableHlo.TRef sig ⟨S32x1x1, .i1⟩) (.of main_while0b_call0_v3 : StableHlo.TRef sig ⟨S32x1x1, .i32⟩) (.of main_while0b_v60 : StableHlo.TRef sig ⟨S32x1x1, .i32⟩) (.of main_while0b_call0_v4 : StableHlo.TRef sig ⟨S32x1x1, .i32⟩) select,
    StableHlo.TRef.binary (.of main_v3_0 : StableHlo.TRef sig ⟨S32x512x2, .f32⟩) (.of main_while0b_call0_v4 : StableHlo.TRef sig ⟨S32x1x1, .i32⟩) (.of main_while0b_v61 : StableHlo.TRef sig ⟨S32x1x2, .f32⟩) (fun x i => Host.gather gather_S32x512x2_S32x1x1_S32x1x2_2_1_0_0_1_2_112 x i) ]
/-- The operations name buffers of the one core only. -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 9 host operations of host loop 0's body region, in order. -/
abbrev while0Ops0_2 : List (HloOp τ sig (Elt F)) :=
  [ StableHlo.unary main_while0b_v61 main_while0b_v62 (broadcastInDim S32x512x2 ![0, 1, 2] bcast_S32x1x2_S32x512x2_0_1_2 : (⟨S32x1x2, .f32⟩ : BufTy).Contents (Elt F) → (⟨S32x512x2, .f32⟩ : BufTy).Contents (Elt F)),
    StableHlo.binary main_v3_0 main_while0b_v62 main_while0b_v63 (subf : (⟨S32x512x2, .f32⟩ : BufTy).Contents (Elt F) → (⟨S32x512x2, .f32⟩ : BufTy).Contents (Elt F) → (⟨S32x512x2, .f32⟩ : BufTy).Contents (Elt F)),
    StableHlo.binary main_while0b_v63 main_while0b_v63 main_while0b_v64 (mulf : (⟨S32x512x2, .f32⟩ : BufTy).Contents (Elt F) → (⟨S32x512x2, .f32⟩ : BufTy).Contents (Elt F) → (⟨S32x512x2, .f32⟩ : BufTy).Contents (Elt F)),
    StableHlo.nullary main_while0b_cst_18 (constant S_ .f32 0x00000000#32),
    StableHlo.binary main_while0b_v64 main_while0b_cst_18 main_while0b_v65 ((fun x v => Host.reduceAdd x v reducesTo_S32x512x2_S32x512_d2 h_S_) : (⟨S32x512x2, .f32⟩ : BufTy).Contents (Elt F) → (⟨S_, .f32⟩ : BufTy).Contents (Elt F) → (⟨S32x512, .f32⟩ : BufTy).Contents (Elt F)),
    StableHlo.binary main_v3_2 main_while0b_v65 main_while0b_v66 (minimumf : (⟨S32x512, .f32⟩ : BufTy).Contents (Elt F) → (⟨S32x512, .f32⟩ : BufTy).Contents (Elt F) → (⟨S32x512, .f32⟩ : BufTy).Contents (Elt F)),
    StableHlo.unary main_while0b_v66 main_while0b_values_19 ((fun x => (Host.topK S32x1 1 (FloatOps.cmpfTotal .gt) x sliceFits_S32x512_S32x1).1) : (⟨S32x512, .f32⟩ : BufTy).Contents (Elt F) → (⟨S32x1, .f32⟩ : BufTy).Contents (Elt F)),
    StableHlo.unary main_while0b_v66 main_while0b_indices_20 ((fun x => (Host.topK S32x1 1 (FloatOps.cmpfTotal .gt) x sliceFits_S32x512_S32x1).2) : (⟨S32x512, .f32⟩ : BufTy).Contents (Elt F) → (⟨S32x1, .i32⟩ : BufTy).Contents (Elt F)),
    StableHlo.reshape main_while0b_indices_20 main_while0b_v67 (rfl : (.i32 : EltTy) = .i32) shapeCasts_S32x1_S32 ]
/-- The operations name buffers of the one core only. -/
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.reshape_bufs_sub ..⟩
/-- 3 host operations of @dynamic_update_index_in_dim (main_while0b_call1), in order. -/
abbrev while0Ops0_3 : List (HloOp τ sig (Elt F)) :=
  [ StableHlo.TRef.unary (.of main_v3_3 : StableHlo.TRef sig ⟨S32, .i32⟩) (.of main_while0b_call1_v0 : StableHlo.TRef sig ⟨S1x32, .i32⟩) (broadcastInDim S1x32 ![1] bcast_S32_S1x32_1),
    StableHlo.TRef.nullary (.of main_while0b_call1_c : StableHlo.TRef sig ⟨S_, .i32⟩) (constantI S_ 32 0#32),
    StableHlo.TRef.binaryIndexed (.of main_v3_4 : StableHlo.TRef sig ⟨S128x32, .i32⟩) (.of main_while0b_call1_v0 : StableHlo.TRef sig ⟨S1x32, .i32⟩) ![(.of main_v3_1 : StableHlo.TRef sig ⟨S_, .i32⟩), (.of main_while0b_call1_c : StableHlo.TRef sig ⟨S_, .i32⟩)] (.of main_while0b_v68 : StableHlo.TRef sig ⟨S128x32, .i32⟩) (fun x u i => Host.dynamicUpdateSlice x u (fun k => (i k (Shape.Idx.first h_S_)).toInt) updateFits_S128x32_S1x32) ]
/-- The operations name buffers of the one core only. -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_4 : List (HloOp τ sig (Elt F)) :=
  [ StableHlo.nullary main_while0b_c_21 (constantI S_ 32 1#32),
    StableHlo.binary main_v3_1 main_while0b_c_21 main_while0b_v69 (addi : (⟨S_, .i32⟩ : BufTy).Contents (Elt F) → (⟨S_, .i32⟩ : BufTy).Contents (Elt F) → (⟨S_, .i32⟩ : BufTy).Contents (Elt F)),
    StableHlo.unary main_while0b_v69 main_v3_1 id,
    StableHlo.unary main_while0b_v66 main_v3_2 id,
    StableHlo.unary main_while0b_v67 main_v3_3 id,
    StableHlo.unary main_while0b_v68 main_v3_4 id ]
/-- The operations name buffers of the one core only. -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The text is its stretches and loops in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- 1 host operation of host loop 1's body region, in order. -/
abbrev while1Ops0 : List (HloOp τ sig (Elt F)) :=
  [ StableHlo.unary main_v33_3 main_while1b_v60 (broadcastInDim S32x1x1 ![0] bcast_S32_S32x1x1_0 : (⟨S32, .i32⟩ : BufTy).Contents (Elt F) → (⟨S32x1x1, .i32⟩ : BufTy).Contents (Elt F)) ]
/-- The operations name buffers of the one core only. -/
theorem while1Ops0_sub : (while1Ops0 : List (HloOp τ sig (Elt F))).Forall fun op => op.bufs ⊆ StableHlo.tcRefs τ sig :=
  StableHlo.unary_bufs_sub ..
/-- 8 host operations of @take_along_axis_1 (main_while1b_call3), in order. -/
abbrev while1Ops0_1 : List (HloOp τ sig (Elt F)) :=
  [ StableHlo.TRef.nullary (.of main_while1b_call3_c : StableHlo.TRef sig ⟨S_, .i32⟩) (constantI S_ 32 0#32),
    StableHlo.TRef.unary (.of main_while1b_call3_c : StableHlo.TRef sig ⟨S_, .i32⟩) (.of main_while1b_call3_v0 : StableHlo.TRef sig ⟨S32x1x1, .i32⟩) (broadcastInDim S32x1x1 ![] bcast_S_S32x1x1),
    StableHlo.TRef.binary (.of main_while1b_v60 : StableHlo.TRef sig ⟨S32x1x1, .i32⟩) (.of main_while1b_call3_v0 : StableHlo.TRef sig ⟨S32x1x1, .i32⟩) (.of main_while1b_call3_v1 : StableHlo.TRef sig ⟨S32x1x1, .i1⟩) (cmpi .slt),
    StableHlo.TRef.nullary (.of main_while1b_call3_c_0 : StableHlo.TRef sig ⟨S_, .i32⟩) (constantI S_ 32 128#32),
    StableHlo.TRef.unary (.of main_while1b_call3_c_0 : StableHlo.TRef sig ⟨S_, .i32⟩) (.of main_while1b_call3_v2 : StableHlo.TRef sig ⟨S32x1x1, .i32⟩) (broadcastInDim S32x1x1 ![] bcast_S_S32x1x1),
    StableHlo.TRef.binary (.of main_while1b_v60 : StableHlo.TRef sig ⟨S32x1x1, .i32⟩) (.of main_while1b_call3_v2 : StableHlo.TRef sig ⟨S32x1x1, .i32⟩) (.of main_while1b_call3_v3 : StableHlo.TRef sig ⟨S32x1x1, .i32⟩) addi,
    StableHlo.TRef.ternary (.of main_while1b_call3_v1 : StableHlo.TRef sig ⟨S32x1x1, .i1⟩) (.of main_while1b_call3_v3 : StableHlo.TRef sig ⟨S32x1x1, .i32⟩) (.of main_while1b_v60 : StableHlo.TRef sig ⟨S32x1x1, .i32⟩) (.of main_while1b_call3_v4 : StableHlo.TRef sig ⟨S32x1x1, .i32⟩) select,
    StableHlo.TRef.binary (.of main_v33_0 : StableHlo.TRef sig ⟨S32x128x2, .f32⟩) (.of main_while1b_call3_v4 : StableHlo.TRef sig ⟨S32x1x1, .i32⟩) (.of main_while1b_v61 : StableHlo.TRef sig ⟨S32x1x2, .f32⟩) (fun x i => Host.gather gather_S32x128x2_S32x1x1_S32x1x2_2_1_0_0_1_2_112 x i) ]
/-- The operations name buffers of the one core only. -/
theorem while1Ops0_1_sub : (while1Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 9 host operations of host loop 1's body region, in order. -/
abbrev while1Ops0_2 : List (HloOp τ sig (Elt F)) :=
  [ StableHlo.unary main_while1b_v61 main_while1b_v62 (broadcastInDim S32x128x2 ![0, 1, 2] bcast_S32x1x2_S32x128x2_0_1_2 : (⟨S32x1x2, .f32⟩ : BufTy).Contents (Elt F) → (⟨S32x128x2, .f32⟩ : BufTy).Contents (Elt F)),
    StableHlo.binary main_v33_0 main_while1b_v62 main_while1b_v63 (subf : (⟨S32x128x2, .f32⟩ : BufTy).Contents (Elt F) → (⟨S32x128x2, .f32⟩ : BufTy).Contents (Elt F) → (⟨S32x128x2, .f32⟩ : BufTy).Contents (Elt F)),
    StableHlo.binary main_while1b_v63 main_while1b_v63 main_while1b_v64 (mulf : (⟨S32x128x2, .f32⟩ : BufTy).Contents (Elt F) → (⟨S32x128x2, .f32⟩ : BufTy).Contents (Elt F) → (⟨S32x128x2, .f32⟩ : BufTy).Contents (Elt F)),
    StableHlo.nullary main_while1b_cst_18 (constant S_ .f32 0x00000000#32),
    StableHlo.binary main_while1b_v64 main_while1b_cst_18 main_while1b_v65 ((fun x v => Host.reduceAdd x v reducesTo_S32x128x2_S32x128_d2 h_S_) : (⟨S32x128x2, .f32⟩ : BufTy).Contents (Elt F) → (⟨S_, .f32⟩ : BufTy).Contents (Elt F) → (⟨S32x128, .f32⟩ : BufTy).Contents (Elt F)),
    StableHlo.binary main_v33_2 main_while1b_v65 main_while1b_v66 (minimumf : (⟨S32x128, .f32⟩ : BufTy).Contents (Elt F) → (⟨S32x128, .f32⟩ : BufTy).Contents (Elt F) → (⟨S32x128, .f32⟩ : BufTy).Contents (Elt F)),
    StableHlo.unary main_while1b_v66 main_while1b_values_19 ((fun x => (Host.topK S32x1 1 (FloatOps.cmpfTotal .gt) x sliceFits_S32x128_S32x1).1) : (⟨S32x128, .f32⟩ : BufTy).Contents (Elt F) → (⟨S32x1, .f32⟩ : BufTy).Contents (Elt F)),
    StableHlo.unary main_while1b_v66 main_while1b_indices_20 ((fun x => (Host.topK S32x1 1 (FloatOps.cmpfTotal .gt) x sliceFits_S32x128_S32x1).2) : (⟨S32x128, .f32⟩ : BufTy).Contents (Elt F) → (⟨S32x1, .i32⟩ : BufTy).Contents (Elt F)),
    StableHlo.reshape main_while1b_indices_20 main_while1b_v67 (rfl : (.i32 : EltTy) = .i32) shapeCasts_S32x1_S32 ]
/-- The operations name buffers of the one core only. -/
theorem while1Ops0_2_sub : (while1Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.reshape_bufs_sub ..⟩
/-- 3 host operations of @dynamic_update_index_in_dim_2 (main_while1b_call4), in order. -/
abbrev while1Ops0_3 : List (HloOp τ sig (Elt F)) :=
  [ StableHlo.TRef.unary (.of main_v33_3 : StableHlo.TRef sig ⟨S32, .i32⟩) (.of main_while1b_call4_v0 : StableHlo.TRef sig ⟨S1x32, .i32⟩) (broadcastInDim S1x32 ![1] bcast_S32_S1x32_1),
    StableHlo.TRef.nullary (.of main_while1b_call4_c : StableHlo.TRef sig ⟨S_, .i32⟩) (constantI S_ 32 0#32),
    StableHlo.TRef.binaryIndexed (.of main_v33_4 : StableHlo.TRef sig ⟨S32x32, .i32⟩) (.of main_while1b_call4_v0 : StableHlo.TRef sig ⟨S1x32, .i32⟩) ![(.of main_v33_1 : StableHlo.TRef sig ⟨S_, .i32⟩), (.of main_while1b_call4_c : StableHlo.TRef sig ⟨S_, .i32⟩)] (.of main_while1b_v68 : StableHlo.TRef sig ⟨S32x32, .i32⟩) (fun x u i => Host.dynamicUpdateSlice x u (fun k => (i k (Shape.Idx.first h_S_)).toInt) updateFits_S32x32_S1x32) ]
/-- The operations name buffers of the one core only. -/
theorem while1Ops0_3_sub : (while1Ops0_3 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 1's body region, in order. -/
abbrev while1Ops0_4 : List (HloOp τ sig (Elt F)) :=
  [ StableHlo.nullary main_while1b_c_21 (constantI S_ 32 1#32),
    StableHlo.binary main_v33_1 main_while1b_c_21 main_while1b_v69 (addi : (⟨S_, .i32⟩ : BufTy).Contents (Elt F) → (⟨S_, .i32⟩ : BufTy).Contents (Elt F) → (⟨S_, .i32⟩ : BufTy).Contents (Elt F)),
    StableHlo.unary main_while1b_v69 main_v33_1 id,
    StableHlo.unary main_while1b_v66 main_v33_2 id,
    StableHlo.unary main_while1b_v67 main_v33_3 id,
    StableHlo.unary main_while1b_v68 main_v33_4 id ]
/-- The operations name buffers of the one core only. -/
theorem while1Ops0_4_sub : (while1Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The text is its stretches and loops in order. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- No operation of `hostOps0` allocates a buffer. -/
theorem hostOps0_fresh : (hostOps0 : List (HloOp τ sig (Elt F))).Forall fun op => op.fresh = ∅ :=
  StableHlo.forall_fresh_of_map rfl
/-- What each operation of `hostOps0` writes. -/
abbrev hostOps0_W : List (Ref sig .tc) := [main_cst, main_v0, main_c, main_v1, main_c_0, main_v2, main_c_1, main_v3_0, main_v3_1, main_v3_2, main_v3_3, main_v3_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- What each operation of `while0Ops0` writes. -/
abbrev while0Ops0_W : List (Ref sig .tc) := [main_while0b_v60]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- What each operation of `while0Ops0_1` writes. -/
abbrev while0Ops0_1_W : List (Ref sig .tc) := [main_while0b_call0_c, main_while0b_call0_v0, main_while0b_call0_v1, main_while0b_call0_c_0, main_while0b_call0_v2, main_while0b_call0_v3, main_while0b_call0_v4, main_while0b_v61]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- What each operation of `while0Ops0_2` writes. -/
abbrev while0Ops0_2_W : List (Ref sig .tc) := [main_while0b_v62, main_while0b_v63, main_while0b_v64, main_while0b_cst_18, main_while0b_v65, main_while0b_v66, main_while0b_values_19, main_while0b_indices_20, main_while0b_v67]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- What each operation of `while0Ops0_3` writes. -/
abbrev while0Ops0_3_W : List (Ref sig .tc) := [main_while0b_call1_v0, main_while0b_call1_c, main_while0b_v68]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- What each operation of `while0Ops0_4` writes. -/
abbrev while0Ops0_4_W : List (Ref sig .tc) := [main_while0b_c_21, main_while0b_v69, main_v3_1, main_v3_2, main_v3_3, main_v3_4]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while1Ops0` allocates a buffer. -/
theorem while1Ops0_fresh : (while1Ops0 : List (HloOp τ sig (Elt F))).Forall fun op => op.fresh = ∅ :=
  StableHlo.forall_fresh_of_map rfl
/-- What each operation of `while1Ops0` writes. -/
abbrev while1Ops0_W : List (Ref sig .tc) := [main_while1b_v60]
theorem while1Ops0_writes : (while1Ops0 : List (HloOp τ sig (Elt F))).Forall fun op => op.writes ⊆ (while1Ops0_W.map (Proc.devRef (τ := τ) .tc)).toFinset :=
  StableHlo.forall_writes_sub_of_map rfl
/-- No operation of `while1Ops0_1` allocates a buffer. -/
theorem while1Ops0_1_fresh : (while1Ops0_1 : List (HloOp τ sig (Elt F))).Forall fun op => op.fresh = ∅ :=
  StableHlo.forall_fresh_of_map rfl
/-- What each operation of `while1Ops0_1` writes. -/
abbrev while1Ops0_1_W : List (Ref sig .tc) := [main_while1b_call3_c, main_while1b_call3_v0, main_while1b_call3_v1, main_while1b_call3_c_0, main_while1b_call3_v2, main_while1b_call3_v3, main_while1b_call3_v4, main_while1b_v61]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- No operation of `while1Ops0_2` allocates a buffer. -/
theorem while1Ops0_2_fresh : (while1Ops0_2 : List (HloOp τ sig (Elt F))).Forall fun op => op.fresh = ∅ :=
  StableHlo.forall_fresh_of_map rfl
/-- What each operation of `while1Ops0_2` writes. -/
abbrev while1Ops0_2_W : List (Ref sig .tc) := [main_while1b_v62, main_while1b_v63, main_while1b_v64, main_while1b_cst_18, main_while1b_v65, main_while1b_v66, main_while1b_values_19, main_while1b_indices_20, main_while1b_v67]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- No operation of `while1Ops0_3` allocates a buffer. -/
theorem while1Ops0_3_fresh : (while1Ops0_3 : List (HloOp τ sig (Elt F))).Forall fun op => op.fresh = ∅ :=
  StableHlo.forall_fresh_of_map rfl
/-- What each operation of `while1Ops0_3` writes. -/
abbrev while1Ops0_3_W : List (Ref sig .tc) := [main_while1b_call4_v0, main_while1b_call4_c, main_while1b_v68]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- No operation of `while1Ops0_4` allocates a buffer. -/
theorem while1Ops0_4_fresh : (while1Ops0_4 : List (HloOp τ sig (Elt F))).Forall fun op => op.fresh = ∅ :=
  StableHlo.forall_fresh_of_map rfl
/-- What each operation of `while1Ops0_4` writes. -/
abbrev while1Ops0_4_W : List (Ref sig .tc) := [main_while1b_c_21, main_while1b_v69, main_v33_1, main_v33_2, main_v33_3, main_v33_4]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- What each operation of `hostOps0_1` writes. -/
abbrev hostOps0_1_W : List (Ref sig .tc) := [main_v4, main_v5]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- What each operation of `hostOps0_2` writes. -/
abbrev hostOps0_2_W : List (Ref sig .tc) := [main_call2_c, main_call2_v0, main_call2_v1, main_call2_c_0, main_call2_v2, main_call2_v3, main_call2_v4, main_v6]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- What each operation of `hostOps0_3` writes. -/
abbrev hostOps0_3_W : List (Ref sig .tc) := [main_v7, main_v8, main_cst_2, main_v9, main_v10, main_v11, main_cst_3, main_v12, main_v13, main_v14, main_v15, main_v16, main_cst_4, main_v17, main_v18, main_v19, main_v20, main_v21, main_values, main_indices, main_v22, main_v23, main_v24, main_v25, main_v26, main_v27, main_v28, main_v29, main_cst_5, main_v30, main_c_6, main_v31, main_c_7, main_v32, main_c_8, main_v33_0, main_v33_1, main_v33_2, main_v33_3, main_v33_4]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- What each operation of `hostOps0_4` writes. -/
abbrev hostOps0_4_W : List (Ref sig .tc) := [main_v34, main_v35]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- What each operation of `hostOps0_5` writes. -/
abbrev hostOps0_5_W : List (Ref sig .tc) := [main_call5_c, main_call5_v0, main_call5_v1, main_call5_c_0, main_call5_v2, main_call5_v3, main_call5_v4, main_v36]
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- What each operation of `hostOps0_6` writes. -/
abbrev hostOps0_6_W : List (Ref sig .tc) := [main_v37, main_v38, main_cst_9, main_v39, main_v40, main_v41, main_cst_10, main_v42, main_v43, main_v44, main_v45, main_v46, main_cst_11, main_v47, main_v48, main_v49, main_v50, main_v51, main_values_12, main_indices_13, main_v52, main_v53, main_v54, main_v55, main_v56, main_v57, main_v58, main_v59]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The condition of loop 0: its bound, and the counter compared with it. -/
abbrev condOps0 : List (HloOp τ sig (Elt F)) :=
  [ StableHlo.nullary main_while0c_c_18 (constantI S_ 32 128#32),
    StableHlo.binary main_v3_1 main_while0c_c_18 main_while0c_v60 (cmpi .slt) ]
abbrev condOps0_W : List (Ref sig .tc) := [main_while0c_c_18, main_while0c_v60]
theorem condOps0_writes : (condOps0 : List (HloOp τ sig (Elt F))).Forall fun op => op.writes ⊆ (condOps0_W.map (Proc.devRef (τ := τ) .tc)).toFinset :=
  StableHlo.forall_writes_sub_of_map rfl
/-- The condition of loop 1: its bound, and the counter compared with it. -/
abbrev condOps1 : List (HloOp τ sig (Elt F)) :=
  [ StableHlo.nullary main_while1c_c_18 (constantI S_ 32 32#32),
    StableHlo.binary main_v33_1 main_while1c_c_18 main_while1c_v60 (cmpi .slt) ]
abbrev condOps1_W : List (Ref sig .tc) := [main_while1c_c_18, main_while1c_v60]
theorem condOps1_writes : (condOps1 : List (HloOp τ sig (Elt F))).Forall fun op => op.writes ⊆ (condOps1_W.map (Proc.devRef (τ := τ) .tc)).toFinset :=
  StableHlo.forall_writes_sub_of_map rfl
/-- The stretches. -/
abbrev preI : List (List (HloOp τ sig (Elt F))) := [hostOps0]
theorem preI_plain : StableHlo.Plain (preI (F := F)) := .cons hostOps0_sub (hf := List.forall_iff_forall_mem.mp hostOps0_fresh) (.nil)
/-- A buffer that none of them writes keeps its contents. -/
theorem preI_keep (V : Valuation τ sig (Elt F)) (r : Ref sig .tc) (h : r ∉ hostOps0_W) :
    StableHlo.afterL preI V (Proc.devRef .tc r) = V (Proc.devRef .tc r) := by
  simp only [StableHlo.afterL_cons, StableHlo.afterL_nil]
  refine (StableHlo.after_of_writes_sub hostOps0 _ hostOps0_writes h).trans ?_
  rfl
/-- The stretches. -/
abbrev bodyI0 : List (List (HloOp τ sig (Elt F))) := [while0Ops0, while0Ops0_1, while0Ops0_2, while0Ops0_3, while0Ops0_4]
theorem bodyI0_plain : StableHlo.Plain (bodyI0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
/-- A buffer that none of them writes keeps its contents. -/
theorem bodyI0_keep (V : Valuation τ sig (Elt F)) (r : Ref sig .tc) (h : r ∉ while0Ops0_W ++ while0Ops0_1_W ++ while0Ops0_2_W ++ while0Ops0_3_W ++ while0Ops0_4_W) :
    StableHlo.afterL bodyI0 V (Proc.devRef .tc r) = V (Proc.devRef .tc r) := by
  simp only [List.mem_append, not_or] at h
  simp only [StableHlo.afterL_cons, StableHlo.afterL_nil]
  refine (StableHlo.after_of_writes_sub while0Ops0_4 _ while0Ops0_4_writes h.2).trans ?_
  refine (StableHlo.after_of_writes_sub while0Ops0_3 _ while0Ops0_3_writes h.1.2).trans ?_
  refine (StableHlo.after_of_writes_sub while0Ops0_2 _ while0Ops0_2_writes h.1.1.2).trans ?_
  refine (StableHlo.after_of_writes_sub while0Ops0_1 _ while0Ops0_1_writes h.1.1.1.2).trans ?_
  refine (StableHlo.after_of_writes_sub while0Ops0 _ while0Ops0_writes h.1.1.1.1).trans ?_
  rfl
/-- The stretches. -/
abbrev midI : List (List (HloOp τ sig (Elt F))) := [hostOps0_1, hostOps0_2, hostOps0_3]
theorem midI_plain : StableHlo.Plain (midI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))
/-- A buffer that none of them writes keeps its contents. -/
theorem midI_keep (V : Valuation τ sig (Elt F)) (r : Ref sig .tc) (h : r ∉ hostOps0_1_W ++ hostOps0_2_W ++ hostOps0_3_W) :
    StableHlo.afterL midI V (Proc.devRef .tc r) = V (Proc.devRef .tc r) := by
  simp only [List.mem_append, not_or] at h
  simp only [StableHlo.afterL_cons, StableHlo.afterL_nil]
  refine (StableHlo.after_of_writes_sub hostOps0_3 _ hostOps0_3_writes h.2).trans ?_
  refine (StableHlo.after_of_writes_sub hostOps0_2 _ hostOps0_2_writes h.1.2).trans ?_
  refine (StableHlo.after_of_writes_sub hostOps0_1 _ hostOps0_1_writes h.1.1).trans ?_
  rfl
/-- The stretches. -/
abbrev bodyI1 : List (List (HloOp τ sig (Elt F))) := [while1Ops0, while1Ops0_1, while1Ops0_2, while1Ops0_3, while1Ops0_4]
theorem bodyI1_plain : StableHlo.Plain (bodyI1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.nil)))))
/-- A buffer that none of them writes keeps its contents. -/
theorem bodyI1_keep (V : Valuation τ sig (Elt F)) (r : Ref sig .tc) (h : r ∉ while1Ops0_W ++ while1Ops0_1_W ++ while1Ops0_2_W ++ while1Ops0_3_W ++ while1Ops0_4_W) :
    StableHlo.afterL bodyI1 V (Proc.devRef .tc r) = V (Proc.devRef .tc r) := by
  simp only [List.mem_append, not_or] at h
  simp only [StableHlo.afterL_cons, StableHlo.afterL_nil]
  refine (StableHlo.after_of_writes_sub while1Ops0_4 _ while1Ops0_4_writes h.2).trans ?_
  refine (StableHlo.after_of_writes_sub while1Ops0_3 _ while1Ops0_3_writes h.1.2).trans ?_
  refine (StableHlo.after_of_writes_sub while1Ops0_2 _ while1Ops0_2_writes h.1.1.2).trans ?_
  refine (StableHlo.after_of_writes_sub while1Ops0_1 _ while1Ops0_1_writes h.1.1.1.2).trans ?_
  refine (StableHlo.after_of_writes_sub while1Ops0 _ while1Ops0_writes h.1.1.1.1).trans ?_
  rfl
/-- The stretches. -/
abbrev postI : List (List (HloOp τ sig (Elt F))) := [hostOps0_4, hostOps0_5, hostOps0_6]
theorem postI_plain : StableHlo.Plain (postI (F := F)) := .cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.nil)))
/-- A buffer that none of them writes keeps its contents. -/
theorem postI_keep (V : Valuation τ sig (Elt F)) (r : Ref sig .tc) (h : r ∉ hostOps0_4_W ++ hostOps0_5_W ++ hostOps0_6_W) :
    StableHlo.afterL postI V (Proc.devRef .tc r) = V (Proc.devRef .tc r) := by
  simp only [List.mem_append, not_or] at h
  simp only [StableHlo.afterL_cons, StableHlo.afterL_nil]
  refine (StableHlo.after_of_writes_sub hostOps0_6 _ hostOps0_6_writes h.2).trans ?_
  refine (StableHlo.after_of_writes_sub hostOps0_5 _ hostOps0_5_writes h.1.2).trans ?_
  refine (StableHlo.after_of_writes_sub hostOps0_4 _ hostOps0_4_writes h.1.1).trans ?_
  rfl

end Cert.FpsRefIdeal.Gen

end
-- ==== Proof.TwoLoops.lean ====
/-
  The run of a program of host operations with two counted loops, one after the other.
-/
module

public import Idealize.ShloMosaic.Lib.StableHlo.RunLoop

@[expose] public section
noncomputable section
namespace Cert.TwoLoops
open Idealize.ShloMosaic Idealize.ShloMosaic.StableHlo Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- There is no pipeline to admit. -/
abbrev none : (p : Fin 0) → (pcs p).Adm := fun p => p.elim0
/-- There is no ticket. -/
abbrev noTicket : Fin 0 → Ticket (Ix := Unit) (Name := ℕ) (U := Option PUnit) (Lvl := ℕ) (nD := nD) (τ := τ) pcs (none pcs) :=
  fun j => j.elim0
/-- No semaphore is waited for. -/
abbrev noWait : GSem nD τ sig → Finset Unit := fun _ => ∅
abbrev noLevel : GSem nD τ sig → Unit → ℕ := fun _ _ => 0

/-- What rides along with the buffers. -/
abbrev Aside (c : Dev nD) : sProp 𝕄 := iprop(∃ W, owes (c : Thread nD τ) (0 : CellTallies nD τ sig Unit) W)

/-- A counted loop of the program: its label, its two regions and their operations. -/
structure Loop (n : ℕ) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  is : loops l = HostLoop.step l cond body
  condOps : List (HloOp τ sig (Elt F))
  bodyI : List (List (HloOp τ sig (Elt F)))
  plain : Plain bodyI
  chain : body = Pipeline.chain (bodyI.map fun ops => (seq ops : Prog _ PUnit))
  start : Dev nD → Valuation τ sig (Elt F)
  spec : LoopCond (Ix := Unit) (Name := ℕ) (U := Option PUnit) (Lvl := ℕ) pcs defs₀ Variants.none loops Aside cond condOps bodyI start n

variable {pcs defs₀ loops}

/-- What the buffers hold when a loop is left. -/
def Loop.out {n : ℕ} (p : Loop pcs defs₀ loops n) (c : Dev nD) : Valuation τ sig (Elt F) :=
  after p.condOps (atTrip p.condOps p.bodyI p.start n c)

/-- The loop as a segment of the run. -/
def Loop.seg {n : ℕ} (p : Loop pcs defs₀ loops n) :
    CSeg pcs (none pcs) defs₀ Variants.none noWait noLevel loops (noTicket (nD := nD) (τ := τ) pcs) :=
  loopSeg _ _ _ _ _ _ _ _ p.l p.cond p.body p.is p.condOps p.bodyI p.plain p.chain n p.start Aside p.spec

variable (preI midI postI : List (List (HloOp τ sig (Elt F)))) (hpre : Plain preI) (hmid : Plain midI) (hpost : Plain postI)
  {n n' : ℕ} (p : Loop pcs defs₀ loops n) (p' : Loop pcs defs₀ loops n') (m : (ℓ : Loc nD τ sig) → Buf (Elt F) ℓ)

/-- The program's segments. -/
def segs : List (CSeg pcs (none pcs) defs₀ Variants.none noWait noLevel loops (noTicket (nD := nD) (τ := τ) pcs)) :=
  segsOf _ _ _ _ _ _ _ _ Aside preI hpre (launchContents m)
    ++ p.seg :: (segsOf _ _ _ _ _ _ _ _ Aside midI hmid p.out ++ p'.seg :: segsOf _ _ _ _ _ _ _ _ Aside postI hpost p'.out)

/-- The segments' text is the program's. -/
theorem segs_prog : (segs preI midI postI hpre hmid hpost p p' m).map CSeg.prog
    = (preI.map fun ops => (seq ops : Prog _ PUnit)) ++ HostLoop.enter p.l
      :: ((midI.map fun ops => (seq ops : Prog _ PUnit)) ++ HostLoop.enter p'.l :: postI.map fun ops => (seq ops : Prog _ PUnit)) := by
  unfold segs
  rw [List.map_append, List.map_cons, List.map_append, List.map_cons, segsOf_prog, segsOf_prog, segsOf_prog]
  rfl

/-- Each segment starts where the one before it ends. -/
theorem segs_chains (h : p.start = fun c => afterL preI (launchContents m c)) (h' : p'.start = fun c => afterL midI (p.out c)) :
    CSeg.Chains (fun c => iprop(held (c : Thread nD τ) (ucRefs τ sig) (launchContents m c) ∗ Aside c))
      (segs preI midI postI hpre hmid hpost p p' m)
      (fun c => iprop(iprop(held (c : Thread nD τ) (ucRefs τ sig) (afterL postI (p'.out c))) ∗ ∃ W, owes (c : Thread nD τ) (0 : CellTallies nD τ sig Unit) W)) := by
  unfold segs
  refine CSeg.Chains.append (segsOf_chains _ _ _ _ _ _ _ _ Aside preI hpre _) ⟨fun c => ?_, CSeg.Chains.append (segsOf_chains _ _ _ _ _ _ _ _ Aside midI hmid p.out)
    ⟨fun c => ?_, segsOf_chains _ _ _ _ _ _ _ _ Aside postI hpost p'.out⟩⟩
  · unfold Loop.seg
    rw [loopSeg_pre, h]
  · unfold Loop.seg
    rw [loopSeg_pre, h']

include hpre hmid hpost in
/-- The run: every execution ends with the buffers as the operations, followed in order through both loops, leave them. -/
theorem run [∀ e, Nonempty (Elt F e)]
    (main : Dev nD → Prog (TpuEff nD τ sig (Elt F) (HostLoop.Sig (Pipeline.Sig Λ₀ (Fin 0) fun p => (pcs p).Adm) nL) .tc) PUnit)
    (ρ : Dev nD → PrngReg)
    (hmain : ∀ c, main c = Pipeline.chain ((preI.map fun ops => (seq ops : Prog _ PUnit)) ++ HostLoop.enter p.l
      :: ((midI.map fun ops => (seq ops : Prog _ PUnit)) ++ HostLoop.enter p'.l :: postI.map fun ops => (seq ops : Prog _ PUnit))))
    (h : p.start = fun c => afterL preI (launchContents m c)) (h' : p'.start = fun c => afterL midI (p.out c)) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL postI (p'.out c) (Proc.devRef .tc b)) :=
  Pipeline.θ_run_regions_loop_kit (Ix := Unit) (Name := ℕ) (U := Option PUnit) (Lvl := ℕ) (J := Fin 0) (P := Fin 0) (Val := Elt F)
    pcs (none pcs) (fun k => k.1.elim0) defs₀ Variants.none noWait noLevel loops (noTicket pcs) m ρ main
    (segs preI midI postI hpre hmid hpost p p' m)
    (fun c Q => by
      rw [hmain c]
      show wp _ _ _ (Pipeline.chain ((segs preI midI postI hpre hmid hpost p p' m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Aside c))
    (Tₙ := fun c => iprop(held (c : Thread nD τ) (ucRefs τ sig) (afterL postI (p'.out c))))
    (hch := segs_chains preI midI postI hpre hmid hpost p p' m h h')
    (hinit := by
      refine Pipeline.initEach noWait noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL postI (p'.out c) b)
    (hfin := fun c s' => by
      unfold held
      iintro ⟨Hh, HSI⟩
      ihave Hr := (pointsTo_read_all (ucRefs τ sig) (fun b => ((c : Dev nD), b)) (fun b => afterL postI (p'.out c) b) s') $$ [Hh HSI]
      · isplitl [Hh] <;> iassumption
      icases Hr with ⟨%hr, HSI⟩
      imodintro
      isplitr; · ipureintro; exact hr
      iexact HSI)
    (hQ := fun _ hr c b hb => hr c _ (devRef_mem_ucRefs b hb))

end Cert.TwoLoops
-- ==== Proof.FpsRefLoop0.lean ====
/-
  The plain selection's first loop, trip by trip.
-/
module

public import proofs.«01_k».proof.Proof.FpsRefLists
public import proofs.«01_k».proof.Proof.FpsRefStep
public import proofs.«01_k».proof.Proof.TwoLoops
public import Idealize.ShloMosaic.Lib.Scf.ExitTest
public import Idealize.ShloMosaic.Lib.Scf.Counter

@[expose] public section

noncomputable section

namespace Cert.FpsRefIdeal.Two

open Cert.FpsRefIdeal Cert.FpsRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## Loop 0 -/

namespace L0
open Cert.FpsRefIdeal.Step

variable {V : Valuation τ sig (Elt F)} {s : State F} {j : ℕ}

/-- The buffers hold the state and the trip's number. -/
structure Holds (V : Valuation τ sig (Elt F)) (s : State F) (j : ℕ) : Prop where
  pts : V (Proc.devRef .tc main_v3_0) = s.pts
  ctr : V (Proc.devRef .tc main_v3_1) = constantI S_ 32 (BitVec.ofNat 32 j)
  dist : V (Proc.devRef .tc main_v3_2) = s.dist
  next : V (Proc.devRef .tc main_v3_3) = s.next
  list : V (Proc.devRef .tc main_v3_4) = s.list

theorem cond_keep (V : Valuation τ sig (Elt F)) (r : Ref sig .tc) (h : r ∉ condOps0_W) :
    after condOps0 V (Proc.devRef .tc r) = V (Proc.devRef .tc r) := after_of_writes_sub condOps0 V condOps0_writes h

/-- The condition changes none of it. -/
theorem Holds.cond (h : Holds V s j) : Holds (after condOps0 V) s j where
  pts := (cond_keep V _ (by decide)).trans h.pts
  ctr := (cond_keep V _ (by decide)).trans h.ctr
  dist := (cond_keep V _ (by decide)).trans h.dist
  next := (cond_keep V _ (by decide)).trans h.next
  list := (cond_keep V _ (by decide)).trans h.list

theorem ctr_eq (V : Valuation τ sig (Elt F)) : afterL bodyI0 V (Proc.devRef .tc main_v3_1)
    = addi (V (Proc.devRef .tc main_v3_1)) (constantI S_ 32 1#32) := by
  simp only [bodyI0, afterL_cons, afterL_nil]
  after_reads_simp
  try rfl

set_option maxRecDepth 8192 in
set_option maxHeartbeats 2000000 in
/-- The list's update, of the buffers before it. -/
theorem update_eq (X : Valuation τ sig (Elt F)) : after while0Ops0_4 (after while0Ops0_3 X) (no_index (Proc.devRef .tc main_v3_4))
    = Host.dynamicUpdateSlice (X (Proc.devRef .tc main_v3_4)) (broadcastInDim S1x32 ![1] bcast_S32_S1x32_1 (X (Proc.devRef .tc main_v3_3)))
      (fun k => (((![X (Proc.devRef .tc main_v3_1), constantI S_ 32 0#32] : Fin 2 → (⟨S_, .i32⟩ : BufTy).Contents (Elt F))) k (Shape.Idx.first h_S_)).toInt) updateFits_S128x32_S1x32 := by
  simp only [while0Ops0_3, while0Ops0_4]
  after_results_entrywise [cast_eq]

theorem list_eq (h : Holds V s j) : afterL bodyI0 V (Proc.devRef .tc main_v3_4) = b20 j s := by
  have k : ∀ r : Ref sig .tc, r ∉ while0Ops0_W → r ∉ while0Ops0_1_W → r ∉ while0Ops0_2_W →
      after while0Ops0_2 (after while0Ops0_1 (after while0Ops0 V)) (Proc.devRef .tc r) = V (Proc.devRef .tc r) := fun r h0 h1 h2 =>
    (after_of_writes_sub _ _ while0Ops0_2_writes h2).trans ((after_of_writes_sub _ _ while0Ops0_1_writes h1).trans (after_of_writes_sub _ _ while0Ops0_writes h0))
  show after while0Ops0_4 (after while0Ops0_3 (after while0Ops0_2 (after while0Ops0_1 (after while0Ops0 V)))) (Proc.devRef .tc main_v3_4) = _
  rw [update_eq, k main_v3_4 (by decide) (by decide) (by decide), k main_v3_3 (by decide) (by decide) (by decide),
    k main_v3_1 (by decide) (by decide) (by decide), h.list, h.next, h.ctr]
  rfl

set_option maxRecDepth 8192 in
set_option maxHeartbeats 2000000 in
theorem dist_eq (h : Holds V s j) : afterL bodyI0 V (Proc.devRef .tc main_v3_2) = b14 j s := by
  simp only [bodyI0, afterL_cons, afterL_nil]
  after_reads_simp
  simp only [h.pts, h.ctr, h.dist, h.next, h.list]
  rfl

set_option maxRecDepth 8192 in
set_option maxHeartbeats 2000000 in
theorem next_eq (h : Holds V s j) : afterL bodyI0 V (Proc.devRef .tc main_v3_3) = b17 j s := by
  simp only [bodyI0, afterL_cons, afterL_nil]
  after_reads_simp
  simp only [h.pts, h.ctr, h.dist, h.next, h.list]
  rfl

/-- A trip makes the step. -/
theorem Holds.body (h : Holds V s j) : Holds (afterL bodyI0 V) (step j s) (j + 1) where
  pts := (bodyI0_keep V _ (by decide)).trans h.pts
  ctr := by
    rw [ctr_eq, h.ctr]
    funext q
    show BitVec.ofNat 32 j + 1#32 = BitVec.ofNat 32 (j + 1)
    simp only [BitVec.ofNat_add]
  dist := dist_eq h
  next := next_eq h
  list := list_eq h

variable (E : Dev nD → Valuation τ sig (Elt F)) (c : Dev nD)

/-- Before the condition's run number `k` the buffers hold state number `k`. -/
theorem holds_at (it : ℕ → State F) (h0 : Holds (E c) (it 0) 0) (hs : ∀ k, it (k + 1) = step k (it k)) :
    ∀ k, Holds (atTrip condOps0 bodyI0 E k c) (it k) k
  | 0 => h0
  | k + 1 => by
    rw [hs k]
    exact (holds_at it h0 hs k).cond.body

/-- The loop changes no other buffer. -/
theorem keep_at (r : Ref sig .tc) (hc : r ∉ condOps0_W) (hb : r ∉ while0Ops0_W ++ while0Ops0_1_W ++ while0Ops0_2_W ++ while0Ops0_3_W ++ while0Ops0_4_W) :
    ∀ k, atTrip condOps0 bodyI0 E k c (Proc.devRef .tc r) = E c (Proc.devRef .tc r)
  | 0 => rfl
  | k + 1 => (bodyI0_keep _ r hb).trans ((cond_keep _ r hc).trans (keep_at r hc hb k))

/-- The counter. -/
theorem ctr_at (h : E c (Proc.devRef .tc main_v3_1) = fun _ => (0#32 : BitVec 32)) :
    ∀ k, atTrip condOps0 bodyI0 E k c (Proc.devRef .tc main_v3_1) = fun _ => Scf.iv 0#32 1#32 k
  | 0 => by rw [show atTrip condOps0 bodyI0 E 0 c = E c from rfl, h, Scf.iv_zero]
  | k + 1 => by
    rw [show atTrip condOps0 bodyI0 E (k + 1) c = afterL bodyI0 (after condOps0 (atTrip condOps0 bodyI0 E k c)) from rfl, ctr_eq,
      cond_keep _ _ (by decide), ctr_at h k, Scf.iv_succ]
    rfl

-- the rule is stated for any thread
set_option backward.isDefEq.respectTransparency.types false in
/-- The condition holds for 128 trips. -/
theorem cond_spec (h : ∀ c, E c (Proc.devRef .tc main_v3_1) = fun _ => (0#32 : BitVec 32)) :
    LoopCond (Ix := Unit) (Name := ℕ) (U := Option PUnit) (Lvl := ℕ) (pcfgs (F := F)) defs₀ Variants.none loops
      (TwoLoops.Aside (F := F)) (main_while0_cond (F := F)) condOps0 bodyI0 E 128 := by
  intro k hk c bd
  have hctr := ctr_at E c (h c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 bodyI0 E k c) main_v3_1 HostLoop.idx0)
        (HloOp.result _ (atTrip condOps0 bodyI0 E k c) main_while0c_c_18 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]
  isplitl [Hh]; · iexact Hh
  iexact HR

/-- The loop, entered with `E`. -/
def loop (h : ∀ c, E c (Proc.devRef .tc main_v3_1) = fun _ => (0#32 : BitVec 32)) :
    TwoLoops.Loop (pcfgs (F := F)) defs₀ loops 128 where
  l := 0
  cond := main_while0_cond
  body := main_while0_body
  is := rfl
  condOps := condOps0
  bodyI := bodyI0
  plain := bodyI0_plain
  chain := by rw [while0_body_chain]; rfl
  start := E
  spec := cond_spec E h

end L0

end Cert.FpsRefIdeal.Two

end
-- ==== Proof.FpsRefLoop1.lean ====
/-
  The plain selection's second loop, trip by trip.
-/
module

public import proofs.«01_k».proof.Proof.FpsRefLists
public import proofs.«01_k».proof.Proof.FpsRefStep
public import proofs.«01_k».proof.Proof.TwoLoops
public import Idealize.ShloMosaic.Lib.Scf.ExitTest
public import Idealize.ShloMosaic.Lib.Scf.Counter

@[expose] public section

noncomputable section

namespace Cert.FpsRefIdeal.Two

open Cert.FpsRefIdeal Cert.FpsRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## Loop 1 -/

namespace L1
open Cert.FpsRefIdeal.Step2

variable {V : Valuation τ sig (Elt F)} {s : State F} {j : ℕ}

/-- The buffers hold the state and the trip's number. -/
structure Holds (V : Valuation τ sig (Elt F)) (s : State F) (j : ℕ) : Prop where
  pts : V (Proc.devRef .tc main_v33_0) = s.pts
  ctr : V (Proc.devRef .tc main_v33_1) = constantI S_ 32 (BitVec.ofNat 32 j)
  dist : V (Proc.devRef .tc main_v33_2) = s.dist
  next : V (Proc.devRef .tc main_v33_3) = s.next
  list : V (Proc.devRef .tc main_v33_4) = s.list

theorem cond_keep (V : Valuation τ sig (Elt F)) (r : Ref sig .tc) (h : r ∉ condOps1_W) :
    after condOps1 V (Proc.devRef .tc r) = V (Proc.devRef .tc r) := after_of_writes_sub condOps1 V condOps1_writes h

/-- The condition changes none of it. -/
theorem Holds.cond (h : Holds V s j) : Holds (after condOps1 V) s j where
  pts := (cond_keep V _ (by decide)).trans h.pts
  ctr := (cond_keep V _ (by decide)).trans h.ctr
  dist := (cond_keep V _ (by decide)).trans h.dist
  next := (cond_keep V _ (by decide)).trans h.next
  list := (cond_keep V _ (by decide)).trans h.list

theorem ctr_eq (V : Valuation τ sig (Elt F)) : afterL bodyI1 V (Proc.devRef .tc main_v33_1)
    = addi (V (Proc.devRef .tc main_v33_1)) (constantI S_ 32 1#32) := by
  simp only [bodyI1, afterL_cons, afterL_nil]
  after_reads_simp
  try rfl

set_option maxRecDepth 8192 in
set_option maxHeartbeats 2000000 in
/-- The list's update, of the buffers before it. -/
theorem update_eq (X : Valuation τ sig (Elt F)) : after while1Ops0_4 (after while1Ops0_3 X) (no_index (Proc.devRef .tc main_v33_4))
    = Host.dynamicUpdateSlice (X (Proc.devRef .tc main_v33_4)) (broadcastInDim S1x32 ![1] bcast_S32_S1x32_1 (X (Proc.devRef .tc main_v33_3)))
      (fun k => (((![X (Proc.devRef .tc main_v33_1), constantI S_ 32 0#32] : Fin 2 → (⟨S_, .i32⟩ : BufTy).Contents (Elt F))) k (Shape.Idx.first h_S_)).toInt) updateFits_S32x32_S1x32 := by
  simp only [while1Ops0_3, while1Ops0_4]
  after_results_entrywise [cast_eq]

theorem list_eq (h : Holds V s j) : afterL bodyI1 V (Proc.devRef .tc main_v33_4) = b20 j s := by
  have k : ∀ r : Ref sig .tc, r ∉ while1Ops0_W → r ∉ while1Ops0_1_W → r ∉ while1Ops0_2_W →
      after while1Ops0_2 (after while1Ops0_1 (after while1Ops0 V)) (Proc.devRef .tc r) = V (Proc.devRef .tc r) := fun r h0 h1 h2 =>
    (after_of_writes_sub _ _ while1Ops0_2_writes h2).trans ((after_of_writes_sub _ _ while1Ops0_1_writes h1).trans (after_of_writes_sub _ _ while1Ops0_writes h0))
  show after while1Ops0_4 (after while1Ops0_3 (after while1Ops0_2 (after while1Ops0_1 (after while1Ops0 V)))) (Proc.devRef .tc main_v33_4) = _
  rw [update_eq, k main_v33_4 (by decide) (by decide) (by decide), k main_v33_3 (by decide) (by decide) (by decide),
    k main_v33_1 (by decide) (by decide) (by decide), h.list, h.next, h.ctr]
  rfl

set_option maxRecDepth 8192 in
set_option maxHeartbeats 2000000 in
theorem dist_eq (h : Holds V s j) : afterL bodyI1 V (Proc.devRef .tc main_v33_2) = b14 j s := by
  simp only [bodyI1, afterL_cons, afterL_nil]
  after_reads_simp
  simp only [h.pts, h.ctr, h.dist, h.next, h.list]
  rfl

set_option maxRecDepth 8192 in
set_option maxHeartbeats 2000000 in
theorem next_eq (h : Holds V s j) : afterL bodyI1 V (Proc.devRef .tc main_v33_3) = b17 j s := by
  simp only [bodyI1, afterL_cons, afterL_nil]
  after_reads_simp
  simp only [h.pts, h.ctr, h.dist, h.next, h.list]
  rfl

/-- A trip makes the step. -/
theorem Holds.body (h : Holds V s j) : Holds (afterL bodyI1 V) (step j s) (j + 1) where
  pts := (bodyI1_keep V _ (by decide)).trans h.pts
  ctr := by
    rw [ctr_eq, h.ctr]
    funext q
    show BitVec.ofNat 32 j + 1#32 = BitVec.ofNat 32 (j + 1)
    simp only [BitVec.ofNat_add]
  dist := dist_eq h
  next := next_eq h
  list := list_eq h

variable (E : Dev nD → Valuation τ sig (Elt F)) (c : Dev nD)

/-- Before the condition's run number `k` the buffers hold state number `k`. -/
theorem holds_at (it : ℕ → State F) (h0 : Holds (E c) (it 0) 0) (hs : ∀ k, it (k + 1) = step k (it k)) :
    ∀ k, Holds (atTrip condOps1 bodyI1 E k c) (it k) k
  | 0 => h0
  | k + 1 => by
    rw [hs k]
    exact (holds_at it h0 hs k).cond.body

/-- The loop changes no other buffer. -/
theorem keep_at (r : Ref sig .tc) (hc : r ∉ condOps1_W) (hb : r ∉ while1Ops0_W ++ while1Ops0_1_W ++ while1Ops0_2_W ++ while1Ops0_3_W ++ while1Ops0_4_W) :
    ∀ k, atTrip condOps1 bodyI1 E k c (Proc.devRef .tc r) = E c (Proc.devRef .tc r)
  | 0 => rfl
  | k + 1 => (bodyI1_keep _ r hb).trans ((cond_keep _ r hc).trans (keep_at r hc hb k))

/-- The counter. -/
theorem ctr_at (h : E c (Proc.devRef .tc main_v33_1) = fun _ => (0#32 : BitVec 32)) :
    ∀ k, atTrip condOps1 bodyI1 E k c (Proc.devRef .tc main_v33_1) = fun _ => Scf.iv 0#32 1#32 k
  | 0 => by rw [show atTrip condOps1 bodyI1 E 0 c = E c from rfl, h, Scf.iv_zero]
  | k + 1 => by
    rw [show atTrip condOps1 bodyI1 E (k + 1) c = afterL bodyI1 (after condOps1 (atTrip condOps1 bodyI1 E k c)) from rfl, ctr_eq,
      cond_keep _ _ (by decide), ctr_at h k, Scf.iv_succ]
    rfl

-- the rule is stated for any thread
set_option backward.isDefEq.respectTransparency.types false in
/-- The condition holds for 32 trips. -/
theorem cond_spec (h : ∀ c, E c (Proc.devRef .tc main_v33_1) = fun _ => (0#32 : BitVec 32)) :
    LoopCond (Ix := Unit) (Name := ℕ) (U := Option PUnit) (Lvl := ℕ) (pcfgs (F := F)) defs₀ Variants.none loops
      (TwoLoops.Aside (F := F)) (main_while1_cond (F := F)) condOps1 bodyI1 E 32 := by
  intro k hk c bd
  have hctr := ctr_at E c (h c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 bodyI1 E k c) main_v33_1 HostLoop.idx0)
        (HloOp.result _ (atTrip condOps1 bodyI1 E k c) main_while1c_c_18 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]
  isplitl [Hh]; · iexact Hh
  iexact HR

/-- The loop, entered with `E`. -/
def loop (h : ∀ c, E c (Proc.devRef .tc main_v33_1) = fun _ => (0#32 : BitVec 32)) :
    TwoLoops.Loop (pcfgs (F := F)) defs₀ loops 32 where
  l := 1
  cond := main_while1_cond
  body := main_while1_body
  is := rfl
  condOps := condOps1
  bodyI := bodyI1
  plain := bodyI1_plain
  chain := by rw [while1_body_chain]; rfl
  start := E
  spec := cond_spec E h

end L1

end Cert.FpsRefIdeal.Two

end
-- ==== Proof.FpsRefAfter.lean ====
/-
  What the plain selection makes of its loops' last states.
-/
module

public import proofs.«01_k».proof.Proof.FpsRefLists
public import proofs.«01_k».proof.Proof.FpsRefStep
public import proofs.«01_k».proof.Proof.TwoLoops
public import proofs.«01_k».proof.Proof.FpsRefLoop0
public import proofs.«01_k».proof.Proof.FpsRefLoop1
public import Idealize.ShloMosaic.Lib.Scf.ExitTest
public import Idealize.ShloMosaic.Lib.Scf.Counter

@[expose] public section

noncomputable section

namespace Cert.FpsRefIdeal.Two

open Cert.FpsRefIdeal Cert.FpsRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## After loop 0 -/

namespace A0
open Cert.FpsRefIdeal.Step
variable {V : Valuation τ sig (Elt F)} {s : State F} {j : ℕ}

set_option maxRecDepth 8192 in
set_option maxHeartbeats 4000000 in
theorem chosen_eq (h : L0.Holds V s j) {x : (⟨S32x512x2, .f32⟩ : BufTy).Contents (Elt F)} (hx : V (Proc.devRef .tc main_arg0) = x) :
    afterL midI V (no_index (Proc.devRef .tc main_v22)) = chosen s := by
  unfold chosen
  rw [← h.list]
  simp only [midI, hostOps0_1, hostOps0_2, hostOps0_3, afterL_cons, afterL_nil]
  after_results_entrywise []

set_option maxRecDepth 8192 in
set_option maxHeartbeats 4000000 in
theorem firsts_eq (h : L0.Holds V s j) {x : (⟨S32x512x2, .f32⟩ : BufTy).Contents (Elt F)} (hx : V (Proc.devRef .tc main_arg0) = x) :
    afterL midI V (no_index (Proc.devRef .tc main_v25)) = firsts s x := by
  unfold firsts
  rw [← h.list, ← hx]
  simp only [midI, hostOps0_1, hostOps0_2, hostOps0_3, afterL_cons, afterL_nil]
  after_results_entrywise []

set_option maxRecDepth 8192 in
set_option maxHeartbeats 4000000 in
theorem seconds_eq (h : L0.Holds V s j) {x : (⟨S32x512x2, .f32⟩ : BufTy).Contents (Elt F)} (hx : V (Proc.devRef .tc main_arg0) = x) :
    afterL midI V (no_index (Proc.devRef .tc main_v28)) = seconds s x := by
  unfold seconds
  rw [← h.list, ← hx]
  simp only [midI, hostOps0_1, hostOps0_2, hostOps0_3, afterL_cons, afterL_nil]
  after_results_entrywise []

set_option maxRecDepth 8192 in
set_option maxHeartbeats 4000000 in
theorem nears_eq (h : L0.Holds V s j) {x : (⟨S32x512x2, .f32⟩ : BufTy).Contents (Elt F)} (hx : V (Proc.devRef .tc main_arg0) = x) :
    afterL midI V (no_index (Proc.devRef .tc main_v29)) = nears s x := by
  unfold nears
  rw [← h.list, ← hx]
  simp only [midI, hostOps0_1, hostOps0_2, hostOps0_3, afterL_cons, afterL_nil]
  after_results_entrywise []

set_option maxRecDepth 8192 in
set_option maxHeartbeats 4000000 in
theorem news_eq (h : L0.Holds V s j) {x : (⟨S32x512x2, .f32⟩ : BufTy).Contents (Elt F)} (hx : V (Proc.devRef .tc main_arg0) = x) :
    afterL midI V (no_index (Proc.devRef .tc main_v6)) = news s x := by
  unfold news
  rw [← h.list, ← hx]
  simp only [midI, hostOps0_1, hostOps0_2, hostOps0_3, afterL_cons, afterL_nil]
  after_results_entrywise []

set_option maxRecDepth 8192 in
set_option maxHeartbeats 4000000 in
/-- The second loop starts with the chosen points. -/
theorem entry (h : L0.Holds V s j) {x : (⟨S32x512x2, .f32⟩ : BufTy).Contents (Elt F)} (hx : V (Proc.devRef .tc main_arg0) = x) :
    L1.Holds (afterL midI V) (Step2.init (news s x)) 0 where
  pts := by
    have e : afterL midI V (Proc.devRef .tc main_v33_0) = afterL midI V (Proc.devRef .tc main_v6) := by
      simp only [midI, hostOps0_1, hostOps0_2, hostOps0_3, afterL_cons, afterL_nil]
      after_results
      try rfl
    exact e.trans (news_eq h hx)
  ctr := by
    simp only [midI, hostOps0_1, hostOps0_2, hostOps0_3, afterL_cons, afterL_nil]
    after_reads_simp
    try rfl
  dist := by
    simp only [midI, hostOps0_1, hostOps0_2, hostOps0_3, afterL_cons, afterL_nil]
    after_reads_simp
    try rfl
  next := by
    simp only [midI, hostOps0_1, hostOps0_2, hostOps0_3, afterL_cons, afterL_nil]
    after_reads_simp
    try rfl
  list := by
    simp only [midI, hostOps0_1, hostOps0_2, hostOps0_3, afterL_cons, afterL_nil]
    after_reads_simp
    try rfl

end A0

/-! ## After loop 1 -/

namespace A1
open Cert.FpsRefIdeal.Step2
variable {V : Valuation τ sig (Elt F)} {s : State F} {j : ℕ}

set_option maxRecDepth 8192 in
set_option maxHeartbeats 4000000 in
theorem chosen_eq (h : L1.Holds V s j) {x : (⟨S32x128x2, .f32⟩ : BufTy).Contents (Elt F)} (hx : V (Proc.devRef .tc main_v6) = x) :
    afterL postI V (no_index (Proc.devRef .tc main_v52)) = chosen s := by
  unfold chosen
  rw [← h.list]
  simp only [postI, hostOps0_4, hostOps0_5, hostOps0_6, afterL_cons, afterL_nil]
  after_results_entrywise []

set_option maxRecDepth 8192 in
set_option maxHeartbeats 4000000 in
theorem firsts_eq (h : L1.Holds V s j) {x : (⟨S32x128x2, .f32⟩ : BufTy).Contents (Elt F)} (hx : V (Proc.devRef .tc main_v6) = x) :
    afterL postI V (no_index (Proc.devRef .tc main_v55)) = firsts s x := by
  unfold firsts
  rw [← h.list, ← hx]
  simp only [postI, hostOps0_4, hostOps0_5, hostOps0_6, afterL_cons, afterL_nil]
  after_results_entrywise []

set_option maxRecDepth 8192 in
set_option maxHeartbeats 4000000 in
theorem seconds_eq (h : L1.Holds V s j) {x : (⟨S32x128x2, .f32⟩ : BufTy).Contents (Elt F)} (hx : V (Proc.devRef .tc main_v6) = x) :
    afterL postI V (no_index (Proc.devRef .tc main_v58)) = seconds s x := by
  unfold seconds
  rw [← h.list, ← hx]
  simp only [postI, hostOps0_4, hostOps0_5, hostOps0_6, afterL_cons, afterL_nil]
  after_results_entrywise []

set_option maxRecDepth 8192 in
set_option maxHeartbeats 4000000 in
theorem nears_eq (h : L1.Holds V s j) {x : (⟨S32x128x2, .f32⟩ : BufTy).Contents (Elt F)} (hx : V (Proc.devRef .tc main_v6) = x) :
    afterL postI V (no_index (Proc.devRef .tc main_v59)) = nears s x := by
  unfold nears
  rw [← h.list, ← hx]
  simp only [postI, hostOps0_4, hostOps0_5, hostOps0_6, afterL_cons, afterL_nil]
  after_results_entrywise []

end A1

end Cert.FpsRefIdeal.Two

end
-- ==== Proof.FpsRefLoops.lean ====
/-
  The run of the plain selection's program through its two loops.
-/
module

public import proofs.«01_k».proof.Proof.FpsRefLists
public import proofs.«01_k».proof.Proof.FpsRefStep
public import proofs.«01_k».proof.Proof.TwoLoops
public import proofs.«01_k».proof.Proof.FpsRefAfter
public import Idealize.ShloMosaic.Lib.Scf.ExitTest
public import Idealize.ShloMosaic.Lib.Scf.Counter

@[expose] public section

noncomputable section

namespace Cert.FpsRefIdeal.Two

open Cert.FpsRefIdeal Cert.FpsRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The run -/

section Run
variable (m : (ℓ : Loc nD τ sig) → Buf (Elt F) ℓ) (ρ : Dev nD → PrngReg)

/-- The buffers before the first loop. -/
abbrev E0 (c : Dev nD) : Valuation τ sig (Elt F) := afterL preI (launchContents m c)

set_option maxRecDepth 65536 in
/-- The first loop starts with the argument's points. -/
theorem entry0 (c : Dev nD) : L0.Holds (E0 m c) (Step.init (m ((c.tc : Thread nD τ).loc main_arg0))) 0 := by
  constructor <;> (simp only [E0, preI, afterL_cons, afterL_nil]; after_reads_simp) <;> rfl

/-- The first loop. -/
abbrev loop0 : TwoLoops.Loop (pcfgs (F := F)) defs₀ loops 128 := L0.loop (E0 m) fun c => (entry0 m c).ctr.trans (by funext q; rfl)

variable (it : Dev nD → ℕ → Step.State F) (it' : Dev nD → ℕ → Step2.State F)

/-- The buffers after the first loop hold its last state. -/
theorem out0 (h0 : ∀ c, it c 0 = Step.init (m ((c.tc : Thread nD τ).loc main_arg0))) (hs : ∀ c k, it c (k + 1) = Step.step k (it c k)) (c : Dev nD) :
    L0.Holds ((loop0 m).out c) (it c 128) 128 :=
  (L0.holds_at (E0 m) c (it c) (h0 c ▸ entry0 m c) (hs c) 128).cond

theorem arg0 (c : Dev nD) : (loop0 m).out c (Proc.devRef .tc main_arg0) = m ((c.tc : Thread nD τ).loc main_arg0) :=
  (L0.cond_keep _ main_arg0 (by decide)).trans ((L0.keep_at (E0 m) c main_arg0 (by decide) (by decide) 128).trans
    (preI_keep (launchContents m c) main_arg0 (by decide)))

/-- The buffers before the second loop. -/
abbrev E1 (c : Dev nD) : Valuation τ sig (Elt F) := afterL midI ((loop0 m).out c)

/-- The states the first loop goes through. -/
def its (c : Dev nD) : ℕ → Step.State F
  | 0 => Step.init (m ((c.tc : Thread nD τ).loc main_arg0))
  | k + 1 => Step.step k (its c k)

/-- The second loop. -/
abbrev loop1 : TwoLoops.Loop (pcfgs (F := F)) defs₀ loops 32 := L1.loop (E1 m) fun c =>
  (A0.entry (out0 m (its m) (fun _ => rfl) (fun _ _ => rfl) c) (arg0 m c)).ctr.trans (by funext q; rfl)

/-- What the second loop and the operations after it leave alone. -/
theorem keep1 (c : Dev nD) (r : Ref sig .tc) (hc : r ∉ condOps1_W)
    (hb : r ∉ while1Ops0_W ++ while1Ops0_1_W ++ while1Ops0_2_W ++ while1Ops0_3_W ++ while1Ops0_4_W) :
    (loop1 m).out c (Proc.devRef .tc r) = E1 m c (Proc.devRef .tc r) :=
  (L1.cond_keep _ r hc).trans (L1.keep_at (E1 m) c r hc hb 32)

set_option maxRecDepth 8192 in
/-- The run ends with the eight results of the two loops' last states, the argument unchanged. -/
theorem run (h0 : ∀ c, it c 0 = Step.init (m ((c.tc : Thread nD τ).loc main_arg0))) (hs : ∀ c k, it c (k + 1) = Step.step k (it c k))
    (h0' : ∀ c, it' c 0 = Step2.init (Step.news (it c 128) (m ((c.tc : Thread nD τ).loc main_arg0)))) (hs' : ∀ c k, it' c (k + 1) = Step2.step k (it' c k)) :
    θ_run (defs (F := F)) (onTc (τ := τ) (main (F := F))) ⟨m, fun _ => 0, ρ⟩ fun r => ∀ c : Dev nD,
      r.2.mem ((c.tc : Thread nD τ).loc main_v22) = Step.chosen (it c 128)
      ∧ r.2.mem ((c.tc : Thread nD τ).loc main_v25) = Step.firsts (it c 128) (m ((c.tc : Thread nD τ).loc main_arg0))
      ∧ r.2.mem ((c.tc : Thread nD τ).loc main_v28) = Step.seconds (it c 128) (m ((c.tc : Thread nD τ).loc main_arg0))
      ∧ r.2.mem ((c.tc : Thread nD τ).loc main_v29) = Step.nears (it c 128) (m ((c.tc : Thread nD τ).loc main_arg0))
      ∧ r.2.mem ((c.tc : Thread nD τ).loc main_v52) = Step2.chosen (it' c 32)
      ∧ r.2.mem ((c.tc : Thread nD τ).loc main_v55) = Step2.firsts (it' c 32) (Step.news (it c 128) (m ((c.tc : Thread nD τ).loc main_arg0)))
      ∧ r.2.mem ((c.tc : Thread nD τ).loc main_v58) = Step2.seconds (it' c 32) (Step.news (it c 128) (m ((c.tc : Thread nD τ).loc main_arg0)))
      ∧ r.2.mem ((c.tc : Thread nD τ).loc main_v59) = Step2.nears (it' c 32) (Step.news (it c 128) (m ((c.tc : Thread nD τ).loc main_arg0)))
      ∧ r.2.mem ((c.tc : Thread nD τ).loc main_arg0) = m ((c.tc : Thread nD τ).loc main_arg0) := by
  refine (θ_run defs _ _).mono (fun r h c => ?_) (TwoLoops.run preI midI postI preI_plain midI_plain postI_plain (loop0 m) (loop1 m) m main ρ
    (fun c => by rw [main_chain]; rfl) rfl rfl)
  have k0 := out0 m it h0 hs c
  have hx := arg0 m c
  have e1 : L1.Holds (E1 m c) (it' c 0) 0 := (h0' c).symm ▸ A0.entry k0 hx
  have k1 : L1.Holds ((loop1 m).out c) (it' c 32) 32 := (L1.holds_at (E1 m) c (it' c) e1 (hs' c) 32).cond
  have hy : (loop1 m).out c (Proc.devRef .tc main_v6) = Step.news (it c 128) (m ((c.tc : Thread nD τ).loc main_arg0)) :=
    (keep1 m c main_v6 (by decide) (by decide)).trans (A0.news_eq k0 hx)
  refine ⟨(h c main_v22 rfl).trans ((postI_keep _ _ (by decide)).trans ((keep1 m c _ (by decide) (by decide)).trans (A0.chosen_eq k0 hx))),
    (h c main_v25 rfl).trans ((postI_keep _ _ (by decide)).trans ((keep1 m c _ (by decide) (by decide)).trans (A0.firsts_eq k0 hx))),
    (h c main_v28 rfl).trans ((postI_keep _ _ (by decide)).trans ((keep1 m c _ (by decide) (by decide)).trans (A0.seconds_eq k0 hx))),
    (h c main_v29 rfl).trans ((postI_keep _ _ (by decide)).trans ((keep1 m c _ (by decide) (by decide)).trans (A0.nears_eq k0 hx))),
    (h c main_v52 rfl).trans (A1.chosen_eq k1 hy), (h c main_v55 rfl).trans (A1.firsts_eq k1 hy),
    (h c main_v58 rfl).trans (A1.seconds_eq k1 hy), (h c main_v59 rfl).trans (A1.nears_eq k1 hy),
    (h c main_arg0 rfl).trans ((postI_keep _ _ (by decide)).trans ((keep1 m c _ (by decide) (by decide)).trans ((midI_keep _ _ (by decide)).trans hx)))⟩

end Run

end Cert.FpsRefIdeal.Two

end
-- ==== Proof.Claims4.lean ====
/-
  The claims about the selection call.
-/
module

public import proofs.«01_k».proof.Defs
public import proofs.«01_k».proof.Proof.FpsBody
public import proofs.«01_k».proof.Proof.FpsRun
public import proofs.«01_k».proof.Proof.FpsRefVal
public import proofs.«01_k».proof.Proof.FpsRefLoops
public import proofs.«01_k».proof.Proof.Pre

@[expose] public section
set_option maxRecDepth 16384
noncomputable section

namespace Cert.Pre_finite_points.Val
open Cert.Pre_finite_points Cert.Math
open Idealize.ShloMosaic Idealize.ShloMosaic.TcCoe

/-- The precondition's side condition, proved. -/
instance facts : Cert.Pre_finite_points.Facts where
  bcast_S_S32x512x2 := by decide

/-- The points are real. -/
theorem real {x : FVec Ideal S32x512x2 .f32} (h : fn (F := Ideal) x = fun _ => 1#1) (i : Fin 32) (j : Fin 512) (k : Fin 2) :
    IsR (x (ix3 i j k)) := by
  have e := congrFun h (ix3 i j k)
  revert e
  pointwise [fn]
  intro e
  exact Cert.Pre_tame.Val.isR_of_lt e

end Cert.Pre_finite_points.Val

namespace Cert.Claims.Fps
open Idealize.ShloMosaic.StableHlo
open Idealize.ShloMosaic Idealize.ShloMosaic.TcCoe Idealize.ShloMosaic.Tactic Idealize.SL.Sem
open Cert.Sel Cert.Math

/-- The call's program runs, leaves its argument and ends quiescent. -/
theorem frame_p : Cert.quiescent_Fps := fun m ρ _ => Cert.Fps.Body.frame m ρ

/-- The same of its idealization. -/
theorem frame_pi : Cert.quiescent_FpsIdeal := fun m ρ _ => Cert.FpsIdeal.Body.frame m ρ

/-- The same where the points are finite. -/
theorem frame_pi_pre : Cert.quiescent_FpsIdeal_pre_finite_points := fun m ρ _ => Cert.FpsIdeal.Body.frame m ρ

/-- The states the reference's first loop goes through. -/
abbrev its (m : (ℓ : Loc Cert.FpsRefIdeal.nD Cert.FpsRefIdeal.τ Cert.FpsRefIdeal.sig) → Buf (Elt Ideal) ℓ) (c : Dev Cert.FpsRefIdeal.nD) :=
  Cert.FpsRefIdeal.Val.it (m ((c.tc : Thread Cert.FpsRefIdeal.nD Cert.FpsRefIdeal.τ).loc Cert.FpsRefIdeal.main_arg0))

/-- The states its second loop goes through. -/
abbrev its' (m : (ℓ : Loc Cert.FpsRefIdeal.nD Cert.FpsRefIdeal.τ Cert.FpsRefIdeal.sig) → Buf (Elt Ideal) ℓ) (c : Dev Cert.FpsRefIdeal.nD) :=
  Cert.FpsRefIdeal.Val2.it (Cert.FpsRefIdeal.Val.newp (m ((c.tc : Thread Cert.FpsRefIdeal.nD Cert.FpsRefIdeal.τ).loc Cert.FpsRefIdeal.main_arg0)))

/-- The reference runs, leaves its argument and ends quiescent. -/
theorem frame_ri : Cert.quiescent_FpsRefIdeal := fun m ρ _ =>
  (θ_run Cert.FpsRefIdeal.defs _ _).mono (fun r h => ⟨fun c => (h c).2.2.2.2.2.2.2.2,
      Idealize.ShloMosaic.sem_eq_zero_of_no_sems (by decide) r.2⟩)
    (Cert.FpsRefIdeal.Two.run (F := Ideal) m ρ (its m) (its' m) (fun _ => rfl) (fun _ _ => rfl) (fun _ => rfl) (fun _ _ => rfl))

/-- The same where the points are finite. -/
theorem frame_ri_pre : Cert.quiescent_FpsRefIdeal_pre_finite_points := fun m ρ _ =>
  (θ_run Cert.FpsRefIdeal.defs _ _).mono (fun r h => ⟨fun c => (h c).2.2.2.2.2.2.2.2,
      Idealize.ShloMosaic.sem_eq_zero_of_no_sems (by decide) r.2⟩)
    (Cert.FpsRefIdeal.Two.run (F := Ideal) m ρ (its m) (its' m) (fun _ => rfl) (fun _ _ => rfl) (fun _ => rfl) (fun _ _ => rfl))

/-- No operation is rewritten. -/
theorem preserves : Cert.preserves_Fps_FpsIdeal := trivial

/-- The factor of the products is real. -/
theorem two_real : IsR (Ideal.ofBits .f32 0xC0000000#32) := by
  have h : Ideal.ofBits .f32 0xC0000000#32 = -(((8388608 : ℝ) * ((2 : ℝ) ^ 22)⁻¹ : ℝ) : EReal) := by
    simp [Ideal.ofBits, Ideal.ieee]
  rw [h, ← EReal.coe_neg]
  exact isR_coe _

/-- Squared distances of finite points are finite. -/
theorem sqd_ne_top {n : ℕ} [NeZero n] (P : Fin n → Fin 2 → EReal) (a : Fin 2 → EReal) (hP : ∀ i d, IsR (P i d)) (ha : ∀ d, IsR (a d))
    (i : Fin n) : sqd P a i ≠ ⊤ := by
  have h : IsR (sqd P a i) :=
    ((two_real.mul (((ha 0).mul (hP i 0)).add ((ha 1).mul (hP i 1)))).add (((ha 0).mul (ha 0)).add ((ha 1).mul (ha 1)))).add
      (((hP i 0).mul (hP i 0)).add ((hP i 1).mul (hP i 1)))
  obtain ⟨r, hr⟩ := h
  rw [hr]
  exact EReal.coe_ne_top r

/-- The reference's second stage is among the points of its first. -/
theorem pt_new (x : FVec Ideal FpsRefIdeal.S32x512x2 .f32) (b : Fin 32) :
    FpsRefIdeal.Val2.pt (FpsRefIdeal.Val.newp x) b = FpsIdeal.Val.of1 (FpsRefIdeal.Val.pt x b) :=
  funext fun r => funext fun d => FpsRefIdeal.Val.newp_eq x b r d

section Second
variable (x : FVec Ideal FpsRefIdeal.S32x512x2 .f32) (r : Fin 32) (b : Fin 32)

/-- The reference's second stage, in terms of the points of its first: the chosen points. -/
theorem second22 : FpsRefIdeal.Step2.chosen (FpsRefIdeal.Val2.it (FpsRefIdeal.Val.newp x) 32) (ix2 r b)
    = BitVec.ofNat 32 (far (FpsIdeal.Val.of1 (FpsRefIdeal.Val.pt x b)) r.val).val := by
  rw [FpsRefIdeal.Val2.res22, pt_new]
/-- Their first coordinates. -/
theorem second25 : FpsRefIdeal.Step2.firsts (FpsRefIdeal.Val2.it (FpsRefIdeal.Val.newp x) 32) (FpsRefIdeal.Val.newp x) (ix2 r b)
    = FpsIdeal.Val.of1 (FpsRefIdeal.Val.pt x b) (far (FpsIdeal.Val.of1 (FpsRefIdeal.Val.pt x b)) r.val) 0 := by
  rw [FpsRefIdeal.Val2.res25, pt_new]
/-- Their second coordinates. -/
theorem second28 : FpsRefIdeal.Step2.seconds (FpsRefIdeal.Val2.it (FpsRefIdeal.Val.newp x) 32) (FpsRefIdeal.Val.newp x) (ix2 r b)
    = FpsIdeal.Val.of1 (FpsRefIdeal.Val.pt x b) (far (FpsIdeal.Val.of1 (FpsRefIdeal.Val.pt x b)) r.val) 1 := by
  rw [FpsRefIdeal.Val2.res28, pt_new]
/-- Their neighbours, where the points are finite. -/
theorem second29 (h : ∀ i d, IsR (FpsRefIdeal.Val.pt x b i d)) (k : Fin 24) :
    FpsRefIdeal.Step2.nears (FpsRefIdeal.Val2.it (FpsRefIdeal.Val.newp x) 32) (FpsRefIdeal.Val.newp x) (ix3 k b r)
      = BitVec.ofNat 32 (low (rest (sqd (FpsIdeal.Val.of1 (FpsRefIdeal.Val.pt x b))
          (FpsIdeal.Val.of1 (FpsRefIdeal.Val.pt x b) (far (FpsIdeal.Val.of1 (FpsRefIdeal.Val.pt x b)) r.val))) k.val)).val := by
  rw [FpsRefIdeal.Val2.res29, pt_new]
  exact congrArg (fun z : Fin 128 => BitVec.ofNat 32 z.val) (low_rest _ (sqd_ne_top _ _ (fun _ d => h _ d) fun d => h _ d) k.val
    (lt_trans k.isLt (by norm_num))).symm

end Second

/-- Over the reals the call and the reference end with the same eight results. -/
theorem algebraic : Cert.algebraic_FpsIdeal_FpsRefIdeal_pre_finite_points := by
  intro m ρ m' ρ' hpre hagree
  refine ⟨FpsIdeal.Val.val0 m, FpsIdeal.Val.val1 m, FpsIdeal.Val.val2 m, FpsIdeal.Val.val3 m, FpsIdeal.Val.val4 m, FpsIdeal.Val.val5 m,
    FpsIdeal.Val.val6 m, FpsIdeal.Val.val7 m, FpsIdeal.Val.run m ρ, ?_⟩
  refine (θ_run Cert.FpsRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2.1.trans ?_,
      (h c).2.2.2.2.2.2.2.1.trans ?_, (h c).2.2.2.2.2.2.2.2⟩) (Cert.FpsRefIdeal.Two.run (F := Ideal) m' ρ' (its m') (its' m') (fun _ => rfl) (fun _ _ => rfl) (fun _ => rfl) (fun _ _ => rfl))
  all_goals have hc := hagree c
  all_goals simp only [its, its', hc]
  · funext y
    have hy : y = (ix2 (y 0) (y 1) : FpsRefIdeal.S128x32.Idx) := by
      funext a; match a with | ⟨0, _⟩ => rfl | ⟨1, _⟩ => rfl
    exact (congrArg _ hy).trans (FpsRefIdeal.Val.res22 _ (y 0) (y 1))
  · funext y
    have hy : y = (ix2 (y 0) (y 1) : FpsRefIdeal.S128x32.Idx) := by
      funext a; match a with | ⟨0, _⟩ => rfl | ⟨1, _⟩ => rfl
    exact (congrArg _ hy).trans (FpsRefIdeal.Val.res25 _ (y 0) (y 1))
  · funext y
    have hy : y = (ix2 (y 0) (y 1) : FpsRefIdeal.S128x32.Idx) := by
      funext a; match a with | ⟨0, _⟩ => rfl | ⟨1, _⟩ => rfl
    exact (congrArg _ hy).trans (FpsRefIdeal.Val.res28 _ (y 0) (y 1))
  · funext y
    have hy : y = (ix3 (y 0) (y 1) (y 2) : FpsRefIdeal.S24x32x128.Idx) := by
      funext a; match a with | ⟨0, _⟩ => rfl | ⟨1, _⟩ => rfl | ⟨2, _⟩ => rfl
    have hr : ∀ i d, IsR (FpsIdeal.Val.pt m c (y 1) i d) := fun i d => Cert.Pre_finite_points.Val.real (hpre c) (y 1) i d
    have hk : (y 0).val < 512 := lt_trans (y 0).isLt (show 24 < 512 by norm_num)
    refine (congrArg _ hy).trans ((FpsRefIdeal.Val.res29 _ (y 0) (y 1) (y 2)).trans ?_)
    exact congrArg (fun z : Fin 512 => BitVec.ofNat 32 z.val) (low_rest (sqd (FpsIdeal.Val.pt m c (y 1))
      (FpsIdeal.Val.pt m c (y 1) (far (FpsIdeal.Val.pt m c (y 1)) (y 2).val)))
      (sqd_ne_top _ _ hr (hr _)) (y 0).val hk).symm
  · funext y
    have hy : y = (ix2 (y 0) (y 1) : FpsRefIdeal.S32x32.Idx) := by
      funext a; match a with | ⟨0, _⟩ => rfl | ⟨1, _⟩ => rfl
    exact (congrArg _ hy).trans (second22 _ (y 0) (y 1))
  · funext y
    have hy : y = (ix2 (y 0) (y 1) : FpsRefIdeal.S32x32.Idx) := by
      funext a; match a with | ⟨0, _⟩ => rfl | ⟨1, _⟩ => rfl
    exact (congrArg _ hy).trans (second25 _ (y 0) (y 1))
  · funext y
    have hy : y = (ix2 (y 0) (y 1) : FpsRefIdeal.S32x32.Idx) := by
      funext a; match a with | ⟨0, _⟩ => rfl | ⟨1, _⟩ => rfl
    exact (congrArg _ hy).trans (second28 _ (y 0) (y 1))
  · funext y
    have hy : y = (ix3 (y 0) (y 1) (y 2) : FpsRefIdeal.S24x32x32.Idx) := by
      funext a; match a with | ⟨0, _⟩ => rfl | ⟨1, _⟩ => rfl | ⟨2, _⟩ => rfl
    exact (congrArg _ hy).trans (second29 _ (y 2) (y 1) (fun i d => Cert.Pre_finite_points.Val.real (hpre c) (y 1) i d) (y 0))

end Cert.Claims.Fps
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Claims2
public import proofs.«01_k».proof.Proof.Claims3
public import proofs.«01_k».proof.Proof.Claims4
public import proofs.«01_k».proof.Proof.Gen.Sample.Frame
public import proofs.«01_k».proof.Proof.Gen.SampleIdeal.Value
public import proofs.«01_k».proof.Proof.Gen.SampleRefIdeal.Run
public import proofs.«01_k».proof.Proof.Gen.Fps
public import proofs.«01_k».proof.Proof.Gen.Fps.Skeleton
public import proofs.«01_k».proof.Proof.Gen.Fps.Loops
public import proofs.«01_k».proof.Proof.Gen.Fps.Launch
public import proofs.«01_k».proof.Proof.Gen.Fps.Points
public import proofs.«01_k».proof.Proof.Gen.Fps.Frame
public import proofs.«01_k».proof.Proof.Gen.FpsIdeal
public import proofs.«01_k».proof.Proof.Gen.FpsIdeal.Skeleton
public import proofs.«01_k».proof.Proof.Gen.FpsIdeal.Loops
public import proofs.«01_k».proof.Proof.Gen.FpsIdeal.Launch
public import proofs.«01_k».proof.Proof.Gen.FpsIdeal.Points
public import proofs.«01_k».proof.Proof.Gen.FpsIdeal.Frame
public import proofs.«01_k».proof.Proof.Gen.FpsRefIdeal
public import proofs.«01_k».proof.Proof.Gen.FlatIdeal.Value
public import proofs.«01_k».proof.Proof.Gen.DimIdeal.Value
public import proofs.«01_k».proof.Proof.Gen.FlatRefIdeal.Run
public import proofs.«01_k».proof.Proof.Gen.DimRefIdeal.Run
public import proofs.«01_k».proof.Proof.Gen.Flat.Frame
public import proofs.«01_k».proof.Proof.Gen.Dim.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Flat.Gen.facts, Cert.FlatIdeal.Gen.facts, Cert.FlatRefIdeal.Gen.facts,
    Cert.Dim.Gen.facts, Cert.DimIdeal.Gen.facts, Cert.DimRefIdeal.Gen.facts,
    Cert.Sample.Gen.facts, Cert.SampleIdeal.Gen.facts, Cert.SampleRefIdeal.Gen.facts,
    Cert.Fps.Gen.facts, Cert.FpsIdeal.Gen.facts, Cert.FpsRefIdeal.Gen.facts, Cert.Pre_tame.Val.facts, Cert.Pre_finite_points.Val.facts,
    Cert.Claims.frame_p, Cert.Claims.frame_pi, Cert.Claims.frame_pi_pre, Cert.Claims.frame_ri, Cert.Claims.frame_ri_pre,
    Cert.Claims.Flat.frame_p, Cert.Claims.Flat.frame_pi, Cert.Claims.Flat.frame_ri,
    Cert.Claims.Dim.frame_p, Cert.Claims.Dim.frame_pi, Cert.Claims.Dim.frame_ri,
    Cert.Claims.Sample.frame_p, Cert.Claims.Sample.frame_pi, Cert.Claims.Sample.frame_ri,
    Cert.Claims.Fps.frame_p, Cert.Claims.Fps.frame_pi, Cert.Claims.Fps.frame_pi_pre, Cert.Claims.Fps.frame_ri,
    Cert.Claims.Fps.frame_ri_pre,
    Cert.Claims.preserves, Cert.Claims.algebraic, Cert.Claims.Flat.preserves, Cert.Claims.Flat.algebraic,
    Cert.Claims.Dim.preserves, Cert.Claims.Dim.algebraic,
    Cert.Claims.Sample.preserves, Cert.Claims.Sample.algebraic, Cert.Claims.Fps.preserves, Cert.Claims.Fps.algebraic⟩

end Cert.Proof

end
